-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tiles_hold [hPre_tiles_hold : Cert.Pre_tiles_hold.Facts] (m : (ℓ : Loc Cert.KernelIdeal.nD Cert.KernelIdeal.τ Cert.KernelIdeal.sig) → Buf (Elt Ideal) ℓ) : Prop :=
  ∀ c : Dev Cert.KernelIdeal.nD,
    (Cert.Pre_tiles_hold.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tiles_hold [hPre_tiles_hold : Cert.Pre_tiles_hold.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tiles_hold.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tiles_hold [hKernelIdeal : Cert.KernelIdeal.Facts] [hPre_tiles_hold : Cert.Pre_tiles_hold.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tiles_hold m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tiles_hold [hReferenceIdeal : Cert.ReferenceIdeal.Facts] [hPre_tiles_hold : Cert.Pre_tiles_hold.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tiles_hold m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_tiles_hold [hKernelIdeal : Cert.KernelIdeal.Facts] [hReferenceIdeal : Cert.ReferenceIdeal.Facts] [hPre_tiles_hold : Cert.Pre_tiles_hold.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tiles_hold m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_arg2)) (v1 : (c : Dev Cert.KernelIdeal.nD) → Buf (Elt Ideal) ((c.tc : Thread Cert.KernelIdeal.nD Cert.KernelIdeal.τ).loc Cert.KernelIdeal.main_v50)) (v2 : (c : Dev Cert.KernelIdeal.nD) → Buf (Elt Ideal) ((c.tc : Thread Cert.KernelIdeal.nD Cert.KernelIdeal.τ).loc Cert.KernelIdeal.main_values_3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg2) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_values_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg2) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_values) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tiles_hold : Cert.Pre_tiles_hold.Facts),
    quiescent_Kernel (hKernel := hKernel)
    ∧ quiescent_KernelIdeal (hKernelIdeal := hKernelIdeal)
    ∧ quiescent_KernelIdeal_pre_tiles_hold (hKernelIdeal := hKernelIdeal) (hPre_tiles_hold := hPre_tiles_hold)
    ∧ quiescent_ReferenceIdeal (hReferenceIdeal := hReferenceIdeal)
    ∧ quiescent_ReferenceIdeal_pre_tiles_hold (hReferenceIdeal := hReferenceIdeal) (hPre_tiles_hold := hPre_tiles_hold)
    ∧ preserves_Kernel_KernelIdeal
    ∧ algebraic_KernelIdeal_ReferenceIdeal_pre_tiles_hold (hKernelIdeal := hKernelIdeal) (hReferenceIdeal := hReferenceIdeal) (hPre_tiles_hold := hPre_tiles_hold)
-- ==== Pre_tiles_hold.lean ====
abbrev S2048x256 : Shape := ⟨2, ![2048, 256]⟩
abbrev S10x2048x256 : Shape := ⟨3, ![10, 2048, 256]⟩
abbrev S2048x4 : Shape := ⟨2, ![2048, 4]⟩
abbrev S10x2048x4 : Shape := ⟨3, ![10, 2048, 4]⟩
abbrev S_ : Shape := ⟨0, ![]⟩
abbrev S2048 : Shape := ⟨1, ![2048]⟩
abbrev S2048x1 : Shape := ⟨2, ![2048, 1]⟩
abbrev S10x2048 : Shape := ⟨2, ![10, 2048]⟩
abbrev S10x2048x1 : Shape := ⟨3, ![10, 2048, 1]⟩
abbrev S10x2048x2048 : Shape := ⟨3, ![10, 2048, 2048]⟩
abbrev S10x256 : Shape := ⟨2, ![10, 256]⟩
abbrev S10x1 : Shape := ⟨2, ![10, 1]⟩
abbrev S10 : Shape := ⟨1, ![10]⟩
abbrev S10x1x1 : Shape := ⟨3, ![10, 1, 1]⟩
abbrev S10x256x1 : Shape := ⟨3, ![10, 256, 1]⟩
abbrev S1 : Shape := ⟨1, ![1]⟩
abbrev S1x1x1 : Shape := ⟨3, ![1, 1, 1]⟩
abbrev S10x32x8 : Shape := ⟨3, ![10, 32, 8]⟩
abbrev S10x32 : Shape := ⟨2, ![10, 32]⟩

class Facts : Prop where
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  reducesTo_S10x2048x256_S10x2048_d2 : S10x2048x256.ReducesTo [2] S10x2048
  bcast_S10x2048_S10x2048x1_0_1 : S10x2048.BroadcastsInDim S10x2048x1 (![0, 1] : Fin 2 → Fin S10x2048x1.rank)
  bcast_S_S10x2048x1 : S_.BroadcastsInDim S10x2048x1 (![] : Fin 0 → Fin S10x2048x1.rank)
  bcast_S10x2048x1_S10x2048x256_0_1_2 : S10x2048x1.BroadcastsInDim S10x2048x256 (![0, 1, 2] : Fin 3 → Fin S10x2048x256.rank)
  transposes_S10x2048x2048_S10x2048x2048_0_2_1 : S10x2048x2048.Transposes [0, 2, 1] S10x2048x2048
  reducesTo_S10x2048x2048_S10x2048_d2 : S10x2048x2048.ReducesTo [2] S10x2048
  sliceFits_S10x2048_S10x256 : S10x2048.Slices (fun _ => 0) S10x256
  slices_S10x256_S10x1_0_255 : S10x256.Slices ![0, 255] S10x1
  shapeCasts_S10x1_S10 : S10x1.ShapeCasts S10
  bcast_S10_S10x1x1_0 : S10.BroadcastsInDim S10x1x1 (![0] : Fin 1 → Fin S10x1x1.rank)
  bcast_S10x1x1_S10x2048x2048_0_1_2 : S10x1x1.BroadcastsInDim S10x2048x2048 (![0, 1, 2] : Fin 3 → Fin S10x2048x2048.rank)
  natLt_1_32 : 1 < 32
  bcast_S_S10x256 : S_.BroadcastsInDim S10x256 (![] : Fin 0 → Fin S10x256.rank)
  shapeCasts_S10x256_S10x256x1 : S10x256.ShapeCasts S10x256x1
  bcast_S_S10x256x1 : S_.BroadcastsInDim S10x256x1 (![] : Fin 0 → Fin S10x256x1.rank)
  bcast_S1_S1x1x1_2 : S1.BroadcastsInDim S1x1x1 (![2] : Fin 1 → Fin S1x1x1.rank)
  bcast_S1x1x1_S10x256x1_0_1_2 : S1x1x1.BroadcastsInDim S10x256x1 (![0, 1, 2] : Fin 3 → Fin S10x256x1.rank)
  reducesTo_S10x256x1_S10x256_d2 : S10x256x1.ReducesTo [2] S10x256
  shapeCasts_S10x256_S10x32x8 : S10x256.ShapeCasts S10x32x8
  reducesTo_S10x32x8_S10x32_d2 : S10x32x8.ReducesTo [2] S10x32
  bcast_S_S10x32 : S_.BroadcastsInDim S10x32 (![] : Fin 0 → Fin S10x32.rank)
  dot_S10x2048x256_S2048x256_S10x2048x2048_2_1_01_0_n_n_wf : DotDims.WF S10x2048x256 S2048x256 S10x2048x2048 [2] [1] [0, 1] [0] [] []
  gather_S10x2048_S10x256x1_S10x256_n_1_0_0_1_2_11_wf : GatherDims.WF S10x2048 S10x256x1 S10x256 [] [1] [0] [1] [0] 2 ![1, 1]

variable [Facts]

def dot_S10x2048x256_S2048x256_S10x2048x2048_2_1_01_0_n_n : DotDims S10x2048x256 S2048x256 S10x2048x2048 where
  lhsContracting := [2]
  rhsContracting := [1]
  lhsNonContracting := [0, 1]
  rhsNonContracting := [0]
  lhsBatch := []
  rhsBatch := []
  wf := dot_S10x2048x256_S2048x256_S10x2048x2048_2_1_01_0_n_n_wf
def comparator_i32_d1 : BitVec 32 → BitVec 32 → BitVec 1 :=
  fun l r =>
    let v1 := IntOp.cmpi .slt l r
    v1
def gather_S10x2048_S10x256x1_S10x256_n_1_0_0_1_2_11 : GatherDims S10x2048 S10x256x1 S10x256 where
  offsetDims := []
  collapsedSliceDims := [1]
  operandBatchingDims := [0]
  startIndicesBatchingDims := [0]
  startIndexMap := [1]
  indexVectorDim := 2
  sliceSizes := ![1, 1]
  wf := gather_S10x2048_S10x256x1_S10x256_n_1_0_0_1_2_11_wf
def fn_norm {F : FTy → Type} [FloatOps F] (arg0 : FVec F S2048x256 .f32) : FVec F S2048x1 .f32 :=
  let v0 : FVec F S2048x256 .f32 := mulf arg0 arg0
  let cst : FVec F S_ .f32 := constant S_ .f32 0x00000000#32
  let v1 : FVec F S2048 .f32 := (fun x v => Host.reduceAdd x v reducesTo_S2048x256_S2048_d1 h_S_) v0 cst
  let v2 : FVec F S2048x1 .f32 := broadcastInDim S2048x1 ![0] bcast_S2048_S2048x1_0 v1
  let v3 : FVec F S2048x1 .f32 := Host.sqrt v2
  v3

def fn_clip {F : FTy → Type} [FloatOps F] (arg0 : FVec F S2048x1 .f32) (arg1 : FVec F S_ .f32) : FVec F S2048x1 .f32 :=
  let v0 : FVec F S_ .f32 := id arg1
  let v1 : FVec F S2048x1 .f32 := broadcastInDim S2048x1 ![] bcast_S_S2048x1 v0
  let v2 : FVec F S2048x1 .f32 := maximumf v1 arg0
  v2

def fn_norm_0 {F : FTy → Type} [FloatOps F] (arg0 : FVec F S10x2048x256 .f32) : FVec F S10x2048x1 .f32 :=
  let v0 : FVec F S10x2048x256 .f32 := mulf arg0 arg0
  let cst : FVec F S_ .f32 := constant S_ .f32 0x00000000#32
  let v1 : FVec F S10x2048 .f32 := (fun x v => Host.reduceAdd x v reducesTo_S10x2048x256_S10x2048_d2 h_S_) v0 cst
  let v2 : FVec F S10x2048x1 .f32 := broadcastInDim S10x2048x1 ![0, 1] bcast_S10x2048_S10x2048x1_0_1 v1
  let v3 : FVec F S10x2048x1 .f32 := Host.sqrt v2
  v3

def fn_clip_1 {F : FTy → Type} [FloatOps F] (arg0 : FVec F S10x2048x1 .f32) (arg1 : FVec F S_ .f32) : FVec F S10x2048x1 .f32 :=
  let v0 : FVec F S_ .f32 := id arg1
  let v1 : FVec F S10x2048x1 .f32 := broadcastInDim S10x2048x1 ![] bcast_S_S10x2048x1 v0
  let v2 : FVec F S10x2048x1 .f32 := maximumf v1 arg0
  v2

def fn_sort {F : FTy → Type} [FloatOps F] (arg0 : IVec S10x256 32) : IVec S10x256 32 :=
  let v0 : IVec S10x256 32 := (fun x => Host.sort S10x256 1 comparator_i32_d1 x) arg0
  v0

def fn_take_along_axis {F : FTy → Type} [FloatOps F] (arg0 : IVec S10x2048 32) (arg1 : IVec S10x256 32) : IVec S10x256 32 :=
  let c : IVec S_ 32 := constantI S_ 32 0#32
  let v0 : IVec S10x256 32 := broadcastInDim S10x256 ![] bcast_S_S10x256 c
  let v1 : IVec S10x256 1 := cmpi .slt arg1 v0
  let c_0 : IVec S_ 32 := constantI S_ 32 2048#32
  let v2 : IVec S10x256 32 := broadcastInDim S10x256 ![] bcast_S_S10x256 c_0
  let v3 : IVec S10x256 32 := addi arg1 v2
  let v4 : IVec S10x256 32 := select v1 v3 arg1
  let v5 : IVec S10x256x1 32 := shapeCast S10x256x1 v4 shapeCasts_S10x256_S10x256x1
  let c_1 : IVec S1 32 := constantI S1 32 2047#32
  let c_2 : IVec S_ 32 := constantI S_ 32 0#32
  let v6 : IVec S10x256x1 32 := broadcastInDim S10x256x1 ![] bcast_S_S10x256x1 c_2
  let v7 : IVec S10x256x1 1 := cmpi .sge v5 v6
  let v8 : IVec S1x1x1 32 := broadcastInDim S1x1x1 ![2] bcast_S1_S1x1x1_2 c_1
  let v9 : IVec S10x256x1 32 := broadcastInDim S10x256x1 ![0, 1, 2] bcast_S1x1x1_S10x256x1_0_1_2 v8
  let v10 : IVec S10x256x1 1 := cmpi .sle v5 v9
  let v11 : IVec S10x256x1 1 := andi v7 v10
  let c_3 : IVec S_ 1 := constantI S_ 1 1#1
  let v12 : IVec S10x256 1 := (fun x v => Host.reduce IntOp.andi x v reducesTo_S10x256x1_S10x256_d2 h_S_) v11 c_3
  let v13 : IVec S10x256 32 := (fun x i => Host.gather gather_S10x2048_S10x256x1_S10x256_n_1_0_0_1_2_11 x i) arg0 v5
  let c_4 : IVec S_ 32 := constantI S_ 32 2147483648#32
  let v14 : IVec S10x256 32 := broadcastInDim S10x256 ![] bcast_S_S10x256 c_4
  let v15 : IVec S10x256 32 := select v12 v13 v14
  v15

def fn_part1 {F : FTy → Type} [FloatOps F] (main_indices : IVec S10x256 32) (main_v17 : IVec S10x2048 32) : IVec S10x32 1 :=
  let main_v18 : IVec S10x256 32 := fn_sort (F := F) main_indices
  let main_v19 : IVec S10x256 32 := fn_take_along_axis (F := F) main_v17 main_v18
  let main_v20 : IVec S10x32x8 32 := shapeCast S10x32x8 main_v19 shapeCasts_S10x256_S10x32x8
  let main_c_2 : IVec S_ 32 := constantI S_ 32 0#32
  let main_v21 : IVec S10x32 32 := (fun x v => Host.reduce IntOp.addi x v reducesTo_S10x32x8_S10x32_d2 h_S_) main_v20 main_c_2
  let main_c_3 : IVec S_ 32 := constantI S_ 32 128#32
  let main_v22 : IVec S10x32 32 := broadcastInDim S10x32 ![] bcast_S_S10x32 main_c_3
  let main_v23 : IVec S10x32 1 := cmpi .sle main_v21 main_v22
  main_v23

def fn {F : FTy → Type} [FloatOps F] (main_arg0 : FVec F S2048x256 .f32) (main_arg1 : FVec F S10x2048x256 .f32) (main_arg2 : FVec F S2048x4 .f32) (main_arg3 : FVec F S10x2048x4 .f32) : IVec S10x32 1 :=
  let main_v0 : FVec F S2048x1 .f32 := fn_norm (F := F) main_arg0
  let main_cst : FVec F S_ .f32 := constant S_ .f32 0x2B8CBCCC#32
  let main_v1 : FVec F S2048x1 .f32 := fn_clip (F := F) main_v0 main_cst
  let main_v2 : FVec F S2048x256 .f32 := broadcastInDim S2048x256 ![0, 1] bcast_S2048x1_S2048x256_0_1 main_v1
  let main_v3 : FVec F S2048x256 .f32 := Host.divf main_arg0 main_v2
  let main_v4 : FVec F S10x2048x1 .f32 := fn_norm_0 (F := F) main_arg1
  let main_cst_0 : FVec F S_ .f32 := constant S_ .f32 0x2B8CBCCC#32
  let main_v5 : FVec F S10x2048x1 .f32 := fn_clip_1 (F := F) main_v4 main_cst_0
  let main_v6 : FVec F S10x2048x256 .f32 := broadcastInDim S10x2048x256 ![0, 1, 2] bcast_S10x2048x1_S10x2048x256_0_1_2 main_v5
  let main_v7 : FVec F S10x2048x256 .f32 := Host.divf main_arg1 main_v6
  let main_v8 : FVec F S10x2048x2048 .f32 := (fun l r => Host.dotGeneral dot_S10x2048x256_S2048x256_S10x2048x2048_2_1_01_0_n_n none l r) main_v7 main_v3
  let main_v9 : FVec F S10x2048x2048 .f32 := (transpose S10x2048x2048 [0, 2, 1] · transposes_S10x2048x2048_S10x2048x2048_0_2_1) main_v8
  let main_cst_1 : FVec F S_ .f32 := constant S_ .f32 0xFF800000#32
  let main_v10 : FVec F S10x2048 .f32 := (fun x v => Host.reduce FloatOps.maximumf x v reducesTo_S10x2048x2048_S10x2048_d2 h_S_) main_v9 main_cst_1
  let main_values : FVec F S10x256 .f32 := (fun x => (Host.topK S10x256 1 (FloatOps.cmpfTotal .gt) x sliceFits_S10x2048_S10x256).1) main_v10
  let main_indices : IVec S10x256 32 := (fun x => (Host.topK S10x256 1 (FloatOps.cmpfTotal .gt) x sliceFits_S10x2048_S10x256).2) main_v10
  let main_v11 : FVec F S10x1 .f32 := (extractStridedSlice S10x1 ![0, 255] · slices_S10x256_S10x1_0_255) main_values
  let main_v12 : FVec F S10 .f32 := shapeCast S10 main_v11 shapeCasts_S10x1_S10
  let main_v13 : FVec F S10x1x1 .f32 := broadcastInDim S10x1x1 ![0] bcast_S10_S10x1x1_0 main_v12
  let main_v14 : FVec F S10x2048x2048 .f32 := broadcastInDim S10x2048x2048 ![0, 1, 2] bcast_S10x1x1_S10x2048x2048_0_1_2 main_v13
  let main_v15 : IVec S10x2048x2048 1 := cmpf .oge main_v9 main_v14
  let main_v16 : IVec S10x2048x2048 32 := (extui 32 · natLt_1_32) main_v15
  let main_c : IVec S_ 32 := constantI S_ 32 0#32
  let main_v17 : IVec S10x2048 32 := (fun x v => Host.reduce IntOp.addi x v reducesTo_S10x2048x2048_S10x2048_d2 h_S_) main_v16 main_c
  fn_part1 (F := F) main_indices main_v17
-- ==== Kernel.lean ====
abbrev S2048x256 : Shape := ⟨2, ![2048, 256]⟩
abbrev S10x2048x256 : Shape := ⟨3, ![10, 2048, 256]⟩
abbrev S2048x4 : Shape := ⟨2, ![2048, 4]⟩
abbrev S10x2048x4 : Shape := ⟨3, ![10, 2048, 4]⟩
abbrev S_ : Shape := ⟨0, ![]⟩
abbrev S2048 : Shape := ⟨1, ![2048]⟩
abbrev S2048x1 : Shape := ⟨2, ![2048, 1]⟩
abbrev S10x2048 : Shape := ⟨2, ![10, 2048]⟩
abbrev S10x2048x1 : Shape := ⟨3, ![10, 2048, 1]⟩
abbrev S10x2048x2048 : Shape := ⟨3, ![10, 2048, 2048]⟩
abbrev S256x256 : Shape := ⟨2, ![256, 256]⟩
abbrev S1x2048x256 : Shape := ⟨3, ![1, 2048, 256]⟩
abbrev S1x256x2048 : Shape := ⟨3, ![1, 256, 2048]⟩
abbrev S1x256x1 : Shape := ⟨3, ![1, 256, 1]⟩
abbrev S256x2048 : Shape := ⟨2, ![256, 2048]⟩
abbrev S256 : Shape := ⟨1, ![256]⟩
abbrev S256x1 : Shape := ⟨2, ![256, 1]⟩
abbrev S10x256 : Shape := ⟨2, ![10, 256]⟩
abbrev S10x1 : Shape := ⟨2, ![10, 1]⟩
abbrev S10 : Shape := ⟨1, ![10]⟩
abbrev S10x256x1 : Shape := ⟨3, ![10, 256, 1]⟩
abbrev S16 : Shape := ⟨1, ![16]⟩
abbrev S1x1x16 : Shape := ⟨3, ![1, 1, 16]⟩
abbrev S10x256x16 : Shape := ⟨3, ![10, 256, 16]⟩
abbrev S10x32x128 : Shape := ⟨3, ![10, 32, 128]⟩
abbrev S32x10x128 : Shape := ⟨3, ![32, 10, 128]⟩
abbrev S32x1280 : Shape := ⟨2, ![32, 1280]⟩
abbrev S10x32x8 : Shape := ⟨3, ![10, 32, 8]⟩
abbrev S32x10x8 : Shape := ⟨3, ![32, 10, 8]⟩
abbrev S32x10x8x1 : Shape := ⟨4, ![32, 10, 8, 1]⟩
abbrev S32x10x8x16 : Shape := ⟨4, ![32, 10, 8, 16]⟩
abbrev S327680x128 : Shape := ⟨2, ![327680, 128]⟩
abbrev S10x16 : Shape := ⟨2, ![10, 16]⟩
abbrev S160 : Shape := ⟨1, ![160]⟩
abbrev S1280 : Shape := ⟨1, ![1280]⟩
abbrev S128x128 : Shape := ⟨2, ![128, 128]⟩
abbrev S128 : Shape := ⟨1, ![128]⟩
abbrev S1x1280 : Shape := ⟨2, ![1, 1280]⟩
abbrev S1x16 : Shape := ⟨2, ![1, 16]⟩
abbrev S1x1x128 : Shape := ⟨3, ![1, 1, 128]⟩
abbrev S10x4096 : Shape := ⟨2, ![10, 4096]⟩
abbrev S10x204 : Shape := ⟨2, ![10, 204]⟩
abbrev S10x204x1 : Shape := ⟨3, ![10, 204, 1]⟩
abbrev S1 : Shape := ⟨1, ![1]⟩
abbrev S1x1x1 : Shape := ⟨3, ![1, 1, 1]⟩
abbrev S10x204x4 : Shape := ⟨3, ![10, 204, 4]⟩
abbrev S10x204x8 : Shape := ⟨3, ![10, 204, 8]⟩

abbrev nBuf : Table → Nat
  | .hbm => 180
  | .local .tc .vmem => 8
  | .local .scVector .vmem => 7
  | _ => 0

abbrev hbmTy0_0 (i : Nat) : BufTy := match i % 128 with
  | 0 => ⟨S2048x256, .f32⟩
  | 1 => ⟨S10x2048x256, .f32⟩
  | 2 => ⟨S2048x4, .f32⟩
  | 3 => ⟨S10x2048x4, .f32⟩
  | 4 => ⟨S2048x256, .f32⟩
  | 5 => ⟨S_, .f32⟩
  | 6 => ⟨S2048, .f32⟩
  | 7 => ⟨S2048x1, .f32⟩
  | 8 => ⟨S2048x1, .f32⟩
  | 9 => ⟨S_, .f32⟩
  | 10 => ⟨S_, .f32⟩
  | 11 => ⟨S2048x1, .f32⟩
  | 12 => ⟨S2048x1, .f32⟩
  | 13 => ⟨S2048x256, .f32⟩
  | 14 => ⟨S2048x256, .f32⟩
  | 15 => ⟨S10x2048x256, .f32⟩
  | 16 => ⟨S_, .f32⟩
  | 17 => ⟨S10x2048, .f32⟩
  | 18 => ⟨S10x2048x1, .f32⟩
  | 19 => ⟨S10x2048x1, .f32⟩
  | 20 => ⟨S_, .f32⟩
  | 21 => ⟨S_, .f32⟩
  | 22 => ⟨S10x2048x1, .f32⟩
  | 23 => ⟨S10x2048x1, .f32⟩
  | 24 => ⟨S10x2048x256, .f32⟩
  | 25 => ⟨S10x2048x256, .f32⟩
  | 26 => ⟨S10x2048x2048, .f32⟩
  | 27 => ⟨S10x2048x1, .f32⟩
  | 28 => ⟨S10x2048, .f32⟩
  | 29 => ⟨S10x256, .f32⟩
  | 30 => ⟨S10x256, .i32⟩
  | 31 => ⟨S10x1, .f32⟩
  | 32 => ⟨S10, .f32⟩
  | 33 => ⟨S10x256, .i32⟩
  | 34 => ⟨S10, .i32⟩
  | 35 => ⟨S_, .i32⟩
  | 36 => ⟨S10, .i32⟩
  | 37 => ⟨S10, .i32⟩
  | 38 => ⟨S10x1, .i32⟩
  | 39 => ⟨S10x256, .i32⟩
  | 40 => ⟨S10x256, .i32⟩
  | 41 => ⟨S10x256x1, .i32⟩
  | 42 => ⟨S_, .i32⟩
  | 43 => ⟨S10x256x1, .i32⟩
  | 44 => ⟨S10x256x1, .i32⟩
  | 45 => ⟨S16, .i32⟩
  | 46 => ⟨S1x1x16, .i32⟩
  | 47 => ⟨S10x256x16, .i32⟩
  | 48 => ⟨S10x256x16, .i32⟩
  | 49 => ⟨S10x256x16, .i32⟩
  | 50 => ⟨S10x32x128, .i32⟩
  | 51 => ⟨S32x10x128, .i32⟩
  | 52 => ⟨S32x1280, .i32⟩
  | 53 => ⟨S_, .i32⟩
  | 54 => ⟨S10x256, .i32⟩
  | 55 => ⟨S10x256, .i32⟩
  | 56 => ⟨S10x32x8, .i32⟩
  | 57 => ⟨S32x10x8, .i32⟩
  | 58 => ⟨S32x10x8x1, .i32⟩
  | 59 => ⟨S32x10x8x16, .i32⟩
  | 60 => ⟨S32x1280, .i32⟩
  | 61 => ⟨S327680x128, .f32⟩
  | 62 => ⟨S10x1, .f32⟩
  | 63 => ⟨S10x16, .f32⟩
  | 64 => ⟨S160, .f32⟩
  | 65 => ⟨S10x32x128, .f32⟩
  | 66 => ⟨S10x32x128, .i32⟩
  | 67 => ⟨S10x4096, .f32⟩
  | 68 => ⟨S10x204, .f32⟩
  | 69 => ⟨S10x204, .i32⟩
  | 70 => ⟨S10x4096, .i32⟩
  | 71 => ⟨S_, .i32⟩
  | 72 => ⟨S10x204, .i32⟩
  | 73 => ⟨S10x204, .i1⟩
  | 74 => ⟨S_, .i32⟩
  | 75 => ⟨S10x204, .i32⟩
  | 76 => ⟨S10x204, .i32⟩
  | 77 => ⟨S10x204, .i32⟩
  | 78 => ⟨S10x204x1, .i32⟩
  | 79 => ⟨S1, .i32⟩
  | 80 => ⟨S_, .i32⟩
  | 81 => ⟨S10x204x1, .i32⟩
  | 82 => ⟨S10x204x1, .i1⟩
  | 83 => ⟨S1x1x1, .i32⟩
  | 84 => ⟨S10x204x1, .i32⟩
  | 85 => ⟨S10x204x1, .i1⟩
  | 86 => ⟨S10x204x1, .i1⟩
  | 87 => ⟨S_, .i1⟩
  | 88 => ⟨S10x204, .i1⟩
  | 89 => ⟨S10x204, .i32⟩
  | 90 => ⟨S_, .i32⟩
  | 91 => ⟨S10x204, .i32⟩
  | 92 => ⟨S10x204, .i32⟩
  | 93 => ⟨S_, .i32⟩
  | 94 => ⟨S_, .i32⟩
  | 95 => ⟨S10x204, .i32⟩
  | 96 => ⟨S10x204, .i32⟩
  | 97 => ⟨S10x204, .i32⟩
  | 98 => ⟨S_, .i32⟩
  | 99 => ⟨S10x204, .i32⟩
  | 100 => ⟨S10x204, .i1⟩
  | 101 => ⟨S10x204, .i32⟩
  | 102 => ⟨S10x204, .i32⟩
  | 103 => ⟨S_, .i32⟩
  | 104 => ⟨S10x204, .i32⟩
  | 105 => ⟨S10x204, .i1⟩
  | 106 => ⟨S10x204, .i1⟩
  | 107 => ⟨S_, .i32⟩
  | 108 => ⟨S10x204, .i32⟩
  | 109 => ⟨S10x204, .i32⟩
  | 110 => ⟨S10x204, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S10x204, .i32⟩
  | 118 => ⟨S10x204, .i32⟩
  | 119 => ⟨S_, .i32⟩
  | 120 => ⟨S10x204, .i32⟩
  | 121 => ⟨S10x204, .i1⟩
  | 122 => ⟨S_, .i32⟩
  | 123 => ⟨S10x204, .i32⟩
  | 124 => ⟨S10x204, .i1⟩
  | 125 => ⟨S_, .i32⟩
  | 126 => ⟨S_, .i1⟩
  | 127 => ⟨S10x204, .i1⟩
  | _ => ⟨S2048x256, .f32⟩

abbrev hbmTy0_1 (i : Nat) : BufTy := match i % 128 with
  | 0 => ⟨S10x204, .i1⟩
  | 1 => ⟨S10x204, .i1⟩
  | 2 => ⟨S10x204, .i32⟩
  | 3 => ⟨S10x204, .i32⟩
  | 4 => ⟨S10x204, .i32⟩
  | 5 => ⟨S_, .i32⟩
  | 6 => ⟨S10x204, .i32⟩
  | 7 => ⟨S10x204, .i1⟩
  | 8 => ⟨S_, .i32⟩
  | 9 => ⟨S10x204, .i32⟩
  | 10 => ⟨S10x204, .i32⟩
  | 11 => ⟨S10x204, .i32⟩
  | 12 => ⟨S10x204x1, .i32⟩
  | 13 => ⟨S1, .i32⟩
  | 14 => ⟨S_, .i32⟩
  | 15 => ⟨S10x204x1, .i32⟩
  | 16 => ⟨S10x204x1, .i1⟩
  | 17 => ⟨S1x1x1, .i32⟩
  | 18 => ⟨S10x204x1, .i32⟩
  | 19 => ⟨S10x204x1, .i1⟩
  | 20 => ⟨S10x204x1, .i1⟩
  | 21 => ⟨S_, .i1⟩
  | 22 => ⟨S10x204, .i1⟩
  | 23 => ⟨S10x204x4, .f32⟩
  | 24 => ⟨S10x204x4, .i1⟩
  | 25 => ⟨S_, .f32⟩
  | 26 => ⟨S10x204x4, .f32⟩
  | 27 => ⟨S10x204x4, .f32⟩
  | 28 => ⟨S10x204x1, .i32⟩
  | 29 => ⟨S_, .i32⟩
  | 30 => ⟨S10x204x1, .i32⟩
  | 31 => ⟨S10x204x1, .i1⟩
  | 32 => ⟨S_, .i32⟩
  | 33 => ⟨S10x204x1, .i32⟩
  | 34 => ⟨S10x204x1, .i32⟩
  | 35 => ⟨S10x204x1, .i32⟩
  | 36 => ⟨S1, .i32⟩
  | 37 => ⟨S_, .i32⟩
  | 38 => ⟨S10x204x1, .i32⟩
  | 39 => ⟨S10x204x1, .i1⟩
  | 40 => ⟨S1x1x1, .i32⟩
  | 41 => ⟨S10x204x1, .i32⟩
  | 42 => ⟨S10x204x1, .i1⟩
  | 43 => ⟨S10x204x1, .i1⟩
  | 44 => ⟨S_, .i1⟩
  | 45 => ⟨S10x204, .i1⟩
  | 46 => ⟨S10x204x4, .f32⟩
  | 47 => ⟨S10x204x4, .i1⟩
  | 48 => ⟨S_, .f32⟩
  | 49 => ⟨S10x204x4, .f32⟩
  | 50 => ⟨S10x204x4, .f32⟩
  | 51 => ⟨S10x204x8, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (nBuf tb) → BufTy
  | .hbm, ⟨i, _⟩ => hbmTy i
  | .local .tc .vmem, ⟨0, _⟩ => ⟨S256x256, .f32⟩
  | .local .tc .vmem, ⟨1, _⟩ => ⟨S256x256, .f32⟩
  | .local .tc .vmem, ⟨2, _⟩ => ⟨S1x2048x256, .f32⟩
  | .local .tc .vmem, ⟨3, _⟩ => ⟨S1x2048x256, .f32⟩
  | .local .tc .vmem, ⟨4, _⟩ => ⟨S1x256x2048, .f32⟩
  | .local .tc .vmem, ⟨5, _⟩ => ⟨S1x256x2048, .f32⟩
  | .local .tc .vmem, ⟨6, _⟩ => ⟨S1x256x1, .f32⟩
  | .local .tc .vmem, ⟨7, _⟩ => ⟨S1x256x1, .f32⟩
  | .local .scVector .vmem, ⟨0, _⟩ => ⟨S1280, .i32⟩
  | .local .scVector .vmem, ⟨1, _⟩ => ⟨S1280, .i32⟩
  | .local .scVector .vmem, ⟨2, _⟩ => ⟨S160, .f32⟩
  | .local .scVector .vmem, ⟨3, _⟩ => ⟨S128x128, .f32⟩
  | .local .scVector .vmem, ⟨4, _⟩ => ⟨S128x128, .f32⟩
  | .local .scVector .vmem, ⟨5, _⟩ => ⟨S128, .f32⟩
  | .local .scVector .vmem, ⟨6, _⟩ => ⟨S128, .i32⟩
  | _, _ => ⟨S2048x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call2_v0 : Ref sig .tc := ⟨.hbm, 15, rfl⟩
abbrev main_call2_cst : Ref sig .tc := ⟨.hbm, 16, rfl⟩
abbrev main_call2_v1 : Ref sig .tc := ⟨.hbm, 17, rfl⟩
abbrev main_call2_v2 : Ref sig .tc := ⟨.hbm, 18, rfl⟩
abbrev main_v4 : Ref sig .tc := ⟨.hbm, 19, rfl⟩
abbrev main_cst_0 : Ref sig .tc := ⟨.hbm, 20, rfl⟩
abbrev main_call3_v0 : Ref sig .tc := ⟨.hbm, 21, rfl⟩
abbrev main_call3_v1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v9 : Ref sig .tc := ⟨.hbm, 28, rfl⟩
abbrev main_values : Ref sig .tc := ⟨.hbm, 29, rfl⟩
abbrev main_indices : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41_0 : Ref sig .tc := ⟨.hbm, 65, rfl⟩
abbrev main_v41_1 : Ref sig .tc := ⟨.hbm, 66, rfl⟩
abbrev main_v42 : Ref sig .tc := ⟨.hbm, 67, rfl⟩
abbrev main_values_3 : Ref sig .tc := ⟨.hbm, 68, rfl⟩
abbrev main_indices_4 : Ref sig .tc := ⟨.hbm, 69, rfl⟩
abbrev main_v43 : Ref sig .tc := ⟨.hbm, 70, rfl⟩
abbrev main_call5_c : Ref sig .tc := ⟨.hbm, 71, rfl⟩
abbrev main_call5_v0 : Ref sig .tc := ⟨.hbm, 72, rfl⟩
abbrev main_call5_v1 : Ref sig .tc := ⟨.hbm, 73, rfl⟩
abbrev main_call5_c_0 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_v5 : Ref sig .tc := ⟨.hbm, 78, rfl⟩
abbrev main_call5_c_1 : Ref sig .tc := ⟨.hbm, 79, rfl⟩
abbrev main_call5_c_2 : Ref sig .tc := ⟨.hbm, 80, rfl⟩
abbrev main_call5_v6 : Ref sig .tc := ⟨.hbm, 81, rfl⟩
abbrev main_call5_v7 : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_v11 : Ref sig .tc := ⟨.hbm, 86, rfl⟩
abbrev main_call5_c_3 : Ref sig .tc := ⟨.hbm, 87, rfl⟩
abbrev main_call5_v12 : Ref sig .tc := ⟨.hbm, 88, rfl⟩
abbrev main_call5_v13 : Ref sig .tc := ⟨.hbm, 89, rfl⟩
abbrev main_call5_c_4 : Ref sig .tc := ⟨.hbm, 90, rfl⟩
abbrev main_call5_v14 : Ref sig .tc := ⟨.hbm, 91, rfl⟩
abbrev main_v44 : Ref sig .tc := ⟨.hbm, 92, rfl⟩
abbrev main_c_5 : Ref sig .tc := ⟨.hbm, 93, rfl⟩
abbrev main_call6_v0 : Ref sig .tc := ⟨.hbm, 94, rfl⟩
abbrev main_call6_v1 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_call6_v5 : Ref sig .tc := ⟨.hbm, 99, rfl⟩
abbrev main_call6_v6 : Ref sig .tc := ⟨.hbm, 100, rfl⟩
abbrev main_call6_v7 : Ref sig .tc := ⟨.hbm, 101, rfl⟩
abbrev main_call6_v8 : Ref sig .tc := ⟨.hbm, 102, rfl⟩
abbrev main_call6_c : Ref sig .tc := ⟨.hbm, 103, rfl⟩
abbrev main_call6_v9 : Ref sig .tc := ⟨.hbm, 104, rfl⟩
abbrev main_call6_v10 : Ref sig .tc := ⟨.hbm, 105, rfl⟩
abbrev main_call6_v11 : Ref sig .tc := ⟨.hbm, 106, rfl⟩
abbrev main_call6_c_0 : Ref sig .tc := ⟨.hbm, 107, rfl⟩
abbrev main_call6_v12 : Ref sig .tc := ⟨.hbm, 108, rfl⟩
abbrev main_call6_v13 : Ref sig .tc := ⟨.hbm, 109, rfl⟩
abbrev main_v45 : Ref sig .tc := ⟨.hbm, 110, rfl⟩
abbrev main_c_6 : Ref sig .tc := ⟨.hbm, 111, rfl⟩
abbrev main_call7_v0 : Ref sig .tc := ⟨.hbm, 112, rfl⟩
abbrev main_call7_c : Ref sig .tc := ⟨.hbm, 113, rfl⟩
abbrev main_call7_v1 : Ref sig .tc := ⟨.hbm, 114, rfl⟩
abbrev main_call7_c_0 : Ref sig .tc := ⟨.hbm, 115, rfl⟩
abbrev main_call7_v2 : Ref sig .tc := ⟨.hbm, 116, rfl⟩
abbrev main_call7_v3 : Ref sig .tc := ⟨.hbm, 117, rfl⟩
abbrev main_call7_v4 : Ref sig .tc := ⟨.hbm, 118, rfl⟩
abbrev main_call7_c_1 : Ref sig .tc := ⟨.hbm, 119, rfl⟩
abbrev main_call7_v5 : Ref sig .tc := ⟨.hbm, 120, rfl⟩
abbrev main_call7_v6 : Ref sig .tc := ⟨.hbm, 121, rfl⟩
abbrev main_call7_c_2 : Ref sig .tc := ⟨.hbm, 122, rfl⟩
abbrev main_call7_v7 : Ref sig .tc := ⟨.hbm, 123, rfl⟩
abbrev main_call7_v8 : Ref sig .tc := ⟨.hbm, 124, rfl⟩
abbrev main_call7_c_3 : Ref sig .tc := ⟨.hbm, 125, rfl⟩
abbrev main_call7_v9 : Ref sig .tc := ⟨.hbm, 126, rfl⟩
abbrev main_call7_v10 : Ref sig .tc := ⟨.hbm, 127, rfl⟩
abbrev main_call7_v11 : Ref sig .tc := ⟨.hbm, 128, rfl⟩
abbrev main_call7_v12 : Ref sig .tc := ⟨.hbm, 129, rfl⟩
abbrev main_call7_v13 : Ref sig .tc := ⟨.hbm, 130, rfl⟩
abbrev main_call7_v14 : Ref sig .tc := ⟨.hbm, 131, rfl⟩
abbrev main_v46 : Ref sig .tc := ⟨.hbm, 132, rfl⟩
abbrev main_call8_c : Ref sig .tc := ⟨.hbm, 133, rfl⟩
abbrev main_call8_v0 : Ref sig .tc := ⟨.hbm, 134, rfl⟩
abbrev main_call8_v1 : Ref sig .tc := ⟨.hbm, 135, rfl⟩
abbrev main_call8_c_0 : Ref sig .tc := ⟨.hbm, 136, rfl⟩
abbrev main_call8_v2 : Ref sig .tc := ⟨.hbm, 137, rfl⟩
abbrev main_call8_v3 : Ref sig .tc := ⟨.hbm, 138, rfl⟩
abbrev main_call8_v4 : Ref sig .tc := ⟨.hbm, 139, rfl⟩
abbrev main_call8_v5 : Ref sig .tc := ⟨.hbm, 140, rfl⟩
abbrev main_call8_c_1 : Ref sig .tc := ⟨.hbm, 141, rfl⟩
abbrev main_call8_c_2 : Ref sig .tc := ⟨.hbm, 142, rfl⟩
abbrev main_call8_v6 : Ref sig .tc := ⟨.hbm, 143, rfl⟩
abbrev main_call8_v7 : Ref sig .tc := ⟨.hbm, 144, rfl⟩
abbrev main_call8_v8 : Ref sig .tc := ⟨.hbm, 145, rfl⟩
abbrev main_call8_v9 : Ref sig .tc := ⟨.hbm, 146, rfl⟩
abbrev main_call8_v10 : Ref sig .tc := ⟨.hbm, 147, rfl⟩
abbrev main_call8_v11 : Ref sig .tc := ⟨.hbm, 148, rfl⟩
abbrev main_call8_c_3 : Ref sig .tc := ⟨.hbm, 149, rfl⟩
abbrev main_call8_v12 : Ref sig .tc := ⟨.hbm, 150, rfl⟩
abbrev main_call8_v13 : Ref sig .tc := ⟨.hbm, 151, rfl⟩
abbrev main_call8_v14 : Ref sig .tc := ⟨.hbm, 152, rfl⟩
abbrev main_call8_cst : Ref sig .tc := ⟨.hbm, 153, rfl⟩
abbrev main_call8_v15 : Ref sig .tc := ⟨.hbm, 154, rfl⟩
abbrev main_v47 : Ref sig .tc := ⟨.hbm, 155, rfl⟩
abbrev main_v48 : Ref sig .tc := ⟨.hbm, 156, rfl⟩
abbrev main_call9_c : Ref sig .tc := ⟨.hbm, 157, rfl⟩
abbrev main_call9_v0 : Ref sig .tc := ⟨.hbm, 158, rfl⟩
abbrev main_call9_v1 : Ref sig .tc := ⟨.hbm, 159, rfl⟩
abbrev main_call9_c_0 : Ref sig .tc := ⟨.hbm, 160, rfl⟩
abbrev main_call9_v2 : Ref sig .tc := ⟨.hbm, 161, rfl⟩
abbrev main_call9_v3 : Ref sig .tc := ⟨.hbm, 162, rfl⟩
abbrev main_call9_v4 : Ref sig .tc := ⟨.hbm, 163, rfl⟩
abbrev main_call9_c_1 : Ref sig .tc := ⟨.hbm, 164, rfl⟩
abbrev main_call9_c_2 : Ref sig .tc := ⟨.hbm, 165, rfl⟩
abbrev main_call9_v5 : Ref sig .tc := ⟨.hbm, 166, rfl⟩
abbrev main_call9_v6 : Ref sig .tc := ⟨.hbm, 167, rfl⟩
abbrev main_call9_v7 : Ref sig .tc := ⟨.hbm, 168, rfl⟩
abbrev main_call9_v8 : Ref sig .tc := ⟨.hbm, 169, rfl⟩
abbrev main_call9_v9 : Ref sig .tc := ⟨.hbm, 170, rfl⟩
abbrev main_call9_v10 : Ref sig .tc := ⟨.hbm, 171, rfl⟩
abbrev main_call9_c_3 : Ref sig .tc := ⟨.hbm, 172, rfl⟩
abbrev main_call9_v11 : Ref sig .tc := ⟨.hbm, 173, rfl⟩
abbrev main_call9_v12 : Ref sig .tc := ⟨.hbm, 174, rfl⟩
abbrev main_call9_v13 : Ref sig .tc := ⟨.hbm, 175, rfl⟩
abbrev main_call9_cst : Ref sig .tc := ⟨.hbm, 176, rfl⟩
abbrev main_call9_v14 : Ref sig .tc := ⟨.hbm, 177, rfl⟩
abbrev main_v49 : Ref sig .tc := ⟨.hbm, 178, rfl⟩
abbrev main_v50 : Ref sig .tc := ⟨.hbm, 179, rfl⟩
abbrev main_v37_scv : Ref sig .scVector := ⟨.hbm, 61, rfl⟩
abbrev main_v29_scv : Ref sig .scVector := ⟨.hbm, 52, rfl⟩
abbrev main_v36_scv : Ref sig .scVector := ⟨.hbm, 60, rfl⟩
abbrev main_v40_scv : Ref sig .scVector := ⟨.hbm, 64, rfl⟩
abbrev main_v41_0_scv : Ref sig .scVector := ⟨.hbm, 65, rfl⟩
abbrev main_v41_1_scv : Ref sig .scVector := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 16], ![false, false]⟩

def k1_off1 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_162_r0 : BitVec 32 := 0#32
  ![v1.toNat, 0]
@[reducible] def k1_t1_loop : Scf.Loop 32 :=
  let c0_i32_9 : BitVec 32 := 0#32
  let c8_i32 : BitVec 32 := 8#32
  let v12 : BitVec 32 := Scalar.addi c0_i32_9 c8_i32
  let c1_i32 : BitVec 32 := 1#32
  ⟨c0_i32_9, v12, c1_i32⟩
def k1_off2 (k1_t1 : Fin k1_t1_loop.trips) : Fin 1 → Nat :=
  let c0_i32_9 : BitVec 32 := 0#32
  let c1_i32 : BitVec 32 := 1#32
  let arg17 : BitVec 32 := Scf.iv c0_i32_9 c1_i32 k1_t1
  let c16_i32_162 : BitVec 32 := 16#32
  let v105 : BitVec 32 := Scalar.muli arg17 c16_i32_162
  let v106 : Index := Scalar.indexCast v105
  ![v106.toNat]
@[reducible] def k1_t2_loop : Scf.Loop 32 :=
  let c0_i32_12 : BitVec 32 := 0#32
  let c512_i32 : BitVec 32 := 512#32
  let v15 : BitVec 32 := Scalar.addi c0_i32_12 c512_i32
  let c1_i32_13 : BitVec 32 := 1#32
  ⟨c0_i32_12, v15, c1_i32_13⟩
def k1_off3 (k1_t2 : Fin k1_t2_loop.trips) : Fin 1 → Nat :=
  let c0_i32_171 : BitVec 32 := 0#32
  let c2_i32_162 : BitVec 32 := 2#32
  let c0_i32_12 : BitVec 32 := 0#32
  let c1_i32_13 : BitVec 32 := 1#32
  let arg17 : BitVec 32 := Scf.iv c0_i32_12 c1_i32_13 k1_t2
  let v105 : BitVec 32 := Scalar.muli c2_i32_162 arg17
  let c0_i32_164 : BitVec 32 := 0#32
  let v107 : BitVec 1 := Scalar.cmpi .sgt v105 c0_i32_164
  let v108 : BitVec 32 := Scalar.extui v107
  let c0_i32_165 : BitVec 32 := 0#32
  let v109 : BitVec 1 := Scalar.cmpi .slt v105 c0_i32_165
  let v110 : BitVec 32 := Scalar.extui v109
  let v111 : BitVec 32 := Scalar.subi v108 v110
  let c128_i32_163 : BitVec 32 := 128#32
  let c0_i32_166 : BitVec 32 := 0#32
  let v112 : BitVec 1 := Scalar.cmpi .sgt c128_i32_163 c0_i32_166
  let v113 : BitVec 32 := Scalar.extui v112
  let c0_i32_167 : BitVec 32 := 0#32
  let v114 : BitVec 1 := Scalar.cmpi .slt c128_i32_163 c0_i32_167
  let v115 : BitVec 32 := Scalar.extui v114
  let v116 : BitVec 32 := Scalar.subi v113 v115
  let v117 : BitVec 1 := Scalar.cmpi .ne v111 v116
  let v118 : BitVec 32 := Scalar.remsi v105 c128_i32_163
  let c0_i32_168 : BitVec 32 := 0#32
  let v119 : BitVec 1 := Scalar.cmpi .ne v118 c0_i32_168
  let v120 : BitVec 1 := Scalar.andi v117 v119
  let v106 : BitVec 32 := Scalar.divsi v105 c128_i32_163
  let c1_i32_169 : BitVec 32 := 1#32
  let v121 : BitVec 32 := Scalar.subi v106 c1_i32_169
  let v122 : BitVec 32 := Scalar.select v120 v121 v106
  let v125 : BitVec 32 := Scalar.addi c0_i32_171 v122
  let c16_i32_172 : BitVec 32 := 16#32
  let v126 : BitVec 32 := Scalar.muli v125 c16_i32_172
  let v127 : Index := Scalar.indexCast v126
  ![v127.toNat]
def k1_off4 (k1_t2 : Fin k1_t2_loop.trips) : Fin 2 → Nat :=
  let c2_i32_162 : BitVec 32 := 2#32
  let c0_i32_12 : BitVec 32 := 0#32
  let c1_i32_13 : BitVec 32 := 1#32
  let arg17 : BitVec 32 := Scf.iv c0_i32_12 c1_i32_13 k1_t2
  let v105 : BitVec 32 := Scalar.muli c2_i32_162 arg17
  let c8_i32_173 : BitVec 32 := 8#32
  let v129 : BitVec 32 := Scalar.divsi v105 c8_i32_173
  let v133 : Index := Scalar.indexCast v129
  let c8_i32_174 : BitVec 32 := 8#32
  let v130 : BitVec 32 := Scalar.remsi v105 c8_i32_174
  let c0_i32_175 : BitVec 32 := 0#32
  let v131 : BitVec 32 := Scalar.addi v130 c0_i32_175
  let c16_i32_176 : BitVec 32 := 16#32
  let v132 : BitVec 32 := Scalar.muli v131 c16_i32_176
  let v134 : Index := Scalar.indexCast v132
  ![v133.toNat, v134.toNat]

def k1_chk1 (v146 : IVec S16 32) : Prop :=
  (∀ a x, ((![v146] : Fin 1 → IVec S16 32) a x).toNat < S128.size a) ∧
  (∀ a x, ((![v146] : Fin 1 → IVec S16 32) a x).toNat < S128.size a)
theorem k1_idx1_inb : ∀ (v146 : IVec S16 32) (k1_hw1 : k1_chk1 v146), ∀ a x, ((![v146] : Fin 1 → IVec S16 32) a x).toNat < S128.size a := fun v146 k1_hw1 => k1_hw1.1
theorem k1_idx2_inb : ∀ (v146 : IVec S16 32) (k1_hw1 : k1_chk1 v146), ∀ a x, ((![v146] : Fin 1 → IVec S16 32) a x).toNat < S128.size a := fun v146 k1_hw1 => k1_hw1.2
def k1_off5 (k1_t2 : Fin k1_t2_loop.trips) : Fin 2 → Nat :=
  let c2_i32_162 : BitVec 32 := 2#32
  let c0_i32_12 : BitVec 32 := 0#32
  let c1_i32_13 : BitVec 32 := 1#32
  let arg17 : BitVec 32 := Scf.iv c0_i32_12 c1_i32_13 k1_t2
  let v105 : BitVec 32 := Scalar.muli c2_i32_162 arg17
  let c8_i32_182 : BitVec 32 := 8#32
  let v158 : BitVec 32 := Scalar.divsi v105 c8_i32_182
  let v162 : Index := Scalar.indexCast v158
  let c8_i32_183 : BitVec 32 := 8#32
  let v159 : BitVec 32 := Scalar.remsi v105 c8_i32_183
  let c1_i32_184 : BitVec 32 := 1#32
  let v160 : BitVec 32 := Scalar.addi v159 c1_i32_184
  let c16_i32_185 : BitVec 32 := 16#32
  let v161 : BitVec 32 := Scalar.muli v160 c16_i32_185
  let v163 : Index := Scalar.indexCast v161
  ![v162.toNat, v163.toNat]

def k1_chk2 (v175 : IVec S16 32) : Prop :=
  (∀ a x, ((![v175] : Fin 1 → IVec S16 32) a x).toNat < S128.size a) ∧
  (∀ a x, ((![v175] : Fin 1 → IVec S16 32) a x).toNat < S128.size a)
theorem k1_idx3_inb : ∀ (v175 : IVec S16 32) (k1_hw2 : k1_chk2 v175), ∀ a x, ((![v175] : Fin 1 → IVec S16 32) a x).toNat < S128.size a := fun v175 k1_hw2 => k1_hw2.1
theorem k1_idx4_inb : ∀ (v175 : IVec S16 32) (k1_hw2 : k1_chk2 v175), ∀ a x, ((![v175] : Fin 1 → IVec S16 32) a x).toNat < S128.size a := fun v175 k1_hw2 => k1_hw2.2
def k1_off6 (i : grid1.Coords) : Fin 3 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_162_r3 : BitVec 32 := 0#32
  ![0, v1.toNat, 0]
@[reducible] def k1_t3_loop : Scf.Loop 32 :=
  let c0_i32_23 : BitVec 32 := 0#32
  let c8_i32_24 : BitVec 32 := 8#32
  let v22 : BitVec 32 := Scalar.addi c0_i32_23 c8_i32_24
  let c1_i32_25 : BitVec 32 := 1#32
  ⟨c0_i32_23, v22, c1_i32_25⟩
def k1_off7 (k1_t3 : Fin k1_t3_loop.trips) : Fin 1 → Nat :=
  let c0_i32_23 : BitVec 32 := 0#32
  let c1_i32_25 : BitVec 32 := 1#32
  let arg17 : BitVec 32 := Scf.iv c0_i32_23 c1_i32_25 k1_t3
  let c16_i32_162 : BitVec 32 := 16#32
  let v105 : BitVec 32 := Scalar.muli arg17 c16_i32_162
  let v106 : Index := Scalar.indexCast v105
  ![v106.toNat]
@[reducible] def k1_t4_loop : Scf.Loop 32 :=
  let c0_i32_28 : BitVec 32 := 0#32
  let c512_i32_29 : BitVec 32 := 512#32
  let v25 : BitVec 32 := Scalar.addi c0_i32_28 c512_i32_29
  let c1_i32_30 : BitVec 32 := 1#32
  ⟨c0_i32_28, v25, c1_i32_30⟩
def k1_off8 (k1_t4 : Fin k1_t4_loop.trips) : Fin 1 → Nat :=
  let c8_i32_171 : BitVec 32 := 8#32
  let c2_i32_162 : BitVec 32 := 2#32
  let c0_i32_28 : BitVec 32 := 0#32
  let c1_i32_30 : BitVec 32 := 1#32
  let arg17 : BitVec 32 := Scf.iv c0_i32_28 c1_i32_30 k1_t4
  let v105 : BitVec 32 := Scalar.muli c2_i32_162 arg17
  let c0_i32_164 : BitVec 32 := 0#32
  let v107 : BitVec 1 := Scalar.cmpi .sgt v105 c0_i32_164
  let v108 : BitVec 32 := Scalar.extui v107
  let c0_i32_165 : BitVec 32 := 0#32
  let v109 : BitVec 1 := Scalar.cmpi .slt v105 c0_i32_165
  let v110 : BitVec 32 := Scalar.extui v109
  let v111 : BitVec 32 := Scalar.subi v108 v110
  let c128_i32_163 : BitVec 32 := 128#32
  let c0_i32_166 : BitVec 32 := 0#32
  let v112 : BitVec 1 := Scalar.cmpi .sgt c128_i32_163 c0_i32_166
  let v113 : BitVec 32 := Scalar.extui v112
  let c0_i32_167 : BitVec 32 := 0#32
  let v114 : BitVec 1 := Scalar.cmpi .slt c128_i32_163 c0_i32_167
  let v115 : BitVec 32 := Scalar.extui v114
  let v116 : BitVec 32 := Scalar.subi v113 v115
  let v117 : BitVec 1 := Scalar.cmpi .ne v111 v116
  let v118 : BitVec 32 := Scalar.remsi v105 c128_i32_163
  let c0_i32_168 : BitVec 32 := 0#32
  let v119 : BitVec 1 := Scalar.cmpi .ne v118 c0_i32_168
  let v120 : BitVec 1 := Scalar.andi v117 v119
  let v106 : BitVec 32 := Scalar.divsi v105 c128_i32_163
  let c1_i32_169 : BitVec 32 := 1#32
  let v121 : BitVec 32 := Scalar.subi v106 c1_i32_169
  let v122 : BitVec 32 := Scalar.select v120 v121 v106
  let v125 : BitVec 32 := Scalar.addi c8_i32_171 v122
  let c16_i32_172 : BitVec 32 := 16#32
  let v126 : BitVec 32 := Scalar.muli v125 c16_i32_172
  let v127 : Index := Scalar.indexCast v126
  ![v127.toNat]
def k1_off9 (k1_t4 : Fin k1_t4_loop.trips) : Fin 2 → Nat :=
  let c2_i32_162 : BitVec 32 := 2#32
  let c0_i32_28 : BitVec 32 := 0#32
  let c1_i32_30 : BitVec 32 := 1#32
  let arg17 : BitVec 32 := Scf.iv c0_i32_28 c1_i32_30 k1_t4
  let v105 : BitVec 32 := Scalar.muli c2_i32_162 arg17
  let c8_i32_173 : BitVec 32 := 8#32
  let v129 : BitVec 32 := Scalar.divsi v105 c8_i32_173
  let v133 : Index := Scalar.indexCast v129
  let c8_i32_174 : BitVec 32 := 8#32
  let v130 : BitVec 32 := Scalar.remsi v105 c8_i32_174
  let c0_i32_175 : BitVec 32 := 0#32
  let v131 : BitVec 32 := Scalar.addi v130 c0_i32_175
  let c16_i32_176 : BitVec 32 := 16#32
  let v132 : BitVec 32 := Scalar.muli v131 c16_i32_176
  let v134 : Index := Scalar.indexCast v132
  ![v133.toNat, v134.toNat]

def k1_chk3 (v146 : IVec S16 32) : Prop :=
  (∀ a x, ((![v146] : Fin 1 → IVec S16 32) a x).toNat < S128.size a) ∧
  (∀ a x, ((![v146] : Fin 1 → IVec S16 32) a x).toNat < S128.size a)
theorem k1_idx5_inb : ∀ (v146 : IVec S16 32) (k1_hw3 : k1_chk3 v146), ∀ a x, ((![v146] : Fin 1 → IVec S16 32) a x).toNat < S128.size a := fun v146 k1_hw3 => k1_hw3.1
theorem k1_idx6_inb : ∀ (v146 : IVec S16 32) (k1_hw3 : k1_chk3 v146), ∀ a x, ((![v146] : Fin 1 → IVec S16 32) a x).toNat < S128.size a := fun v146 k1_hw3 => k1_hw3.2
def k1_off10 (k1_t4 : Fin k1_t4_loop.trips) : Fin 2 → Nat :=
  let c2_i32_162 : BitVec 32 := 2#32
  let c0_i32_28 : BitVec 32 := 0#32
  let c1_i32_30 : BitVec 32 := 1#32
  let arg17 : BitVec 32 := Scf.iv c0_i32_28 c1_i32_30 k1_t4
  let v105 : BitVec 32 := Scalar.muli c2_i32_162 arg17
  let c8_i32_182 : BitVec 32 := 8#32
  let v158 : BitVec 32 := Scalar.divsi v105 c8_i32_182
  let v162 : Index := Scalar.indexCast v158
  let c8_i32_183 : BitVec 32 := 8#32
  let v159 : BitVec 32 := Scalar.remsi v105 c8_i32_183
  let c1_i32_184 : BitVec 32 := 1#32
  let v160 : BitVec 32 := Scalar.addi v159 c1_i32_184
  let c16_i32_185 : BitVec 32 := 16#32
  let v161 : BitVec 32 := Scalar.muli v160 c16_i32_185
  let v163 : Index := Scalar.indexCast v161
  ![v162.toNat, v163.toNat]

def k1_chk4 (v175 : IVec S16 32) : Prop :=
  (∀ a x, ((![v175] : Fin 1 → IVec S16 32) a x).toNat < S128.size a) ∧
  (∀ a x, ((![v175] : Fin 1 → IVec S16 32) a x).toNat < S128.size a)
theorem k1_idx7_inb : ∀ (v175 : IVec S16 32) (k1_hw4 : k1_chk4 v175), ∀ a x, ((![v175] : Fin 1 → IVec S16 32) a x).toNat < S128.size a := fun v175 k1_hw4 => k1_hw4.1
theorem k1_idx8_inb : ∀ (v175 : IVec S16 32) (k1_hw4 : k1_chk4 v175), ∀ a x, ((![v175] : Fin 1 → IVec S16 32) a x).toNat < S128.size a := fun v175 k1_hw4 => k1_hw4.2
def k1_off11 (i : grid1.Coords) : Fin 3 → Nat :=
  let c1_i32_32 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_162_r5 : BitVec 32 := 0#32
  ![1, v1.toNat, 0]
@[reducible] def k1_t5_loop : Scf.Loop 32 :=
  let c0_i32_40 : BitVec 32 := 0#32
  let c8_i32_41 : BitVec 32 := 8#32
  let v32 : BitVec 32 := Scalar.addi c0_i32_40 c8_i32_41
  let c1_i32_42 : BitVec 32 := 1#32
  ⟨c0_i32_40, v32, c1_i32_42⟩
def k1_off12 (k1_t5 : Fin k1_t5_loop.trips) : Fin 1 → Nat :=
  let c0_i32_40 : BitVec 32 := 0#32
  let c1_i32_42 : BitVec 32 := 1#32
  let arg17 : BitVec 32 := Scf.iv c0_i32_40 c1_i32_42 k1_t5
  let c16_i32_162 : BitVec 32 := 16#32
  let v105 : BitVec 32 := Scalar.muli arg17 c16_i32_162
  let v106 : Index := Scalar.indexCast v105
  ![v106.toNat]
@[reducible] def k1_t6_loop : Scf.Loop 32 :=
  let c0_i32_45 : BitVec 32 := 0#32
  let c512_i32_46 : BitVec 32 := 512#32
  let v35 : BitVec 32 := Scalar.addi c0_i32_45 c512_i32_46
  let c1_i32_47 : BitVec 32 := 1#32
  ⟨c0_i32_45, v35, c1_i32_47⟩
def k1_off13 (k1_t6 : Fin k1_t6_loop.trips) : Fin 1 → Nat :=
  let c16_i32_171 : BitVec 32 := 16#32
  let c2_i32_162 : BitVec 32 := 2#32
  let c0_i32_45 : BitVec 32 := 0#32
  let c1_i32_47 : BitVec 32 := 1#32
  let arg17 : BitVec 32 := Scf.iv c0_i32_45 c1_i32_47 k1_t6
  let v105 : BitVec 32 := Scalar.muli c2_i32_162 arg17
  let c0_i32_164 : BitVec 32 := 0#32
  let v107 : BitVec 1 := Scalar.cmpi .sgt v105 c0_i32_164
  let v108 : BitVec 32 := Scalar.extui v107
  let c0_i32_165 : BitVec 32 := 0#32
  let v109 : BitVec 1 := Scalar.cmpi .slt v105 c0_i32_165
  let v110 : BitVec 32 := Scalar.extui v109
  let v111 : BitVec 32 := Scalar.subi v108 v110
  let c128_i32_163 : BitVec 32 := 128#32
  let c0_i32_166 : BitVec 32 := 0#32
  let v112 : BitVec 1 := Scalar.cmpi .sgt c128_i32_163 c0_i32_166
  let v113 : BitVec 32 := Scalar.extui v112
  let c0_i32_167 : BitVec 32 := 0#32
  let v114 : BitVec 1 := Scalar.cmpi .slt c128_i32_163 c0_i32_167
  let v115 : BitVec 32 := Scalar.extui v114
  let v116 : BitVec 32 := Scalar.subi v113 v115
  let v117 : BitVec 1 := Scalar.cmpi .ne v111 v116
  let v118 : BitVec 32 := Scalar.remsi v105 c128_i32_163
  let c0_i32_168 : BitVec 32 := 0#32
  let v119 : BitVec 1 := Scalar.cmpi .ne v118 c0_i32_168
  let v120 : BitVec 1 := Scalar.andi v117 v119
  let v106 : BitVec 32 := Scalar.divsi v105 c128_i32_163
  let c1_i32_169 : BitVec 32 := 1#32
  let v121 : BitVec 32 := Scalar.subi v106 c1_i32_169
  let v122 : BitVec 32 := Scalar.select v120 v121 v106
  let v125 : BitVec 32 := Scalar.addi c16_i32_171 v122
  let c16_i32_172 : BitVec 32 := 16#32
  let v126 : BitVec 32 := Scalar.muli v125 c16_i32_172
  let v127 : Index := Scalar.indexCast v126
  ![v127.toNat]
def k1_off14 (k1_t6 : Fin k1_t6_loop.trips) : Fin 2 → Nat :=
  let c2_i32_162 : BitVec 32 := 2#32
  let c0_i32_45 : BitVec 32 := 0#32
  let c1_i32_47 : BitVec 32 := 1#32
  let arg17 : BitVec 32 := Scf.iv c0_i32_45 c1_i32_47 k1_t6
  let v105 : BitVec 32 := Scalar.muli c2_i32_162 arg17
  let c8_i32_173 : BitVec 32 := 8#32
  let v129 : BitVec 32 := Scalar.divsi v105 c8_i32_173
  let v133 : Index := Scalar.indexCast v129
  let c8_i32_174 : BitVec 32 := 8#32
  let v130 : BitVec 32 := Scalar.remsi v105 c8_i32_174
  let c0_i32_175 : BitVec 32 := 0#32
  let v131 : BitVec 32 := Scalar.addi v130 c0_i32_175
  let c16_i32_176 : BitVec 32 := 16#32
  let v132 : BitVec 32 := Scalar.muli v131 c16_i32_176
  let v134 : Index := Scalar.indexCast v132
  ![v133.toNat, v134.toNat]

def k1_chk5 (v146 : IVec S16 32) : Prop :=
  (∀ a x, ((![v146] : Fin 1 → IVec S16 32) a x).toNat < S128.size a) ∧
  (∀ a x, ((![v146] : Fin 1 → IVec S16 32) a x).toNat < S128.size a)
theorem k1_idx9_inb : ∀ (v146 : IVec S16 32) (k1_hw5 : k1_chk5 v146), ∀ a x, ((![v146] : Fin 1 → IVec S16 32) a x).toNat < S128.size a := fun v146 k1_hw5 => k1_hw5.1
theorem k1_idx10_inb : ∀ (v146 : IVec S16 32) (k1_hw5 : k1_chk5 v146), ∀ a x, ((![v146] : Fin 1 → IVec S16 32) a x).toNat < S128.size a := fun v146 k1_hw5 => k1_hw5.2
def k1_off15 (k1_t6 : Fin k1_t6_loop.trips) : Fin 2 → Nat :=
  let c2_i32_162 : BitVec 32 := 2#32
  let c0_i32_45 : BitVec 32 := 0#32
  let c1_i32_47 : BitVec 32 := 1#32
  let arg17 : BitVec 32 := Scf.iv c0_i32_45 c1_i32_47 k1_t6
  let v105 : BitVec 32 := Scalar.muli c2_i32_162 arg17
  let c8_i32_182 : BitVec 32 := 8#32
  let v158 : BitVec 32 := Scalar.divsi v105 c8_i32_182
  let v162 : Index := Scalar.indexCast v158
  let c8_i32_183 : BitVec 32 := 8#32
  let v159 : BitVec 32 := Scalar.remsi v105 c8_i32_183
  let c1_i32_184 : BitVec 32 := 1#32
  let v160 : BitVec 32 := Scalar.addi v159 c1_i32_184
  let c16_i32_185 : BitVec 32 := 16#32
  let v161 : BitVec 32 := Scalar.muli v160 c16_i32_185
  let v163 : Index := Scalar.indexCast v161
  ![v162.toNat, v163.toNat]

def k1_chk6 (v175 : IVec S16 32) : Prop :=
  (∀ a x, ((![v175] : Fin 1 → IVec S16 32) a x).toNat < S128.size a) ∧
  (∀ a x, ((![v175] : Fin 1 → IVec S16 32) a x).toNat < S128.size a)
theorem k1_idx11_inb : ∀ (v175 : IVec S16 32) (k1_hw6 : k1_chk6 v175), ∀ a x, ((![v175] : Fin 1 → IVec S16 32) a x).toNat < S128.size a := fun v175 k1_hw6 => k1_hw6.1
theorem k1_idx12_inb : ∀ (v175 : IVec S16 32) (k1_hw6 : k1_chk6 v175), ∀ a x, ((![v175] : Fin 1 → IVec S16 32) a x).toNat < S128.size a := fun v175 k1_hw6 => k1_hw6.2
def k1_off16 (i : grid1.Coords) : Fin 3 → Nat :=
  let c2_i32 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_162_r7 : BitVec 32 := 0#32
  ![2, v1.toNat, 0]
@[reducible] def k1_t7_loop : Scf.Loop 32 :=
  let c0_i32_57 : BitVec 32 := 0#32
  let c8_i32_58 : BitVec 32 := 8#32
  let v42 : BitVec 32 := Scalar.addi c0_i32_57 c8_i32_58
  let c1_i32_59 : BitVec 32 := 1#32
  ⟨c0_i32_57, v42, c1_i32_59⟩
def k1_off17 (k1_t7 : Fin k1_t7_loop.trips) : Fin 1 → Nat :=
  let c0_i32_57 : BitVec 32 := 0#32
  let c1_i32_59 : BitVec 32 := 1#32
  let arg17 : BitVec 32 := Scf.iv c0_i32_57 c1_i32_59 k1_t7
  let c16_i32_162 : BitVec 32 := 16#32
  let v105 : BitVec 32 := Scalar.muli arg17 c16_i32_162
  let v106 : Index := Scalar.indexCast v105
  ![v106.toNat]
@[reducible] def k1_t8_loop : Scf.Loop 32 :=
  let c0_i32_62 : BitVec 32 := 0#32
  let c512_i32_63 : BitVec 32 := 512#32
  let v45 : BitVec 32 := Scalar.addi c0_i32_62 c512_i32_63
  let c1_i32_64 : BitVec 32 := 1#32
  ⟨c0_i32_62, v45, c1_i32_64⟩
def k1_off18 (k1_t8 : Fin k1_t8_loop.trips) : Fin 1 → Nat :=
  let c24_i32 : BitVec 32 := 24#32
  let c2_i32_162 : BitVec 32 := 2#32
  let c0_i32_62 : BitVec 32 := 0#32
  let c1_i32_64 : BitVec 32 := 1#32
  let arg17 : BitVec 32 := Scf.iv c0_i32_62 c1_i32_64 k1_t8
  let v105 : BitVec 32 := Scalar.muli c2_i32_162 arg17
  let c0_i32_164 : BitVec 32 := 0#32
  let v107 : BitVec 1 := Scalar.cmpi .sgt v105 c0_i32_164
  let v108 : BitVec 32 := Scalar.extui v107
  let c0_i32_165 : BitVec 32 := 0#32
  let v109 : BitVec 1 := Scalar.cmpi .slt v105 c0_i32_165
  let v110 : BitVec 32 := Scalar.extui v109
  let v111 : BitVec 32 := Scalar.subi v108 v110
  let c128_i32_163 : BitVec 32 := 128#32
  let c0_i32_166 : BitVec 32 := 0#32
  let v112 : BitVec 1 := Scalar.cmpi .sgt c128_i32_163 c0_i32_166
  let v113 : BitVec 32 := Scalar.extui v112
  let c0_i32_167 : BitVec 32 := 0#32
  let v114 : BitVec 1 := Scalar.cmpi .slt c128_i32_163 c0_i32_167
  let v115 : BitVec 32 := Scalar.extui v114
  let v116 : BitVec 32 := Scalar.subi v113 v115
  let v117 : BitVec 1 := Scalar.cmpi .ne v111 v116
  let v118 : BitVec 32 := Scalar.remsi v105 c128_i32_163
  let c0_i32_168 : BitVec 32 := 0#32
  let v119 : BitVec 1 := Scalar.cmpi .ne v118 c0_i32_168
  let v120 : BitVec 1 := Scalar.andi v117 v119
  let v106 : BitVec 32 := Scalar.divsi v105 c128_i32_163
  let c1_i32_169 : BitVec 32 := 1#32
  let v121 : BitVec 32 := Scalar.subi v106 c1_i32_169
  let v122 : BitVec 32 := Scalar.select v120 v121 v106
  let v125 : BitVec 32 := Scalar.addi c24_i32 v122
  let c16_i32_171 : BitVec 32 := 16#32
  let v126 : BitVec 32 := Scalar.muli v125 c16_i32_171
  let v127 : Index := Scalar.indexCast v126
  ![v127.toNat]
def k1_off19 (k1_t8 : Fin k1_t8_loop.trips) : Fin 2 → Nat :=
  let c2_i32_162 : BitVec 32 := 2#32
  let c0_i32_62 : BitVec 32 := 0#32
  let c1_i32_64 : BitVec 32 := 1#32
  let arg17 : BitVec 32 := Scf.iv c0_i32_62 c1_i32_64 k1_t8
  let v105 : BitVec 32 := Scalar.muli c2_i32_162 arg17
  let c8_i32_172 : BitVec 32 := 8#32
  let v129 : BitVec 32 := Scalar.divsi v105 c8_i32_172
  let v133 : Index := Scalar.indexCast v129
  let c8_i32_173 : BitVec 32 := 8#32
  let v130 : BitVec 32 := Scalar.remsi v105 c8_i32_173
  let c0_i32_174 : BitVec 32 := 0#32
  let v131 : BitVec 32 := Scalar.addi v130 c0_i32_174
  let c16_i32_175 : BitVec 32 := 16#32
  let v132 : BitVec 32 := Scalar.muli v131 c16_i32_175
  let v134 : Index := Scalar.indexCast v132
  ![v133.toNat, v134.toNat]

def k1_chk7 (v146 : IVec S16 32) : Prop :=
  (∀ a x, ((![v146] : Fin 1 → IVec S16 32) a x).toNat < S128.size a) ∧
  (∀ a x, ((![v146] : Fin 1 → IVec S16 32) a x).toNat < S128.size a)
theorem k1_idx13_inb : ∀ (v146 : IVec S16 32) (k1_hw7 : k1_chk7 v146), ∀ a x, ((![v146] : Fin 1 → IVec S16 32) a x).toNat < S128.size a := fun v146 k1_hw7 => k1_hw7.1
theorem k1_idx14_inb : ∀ (v146 : IVec S16 32) (k1_hw7 : k1_chk7 v146), ∀ a x, ((![v146] : Fin 1 → IVec S16 32) a x).toNat < S128.size a := fun v146 k1_hw7 => k1_hw7.2
def k1_off20 (k1_t8 : Fin k1_t8_loop.trips) : Fin 2 → Nat :=
  let c2_i32_162 : BitVec 32 := 2#32
  let c0_i32_62 : BitVec 32 := 0#32
  let c1_i32_64 : BitVec 32 := 1#32
  let arg17 : BitVec 32 := Scf.iv c0_i32_62 c1_i32_64 k1_t8
  let v105 : BitVec 32 := Scalar.muli c2_i32_162 arg17
  let c8_i32_181 : BitVec 32 := 8#32
  let v158 : BitVec 32 := Scalar.divsi v105 c8_i32_181
  let v162 : Index := Scalar.indexCast v158
  let c8_i32_182 : BitVec 32 := 8#32
  let v159 : BitVec 32 := Scalar.remsi v105 c8_i32_182
  let c1_i32_183 : BitVec 32 := 1#32
  let v160 : BitVec 32 := Scalar.addi v159 c1_i32_183
  let c16_i32_184 : BitVec 32 := 16#32
  let v161 : BitVec 32 := Scalar.muli v160 c16_i32_184
  let v163 : Index := Scalar.indexCast v161
  ![v162.toNat, v163.toNat]

def k1_chk8 (v175 : IVec S16 32) : Prop :=
  (∀ a x, ((![v175] : Fin 1 → IVec S16 32) a x).toNat < S128.size a) ∧
  (∀ a x, ((![v175] : Fin 1 → IVec S16 32) a x).toNat < S128.size a)
theorem k1_idx15_inb : ∀ (v175 : IVec S16 32) (k1_hw8 : k1_chk8 v175), ∀ a x, ((![v175] : Fin 1 → IVec S16 32) a x).toNat < S128.size a := fun v175 k1_hw8 => k1_hw8.1
theorem k1_idx16_inb : ∀ (v175 : IVec S16 32) (k1_hw8 : k1_chk8 v175), ∀ a x, ((![v175] : Fin 1 → IVec S16 32) a x).toNat < S128.size a := fun v175 k1_hw8 => k1_hw8.2
def k1_off21 (i : grid1.Coords) : Fin 3 → Nat :=
  let c3_i32 : BitVec 32 := 3#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_162_r9 : BitVec 32 := 0#32
  ![3, v1.toNat, 0]
@[reducible] def k1_t9_loop : Scf.Loop 32 :=
  let c0_i32_73 : BitVec 32 := 0#32
  let c8_i32_74 : BitVec 32 := 8#32
  let v52 : BitVec 32 := Scalar.addi c0_i32_73 c8_i32_74
  let c1_i32_75 : BitVec 32 := 1#32
  ⟨c0_i32_73, v52, c1_i32_75⟩
def k1_off22 (k1_t9 : Fin k1_t9_loop.trips) : Fin 1 → Nat :=
  let c0_i32_73 : BitVec 32 := 0#32
  let c1_i32_75 : BitVec 32 := 1#32
  let arg17 : BitVec 32 := Scf.iv c0_i32_73 c1_i32_75 k1_t9
  let c16_i32_162 : BitVec 32 := 16#32
  let v105 : BitVec 32 := Scalar.muli arg17 c16_i32_162
  let v106 : Index := Scalar.indexCast v105
  ![v106.toNat]
@[reducible] def k1_t10_loop : Scf.Loop 32 :=
  let c0_i32_78 : BitVec 32 := 0#32
  let c512_i32_79 : BitVec 32 := 512#32
  let v55 : BitVec 32 := Scalar.addi c0_i32_78 c512_i32_79
  let c1_i32_80 : BitVec 32 := 1#32
  ⟨c0_i32_78, v55, c1_i32_80⟩
def k1_off23 (k1_t10 : Fin k1_t10_loop.trips) : Fin 1 → Nat :=
  let c32_i32 : BitVec 32 := 32#32
  let c2_i32_162 : BitVec 32 := 2#32
  let c0_i32_78 : BitVec 32 := 0#32
  let c1_i32_80 : BitVec 32 := 1#32
  let arg17 : BitVec 32 := Scf.iv c0_i32_78 c1_i32_80 k1_t10
  let v105 : BitVec 32 := Scalar.muli c2_i32_162 arg17
  let c0_i32_164 : BitVec 32 := 0#32
  let v107 : BitVec 1 := Scalar.cmpi .sgt v105 c0_i32_164
  let v108 : BitVec 32 := Scalar.extui v107
  let c0_i32_165 : BitVec 32 := 0#32
  let v109 : BitVec 1 := Scalar.cmpi .slt v105 c0_i32_165
  let v110 : BitVec 32 := Scalar.extui v109
  let v111 : BitVec 32 := Scalar.subi v108 v110
  let c128_i32_163 : BitVec 32 := 128#32
  let c0_i32_166 : BitVec 32 := 0#32
  let v112 : BitVec 1 := Scalar.cmpi .sgt c128_i32_163 c0_i32_166
  let v113 : BitVec 32 := Scalar.extui v112
  let c0_i32_167 : BitVec 32 := 0#32
  let v114 : BitVec 1 := Scalar.cmpi .slt c128_i32_163 c0_i32_167
  let v115 : BitVec 32 := Scalar.extui v114
  let v116 : BitVec 32 := Scalar.subi v113 v115
  let v117 : BitVec 1 := Scalar.cmpi .ne v111 v116
  let v118 : BitVec 32 := Scalar.remsi v105 c128_i32_163
  let c0_i32_168 : BitVec 32 := 0#32
  let v119 : BitVec 1 := Scalar.cmpi .ne v118 c0_i32_168
  let v120 : BitVec 1 := Scalar.andi v117 v119
  let v106 : BitVec 32 := Scalar.divsi v105 c128_i32_163
  let c1_i32_169 : BitVec 32 := 1#32
  let v121 : BitVec 32 := Scalar.subi v106 c1_i32_169
  let v122 : BitVec 32 := Scalar.select v120 v121 v106
  let v125 : BitVec 32 := Scalar.addi c32_i32 v122
  let c16_i32_171 : BitVec 32 := 16#32
  let v126 : BitVec 32 := Scalar.muli v125 c16_i32_171
  let v127 : Index := Scalar.indexCast v126
  ![v127.toNat]
def k1_off24 (k1_t10 : Fin k1_t10_loop.trips) : Fin 2 → Nat :=
  let c2_i32_162 : BitVec 32 := 2#32
  let c0_i32_78 : BitVec 32 := 0#32
  let c1_i32_80 : BitVec 32 := 1#32
  let arg17 : BitVec 32 := Scf.iv c0_i32_78 c1_i32_80 k1_t10
  let v105 : BitVec 32 := Scalar.muli c2_i32_162 arg17
  let c8_i32_172 : BitVec 32 := 8#32
  let v129 : BitVec 32 := Scalar.divsi v105 c8_i32_172
  let v133 : Index := Scalar.indexCast v129
  let c8_i32_173 : BitVec 32 := 8#32
  let v130 : BitVec 32 := Scalar.remsi v105 c8_i32_173
  let c0_i32_174 : BitVec 32 := 0#32
  let v131 : BitVec 32 := Scalar.addi v130 c0_i32_174
  let c16_i32_175 : BitVec 32 := 16#32
  let v132 : BitVec 32 := Scalar.muli v131 c16_i32_175
  let v134 : Index := Scalar.indexCast v132
  ![v133.toNat, v134.toNat]

def k1_chk9 (v146 : IVec S16 32) : Prop :=
  (∀ a x, ((![v146] : Fin 1 → IVec S16 32) a x).toNat < S128.size a) ∧
  (∀ a x, ((![v146] : Fin 1 → IVec S16 32) a x).toNat < S128.size a)
theorem k1_idx17_inb : ∀ (v146 : IVec S16 32) (k1_hw9 : k1_chk9 v146), ∀ a x, ((![v146] : Fin 1 → IVec S16 32) a x).toNat < S128.size a := fun v146 k1_hw9 => k1_hw9.1
theorem k1_idx18_inb : ∀ (v146 : IVec S16 32) (k1_hw9 : k1_chk9 v146), ∀ a x, ((![v146] : Fin 1 → IVec S16 32) a x).toNat < S128.size a := fun v146 k1_hw9 => k1_hw9.2
def k1_off25 (k1_t10 : Fin k1_t10_loop.trips) : Fin 2 → Nat :=
  let c2_i32_162 : BitVec 32 := 2#32
  let c0_i32_78 : BitVec 32 := 0#32
  let c1_i32_80 : BitVec 32 := 1#32
  let arg17 : BitVec 32 := Scf.iv c0_i32_78 c1_i32_80 k1_t10
  let v105 : BitVec 32 := Scalar.muli c2_i32_162 arg17
  let c8_i32_181 : BitVec 32 := 8#32
  let v158 : BitVec 32 := Scalar.divsi v105 c8_i32_181
  let v162 : Index := Scalar.indexCast v158
  let c8_i32_182 : BitVec 32 := 8#32
  let v159 : BitVec 32 := Scalar.remsi v105 c8_i32_182
  let c1_i32_183 : BitVec 32 := 1#32
  let v160 : BitVec 32 := Scalar.addi v159 c1_i32_183
  let c16_i32_184 : BitVec 32 := 16#32
  let v161 : BitVec 32 := Scalar.muli v160 c16_i32_184
  let v163 : Index := Scalar.indexCast v161
  ![v162.toNat, v163.toNat]

def k1_chk10 (v175 : IVec S16 32) : Prop :=
  (∀ a x, ((![v175] : Fin 1 → IVec S16 32) a x).toNat < S128.size a) ∧
  (∀ a x, ((![v175] : Fin 1 → IVec S16 32) a x).toNat < S128.size a)
theorem k1_idx19_inb : ∀ (v175 : IVec S16 32) (k1_hw10 : k1_chk10 v175), ∀ a x, ((![v175] : Fin 1 → IVec S16 32) a x).toNat < S128.size a := fun v175 k1_hw10 => k1_hw10.1
theorem k1_idx20_inb : ∀ (v175 : IVec S16 32) (k1_hw10 : k1_chk10 v175), ∀ a x, ((![v175] : Fin 1 → IVec S16 32) a x).toNat < S128.size a := fun v175 k1_hw10 => k1_hw10.2
def k1_off26 (i : grid1.Coords) : Fin 3 → Nat :=
  let c4_i32 : BitVec 32 := 4#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_162_r11 : BitVec 32 := 0#32
  ![4, v1.toNat, 0]
@[reducible] def k1_t11_loop : Scf.Loop 32 :=
  let c0_i32_89 : BitVec 32 := 0#32
  let c8_i32_90 : BitVec 32 := 8#32
  let v62 : BitVec 32 := Scalar.addi c0_i32_89 c8_i32_90
  let c1_i32_91 : BitVec 32 := 1#32
  ⟨c0_i32_89, v62, c1_i32_91⟩
def k1_off27 (k1_t11 : Fin k1_t11_loop.trips) : Fin 1 → Nat :=
  let c0_i32_89 : BitVec 32 := 0#32
  let c1_i32_91 : BitVec 32 := 1#32
  let arg17 : BitVec 32 := Scf.iv c0_i32_89 c1_i32_91 k1_t11
  let c16_i32_162 : BitVec 32 := 16#32
  let v105 : BitVec 32 := Scalar.muli arg17 c16_i32_162
  let v106 : Index := Scalar.indexCast v105
  ![v106.toNat]
@[reducible] def k1_t12_loop : Scf.Loop 32 :=
  let c0_i32_94 : BitVec 32 := 0#32
  let c512_i32_95 : BitVec 32 := 512#32
  let v65 : BitVec 32 := Scalar.addi c0_i32_94 c512_i32_95
  let c1_i32_96 : BitVec 32 := 1#32
  ⟨c0_i32_94, v65, c1_i32_96⟩
def k1_off28 (k1_t12 : Fin k1_t12_loop.trips) : Fin 1 → Nat :=
  let c40_i32 : BitVec 32 := 40#32
  let c2_i32_162 : BitVec 32 := 2#32
  let c0_i32_94 : BitVec 32 := 0#32
  let c1_i32_96 : BitVec 32 := 1#32
  let arg17 : BitVec 32 := Scf.iv c0_i32_94 c1_i32_96 k1_t12
  let v105 : BitVec 32 := Scalar.muli c2_i32_162 arg17
  let c0_i32_164 : BitVec 32 := 0#32
  let v107 : BitVec 1 := Scalar.cmpi .sgt v105 c0_i32_164
  let v108 : BitVec 32 := Scalar.extui v107
  let c0_i32_165 : BitVec 32 := 0#32
  let v109 : BitVec 1 := Scalar.cmpi .slt v105 c0_i32_165
  let v110 : BitVec 32 := Scalar.extui v109
  let v111 : BitVec 32 := Scalar.subi v108 v110
  let c128_i32_163 : BitVec 32 := 128#32
  let c0_i32_166 : BitVec 32 := 0#32
  let v112 : BitVec 1 := Scalar.cmpi .sgt c128_i32_163 c0_i32_166
  let v113 : BitVec 32 := Scalar.extui v112
  let c0_i32_167 : BitVec 32 := 0#32
  let v114 : BitVec 1 := Scalar.cmpi .slt c128_i32_163 c0_i32_167
  let v115 : BitVec 32 := Scalar.extui v114
  let v116 : BitVec 32 := Scalar.subi v113 v115
  let v117 : BitVec 1 := Scalar.cmpi .ne v111 v116
  let v118 : BitVec 32 := Scalar.remsi v105 c128_i32_163
  let c0_i32_168 : BitVec 32 := 0#32
  let v119 : BitVec 1 := Scalar.cmpi .ne v118 c0_i32_168
  let v120 : BitVec 1 := Scalar.andi v117 v119
  let v106 : BitVec 32 := Scalar.divsi v105 c128_i32_163
  let c1_i32_169 : BitVec 32 := 1#32
  let v121 : BitVec 32 := Scalar.subi v106 c1_i32_169
  let v122 : BitVec 32 := Scalar.select v120 v121 v106
  let v125 : BitVec 32 := Scalar.addi c40_i32 v122
  let c16_i32_171 : BitVec 32 := 16#32
  let v126 : BitVec 32 := Scalar.muli v125 c16_i32_171
  let v127 : Index := Scalar.indexCast v126
  ![v127.toNat]
def k1_off29 (k1_t12 : Fin k1_t12_loop.trips) : Fin 2 → Nat :=
  let c2_i32_162 : BitVec 32 := 2#32
  let c0_i32_94 : BitVec 32 := 0#32
  let c1_i32_96 : BitVec 32 := 1#32
  let arg17 : BitVec 32 := Scf.iv c0_i32_94 c1_i32_96 k1_t12
  let v105 : BitVec 32 := Scalar.muli c2_i32_162 arg17
  let c8_i32_172 : BitVec 32 := 8#32
  let v129 : BitVec 32 := Scalar.divsi v105 c8_i32_172
  let v133 : Index := Scalar.indexCast v129
  let c8_i32_173 : BitVec 32 := 8#32
  let v130 : BitVec 32 := Scalar.remsi v105 c8_i32_173
  let c0_i32_174 : BitVec 32 := 0#32
  let v131 : BitVec 32 := Scalar.addi v130 c0_i32_174
  let c16_i32_175 : BitVec 32 := 16#32
  let v132 : BitVec 32 := Scalar.muli v131 c16_i32_175
  let v134 : Index := Scalar.indexCast v132
  ![v133.toNat, v134.toNat]

def k1_chk11 (v146 : IVec S16 32) : Prop :=
  (∀ a x, ((![v146] : Fin 1 → IVec S16 32) a x).toNat < S128.size a) ∧
  (∀ a x, ((![v146] : Fin 1 → IVec S16 32) a x).toNat < S128.size a)
theorem k1_idx21_inb : ∀ (v146 : IVec S16 32) (k1_hw11 : k1_chk11 v146), ∀ a x, ((![v146] : Fin 1 → IVec S16 32) a x).toNat < S128.size a := fun v146 k1_hw11 => k1_hw11.1
theorem k1_idx22_inb : ∀ (v146 : IVec S16 32) (k1_hw11 : k1_chk11 v146), ∀ a x, ((![v146] : Fin 1 → IVec S16 32) a x).toNat < S128.size a := fun v146 k1_hw11 => k1_hw11.2
def k1_off30 (k1_t12 : Fin k1_t12_loop.trips) : Fin 2 → Nat :=
  let c2_i32_162 : BitVec 32 := 2#32
  let c0_i32_94 : BitVec 32 := 0#32
  let c1_i32_96 : BitVec 32 := 1#32
  let arg17 : BitVec 32 := Scf.iv c0_i32_94 c1_i32_96 k1_t12
  let v105 : BitVec 32 := Scalar.muli c2_i32_162 arg17
  let c8_i32_181 : BitVec 32 := 8#32
  let v158 : BitVec 32 := Scalar.divsi v105 c8_i32_181
  let v162 : Index := Scalar.indexCast v158
  let c8_i32_182 : BitVec 32 := 8#32
  let v159 : BitVec 32 := Scalar.remsi v105 c8_i32_182
  let c1_i32_183 : BitVec 32 := 1#32
  let v160 : BitVec 32 := Scalar.addi v159 c1_i32_183
  let c16_i32_184 : BitVec 32 := 16#32
  let v161 : BitVec 32 := Scalar.muli v160 c16_i32_184
  let v163 : Index := Scalar.indexCast v161
  ![v162.toNat, v163.toNat]

def k1_chk12 (v175 : IVec S16 32) : Prop :=
  (∀ a x, ((![v175] : Fin 1 → IVec S16 32) a x).toNat < S128.size a) ∧
  (∀ a x, ((![v175] : Fin 1 → IVec S16 32) a x).toNat < S128.size a)
theorem k1_idx23_inb : ∀ (v175 : IVec S16 32) (k1_hw12 : k1_chk12 v175), ∀ a x, ((![v175] : Fin 1 → IVec S16 32) a x).toNat < S128.size a := fun v175 k1_hw12 => k1_hw12.1
theorem k1_idx24_inb : ∀ (v175 : IVec S16 32) (k1_hw12 : k1_chk12 v175), ∀ a x, ((![v175] : Fin 1 → IVec S16 32) a x).toNat < S128.size a := fun v175 k1_hw12 => k1_hw12.2
def k1_off31 (i : grid1.Coords) : Fin 3 → Nat :=
  let c5_i32 : BitVec 32 := 5#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_162_r13 : BitVec 32 := 0#32
  ![5, v1.toNat, 0]
@[reducible] def k1_t13_loop : Scf.Loop 32 :=
  let c0_i32_105 : BitVec 32 := 0#32
  let c8_i32_106 : BitVec 32 := 8#32
  let v72 : BitVec 32 := Scalar.addi c0_i32_105 c8_i32_106
  let c1_i32_107 : BitVec 32 := 1#32
  ⟨c0_i32_105, v72, c1_i32_107⟩
def k1_off32 (k1_t13 : Fin k1_t13_loop.trips) : Fin 1 → Nat :=
  let c0_i32_105 : BitVec 32 := 0#32
  let c1_i32_107 : BitVec 32 := 1#32
  let arg17 : BitVec 32 := Scf.iv c0_i32_105 c1_i32_107 k1_t13
  let c16_i32_162 : BitVec 32 := 16#32
  let v105 : BitVec 32 := Scalar.muli arg17 c16_i32_162
  let v106 : Index := Scalar.indexCast v105
  ![v106.toNat]
@[reducible] def k1_t14_loop : Scf.Loop 32 :=
  let c0_i32_110 : BitVec 32 := 0#32
  let c512_i32_111 : BitVec 32 := 512#32
  let v75 : BitVec 32 := Scalar.addi c0_i32_110 c512_i32_111
  let c1_i32_112 : BitVec 32 := 1#32
  ⟨c0_i32_110, v75, c1_i32_112⟩
def k1_off33 (k1_t14 : Fin k1_t14_loop.trips) : Fin 1 → Nat :=
  let c48_i32 : BitVec 32 := 48#32
  let c2_i32_162 : BitVec 32 := 2#32
  let c0_i32_110 : BitVec 32 := 0#32
  let c1_i32_112 : BitVec 32 := 1#32
  let arg17 : BitVec 32 := Scf.iv c0_i32_110 c1_i32_112 k1_t14
  let v105 : BitVec 32 := Scalar.muli c2_i32_162 arg17
  let c0_i32_164 : BitVec 32 := 0#32
  let v107 : BitVec 1 := Scalar.cmpi .sgt v105 c0_i32_164
  let v108 : BitVec 32 := Scalar.extui v107
  let c0_i32_165 : BitVec 32 := 0#32
  let v109 : BitVec 1 := Scalar.cmpi .slt v105 c0_i32_165
  let v110 : BitVec 32 := Scalar.extui v109
  let v111 : BitVec 32 := Scalar.subi v108 v110
  let c128_i32_163 : BitVec 32 := 128#32
  let c0_i32_166 : BitVec 32 := 0#32
  let v112 : BitVec 1 := Scalar.cmpi .sgt c128_i32_163 c0_i32_166
  let v113 : BitVec 32 := Scalar.extui v112
  let c0_i32_167 : BitVec 32 := 0#32
  let v114 : BitVec 1 := Scalar.cmpi .slt c128_i32_163 c0_i32_167
  let v115 : BitVec 32 := Scalar.extui v114
  let v116 : BitVec 32 := Scalar.subi v113 v115
  let v117 : BitVec 1 := Scalar.cmpi .ne v111 v116
  let v118 : BitVec 32 := Scalar.remsi v105 c128_i32_163
  let c0_i32_168 : BitVec 32 := 0#32
  let v119 : BitVec 1 := Scalar.cmpi .ne v118 c0_i32_168
  let v120 : BitVec 1 := Scalar.andi v117 v119
  let v106 : BitVec 32 := Scalar.divsi v105 c128_i32_163
  let c1_i32_169 : BitVec 32 := 1#32
  let v121 : BitVec 32 := Scalar.subi v106 c1_i32_169
  let v122 : BitVec 32 := Scalar.select v120 v121 v106
  let v125 : BitVec 32 := Scalar.addi c48_i32 v122
  let c16_i32_171 : BitVec 32 := 16#32
  let v126 : BitVec 32 := Scalar.muli v125 c16_i32_171
  let v127 : Index := Scalar.indexCast v126
  ![v127.toNat]
def k1_off34 (k1_t14 : Fin k1_t14_loop.trips) : Fin 2 → Nat :=
  let c2_i32_162 : BitVec 32 := 2#32
  let c0_i32_110 : BitVec 32 := 0#32
  let c1_i32_112 : BitVec 32 := 1#32
  let arg17 : BitVec 32 := Scf.iv c0_i32_110 c1_i32_112 k1_t14
  let v105 : BitVec 32 := Scalar.muli c2_i32_162 arg17
  let c8_i32_172 : BitVec 32 := 8#32
  let v129 : BitVec 32 := Scalar.divsi v105 c8_i32_172
  let v133 : Index := Scalar.indexCast v129
  let c8_i32_173 : BitVec 32 := 8#32
  let v130 : BitVec 32 := Scalar.remsi v105 c8_i32_173
  let c0_i32_174 : BitVec 32 := 0#32
  let v131 : BitVec 32 := Scalar.addi v130 c0_i32_174
  let c16_i32_175 : BitVec 32 := 16#32
  let v132 : BitVec 32 := Scalar.muli v131 c16_i32_175
  let v134 : Index := Scalar.indexCast v132
  ![v133.toNat, v134.toNat]

def k1_chk13 (v146 : IVec S16 32) : Prop :=
  (∀ a x, ((![v146] : Fin 1 → IVec S16 32) a x).toNat < S128.size a) ∧
  (∀ a x, ((![v146] : Fin 1 → IVec S16 32) a x).toNat < S128.size a)
theorem k1_idx25_inb : ∀ (v146 : IVec S16 32) (k1_hw13 : k1_chk13 v146), ∀ a x, ((![v146] : Fin 1 → IVec S16 32) a x).toNat < S128.size a := fun v146 k1_hw13 => k1_hw13.1
theorem k1_idx26_inb : ∀ (v146 : IVec S16 32) (k1_hw13 : k1_chk13 v146), ∀ a x, ((![v146] : Fin 1 → IVec S16 32) a x).toNat < S128.size a := fun v146 k1_hw13 => k1_hw13.2
def k1_off35 (k1_t14 : Fin k1_t14_loop.trips) : Fin 2 → Nat :=
  let c2_i32_162 : BitVec 32 := 2#32
  let c0_i32_110 : BitVec 32 := 0#32
  let c1_i32_112 : BitVec 32 := 1#32
  let arg17 : BitVec 32 := Scf.iv c0_i32_110 c1_i32_112 k1_t14
  let v105 : BitVec 32 := Scalar.muli c2_i32_162 arg17
  let c8_i32_181 : BitVec 32 := 8#32
  let v158 : BitVec 32 := Scalar.divsi v105 c8_i32_181
  let v162 : Index := Scalar.indexCast v158
  let c8_i32_182 : BitVec 32 := 8#32
  let v159 : BitVec 32 := Scalar.remsi v105 c8_i32_182
  let c1_i32_183 : BitVec 32 := 1#32
  let v160 : BitVec 32 := Scalar.addi v159 c1_i32_183
  let c16_i32_184 : BitVec 32 := 16#32
  let v161 : BitVec 32 := Scalar.muli v160 c16_i32_184
  let v163 : Index := Scalar.indexCast v161
  ![v162.toNat, v163.toNat]

def k1_chk14 (v175 : IVec S16 32) : Prop :=
  (∀ a x, ((![v175] : Fin 1 → IVec S16 32) a x).toNat < S128.size a) ∧
  (∀ a x, ((![v175] : Fin 1 → IVec S16 32) a x).toNat < S128.size a)
theorem k1_idx27_inb : ∀ (v175 : IVec S16 32) (k1_hw14 : k1_chk14 v175), ∀ a x, ((![v175] : Fin 1 → IVec S16 32) a x).toNat < S128.size a := fun v175 k1_hw14 => k1_hw14.1
theorem k1_idx28_inb : ∀ (v175 : IVec S16 32) (k1_hw14 : k1_chk14 v175), ∀ a x, ((![v175] : Fin 1 → IVec S16 32) a x).toNat < S128.size a := fun v175 k1_hw14 => k1_hw14.2
def k1_off36 (i : grid1.Coords) : Fin 3 → Nat :=
  let c6_i32 : BitVec 32 := 6#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_162_r15 : BitVec 32 := 0#32
  ![6, v1.toNat, 0]
@[reducible] def k1_t15_loop : Scf.Loop 32 :=
  let c0_i32_121 : BitVec 32 := 0#32
  let c8_i32_122 : BitVec 32 := 8#32
  let v82 : BitVec 32 := Scalar.addi c0_i32_121 c8_i32_122
  let c1_i32_123 : BitVec 32 := 1#32
  ⟨c0_i32_121, v82, c1_i32_123⟩
def k1_off37 (k1_t15 : Fin k1_t15_loop.trips) : Fin 1 → Nat :=
  let c0_i32_121 : BitVec 32 := 0#32
  let c1_i32_123 : BitVec 32 := 1#32
  let arg17 : BitVec 32 := Scf.iv c0_i32_121 c1_i32_123 k1_t15
  let c16_i32_162 : BitVec 32 := 16#32
  let v105 : BitVec 32 := Scalar.muli arg17 c16_i32_162
  let v106 : Index := Scalar.indexCast v105
  ![v106.toNat]
@[reducible] def k1_t16_loop : Scf.Loop 32 :=
  let c0_i32_126 : BitVec 32 := 0#32
  let c512_i32_127 : BitVec 32 := 512#32
  let v85 : BitVec 32 := Scalar.addi c0_i32_126 c512_i32_127
  let c1_i32_128 : BitVec 32 := 1#32
  ⟨c0_i32_126, v85, c1_i32_128⟩
def k1_off38 (k1_t16 : Fin k1_t16_loop.trips) : Fin 1 → Nat :=
  let c56_i32 : BitVec 32 := 56#32
  let c2_i32_162 : BitVec 32 := 2#32
  let c0_i32_126 : BitVec 32 := 0#32
  let c1_i32_128 : BitVec 32 := 1#32
  let arg17 : BitVec 32 := Scf.iv c0_i32_126 c1_i32_128 k1_t16
  let v105 : BitVec 32 := Scalar.muli c2_i32_162 arg17
  let c0_i32_164 : BitVec 32 := 0#32
  let v107 : BitVec 1 := Scalar.cmpi .sgt v105 c0_i32_164
  let v108 : BitVec 32 := Scalar.extui v107
  let c0_i32_165 : BitVec 32 := 0#32
  let v109 : BitVec 1 := Scalar.cmpi .slt v105 c0_i32_165
  let v110 : BitVec 32 := Scalar.extui v109
  let v111 : BitVec 32 := Scalar.subi v108 v110
  let c128_i32_163 : BitVec 32 := 128#32
  let c0_i32_166 : BitVec 32 := 0#32
  let v112 : BitVec 1 := Scalar.cmpi .sgt c128_i32_163 c0_i32_166
  let v113 : BitVec 32 := Scalar.extui v112
  let c0_i32_167 : BitVec 32 := 0#32
  let v114 : BitVec 1 := Scalar.cmpi .slt c128_i32_163 c0_i32_167
  let v115 : BitVec 32 := Scalar.extui v114
  let v116 : BitVec 32 := Scalar.subi v113 v115
  let v117 : BitVec 1 := Scalar.cmpi .ne v111 v116
  let v118 : BitVec 32 := Scalar.remsi v105 c128_i32_163
  let c0_i32_168 : BitVec 32 := 0#32
  let v119 : BitVec 1 := Scalar.cmpi .ne v118 c0_i32_168
  let v120 : BitVec 1 := Scalar.andi v117 v119
  let v106 : BitVec 32 := Scalar.divsi v105 c128_i32_163
  let c1_i32_169 : BitVec 32 := 1#32
  let v121 : BitVec 32 := Scalar.subi v106 c1_i32_169
  let v122 : BitVec 32 := Scalar.select v120 v121 v106
  let v125 : BitVec 32 := Scalar.addi c56_i32 v122
  let c16_i32_171 : BitVec 32 := 16#32
  let v126 : BitVec 32 := Scalar.muli v125 c16_i32_171
  let v127 : Index := Scalar.indexCast v126
  ![v127.toNat]
def k1_off39 (k1_t16 : Fin k1_t16_loop.trips) : Fin 2 → Nat :=
  let c2_i32_162 : BitVec 32 := 2#32
  let c0_i32_126 : BitVec 32 := 0#32
  let c1_i32_128 : BitVec 32 := 1#32
  let arg17 : BitVec 32 := Scf.iv c0_i32_126 c1_i32_128 k1_t16
  let v105 : BitVec 32 := Scalar.muli c2_i32_162 arg17
  let c8_i32_172 : BitVec 32 := 8#32
  let v129 : BitVec 32 := Scalar.divsi v105 c8_i32_172
  let v133 : Index := Scalar.indexCast v129
  let c8_i32_173 : BitVec 32 := 8#32
  let v130 : BitVec 32 := Scalar.remsi v105 c8_i32_173
  let c0_i32_174 : BitVec 32 := 0#32
  let v131 : BitVec 32 := Scalar.addi v130 c0_i32_174
  let c16_i32_175 : BitVec 32 := 16#32
  let v132 : BitVec 32 := Scalar.muli v131 c16_i32_175
  let v134 : Index := Scalar.indexCast v132
  ![v133.toNat, v134.toNat]

def k1_chk15 (v146 : IVec S16 32) : Prop :=
  (∀ a x, ((![v146] : Fin 1 → IVec S16 32) a x).toNat < S128.size a) ∧
  (∀ a x, ((![v146] : Fin 1 → IVec S16 32) a x).toNat < S128.size a)
theorem k1_idx29_inb : ∀ (v146 : IVec S16 32) (k1_hw15 : k1_chk15 v146), ∀ a x, ((![v146] : Fin 1 → IVec S16 32) a x).toNat < S128.size a := fun v146 k1_hw15 => k1_hw15.1
theorem k1_idx30_inb : ∀ (v146 : IVec S16 32) (k1_hw15 : k1_chk15 v146), ∀ a x, ((![v146] : Fin 1 → IVec S16 32) a x).toNat < S128.size a := fun v146 k1_hw15 => k1_hw15.2
def k1_off40 (k1_t16 : Fin k1_t16_loop.trips) : Fin 2 → Nat :=
  let c2_i32_162 : BitVec 32 := 2#32
  let c0_i32_126 : BitVec 32 := 0#32
  let c1_i32_128 : BitVec 32 := 1#32
  let arg17 : BitVec 32 := Scf.iv c0_i32_126 c1_i32_128 k1_t16
  let v105 : BitVec 32 := Scalar.muli c2_i32_162 arg17
  let c8_i32_181 : BitVec 32 := 8#32
  let v158 : BitVec 32 := Scalar.divsi v105 c8_i32_181
  let v162 : Index := Scalar.indexCast v158
  let c8_i32_182 : BitVec 32 := 8#32
  let v159 : BitVec 32 := Scalar.remsi v105 c8_i32_182
  let c1_i32_183 : BitVec 32 := 1#32
  let v160 : BitVec 32 := Scalar.addi v159 c1_i32_183
  let c16_i32_184 : BitVec 32 := 16#32
  let v161 : BitVec 32 := Scalar.muli v160 c16_i32_184
  let v163 : Index := Scalar.indexCast v161
  ![v162.toNat, v163.toNat]

def k1_chk16 (v175 : IVec S16 32) : Prop :=
  (∀ a x, ((![v175] : Fin 1 → IVec S16 32) a x).toNat < S128.size a) ∧
  (∀ a x, ((![v175] : Fin 1 → IVec S16 32) a x).toNat < S128.size a)
theorem k1_idx31_inb : ∀ (v175 : IVec S16 32) (k1_hw16 : k1_chk16 v175), ∀ a x, ((![v175] : Fin 1 → IVec S16 32) a x).toNat < S128.size a := fun v175 k1_hw16 => k1_hw16.1
theorem k1_idx32_inb : ∀ (v175 : IVec S16 32) (k1_hw16 : k1_chk16 v175), ∀ a x, ((![v175] : Fin 1 → IVec S16 32) a x).toNat < S128.size a := fun v175 k1_hw16 => k1_hw16.2
def k1_off41 (i : grid1.Coords) : Fin 3 → Nat :=
  let c7_i32 : BitVec 32 := 7#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_162_r17 : BitVec 32 := 0#32
  ![7, v1.toNat, 0]
@[reducible] def k1_t17_loop : Scf.Loop 32 :=
  let c0_i32_137 : BitVec 32 := 0#32
  let c8_i32_138 : BitVec 32 := 8#32
  let v92 : BitVec 32 := Scalar.addi c0_i32_137 c8_i32_138
  let c1_i32_139 : BitVec 32 := 1#32
  ⟨c0_i32_137, v92, c1_i32_139⟩
def k1_off42 (k1_t17 : Fin k1_t17_loop.trips) : Fin 1 → Nat :=
  let c0_i32_137 : BitVec 32 := 0#32
  let c1_i32_139 : BitVec 32 := 1#32
  let arg17 : BitVec 32 := Scf.iv c0_i32_137 c1_i32_139 k1_t17
  let c16_i32_162 : BitVec 32 := 16#32
  let v105 : BitVec 32 := Scalar.muli arg17 c16_i32_162
  let v106 : Index := Scalar.indexCast v105
  ![v106.toNat]
@[reducible] def k1_t18_loop : Scf.Loop 32 :=
  let c0_i32_142 : BitVec 32 := 0#32
  let c512_i32_143 : BitVec 32 := 512#32
  let v95 : BitVec 32 := Scalar.addi c0_i32_142 c512_i32_143
  let c1_i32_144 : BitVec 32 := 1#32
  ⟨c0_i32_142, v95, c1_i32_144⟩
def k1_off43 (k1_t18 : Fin k1_t18_loop.trips) : Fin 1 → Nat :=
  let c64_i32 : BitVec 32 := 64#32
  let c2_i32_162 : BitVec 32 := 2#32
  let c0_i32_142 : BitVec 32 := 0#32
  let c1_i32_144 : BitVec 32 := 1#32
  let arg17 : BitVec 32 := Scf.iv c0_i32_142 c1_i32_144 k1_t18
  let v105 : BitVec 32 := Scalar.muli c2_i32_162 arg17
  let c0_i32_164 : BitVec 32 := 0#32
  let v107 : BitVec 1 := Scalar.cmpi .sgt v105 c0_i32_164
  let v108 : BitVec 32 := Scalar.extui v107
  let c0_i32_165 : BitVec 32 := 0#32
  let v109 : BitVec 1 := Scalar.cmpi .slt v105 c0_i32_165
  let v110 : BitVec 32 := Scalar.extui v109
  let v111 : BitVec 32 := Scalar.subi v108 v110
  let c128_i32_163 : BitVec 32 := 128#32
  let c0_i32_166 : BitVec 32 := 0#32
  let v112 : BitVec 1 := Scalar.cmpi .sgt c128_i32_163 c0_i32_166
  let v113 : BitVec 32 := Scalar.extui v112
  let c0_i32_167 : BitVec 32 := 0#32
  let v114 : BitVec 1 := Scalar.cmpi .slt c128_i32_163 c0_i32_167
  let v115 : BitVec 32 := Scalar.extui v114
  let v116 : BitVec 32 := Scalar.subi v113 v115
  let v117 : BitVec 1 := Scalar.cmpi .ne v111 v116
  let v118 : BitVec 32 := Scalar.remsi v105 c128_i32_163
  let c0_i32_168 : BitVec 32 := 0#32
  let v119 : BitVec 1 := Scalar.cmpi .ne v118 c0_i32_168
  let v120 : BitVec 1 := Scalar.andi v117 v119
  let v106 : BitVec 32 := Scalar.divsi v105 c128_i32_163
  let c1_i32_169 : BitVec 32 := 1#32
  let v121 : BitVec 32 := Scalar.subi v106 c1_i32_169
  let v122 : BitVec 32 := Scalar.select v120 v121 v106
  let v125 : BitVec 32 := Scalar.addi c64_i32 v122
  let c16_i32_171 : BitVec 32 := 16#32
  let v126 : BitVec 32 := Scalar.muli v125 c16_i32_171
  let v127 : Index := Scalar.indexCast v126
  ![v127.toNat]
def k1_off44 (k1_t18 : Fin k1_t18_loop.trips) : Fin 2 → Nat :=
  let c2_i32_162 : BitVec 32 := 2#32
  let c0_i32_142 : BitVec 32 := 0#32
  let c1_i32_144 : BitVec 32 := 1#32
  let arg17 : BitVec 32 := Scf.iv c0_i32_142 c1_i32_144 k1_t18
  let v105 : BitVec 32 := Scalar.muli c2_i32_162 arg17
  let c8_i32_172 : BitVec 32 := 8#32
  let v129 : BitVec 32 := Scalar.divsi v105 c8_i32_172
  let v133 : Index := Scalar.indexCast v129
  let c8_i32_173 : BitVec 32 := 8#32
  let v130 : BitVec 32 := Scalar.remsi v105 c8_i32_173
  let c0_i32_174 : BitVec 32 := 0#32
  let v131 : BitVec 32 := Scalar.addi v130 c0_i32_174
  let c16_i32_175 : BitVec 32 := 16#32
  let v132 : BitVec 32 := Scalar.muli v131 c16_i32_175
  let v134 : Index := Scalar.indexCast v132
  ![v133.toNat, v134.toNat]

def k1_chk17 (v146 : IVec S16 32) : Prop :=
  (∀ a x, ((![v146] : Fin 1 → IVec S16 32) a x).toNat < S128.size a) ∧
  (∀ a x, ((![v146] : Fin 1 → IVec S16 32) a x).toNat < S128.size a)
theorem k1_idx33_inb : ∀ (v146 : IVec S16 32) (k1_hw17 : k1_chk17 v146), ∀ a x, ((![v146] : Fin 1 → IVec S16 32) a x).toNat < S128.size a := fun v146 k1_hw17 => k1_hw17.1
theorem k1_idx34_inb : ∀ (v146 : IVec S16 32) (k1_hw17 : k1_chk17 v146), ∀ a x, ((![v146] : Fin 1 → IVec S16 32) a x).toNat < S128.size a := fun v146 k1_hw17 => k1_hw17.2
def k1_off45 (k1_t18 : Fin k1_t18_loop.trips) : Fin 2 → Nat :=
  let c2_i32_162 : BitVec 32 := 2#32
  let c0_i32_142 : BitVec 32 := 0#32
  let c1_i32_144 : BitVec 32 := 1#32
  let arg17 : BitVec 32 := Scf.iv c0_i32_142 c1_i32_144 k1_t18
  let v105 : BitVec 32 := Scalar.muli c2_i32_162 arg17
  let c8_i32_181 : BitVec 32 := 8#32
  let v158 : BitVec 32 := Scalar.divsi v105 c8_i32_181
  let v162 : Index := Scalar.indexCast v158
  let c8_i32_182 : BitVec 32 := 8#32
  let v159 : BitVec 32 := Scalar.remsi v105 c8_i32_182
  let c1_i32_183 : BitVec 32 := 1#32
  let v160 : BitVec 32 := Scalar.addi v159 c1_i32_183
  let c16_i32_184 : BitVec 32 := 16#32
  let v161 : BitVec 32 := Scalar.muli v160 c16_i32_184
  let v163 : Index := Scalar.indexCast v161
  ![v162.toNat, v163.toNat]

def k1_chk18 (v175 : IVec S16 32) : Prop :=
  (∀ a x, ((![v175] : Fin 1 → IVec S16 32) a x).toNat < S128.size a) ∧
  (∀ a x, ((![v175] : Fin 1 → IVec S16 32) a x).toNat < S128.size a)
theorem k1_idx35_inb : ∀ (v175 : IVec S16 32) (k1_hw18 : k1_chk18 v175), ∀ a x, ((![v175] : Fin 1 → IVec S16 32) a x).toNat < S128.size a := fun v175 k1_hw18 => k1_hw18.1
theorem k1_idx36_inb : ∀ (v175 : IVec S16 32) (k1_hw18 : k1_chk18 v175), ∀ a x, ((![v175] : Fin 1 → IVec S16 32) a x).toNat < S128.size a := fun v175 k1_hw18 => k1_hw18.2
def k1_off46 (i : grid1.Coords) : Fin 3 → Nat :=
  let c8_i32_146 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_162_r19 : BitVec 32 := 0#32
  ![8, v1.toNat, 0]
@[reducible] def k1_t19_loop : Scf.Loop 32 :=
  let c0_i32_152 : BitVec 32 := 0#32
  let c8_i32_153 : BitVec 32 := 8#32
  let v100 : BitVec 32 := Scalar.addi c0_i32_152 c8_i32_153
  let c1_i32_154 : BitVec 32 := 1#32
  ⟨c0_i32_152, v100, c1_i32_154⟩
def k1_off47 (k1_t19 : Fin k1_t19_loop.trips) : Fin 1 → Nat :=
  let c0_i32_152 : BitVec 32 := 0#32
  let c1_i32_154 : BitVec 32 := 1#32
  let arg17 : BitVec 32 := Scf.iv c0_i32_152 c1_i32_154 k1_t19
  let c16_i32_162 : BitVec 32 := 16#32
  let v105 : BitVec 32 := Scalar.muli arg17 c16_i32_162
  let v106 : Index := Scalar.indexCast v105
  ![v106.toNat]
@[reducible] def k1_t20_loop : Scf.Loop 32 :=
  let c0_i32_157 : BitVec 32 := 0#32
  let c512_i32_158 : BitVec 32 := 512#32
  let v103 : BitVec 32 := Scalar.addi c0_i32_157 c512_i32_158
  let c1_i32_159 : BitVec 32 := 1#32
  ⟨c0_i32_157, v103, c1_i32_159⟩
def k1_off48 (k1_t20 : Fin k1_t20_loop.trips) : Fin 1 → Nat :=
  let c72_i32 : BitVec 32 := 72#32
  let c2_i32_162 : BitVec 32 := 2#32
  let c0_i32_157 : BitVec 32 := 0#32
  let c1_i32_159 : BitVec 32 := 1#32
  let arg17 : BitVec 32 := Scf.iv c0_i32_157 c1_i32_159 k1_t20
  let v105 : BitVec 32 := Scalar.muli c2_i32_162 arg17
  let c0_i32_164 : BitVec 32 := 0#32
  let v107 : BitVec 1 := Scalar.cmpi .sgt v105 c0_i32_164
  let v108 : BitVec 32 := Scalar.extui v107
  let c0_i32_165 : BitVec 32 := 0#32
  let v109 : BitVec 1 := Scalar.cmpi .slt v105 c0_i32_165
  let v110 : BitVec 32 := Scalar.extui v109
  let v111 : BitVec 32 := Scalar.subi v108 v110
  let c128_i32_163 : BitVec 32 := 128#32
  let c0_i32_166 : BitVec 32 := 0#32
  let v112 : BitVec 1 := Scalar.cmpi .sgt c128_i32_163 c0_i32_166
  let v113 : BitVec 32 := Scalar.extui v112
  let c0_i32_167 : BitVec 32 := 0#32
  let v114 : BitVec 1 := Scalar.cmpi .slt c128_i32_163 c0_i32_167
  let v115 : BitVec 32 := Scalar.extui v114
  let v116 : BitVec 32 := Scalar.subi v113 v115
  let v117 : BitVec 1 := Scalar.cmpi .ne v111 v116
  let v118 : BitVec 32 := Scalar.remsi v105 c128_i32_163
  let c0_i32_168 : BitVec 32 := 0#32
  let v119 : BitVec 1 := Scalar.cmpi .ne v118 c0_i32_168
  let v120 : BitVec 1 := Scalar.andi v117 v119
  let v106 : BitVec 32 := Scalar.divsi v105 c128_i32_163
  let c1_i32_169 : BitVec 32 := 1#32
  let v121 : BitVec 32 := Scalar.subi v106 c1_i32_169
  let v122 : BitVec 32 := Scalar.select v120 v121 v106
  let v125 : BitVec 32 := Scalar.addi c72_i32 v122
  let c16_i32_171 : BitVec 32 := 16#32
  let v126 : BitVec 32 := Scalar.muli v125 c16_i32_171
  let v127 : Index := Scalar.indexCast v126
  ![v127.toNat]
def k1_off49 (k1_t20 : Fin k1_t20_loop.trips) : Fin 2 → Nat :=
  let c2_i32_162 : BitVec 32 := 2#32
  let c0_i32_157 : BitVec 32 := 0#32
  let c1_i32_159 : BitVec 32 := 1#32
  let arg17 : BitVec 32 := Scf.iv c0_i32_157 c1_i32_159 k1_t20
  let v105 : BitVec 32 := Scalar.muli c2_i32_162 arg17
  let c8_i32_172 : BitVec 32 := 8#32
  let v129 : BitVec 32 := Scalar.divsi v105 c8_i32_172
  let v133 : Index := Scalar.indexCast v129
  let c8_i32_173 : BitVec 32 := 8#32
  let v130 : BitVec 32 := Scalar.remsi v105 c8_i32_173
  let c0_i32_174 : BitVec 32 := 0#32
  let v131 : BitVec 32 := Scalar.addi v130 c0_i32_174
  let c16_i32_175 : BitVec 32 := 16#32
  let v132 : BitVec 32 := Scalar.muli v131 c16_i32_175
  let v134 : Index := Scalar.indexCast v132
  ![v133.toNat, v134.toNat]

def k1_chk19 (v146 : IVec S16 32) : Prop :=
  (∀ a x, ((![v146] : Fin 1 → IVec S16 32) a x).toNat < S128.size a) ∧
  (∀ a x, ((![v146] : Fin 1 → IVec S16 32) a x).toNat < S128.size a)
theorem k1_idx37_inb : ∀ (v146 : IVec S16 32) (k1_hw19 : k1_chk19 v146), ∀ a x, ((![v146] : Fin 1 → IVec S16 32) a x).toNat < S128.size a := fun v146 k1_hw19 => k1_hw19.1
theorem k1_idx38_inb : ∀ (v146 : IVec S16 32) (k1_hw19 : k1_chk19 v146), ∀ a x, ((![v146] : Fin 1 → IVec S16 32) a x).toNat < S128.size a := fun v146 k1_hw19 => k1_hw19.2
def k1_off50 (k1_t20 : Fin k1_t20_loop.trips) : Fin 2 → Nat :=
  let c2_i32_162 : BitVec 32 := 2#32
  let c0_i32_157 : BitVec 32 := 0#32
  let c1_i32_159 : BitVec 32 := 1#32
  let arg17 : BitVec 32 := Scf.iv c0_i32_157 c1_i32_159 k1_t20
  let v105 : BitVec 32 := Scalar.muli c2_i32_162 arg17
  let c8_i32_181 : BitVec 32 := 8#32
  let v158 : BitVec 32 := Scalar.divsi v105 c8_i32_181
  let v162 : Index := Scalar.indexCast v158
  let c8_i32_182 : BitVec 32 := 8#32
  let v159 : BitVec 32 := Scalar.remsi v105 c8_i32_182
  let c1_i32_183 : BitVec 32 := 1#32
  let v160 : BitVec 32 := Scalar.addi v159 c1_i32_183
  let c16_i32_184 : BitVec 32 := 16#32
  let v161 : BitVec 32 := Scalar.muli v160 c16_i32_184
  let v163 : Index := Scalar.indexCast v161
  ![v162.toNat, v163.toNat]

def k1_chk20 (v175 : IVec S16 32) : Prop :=
  (∀ a x, ((![v175] : Fin 1 → IVec S16 32) a x).toNat < S128.size a) ∧
  (∀ a x, ((![v175] : Fin 1 → IVec S16 32) a x).toNat < S128.size a)
theorem k1_idx39_inb : ∀ (v175 : IVec S16 32) (k1_hw20 : k1_chk20 v175), ∀ a x, ((![v175] : Fin 1 → IVec S16 32) a x).toNat < S128.size a := fun v175 k1_hw20 => k1_hw20.1
theorem k1_idx40_inb : ∀ (v175 : IVec S16 32) (k1_hw20 : k1_chk20 v175), ∀ a x, ((![v175] : Fin 1 → IVec S16 32) a x).toNat < S128.size a := fun v175 k1_hw20 => k1_hw20.2
def k1_off51 (i : grid1.Coords) : Fin 3 → Nat :=
  let c9_i32 : BitVec 32 := 9#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_162_r21 : BitVec 32 := 0#32
  ![9, v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x256 : Shape := ⟨2, ![2048, 256]⟩
abbrev S10x2048x256 : Shape := ⟨3, ![10, 2048, 256]⟩
abbrev S2048x4 : Shape := ⟨2, ![2048, 4]⟩
abbrev S10x2048x4 : Shape := ⟨3, ![10, 2048, 4]⟩
abbrev S_ : Shape := ⟨0, ![]⟩
abbrev S2048 : Shape := ⟨1, ![2048]⟩
abbrev S2048x1 : Shape := ⟨2, ![2048, 1]⟩
abbrev S10x2048 : Shape := ⟨2, ![10, 2048]⟩
abbrev S10x2048x1 : Shape := ⟨3, ![10, 2048, 1]⟩
abbrev S10x2048x2048 : Shape := ⟨3, ![10, 2048, 2048]⟩
abbrev S10x4194304 : Shape := ⟨2, ![10, 4194304]⟩
abbrev S10x204 : Shape := ⟨2, ![10, 204]⟩
abbrev S10x204x1 : Shape := ⟨3, ![10, 204, 1]⟩
abbrev S1 : Shape := ⟨1, ![1]⟩
abbrev S1x1x1 : Shape := ⟨3, ![1, 1, 1]⟩
abbrev S10x204x4 : Shape := ⟨3, ![10, 204, 4]⟩
abbrev S10x204x8 : Shape := ⟨3, ![10, 204, 8]⟩

abbrev nBuf : Space → Nat
  | .hbm => 118
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S10x2048x256, .f32⟩
  | .hbm, ⟨2, _⟩ => ⟨S2048x4, .f32⟩
  | .hbm, ⟨3, _⟩ => ⟨S10x2048x4, .f32⟩
  | .hbm, ⟨4, _⟩ => ⟨S2048x256, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x256, .f32⟩
  | .hbm, ⟨14, _⟩ => ⟨S2048x256, .f32⟩
  | .hbm, ⟨15, _⟩ => ⟨S10x2048x256, .f32⟩
  | .hbm, ⟨16, _⟩ => ⟨S_, .f32⟩
  | .hbm, ⟨17, _⟩ => ⟨S10x2048, .f32⟩
  | .hbm, ⟨18, _⟩ => ⟨S10x2048x1, .f32⟩
  | .hbm, ⟨19, _⟩ => ⟨S10x2048x1, .f32⟩
  | .hbm, ⟨20, _⟩ => ⟨S_, .f32⟩
  | .hbm, ⟨21, _⟩ => ⟨S_, .f32⟩
  | .hbm, ⟨22, _⟩ => ⟨S10x2048x1, .f32⟩
  | .hbm, ⟨23, _⟩ => ⟨S10x2048x1, .f32⟩
  | .hbm, ⟨24, _⟩ => ⟨S10x2048x256, .f32⟩
  | .hbm, ⟨25, _⟩ => ⟨S10x2048x256, .f32⟩
  | .hbm, ⟨26, _⟩ => ⟨S10x2048x2048, .f32⟩
  | .hbm, ⟨27, _⟩ => ⟨S10x2048x2048, .f32⟩
  | .hbm, ⟨28, _⟩ => ⟨S10x4194304, .f32⟩
  | .hbm, ⟨29, _⟩ => ⟨S10x204, .f32⟩
  | .hbm, ⟨30, _⟩ => ⟨S10x204, .i32⟩
  | .hbm, ⟨31, _⟩ => ⟨S_, .i32⟩
  | .hbm, ⟨32, _⟩ => ⟨S_, .i32⟩
  | .hbm, ⟨33, _⟩ => ⟨S10x204, .i32⟩
  | .hbm, ⟨34, _⟩ => ⟨S10x204, .i32⟩
  | .hbm, ⟨35, _⟩ => ⟨S10x204, .i32⟩
  | .hbm, ⟨36, _⟩ => ⟨S_, .i32⟩
  | .hbm, ⟨37, _⟩ => ⟨S10x204, .i32⟩
  | .hbm, ⟨38, _⟩ => ⟨S10x204, .i1⟩
  | .hbm, ⟨39, _⟩ => ⟨S10x204, .i32⟩
  | .hbm, ⟨40, _⟩ => ⟨S10x204, .i32⟩
  | .hbm, ⟨41, _⟩ => ⟨S_, .i32⟩
  | .hbm, ⟨42, _⟩ => ⟨S10x204, .i32⟩
  | .hbm, ⟨43, _⟩ => ⟨S10x204, .i1⟩
  | .hbm, ⟨44, _⟩ => ⟨S10x204, .i1⟩
  | .hbm, ⟨45, _⟩ => ⟨S_, .i32⟩
  | .hbm, ⟨46, _⟩ => ⟨S10x204, .i32⟩
  | .hbm, ⟨47, _⟩ => ⟨S10x204, .i32⟩
  | .hbm, ⟨48, _⟩ => ⟨S10x204, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S10x204, .i32⟩
  | .hbm, ⟨56, _⟩ => ⟨S10x204, .i32⟩
  | .hbm, ⟨57, _⟩ => ⟨S_, .i32⟩
  | .hbm, ⟨58, _⟩ => ⟨S10x204, .i32⟩
  | .hbm, ⟨59, _⟩ => ⟨S10x204, .i1⟩
  | .hbm, ⟨60, _⟩ => ⟨S_, .i32⟩
  | .hbm, ⟨61, _⟩ => ⟨S10x204, .i32⟩
  | .hbm, ⟨62, _⟩ => ⟨S10x204, .i1⟩
  | .hbm, ⟨63, _⟩ => ⟨S_, .i32⟩
  | .hbm, ⟨64, _⟩ => ⟨S_, .i1⟩
  | .hbm, ⟨65, _⟩ => ⟨S10x204, .i1⟩
  | .hbm, ⟨66, _⟩ => ⟨S10x204, .i1⟩
  | .hbm, ⟨67, _⟩ => ⟨S10x204, .i1⟩
  | .hbm, ⟨68, _⟩ => ⟨S10x204, .i32⟩
  | .hbm, ⟨69, _⟩ => ⟨S10x204, .i32⟩
  | .hbm, ⟨70, _⟩ => ⟨S10x204, .i32⟩
  | .hbm, ⟨71, _⟩ => ⟨S_, .i32⟩
  | .hbm, ⟨72, _⟩ => ⟨S10x204, .i32⟩
  | .hbm, ⟨73, _⟩ => ⟨S10x204, .i1⟩
  | .hbm, ⟨74, _⟩ => ⟨S_, .i32⟩
  | .hbm, ⟨75, _⟩ => ⟨S10x204, .i32⟩
  | .hbm, ⟨76, _⟩ => ⟨S10x204, .i32⟩
  | .hbm, ⟨77, _⟩ => ⟨S10x204, .i32⟩
  | .hbm, ⟨78, _⟩ => ⟨S10x204x1, .i32⟩
  | .hbm, ⟨79, _⟩ => ⟨S1, .i32⟩
  | .hbm, ⟨80, _⟩ => ⟨S_, .i32⟩
  | .hbm, ⟨81, _⟩ => ⟨S10x204x1, .i32⟩
  | .hbm, ⟨82, _⟩ => ⟨S10x204x1, .i1⟩
  | .hbm, ⟨83, _⟩ => ⟨S1x1x1, .i32⟩
  | .hbm, ⟨84, _⟩ => ⟨S10x204x1, .i32⟩
  | .hbm, ⟨85, _⟩ => ⟨S10x204x1, .i1⟩
  | .hbm, ⟨86, _⟩ => ⟨S10x204x1, .i1⟩
  | .hbm, ⟨87, _⟩ => ⟨S_, .i1⟩
  | .hbm, ⟨88, _⟩ => ⟨S10x204, .i1⟩
  | .hbm, ⟨89, _⟩ => ⟨S10x204x4, .f32⟩
  | .hbm, ⟨90, _⟩ => ⟨S10x204x4, .i1⟩
  | .hbm, ⟨91, _⟩ => ⟨S_, .f32⟩
  | .hbm, ⟨92, _⟩ => ⟨S10x204x4, .f32⟩
  | .hbm, ⟨93, _⟩ => ⟨S10x204x4, .f32⟩
  | .hbm, ⟨94, _⟩ => ⟨S10x204x1, .i32⟩
  | .hbm, ⟨95, _⟩ => ⟨S_, .i32⟩
  | .hbm, ⟨96, _⟩ => ⟨S10x204x1, .i32⟩
  | .hbm, ⟨97, _⟩ => ⟨S10x204x1, .i1⟩
  | .hbm, ⟨98, _⟩ => ⟨S_, .i32⟩
  | .hbm, ⟨99, _⟩ => ⟨S10x204x1, .i32⟩
  | .hbm, ⟨100, _⟩ => ⟨S10x204x1, .i32⟩
  | .hbm, ⟨101, _⟩ => ⟨S10x204x1, .i32⟩
  | .hbm, ⟨102, _⟩ => ⟨S1, .i32⟩
  | .hbm, ⟨103, _⟩ => ⟨S_, .i32⟩
  | .hbm, ⟨104, _⟩ => ⟨S10x204x1, .i32⟩
  | .hbm, ⟨105, _⟩ => ⟨S10x204x1, .i1⟩
  | .hbm, ⟨106, _⟩ => ⟨S1x1x1, .i32⟩
  | .hbm, ⟨107, _⟩ => ⟨S10x204x1, .i32⟩
  | .hbm, ⟨108, _⟩ => ⟨S10x204x1, .i1⟩
  | .hbm, ⟨109, _⟩ => ⟨S10x204x1, .i1⟩
  | .hbm, ⟨110, _⟩ => ⟨S_, .i1⟩
  | .hbm, ⟨111, _⟩ => ⟨S10x204, .i1⟩
  | .hbm, ⟨112, _⟩ => ⟨S10x204x4, .f32⟩
  | .hbm, ⟨113, _⟩ => ⟨S10x204x4, .i1⟩
  | .hbm, ⟨114, _⟩ => ⟨S_, .f32⟩
  | .hbm, ⟨115, _⟩ => ⟨S10x204x4, .f32⟩
  | .hbm, ⟨116, _⟩ => ⟨S10x204x4, .f32⟩
  | .hbm, ⟨117, _⟩ => ⟨S10x204x8, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call2_v0 : Ref sig .tc := ⟨.hbm, 15, rfl⟩
abbrev main_call2_cst : Ref sig .tc := ⟨.hbm, 16, rfl⟩
abbrev main_call2_v1 : Ref sig .tc := ⟨.hbm, 17, rfl⟩
abbrev main_call2_v2 : Ref sig .tc := ⟨.hbm, 18, rfl⟩
abbrev main_v4 : Ref sig .tc := ⟨.hbm, 19, rfl⟩
abbrev main_cst_0 : Ref sig .tc := ⟨.hbm, 20, rfl⟩
abbrev main_call3_v0 : Ref sig .tc := ⟨.hbm, 21, rfl⟩
abbrev main_call3_v1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_values : Ref sig .tc := ⟨.hbm, 29, rfl⟩
abbrev main_indices : Ref sig .tc := ⟨.hbm, 30, rfl⟩
abbrev main_c : Ref sig .tc := ⟨.hbm, 31, rfl⟩
abbrev main_call4_v0 : Ref sig .tc := ⟨.hbm, 32, rfl⟩
abbrev main_call4_v1 : Ref sig .tc := ⟨.hbm, 33, rfl⟩
abbrev main_call4_v2 : Ref sig .tc := ⟨.hbm, 34, rfl⟩
abbrev main_call4_v3 : Ref sig .tc := ⟨.hbm, 35, rfl⟩
abbrev main_call4_v4 : Ref sig .tc := ⟨.hbm, 36, rfl⟩
abbrev main_call4_v5 : Ref sig .tc := ⟨.hbm, 37, rfl⟩
abbrev main_call4_v6 : Ref sig .tc := ⟨.hbm, 38, rfl⟩
abbrev main_call4_v7 : Ref sig .tc := ⟨.hbm, 39, rfl⟩
abbrev main_call4_v8 : Ref sig .tc := ⟨.hbm, 40, rfl⟩
abbrev main_call4_c : Ref sig .tc := ⟨.hbm, 41, rfl⟩
abbrev main_call4_v9 : Ref sig .tc := ⟨.hbm, 42, rfl⟩
abbrev main_call4_v10 : Ref sig .tc := ⟨.hbm, 43, rfl⟩
abbrev main_call4_v11 : Ref sig .tc := ⟨.hbm, 44, rfl⟩
abbrev main_call4_c_0 : Ref sig .tc := ⟨.hbm, 45, rfl⟩
abbrev main_call4_v12 : Ref sig .tc := ⟨.hbm, 46, rfl⟩
abbrev main_call4_v13 : Ref sig .tc := ⟨.hbm, 47, rfl⟩
abbrev main_v11 : Ref sig .tc := ⟨.hbm, 48, rfl⟩
abbrev main_c_1 : Ref sig .tc := ⟨.hbm, 49, rfl⟩
abbrev main_call5_v0 : Ref sig .tc := ⟨.hbm, 50, rfl⟩
abbrev main_call5_c : Ref sig .tc := ⟨.hbm, 51, rfl⟩
abbrev main_call5_v1 : Ref sig .tc := ⟨.hbm, 52, rfl⟩
abbrev main_call5_c_0 : Ref sig .tc := ⟨.hbm, 53, rfl⟩
abbrev main_call5_v2 : Ref sig .tc := ⟨.hbm, 54, rfl⟩
abbrev main_call5_v3 : Ref sig .tc := ⟨.hbm, 55, rfl⟩
abbrev main_call5_v4 : Ref sig .tc := ⟨.hbm, 56, rfl⟩
abbrev main_call5_c_1 : Ref sig .tc := ⟨.hbm, 57, rfl⟩
abbrev main_call5_v5 : Ref sig .tc := ⟨.hbm, 58, rfl⟩
abbrev main_call5_v6 : Ref sig .tc := ⟨.hbm, 59, rfl⟩
abbrev main_call5_c_2 : Ref sig .tc := ⟨.hbm, 60, rfl⟩
abbrev main_call5_v7 : Ref sig .tc := ⟨.hbm, 61, rfl⟩
abbrev main_call5_v8 : Ref sig .tc := ⟨.hbm, 62, rfl⟩
abbrev main_call5_c_3 : Ref sig .tc := ⟨.hbm, 63, rfl⟩
abbrev main_call5_v9 : Ref sig .tc := ⟨.hbm, 64, rfl⟩
abbrev main_call5_v10 : Ref sig .tc := ⟨.hbm, 65, rfl⟩
abbrev main_call5_v11 : Ref sig .tc := ⟨.hbm, 66, rfl⟩
abbrev main_call5_v12 : Ref sig .tc := ⟨.hbm, 67, rfl⟩
abbrev main_call5_v13 : Ref sig .tc := ⟨.hbm, 68, rfl⟩
abbrev main_call5_v14 : Ref sig .tc := ⟨.hbm, 69, rfl⟩
abbrev main_v12 : Ref sig .tc := ⟨.hbm, 70, rfl⟩
abbrev main_call6_c : Ref sig .tc := ⟨.hbm, 71, rfl⟩
abbrev main_call6_v0 : Ref sig .tc := ⟨.hbm, 72, rfl⟩
abbrev main_call6_v1 : Ref sig .tc := ⟨.hbm, 73, rfl⟩
abbrev main_call6_c_0 : Ref sig .tc := ⟨.hbm, 74, rfl⟩
abbrev main_call6_v2 : Ref sig .tc := ⟨.hbm, 75, rfl⟩
abbrev main_call6_v3 : Ref sig .tc := ⟨.hbm, 76, rfl⟩
abbrev main_call6_v4 : Ref sig .tc := ⟨.hbm, 77, rfl⟩
abbrev main_call6_v5 : Ref sig .tc := ⟨.hbm, 78, rfl⟩
abbrev main_call6_c_1 : Ref sig .tc := ⟨.hbm, 79, rfl⟩
abbrev main_call6_c_2 : Ref sig .tc := ⟨.hbm, 80, rfl⟩
abbrev main_call6_v6 : Ref sig .tc := ⟨.hbm, 81, rfl⟩
abbrev main_call6_v7 : Ref sig .tc := ⟨.hbm, 82, rfl⟩
abbrev main_call6_v8 : Ref sig .tc := ⟨.hbm, 83, rfl⟩
abbrev main_call6_v9 : Ref sig .tc := ⟨.hbm, 84, rfl⟩
abbrev main_call6_v10 : Ref sig .tc := ⟨.hbm, 85, rfl⟩
abbrev main_call6_v11 : Ref sig .tc := ⟨.hbm, 86, rfl⟩
abbrev main_call6_c_3 : Ref sig .tc := ⟨.hbm, 87, rfl⟩
abbrev main_call6_v12 : Ref sig .tc := ⟨.hbm, 88, rfl⟩
abbrev main_call6_v13 : Ref sig .tc := ⟨.hbm, 89, rfl⟩
abbrev main_call6_v14 : Ref sig .tc := ⟨.hbm, 90, rfl⟩
abbrev main_call6_cst : Ref sig .tc := ⟨.hbm, 91, rfl⟩
abbrev main_call6_v15 : Ref sig .tc := ⟨.hbm, 92, rfl⟩
abbrev main_v13 : Ref sig .tc := ⟨.hbm, 93, rfl⟩
abbrev main_v14 : Ref sig .tc := ⟨.hbm, 94, rfl⟩
abbrev main_call7_c : Ref sig .tc := ⟨.hbm, 95, rfl⟩
abbrev main_call7_v0 : Ref sig .tc := ⟨.hbm, 96, rfl⟩
abbrev main_call7_v1 : Ref sig .tc := ⟨.hbm, 97, rfl⟩
abbrev main_call7_c_0 : Ref sig .tc := ⟨.hbm, 98, rfl⟩
abbrev main_call7_v2 : Ref sig .tc := ⟨.hbm, 99, rfl⟩
abbrev main_call7_v3 : Ref sig .tc := ⟨.hbm, 100, rfl⟩
abbrev main_call7_v4 : Ref sig .tc := ⟨.hbm, 101, rfl⟩
abbrev main_call7_c_1 : Ref sig .tc := ⟨.hbm, 102, rfl⟩
abbrev main_call7_c_2 : Ref sig .tc := ⟨.hbm, 103, rfl⟩
abbrev main_call7_v5 : Ref sig .tc := ⟨.hbm, 104, rfl⟩
abbrev main_call7_v6 : Ref sig .tc := ⟨.hbm, 105, rfl⟩
abbrev main_call7_v7 : Ref sig .tc := ⟨.hbm, 106, rfl⟩
abbrev main_call7_v8 : Ref sig .tc := ⟨.hbm, 107, rfl⟩
abbrev main_call7_v9 : Ref sig .tc := ⟨.hbm, 108, rfl⟩
abbrev main_call7_v10 : Ref sig .tc := ⟨.hbm, 109, rfl⟩
abbrev main_call7_c_3 : Ref sig .tc := ⟨.hbm, 110, rfl⟩
abbrev main_call7_v11 : Ref sig .tc := ⟨.hbm, 111, rfl⟩
abbrev main_call7_v12 : Ref sig .tc := ⟨.hbm, 112, rfl⟩
abbrev main_call7_v13 : Ref sig .tc := ⟨.hbm, 113, rfl⟩
abbrev main_call7_cst : Ref sig .tc := ⟨.hbm, 114, rfl⟩
abbrev main_call7_v14 : Ref sig .tc := ⟨.hbm, 115, rfl⟩
abbrev main_v15 : Ref sig .tc := ⟨.hbm, 116, rfl⟩
abbrev main_v16 : Ref sig .tc := ⟨.hbm, 117, rfl⟩

abbrev nD : Nat := 1
abbrev τ : Topo := Topo.v7x

variable {F : FTy → Type} [FloatOps F]
-- ==== Proof.Round.lean ====
/-
  The program of one vector subcore, written once for an image `k` instead of ten times.

  The printed kernel repeats the same round for each of the ten images; here the round is one function of `k`, of the
  row buffer the image's rows were gathered into and of the scoped semaphores of its two write-outs, and `tile_eq` says
  that the printed kernel is the prologue followed by the ten rounds.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic Idealize.SL.Sem

variable {F : FTy → Type} [FloatOps F]

/-! ## The buffers the kernel is called on -/

/-- The score table, rows of 128 scores. -/
abbrev aT : Memref sig .scVector .hbm S327680x128 .f32 := Memref.whole main_v37_scv
/-- The lists of table rows to gather, one row per subcore. -/
abbrev aI : Memref sig .scVector .hbm S32x1280 .i32 := Memref.whole main_v29_scv
/-- The flat position each selected row starts at. -/
abbrev aB : Memref sig .scVector .hbm S32x1280 .i32 := Memref.whole main_v36_scv
/-- The thresholds, sixteen copies per image. -/
abbrev aP : Memref sig .scVector .hbm S160 .f32 := Memref.whole main_v40_scv
/-- The kept scores. -/
abbrev aO : Memref sig .scVector .hbm S10x32x128 .f32 := Memref.whole main_v41_0_scv
/-- The kept scores' flat positions. -/
abbrev aJ : Memref sig .scVector .hbm S10x32x128 .i32 := Memref.whole main_v41_1_scv
/-- The subcore's row numbers. -/
abbrev bL : Memref sig .scVector .vmem S1280 .i32 := Memref.whole cc1_scratch0
/-- The subcore's flat beginnings. -/
abbrev bB : Memref sig .scVector .vmem S1280 .i32 := Memref.whole cc1_scratch1
/-- The thresholds. -/
abbrev bP : Memref sig .scVector .vmem S160 .f32 := Memref.whole cc1_scratch2
/-- The first row buffer. -/
abbrev bR₀ : Memref sig .scVector .vmem S128x128 .f32 := Memref.whole cc1_scratch3
/-- The second row buffer. -/
abbrev bR₁ : Memref sig .scVector .vmem S128x128 .f32 := Memref.whole cc1_scratch4
/-- The list of kept values. -/
abbrev bV : Memref sig .scVector .vmem S128 .f32 := Memref.whole cc1_scratch5
/-- The list of kept places. -/
abbrev bC : Memref sig .scVector .vmem S128 .i32 := Memref.whole cc1_scratch6

/-- The programs of the vector subcore at the grid's coordinates `i`. -/
abbrev TProg (i : grid1.Coords) (α : Type) : Type 1 :=
  Prog (TpuEff nD τ sig (Elt F) Λ₀ (.scVector ((i 0).castLE hcore1) ((i 1).castLE hsub1))) α

/-- The subcore's row of a list array. -/
abbrev rowI (a : Memref sig .scVector .hbm S32x1280 .i32) (i : grid1.Coords) : Memref sig .scVector .hbm S1280 .i32 :=
  (a.slice (Rect.unit (s := S32x1280) (k1_off1 i) S1x1280.size (k1_off1_inb i)) (fun _ => rfl)).squeeze S1280 squeezes_S1x1280_S1280

/-- The whole score table, as a gather names it. -/
abbrev tabM : Memref sig .scVector .hbm S327680x128 .f32 :=
  aT.slice (Rect.unit (s := S327680x128) ![0, 0] S327680x128.size inb_S327680x128_S327680x128_0_0) (fun _ => rfl)

/-! ## Offsets of image `k` -/

/-- Where the subcore's block of an output starts, for image `k`. -/
def outOff (k : ℕ) (i : grid1.Coords) : Fin 3 → Nat :=
  ![k, (Scalar.addi (Scalar.muli (BitVec.ofNat 32 (i 0).val) 16#32) (BitVec.ofNat 32 (i 1).val)).toNat, 0]

/-- The worker's number that the program computes. -/
theorem wid_eq : ∀ i : grid1.Coords,
    (Scalar.addi (Scalar.muli (BitVec.ofNat 32 (i 0).val) 16#32) (BitVec.ofNat 32 (i 1).val)).toNat = (i 0).val * 16 + (i 1).val := by
  intro i
  have h0 : (i 0).val < 2 := (i 0).isLt
  have h1 : (i 1).val < 16 := (i 1).isLt
  simp only [Scalar.addi, Scalar.muli, IntOp.addi, IntOp.muli, BitVec.toNat_add, BitVec.toNat_mul, BitVec.toNat_ofNat]
  omega

/-- Where an image's block lies in the outputs. -/
theorem outOff_eq (k : ℕ) (i : grid1.Coords) : outOff k i = ![k, (i 0).val * 16 + (i 1).val, 0] := by
  unfold outOff; rw [wid_eq]

/-- An image's block lies inside the outputs. -/
theorem outOff_inb (k : Fin 10) (i : grid1.Coords) : ∀ a, outOff k.val i a + S1x1x128.size a ≤ S10x32x128.size a := by
  have h0 : (i 0).val < 2 := (i 0).isLt
  have h1 : (i 1).val < 16 := (i 1).isLt
  have hk := k.isLt
  rw [outOff_eq]
  intro a
  match a with
  | 0 => show k.val + 1 ≤ 10; omega
  | 1 => show (i 0).val * 16 + (i 1).val + 1 ≤ 32; omega
  | 2 => show 0 + 128 ≤ 128; omega

/-- The flat position's vector, read at trip `t` of an image whose first selected row is number `b`. -/
def rbOff (b : BitVec 32) (t : Fin k1_t2_loop.trips) : Fin 1 → Nat :=
  let v105 : BitVec 32 := Scalar.muli 2#32 (Scf.iv (0#32 : BitVec 32) 1#32 t)
  let v111 : BitVec 32 := Scalar.subi (Scalar.extui (Scalar.cmpi .sgt v105 0#32)) (Scalar.extui (Scalar.cmpi .slt v105 0#32))
  let v116 : BitVec 32 := Scalar.subi (Scalar.extui (Scalar.cmpi .sgt 128#32 0#32)) (Scalar.extui (Scalar.cmpi .slt 128#32 0#32))
  let v117 : BitVec 1 := Scalar.cmpi .ne v111 v116
  let v118 : BitVec 32 := Scalar.remsi v105 128#32
  let v119 : BitVec 1 := Scalar.cmpi .ne v118 0#32
  let v120 : BitVec 1 := Scalar.andi v117 v119
  let v106 : BitVec 32 := Scalar.divsi v105 128#32
  let v121 : BitVec 32 := Scalar.subi v106 1#32
  let v122 : BitVec 32 := Scalar.select v120 v121 v106
  let v125 : BitVec 32 := Scalar.addi b v122
  let v126 : BitVec 32 := Scalar.muli v125 16#32
  let v127 : Index := Scalar.indexCast v126
  ![v127.toNat]

/-- In numbers: sixteen words per selected row, eight rows per image, 64 trips per row. -/
theorem rbOff_zero : ∀ (k : Fin 10) (t : Fin 512), rbOff (BitVec.ofNat 32 (8 * k.val)) t 0 = 128 * k.val + 16 * (t.val / 64) := by
  decide +kernel

/-- Where a trip reads its row's flat beginning. -/
theorem rbOff_eq (k : Fin 10) (t : Fin k1_t2_loop.trips) : rbOff (BitVec.ofNat 32 (8 * k.val)) t = ![128 * k.val + 16 * (t.val / 64)] := by
  funext a
  match a with
  | 0 => exact rbOff_zero k t

/-- A trip reads its row's flat beginning inside the buffer. -/
theorem rbOff_inb (k : Fin 10) (t : Fin k1_t2_loop.trips) :
    ∀ a, rbOff (BitVec.ofNat 32 (8 * k.val)) t a + S16.size a ≤ S1280.size a := by
  have ht : t.val < 512 := t.isLt
  rw [rbOff_eq k t]
  intro a
  match a with
  | 0 => show 128 * k.val + 16 * (t.val / 64) + 16 ≤ 1280; omega

/-- An image's row numbers lie inside the buffer. -/
theorem listOff_inb (k : ℕ) (hk : k < 10) : ∀ a, (![128 * k] : Fin 1 → Nat) a + S128.size a ≤ S1280.size a := by
  intro a
  match a with
  | 0 => show 128 * k + 128 ≤ 1280; omega

/-- An image's threshold lies inside the buffer. -/
theorem loOff_inb (k : ℕ) (hk : k < 10) : ∀ a, (![16 * k] : Fin 1 → Nat) a + S16.size a ≤ S160.size a := by
  intro a
  match a with
  | 0 => show 16 * k + 16 ≤ 160; omega

/-! ## The pieces of a round -/

/-- One trip of the loop that clears the candidates. -/
def fillBody (i : grid1.Coords) : Fin k1_t1_loop.trips → BitVec 32 → TProg (F := F) i (BitVec 32) :=
  fun t _ => do
    let _ : Vec F S16 .f32 ← Prog.lift (.load bV (Rect.unit (s := S128) (k1_off2 t) S16.size (k1_off2_inb t)).toLoadRect (View.loadsAt_vmem h_S16))
    Prog.lift (.store bV (Rect.unit (s := S128) (k1_off2 t) S16.size (k1_off2_inb t)) (k1_pay111 (F := F)) Finset.univ (View.stores_vmem_bits_univ h_S16 rfl) (.inl rfl))
    let _ : Vec F S16 .i32 ← Prog.lift (.load bC (Rect.unit (s := S128) (k1_off2 t) S16.size (k1_off2_inb t)).toLoadRect (View.loadsAt_vmem h_S16))
    Prog.lift (.store bC (Rect.unit (s := S128) (k1_off2 t) S16.size (k1_off2_inb t)) k1_pay112 Finset.univ (View.stores_vmem_bits_univ h_S16 rfl) (.inl rfl))
    pure 0#32

/-- The lanes' own numbers. -/
abbrev lanes : IVec S16 32 := iota .scVector S16 32 [0] iota_S16_d0_w32_scVector

/-- Twice the trip's number less 128 for each row already passed: the trip's first chunk within its selected row. -/
def chunkOf (t : Fin k1_t2_loop.trips) : BitVec 32 :=
  let arg17 : BitVec 32 := Scf.iv (0#32 : BitVec 32) 1#32 t
  let v105 : BitVec 32 := Scalar.muli 2#32 arg17
  let v106 : BitVec 32 := Scalar.divsi v105 128#32
  let v111 : BitVec 32 := Scalar.subi (Scalar.extui (Scalar.cmpi .sgt v105 0#32)) (Scalar.extui (Scalar.cmpi .slt v105 0#32))
  let v116 : BitVec 32 := Scalar.subi (Scalar.extui (Scalar.cmpi .sgt 128#32 0#32)) (Scalar.extui (Scalar.cmpi .slt 128#32 0#32))
  let v117 : BitVec 1 := Scalar.cmpi .ne v111 v116
  let v118 : BitVec 32 := Scalar.remsi v105 128#32
  let v119 : BitVec 1 := Scalar.cmpi .ne v118 0#32
  let v120 : BitVec 1 := Scalar.andi v117 v119
  let v121 : BitVec 32 := Scalar.subi v106 1#32
  let v122 : BitVec 32 := Scalar.select v120 v121 v106
  let v123 : BitVec 32 := Scalar.muli v122 128#32
  Scalar.subi v105 v123

/-- The second chunk `y` of a trip, after the first chunk `x`. -/
def second (i : grid1.Coords) (lo : Vec F S16 .f32) (t : Fin k1_t2_loop.trips) (n : IVec S16 32) (rb : Vec F S16 .i32) (x y : Vec F S1x16 .f32) :
    TProg (F := F) i (IVec S16 32) := do
  let hq ← Prog.lift (TpuEff.assume (k1_chk2 (k1_pay9 lo n (k1_pay2 lo x) y)) (k1_chk2.dec (k1_pay9 lo n (k1_pay2 lo x) y)))
  SparseCore.vectorStoreIdx bV ![k1_pay9 lo n (k1_pay2 lo x) y] (k1_pay7 y) (k1_pay8 lo y) false (k1_idx3_inb _ hq.down) (View.stores_vmem_bits_univ h_S128 rfl)
  SparseCore.vectorStoreIdx bC ![k1_pay9 lo n (k1_pay2 lo x) y] (k1_pay10 lanes (chunkOf t) rb) (k1_pay8 lo y) false (k1_idx4_inb _ hq.down) (View.stores_vmem_bits_univ h_S128 rfl)
  pure (k1_pay114 (k1_pay6 n (k1_pay2 lo x)) (k1_pay11 lo y))

/-- The first chunk `x` of a trip, then the second. -/
def first (i : grid1.Coords) (R : Memref sig .scVector .vmem S128x128 .f32) (lo : Vec F S16 .f32) (t : Fin k1_t2_loop.trips) (n : IVec S16 32)
    (rb : Vec F S16 .i32) (x : Vec F S1x16 .f32) : TProg (F := F) i (IVec S16 32) := do
  let hp ← Prog.lift (TpuEff.assume (k1_chk1 (k1_pay4 (k1_pay3 lo n x))) (k1_chk1.dec (k1_pay4 (k1_pay3 lo n x))))
  SparseCore.vectorStoreIdx bV ![k1_pay4 (k1_pay3 lo n x)] (k1_pay1 x) (k1_pay2 lo x) false (k1_idx1_inb _ hp.down) (View.stores_vmem_bits_univ h_S128 rfl)
  SparseCore.vectorStoreIdx bC ![k1_pay4 (k1_pay3 lo n x)] (k1_pay5 lanes (chunkOf t) rb) (k1_pay2 lo x) false (k1_idx2_inb _ hp.down) (View.stores_vmem_bits_univ h_S128 rfl)
  let y : Vec F S1x16 .f32 ← Prog.lift (.load R (Rect.unit (s := S128x128) (k1_off5 t) S1x16.size (k1_off5_inb t)).toLoadRect (View.loadsAt_vmem h_S1x16))
  second i lo t n rb x y

/-- One trip of the loop that keeps the scores at or above the threshold `lo`: two chunks of sixteen scores. -/
def mainBody (i : grid1.Coords) (k : Fin 10) (R : Memref sig .scVector .vmem S128x128 .f32) (lo : Vec F S16 .f32) :
    Fin k1_t2_loop.trips → IVec S16 32 → TProg (F := F) i (IVec S16 32) :=
  fun t n => do
    let rb : Vec F S16 .i32 ← Prog.lift (.load bB (Rect.unit (s := S1280) (rbOff (BitVec.ofNat 32 (8 * k.val)) t) S16.size (rbOff_inb k t)).toLoadRect (View.loadsAt_vmem h_S16))
    let x : Vec F S1x16 .f32 ← Prog.lift (.load R (Rect.unit (s := S128x128) (k1_off4 t) S1x16.size (k1_off4_inb t)).toLoadRect (View.loadsAt_vmem h_S1x16))
    first i R lo t n rb x

/-- The subcore's block of the kept scores, for image `k`. -/
abbrev outV (k : Fin 10) (i : grid1.Coords) : Memref sig .scVector .hbm S128 .f32 :=
  (aO.slice (Rect.unit (s := S10x32x128) (outOff k.val i) S1x1x128.size (outOff_inb k i)) (fun _ => rfl)).squeeze S128 squeezes_S1x1x128_S128
/-- The subcore's block of the positions, for image `k`. -/
abbrev outC (k : Fin 10) (i : grid1.Coords) : Memref sig .scVector .hbm S128 .i32 :=
  (aJ.slice (Rect.unit (s := S10x32x128) (outOff k.val i) S1x1x128.size (outOff_inb k i)) (fun _ => rfl)).squeeze S128 squeezes_S1x1x128_S128

/-- Clear the candidates, collect them, write them out. -/
def core (i : grid1.Coords) (k : Fin 10) (R : Memref sig .scVector .vmem S128x128 .f32) (s s' : DmaSems sig S_) (lo : Vec F S16 .f32) :
    TProg (F := F) i PUnit := do
  let _ : BitVec 32 ← Scf.Loop.for k1_t1_loop k1_t1_ok 0#32 (fillBody i)
  let _ : IVec S16 32 ← Scf.Loop.for k1_t2_loop k1_t2_ok k1_pay113 (mainBody i k R lo)
  Prog.lift (.enqueueDma bV (.here (outV k i)) (.dma s.sem) (Memref.isWhole_whole _).wordExact ((View.wordExact_bits rfl).reshape _ _) ⟨Or.inl rfl, trivial⟩)
  Prog.lift (.waitDma2 s.sem bV (outV k i) (Memref.isWhole_whole _).wordExact ((View.wordExact_bits rfl).reshape _ _))
  Prog.lift (.enqueueDma bC (.here (outC k i)) (.dma s'.sem) (Memref.isWhole_whole _).wordExact ((View.wordExact_bits rfl).reshape _ _) ⟨Or.inl rfl, trivial⟩)
  Prog.lift (.waitDma2 s'.sem bC (outC k i) (Memref.isWhole_whole _).wordExact ((View.wordExact_bits rfl).reshape _ _))

/-- The list of image `k`'s rows. -/
abbrev listM (k : ℕ) (hk : k < 10) : Memref sig .scVector .vmem S128 .i32 :=
  bL.slice (Rect.unit (s := S1280) ![128 * k] S128.size (listOff_inb k hk)) (fun _ => rfl)

/-- Start the gather of image `k`'s rows into `R`, counted on `s`. -/
def gath (i : grid1.Coords) (k : ℕ) (hk : k < 10) (R : Memref sig .scVector .vmem S128x128 .f32) (s : DmaSems sig S_) : TProg (F := F) i PUnit :=
  SparseCore.enqueueIndirectGather rfl tabM R gathers_S327680x128_S128x128 (listM k hk) rfl s.sem (View.wordExact_bits rfl) rfl (Or.inl rfl)

/-- Wait for the rows in `R`, then read the threshold of image `k`. -/
def arrive (i : grid1.Coords) (k : ℕ) (hk : k < 10) (R : Memref sig .scVector .vmem S128x128 .f32) (hR : R.view.WordExact) (s : DmaSems sig S_) :
    TProg (F := F) i (Vec F S16 .f32) := do
  SparseCore.waitIndirectGather s.sem tabM R (View.wordExact_bits rfl) hR
  Prog.lift (.load bP (Rect.unit (s := S160) ![16 * k] S16.size (loOff_inb k hk)).toLoadRect (View.loadsAt_vmem h_S16))

/-- The scoped semaphores of the two write-outs of image `k`. -/
def semV : Fin 10 → DmaSems sig S_ :=
  ![cc1_scoped3, cc1_scoped5, cc1_scoped7, cc1_scoped9, cc1_scoped11, cc1_scoped13, cc1_scoped15, cc1_scoped17, cc1_scoped19, cc1_scoped21]
/-- The semaphore of an image's copy of places. -/
def semC : Fin 10 → DmaSems sig S_ :=
  ![cc1_scoped4, cc1_scoped6, cc1_scoped8, cc1_scoped10, cc1_scoped12, cc1_scoped14, cc1_scoped16, cc1_scoped18, cc1_scoped20, cc1_scoped22]

/-- A round before the last two: the image's candidates, the gather of the image after the next into the buffer just
    read, the next image's rows. -/
def round (i : grid1.Coords) (k : ℕ) (hk : k < 8) (R R' : Memref sig .scVector .vmem S128x128 .f32) (hR' : R'.view.WordExact) (s s' : DmaSems sig S_)
    (lo : Vec F S16 .f32) : TProg (F := F) i (Vec F S16 .f32) := do
  core i ⟨k, by omega⟩ R (semV ⟨k, by omega⟩) (semC ⟨k, by omega⟩) lo
  gath i (k + 2) (by omega) R s
  arrive i (k + 1) (by omega) R' hR' s'

/-- The rounds of the images `k`, …, 7, the two row buffers changing places at each; then the last two. -/
def rounds (i : grid1.Coords) : (n k : ℕ) → k + n = 8 → (R R' : Memref sig .scVector .vmem S128x128 .f32) → R.view.WordExact → R'.view.WordExact →
    DmaSems sig S_ → DmaSems sig S_ → Vec F S16 .f32 → TProg (F := F) i PUnit
  | 0, _, _, R, R', _, hR', _, s', lo => do
    core i 8 R (semV 8) (semC 8) lo
    let lo' ← arrive i 9 (by omega) R' hR' s'
    core i 9 R' (semV 9) (semC 9) lo'
  | n + 1, k, h, R, R', hR, hR', s, s', lo => do
    let lo' ← round i k (by omega) R R' hR' s s' lo
    rounds i n (k + 1) (by omega) R' R hR' hR s' s lo'

/-- Fetch the lists and the thresholds, start the first two gathers, wait for the first. -/
def prologue (i : grid1.Coords) : TProg (F := F) i (Vec F S16 .f32) := do
  Prog.lift (.enqueueDma (rowI aI i) (.here bL) (.dma cc1_scoped0.sem) ((View.wordExact_bits rfl).reshape _ _) (Memref.isWhole_whole _).wordExact ⟨Or.inl rfl, trivial⟩)
  Prog.lift (.waitDma2 cc1_scoped0.sem (rowI aI i) bL ((View.wordExact_bits rfl).reshape _ _) (Memref.isWhole_whole _).wordExact)
  Prog.lift (.enqueueDma (rowI aB i) (.here bB) (.dma cc1_scoped1.sem) ((View.wordExact_bits rfl).reshape _ _) (Memref.isWhole_whole _).wordExact ⟨Or.inl rfl, trivial⟩)
  Prog.lift (.waitDma2 cc1_scoped1.sem (rowI aB i) bB ((View.wordExact_bits rfl).reshape _ _) (Memref.isWhole_whole _).wordExact)
  Prog.lift (.enqueueDma aP (.here bP) (.dma cc1_scoped2.sem) (Memref.isWhole_whole _).wordExact (Memref.isWhole_whole _).wordExact ⟨Or.inl rfl, trivial⟩)
  Prog.lift (.waitDma2 cc1_scoped2.sem aP bP (Memref.isWhole_whole _).wordExact (Memref.isWhole_whole _).wordExact)
  gath i 0 (by omega) bR₀ cc1_scratch7
  gath i 1 (by omega) bR₁ cc1_scratch8
  arrive i 0 (by omega) bR₀ (Memref.isWhole_whole _).wordExact cc1_scratch7

/-- The whole program. -/
def tile (i : grid1.Coords) : TProg (F := F) i PUnit := do
  let lo ← prologue i
  rounds i 8 0 rfl bR₀ bR₁ (Memref.isWhole_whole _).wordExact (Memref.isWhole_whole _).wordExact cc1_scratch7 cc1_scratch8 lo

/-- The kernel on the buffers it is called on. -/
abbrev printed (i : grid1.Coords) : TProg (F := F) i PUnit :=
  cc1_compact_kernel i aT (Memref.isWhole_whole _) aI (Memref.isWhole_whole _) aB (Memref.isWhole_whole _) aP (Memref.isWhole_whole _)
    aO (Memref.isWhole_whole _) aJ (Memref.isWhole_whole _) bL (Memref.isWhole_whole _) bB (Memref.isWhole_whole _) bP (Memref.isWhole_whole _)
    bR₀ (Memref.isWhole_whole _) bR₁ (Memref.isWhole_whole _) bV (Memref.isWhole_whole _) bC (Memref.isWhole_whole _) cc1_scratch7 cc1_scratch8
    cc1_scoped0 cc1_scoped1 cc1_scoped2 cc1_scoped3 cc1_scoped4 cc1_scoped5 cc1_scoped6 cc1_scoped7 cc1_scoped8 cc1_scoped9 cc1_scoped10 cc1_scoped11
    cc1_scoped12 cc1_scoped13 cc1_scoped14 cc1_scoped15 cc1_scoped16 cc1_scoped17 cc1_scoped18 cc1_scoped19 cc1_scoped20 cc1_scoped21 cc1_scoped22

set_option maxRecDepth 65536 in
set_option maxHeartbeats 4000000 in
/-- The printed kernel is the prologue and the ten rounds. -/
theorem tile_eq (i : grid1.Coords) : printed (F := F) i = tile i := by
  unfold printed
  rw [cc1_compact_kernel_eq_skeleton]
  unfold cc1_compact_kernel_skel
  rw [k1_part21_eq_skeleton, k1_part22_eq_skeleton, k1_part23_eq_skeleton, k1_part24_eq_skeleton, k1_part25_eq_skeleton, k1_part26_eq_skeleton,
    k1_part27_eq_skeleton, k1_part28_eq_skeleton, k1_part29_eq_skeleton, k1_part30_eq_skeleton]
  unfold k1_part21_skel k1_part22_skel k1_part23_skel k1_part24_skel k1_part25_skel k1_part26_skel k1_part27_skel k1_part28_skel k1_part29_skel k1_part30_skel
  unfold tile prologue
  simp only [rounds, round, core, arrive, Prog.bind_assoc, Prog.pure_eq_ret, Prog.bind_ret]
  rfl

end Cert.Proof.Tile

end
-- ==== Proof.Common.lean ====
/-
  The program as the launch theorem sees it, and the certificate's ghost state: the handshakes' rounds, the pipeline's
  rounds and the transfers' counters.
-/
module

public import proofs.«01_k».proof.Proof.Round

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program with its TensorCore call. -/
abbrev ΛP : Labels := Pipeline.Sig Λ₀ (Fin 1) fun p => (pcfgs (F := F) p).Adm
/-- The launch of the program's one SparseCore call. -/
abbrev K : SparseCore.Cfg τ sig (ΛP (F := F)) 1 := sc (F := F)
/-- The call runs on sixteen subcores of each core. -/
theorem nSub_zero : (K (F := F)).nSub 0 = 16 := rfl
/-- The call runs on two cores. -/
theorem nCore_zero : (K (F := F)).nCore 0 = 2 := rfl
/-- The program's definitions, with those of its TensorCore call. -/
abbrev D [FloatOps F] : Defs nD τ sig (Elt F) (ΛP (F := F)) := Pipeline.defs pcfgs defs₀
/-- No loop here needs a variant. -/
abbrev 𝒱₀ : Variants := Variants.none
/-- The same, with the TensorCore call's labels. -/
abbrev 𝒱 : Variants := 𝒱₀.lift
/-- The one variant there is. -/
abbrev v₀ : 𝒱.V := Sum.inl none

/-- The launch's four semaphores are apart, and none belongs to a task. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Ghost state of the launch's handshakes. -/
abbrev UH : Type := URounds (GSem nD τ sig) ℕ
/-- Ghost state of the TensorCore call's copies. -/
abbrev UP : Type := URounds (GSem nD τ sig) Unit
/-- All the ghost state: the handshakes', the TensorCore call's and the copies' counters. -/
abbrev UU : Type := UH × (UP × Counters)

/-- Where the handshakes' ghost state sits in the whole. -/
abbrev EH : Emb UH (MT nD τ sig (HIx 1) (Elt F) ℕ UU ℕ) := embL

/-- The propositions about this program's machine. -/
abbrev P𝕄 (F : FTy → Type) : Type := sProp (MT nD τ sig (HIx 1) (Elt F) ℕ UU ℕ)

end Cert.Proof

end
-- ==== Proof.Trip.lean ====
/-
  The candidates' loops: what one trip does to the two candidate buffers, as a function of the state before it, and the
  loops of a round as folds of that function. No assumption about how many scores pass the threshold is made here.
-/
module

public import proofs.«01_k».proof.Proof.Common

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The thread of the grid's coordinates `i` on device `d`. -/
abbrev thr (d : Dev nD) (i : grid1.Coords) : Thread nD τ := V d ((i 0).castLE hcore1) ((i 1).castLE hsub1)

/-! ## Positions are in range -/

/-- A clamped position lies inside the list. -/
theorem clamp_lt (a : BitVec 32) : (IntOp.maxsi (IntOp.minsi a 127#32) 0#32).toNat < 128 := by
  simp only [IntOp.maxsi, IntOp.minsi]
  split <;> split <;> simp_all [BitVec.sle_eq_decide, BitVec.slt_eq_decide, BitVec.toInt_eq_toNat_cond] <;> omega

/-- The first store of a trip has its indices inside the list. -/
theorem chk_first (lo : Vec F S16 .f32) (n : IVec S16 32) (x : Vec F S1x16 .f32) : k1_chk1 (k1_pay4 (k1_pay3 lo n x)) := by
  refine ⟨fun a j => ?_, fun a j => ?_⟩ <;>
  · match a with
    | 0 => exact clamp_lt _

/-- The second store of a trip has its indices inside the list. -/
theorem chk_second (lo : Vec F S16 .f32) (n : IVec S16 32) (m : IVec S16 1) (y : Vec F S1x16 .f32) : k1_chk2 (k1_pay9 lo n m y) := by
  refine ⟨fun a j => ?_, fun a j => ?_⟩ <;>
  · match a with
    | 0 => exact clamp_lt _

/-! ## One trip, as a function -/

/-- The running count (the same in every lane), the kept scores, their positions. -/
abbrev St (F : FTy → Type) : Type := IVec S16 32 × Vec F S128 .f32 × Vec F S128 .i32

/-- One trip: from the position word `rb`, the two chunks `x` and `y`, at trip `t`. -/
def trip (lo : Vec F S16 .f32) (rb : Vec F S16 .i32) (x y : Vec F S1x16 .f32) (t : Fin k1_t2_loop.trips) (s : St F) : St F :=
  have h1 := k1_idx1_inb _ (chk_first lo s.1 x)
  have h3 := k1_idx3_inb _ (chk_second lo s.1 (k1_pay2 lo x) y)
  (k1_pay114 (k1_pay6 s.1 (k1_pay2 lo x)) (k1_pay11 lo y),
    storeIdx (storeIdx s.2.1 ![k1_pay4 (k1_pay3 lo s.1 x)] (k1_pay1 x) (k1_pay2 lo x) false h1)
      ![k1_pay9 lo s.1 (k1_pay2 lo x) y] (k1_pay7 y) (k1_pay8 lo y) false h3,
    storeIdx (F := F) (e := .i32) (storeIdx (F := F) (e := .i32) s.2.2 ![k1_pay4 (k1_pay3 lo s.1 x)] (k1_pay5 lanes (chunkOf t) rb) (k1_pay2 lo x) false h1)
      ![k1_pay9 lo s.1 (k1_pay2 lo x) y] (k1_pay10 lanes (chunkOf t) rb) (k1_pay8 lo y) false h3)

/-- The position word of trip `t` of image `k`. -/
def rbAt (k : Fin 10) (B : Vec F S1280 .i32) (t : Fin k1_t2_loop.trips) : Vec F S16 .i32 :=
  fun j => B ((Rect.unit (s := S1280) (rbOff (BitVec.ofNat 32 (8 * k.val)) t) S16.size (rbOff_inb k t)).toLoadRect.idx j)
/-- The first chunk of trip `t`. -/
def xAt (X : Vec F S128x128 .f32) (t : Fin k1_t2_loop.trips) : Vec F S1x16 .f32 :=
  fun j => X ((Rect.unit (s := S128x128) (k1_off4 t) S1x16.size (k1_off4_inb t)).toLoadRect.idx j)
/-- The second chunk of trip `t`. -/
def yAt (X : Vec F S128x128 .f32) (t : Fin k1_t2_loop.trips) : Vec F S1x16 .f32 :=
  fun j => X ((Rect.unit (s := S128x128) (k1_off5 t) S1x16.size (k1_off5_inb t)).toLoadRect.idx j)

/-- The state the collecting loop starts in. -/
def start : St F := (k1_pay113, fun _ => Scalar.ofBits .f32 0xC0400000#32, fun _ => 0#32)

/-- The state before trip `n` of image `k`. -/
def upto (k : Fin 10) (X : Vec F S128x128 .f32) (B : Vec F S1280 .i32) (lo : Vec F S16 .f32) : ℕ → St F
  | 0 => start
  | n + 1 => if h : n < k1_t2_loop.trips then trip lo (rbAt k B ⟨n, h⟩) (xAt X ⟨n, h⟩) (yAt X ⟨n, h⟩) ⟨n, h⟩ (upto k X B lo n) else upto k X B lo n

/-- The loop after one more trip. -/
theorem upto_succ (k : Fin 10) (X : Vec F S128x128 .f32) (B : Vec F S1280 .i32) (lo : Vec F S16 .f32) (t : Fin k1_t2_loop.trips) :
    upto k X B lo (t.val + 1) = trip lo (rbAt k B t) (xAt X t) (yAt X t) t (upto k X B lo t.val) := by
  rw [upto, dif_pos t.isLt]

/-- The state after the image's last trip. -/
def final (k : Fin 10) (X : Vec F S128x128 .f32) (B : Vec F S1280 .i32) (lo : Vec F S16 .f32) : St F := upto k X B lo k1_t2_loop.trips

/-! ## The rules -/

section Wp

variable (d : Dev nD) (i : grid1.Coords)

/-- A masked indexed store into the candidates' scores. -/
theorem wp_scatterV {α : Type} {Q : α → P𝕄 F} {idxs : Fin 1 → IVec S16 32} {v : Vec F S16 .f32} {mask : IVec S16 1}
    {h : ∀ a x, (idxs a x).toNat < S128.size a} {hs : (bV.access (.whole S128)).Stores Finset.univ}
    {k : PUnit → TProg (F := F) i α} {f : Vec F S128 .f32} :
    (bV.view.loc (thr d i) ↦{fullShare} f : P𝕄 F)
      ⊢ iprop(((bV.view.loc (thr d i) ↦{fullShare} storeIdx f idxs v mask false h) -∗ wp frame (wpE (defs₀ (F := F)) 𝒱₀ (thr d i) none) Set.univ (k ⟨⟩) Q)
        -∗ wp frame (wpE (defs₀ (F := F)) 𝒱₀ (thr d i) none) Set.univ (SparseCore.vectorStoreIdx bV idxs v mask false h hs >>= k) Q) := by
  have := SparseCore.wp_vectorStoreIdx (defs := defs₀ (F := F)) 𝒱₀ (thr d i) none Set.univ (Q := Q) (base := bV) (idxs := idxs) (v := v) (mask := mask)
    (add := false) (h := h) (hs := hs) (k := k) (f := f)
  have e1 : (bV.access (.whole S128)).set = Finset.univ := Memref.set_access_whole cc1_scratch5
  have e2 : (bV.access (.whole S128)).read (Elt F) f = f := Memref.read_access_whole (Elt F) cc1_scratch5 f
  have e3 : ∀ w : Vec F S128 .f32, (bV.access (.whole S128)).write (Elt F) f w Finset.univ = w := Memref.write_access_whole_univ (Elt F) cc1_scratch5 f
  rw [e1, e2, e3] at this
  exact this

/-- A masked indexed store into the candidates' positions. -/
theorem wp_scatterC {α : Type} {Q : α → P𝕄 F} {idxs : Fin 1 → IVec S16 32} {v : Vec F S16 .i32} {mask : IVec S16 1}
    {h : ∀ a x, (idxs a x).toNat < S128.size a} {hs : (bC.access (.whole S128)).Stores Finset.univ}
    {k : PUnit → TProg (F := F) i α} {f : Vec F S128 .i32} :
    (bC.view.loc (thr d i) ↦{fullShare} f : P𝕄 F)
      ⊢ iprop(((bC.view.loc (thr d i) ↦{fullShare} storeIdx (F := F) (e := .i32) f idxs v mask false h) -∗ wp frame (wpE (defs₀ (F := F)) 𝒱₀ (thr d i) none) Set.univ (k ⟨⟩) Q)
        -∗ wp frame (wpE (defs₀ (F := F)) 𝒱₀ (thr d i) none) Set.univ (SparseCore.vectorStoreIdx bC idxs v mask false h hs >>= k) Q) := by
  have := SparseCore.wp_vectorStoreIdx (defs := defs₀ (F := F)) 𝒱₀ (thr d i) none Set.univ (Q := Q) (base := bC) (idxs := idxs) (v := v) (mask := mask)
    (add := false) (h := h) (hs := hs) (k := k) (f := f)
  have e1 : (bC.access (.whole S128)).set = Finset.univ := Memref.set_access_whole cc1_scratch6
  have e2 : (bC.access (.whole S128)).read (Elt F) f = f := Memref.read_access_whole (Elt F) cc1_scratch6 f
  have e3 : ∀ w : Vec F S128 .i32, (bC.access (.whole S128)).write (Elt F) f w Finset.univ = w := Memref.write_access_whole_univ (Elt F) cc1_scratch6 f
  rw [e1, e2, e3] at this
  exact this

/-- The second chunk's rule. -/
theorem wp_second (lo : Vec F S16 .f32) (t : Fin k1_t2_loop.trips) (n : IVec S16 32) (rb : Vec F S16 .i32) (x y : Vec F S1x16 .f32)
    (v : Vec F S128 .f32) (c : Vec F S128 .i32) :
    iprop((bV.view.loc (thr d i) ↦{fullShare} v) ∗ (bC.view.loc (thr d i) ↦{fullShare} c))
      ⊢ wp frame (wpE (defs₀ (F := F)) 𝒱₀ (thr d i) none) Set.univ (second i lo t n rb x y)
          fun acc => (iprop(⌜acc = k1_pay114 (k1_pay6 n (k1_pay2 lo x)) (k1_pay11 lo y)⌝
            ∗ (bV.view.loc (thr d i) ↦{fullShare} storeIdx v ![k1_pay9 lo n (k1_pay2 lo x) y] (k1_pay7 y) (k1_pay8 lo y) false
                (k1_idx3_inb _ (chk_second lo n (k1_pay2 lo x) y)))
            ∗ (bC.view.loc (thr d i) ↦{fullShare} storeIdx (F := F) (e := .i32) c ![k1_pay9 lo n (k1_pay2 lo x) y] (k1_pay10 lanes (chunkOf t) rb) (k1_pay8 lo y) false
                (k1_idx3_inb _ (chk_second lo n (k1_pay2 lo x) y)))) : P𝕄 F) := by
  unfold second
  iintro ⟨HV, HC⟩
  iapply (wp_assume 𝒱₀ (thr d i) none Set.univ (chk_second lo n _ _))
  iapply (wp_scatterV d i) $$ HV
  iintro HV
  iapply (wp_scatterC d i) $$ HC
  iintro HC
  rw [Prog.pure_eq_ret, wp_ret]
  imodintro
  isplitr; · ipureintro; rfl
  isplitl [HV]; · iexact HV
  iexact HC

/-- The two chunks' rule. -/
theorem wp_first (R : Memref sig .scVector .vmem S128x128 .f32) (fR : Buf (Elt F) (R.view.loc (thr d i)))
    (lo : Vec F S16 .f32) (t : Fin k1_t2_loop.trips) (s : St F) (rb : Vec F S16 .i32) (x y : Vec F S1x16 .f32)
    (hy : yAt (R.view.read (Elt F) fR) t = y) :
    iprop((R.view.loc (thr d i) ↦[R.view.set]{fullShare} fR) ∗ (bV.view.loc (thr d i) ↦{fullShare} s.2.1) ∗ (bC.view.loc (thr d i) ↦{fullShare} s.2.2))
      ⊢ wp frame (wpE (defs₀ (F := F)) 𝒱₀ (thr d i) none) Set.univ (first i R lo t s.1 rb x)
          fun acc => (iprop(⌜acc = (trip lo rb x y t s).1⌝
            ∗ (R.view.loc (thr d i) ↦[R.view.set]{fullShare} fR)
            ∗ (bV.view.loc (thr d i) ↦{fullShare} (trip lo rb x y t s).2.1)
            ∗ (bC.view.loc (thr d i) ↦{fullShare} (trip lo rb x y t s).2.2)) : P𝕄 F) := by
  unfold first
  iintro ⟨HR, HV, HC⟩
  iapply (wp_assume 𝒱₀ (thr d i) none Set.univ (chk_first lo s.1 _))
  iapply (wp_scatterV d i) $$ HV
  iintro HV
  iapply (wp_scatterC d i) $$ HC
  iintro HC
  iapply (wp_load 𝒱₀ (thr d i) none Set.univ (View.setOn_subset_set _ _)) $$ HR
  iintro HR
  rw [show View.readAt (Elt F) R.view (Rect.unit (s := S128x128) (k1_off5 t) S1x16.size (k1_off5_inb t)).toLoadRect fR = y from hy]
  dsimp only [trip]
  iapply (wp_wand_r frame (wpE (defs₀ (F := F)) 𝒱₀ (thr d i) none) Set.univ)
  isplitl [HV HC]
  · iapply (wp_second d i lo t s.1 rb x _ _ _)
    isplitl [HV]; · iexact HV
    iexact HC
  iintro %acc ⟨%hacc, HV, HC⟩
  isplitr; · ipureintro; exact hacc
  isplitl [HR]; · iexact HR
  isplitl [HV]; · iexact HV
  iexact HC

/-- One trip of the collecting loop. -/
theorem wp_trip (k : Fin 10) (R : Memref sig .scVector .vmem S128x128 .f32) (lo : Vec F S16 .f32) (fR : Buf (Elt F) (R.view.loc (thr d i)))
    (B : Vec F S1280 .i32) (t : Fin k1_t2_loop.trips) (s : St F) :
    iprop((bB.view.loc (thr d i) ↦{fullShare} B) ∗ (R.view.loc (thr d i) ↦[R.view.set]{fullShare} fR)
        ∗ (bV.view.loc (thr d i) ↦{fullShare} s.2.1) ∗ (bC.view.loc (thr d i) ↦{fullShare} s.2.2))
      ⊢ wp frame (wpE (defs₀ (F := F)) 𝒱₀ (thr d i) none) Set.univ (mainBody i k R lo t s.1)
          fun acc => (iprop(⌜acc = (trip lo (rbAt k B t) (xAt (R.view.read (Elt F) fR) t) (yAt (R.view.read (Elt F) fR) t) t s).1⌝
            ∗ (bB.view.loc (thr d i) ↦{fullShare} B) ∗ (R.view.loc (thr d i) ↦[R.view.set]{fullShare} fR)
            ∗ (bV.view.loc (thr d i) ↦{fullShare} (trip lo (rbAt k B t) (xAt (R.view.read (Elt F) fR) t) (yAt (R.view.read (Elt F) fR) t) t s).2.1)
            ∗ (bC.view.loc (thr d i) ↦{fullShare} (trip lo (rbAt k B t) (xAt (R.view.read (Elt F) fR) t) (yAt (R.view.read (Elt F) fR) t) t s).2.2)) : P𝕄 F) := by
  unfold mainBody
  iintro ⟨HB, HR, HV, HC⟩
  iapply (wp_load 𝒱₀ (thr d i) none Set.univ (Finset.subset_univ _)) $$ HB
  iintro HB
  iapply (wp_load 𝒱₀ (thr d i) none Set.univ (View.setOn_subset_set _ _)) $$ HR
  iintro HR
  iapply (wp_wand_r frame (wpE (defs₀ (F := F)) 𝒱₀ (thr d i) none) Set.univ)
  isplitl [HR HV HC]
  · iapply (wp_first d i R fR lo t s _ _ _ rfl)
    isplitl [HR]; · iexact HR
    isplitl [HV]; · iexact HV
    iexact HC
  iintro %acc ⟨%hacc, HR, HV, HC⟩
  isplitr; · ipureintro; exact hacc
  isplitl [HB]; · iexact HB
  isplitl [HR]; · iexact HR
  isplitl [HV]; · iexact HV
  iexact HC

end Wp

end Cert.Proof.Tile

end
-- ==== Proof.Compact.lean ====
/-
  The candidates' loop collects: after it, the scores that passed the threshold stand at the head of the candidates, in the
  order in which the loop met them, each with its position, and the rest of the candidates is as the loop found it.
-/
module

public import proofs.«01_k».proof.Proof.Trip
public import Mathlib.Data.Nat.Count

@[expose] public section

namespace Cert.Proof.Tile

open Cert.KernelIdeal Cert.KernelIdeal.Gen
open Idealize.ShloMosaic

/-- Lane `k` of a vector of sixteen. -/
abbrev lane (k : Fin 16) : S16.Idx := Shape.ofLane (d := S16.size) k

/-! ## Running sums -/

/-- A running sum at the first lane is the first entry. -/
theorem scan_zero (v : IVec S16 32) : scan (d := S16.size) .sum v (lane 0) = v (lane 0) := rfl

/-- The lanes after the first and up to the next one are those up to this one, and the next. -/
theorem filter_step : ∀ k : Fin 15, (List.finRange 16).filter (fun l => decide (0 < l.val ∧ l.val ≤ k.val + 1))
    = (List.finRange 16).filter (fun l => decide (0 < l.val ∧ l.val ≤ k.val)) ++ [k.succ] := by decide

/-- A running sum at a lane is that at the lane before it, and the entry. -/
theorem scan_succ (v : IVec S16 32) (k : Fin 15) :
    scan (d := S16.size) .sum v (lane k.succ) = scan (d := S16.size) .sum v (lane k.castSucc) + v (lane k.succ) := by
  have e : scan (d := S16.size) .sum v (lane k.succ)
      = ((List.finRange 16).filter (fun l : Fin 16 => decide (0 < l.val ∧ l.val ≤ k.val + 1))).foldl (fun r l => r + v (lane l)) (v (lane 0)) := rfl
  have e' : scan (d := S16.size) .sum v (lane k.castSucc)
      = ((List.finRange 16).filter (fun l : Fin 16 => decide (0 < l.val ∧ l.val ≤ k.val))).foldl (fun r l => r + v (lane l)) (v (lane 0)) := rfl
  rw [e, e', filter_step, List.foldl_append]
  rfl

section Count

variable (hit : ℕ → Prop) [DecidablePred hit]

/-- The running sum of the marks, from the count before. -/
theorem scan_count (n : ℕ) (v : IVec S16 32) (hv : ∀ k : Fin 16, v (lane k) = if hit (n + k.val) then 1#32 else 0#32) (m : ℕ) (hm : m < 16) :
    BitVec.ofNat 32 (Nat.count hit n) + scan (d := S16.size) .sum v (lane ⟨m, hm⟩) = BitVec.ofNat 32 (Nat.count hit (n + m + 1)) := by
  induction m with
  | zero =>
    rw [show (⟨0, hm⟩ : Fin 16) = 0 from rfl, scan_zero, hv 0, Nat.count_succ]
    show _ + (if hit (n + 0) then _ else _) = BitVec.ofNat 32 (_ + if hit (n + 0) then _ else _)
    split <;> simp [BitVec.ofNat_add]
  | succ m ih =>
    have h := ih (by omega)
    rw [show (⟨m + 1, hm⟩ : Fin 16) = Fin.succ ⟨m, by omega⟩ from rfl, scan_succ, ← BitVec.add_assoc,
      show Fin.castSucc (⟨m, by omega⟩ : Fin 15) = ⟨m, by omega⟩ from rfl, h, hv, Nat.count_succ hit (n + (m + 1))]
    show _ + (if hit (n + (m + 1)) then _ else _) = _
    rw [show n + m + 1 = n + (m + 1) from rfl]
    split <;> simp [BitVec.ofNat_add]

end Count

/-! ## Masked stores -/

section Store

variable {F : FTy → Type} [FloatOps F] {e : EltTy}

/-- One lane of a masked store. -/
def put (idxs : Fin 1 → IVec S16 32) (v : Vec F S16 e) (mask : IVec S16 1) (h : ∀ a x, (idxs a x).toNat < S128.size a)
    (g : Vec F S128 e) (k : Fin 16) : Vec F S128 e :=
  if mask (lane k) = 1 then fun j => if (∀ a, (j a).val = (idxAt idxs h (lane k) a).val) then v (lane k) else g j else g

/-- A masked indexed store is sixteen single stores, lane by lane. -/
theorem storeIdx_eq (f : Vec F S128 e) (idxs : Fin 1 → IVec S16 32) (v : Vec F S16 e) (mask : IVec S16 1) (h : ∀ a x, (idxs a x).toNat < S128.size a) :
    storeIdx (d := S16.size) f idxs v mask false h = (List.finRange 16).foldl (put idxs v mask h) f := by
  unfold storeIdx
  exact congrArg (fun g => List.foldl g f (List.finRange 16)) (by funext g k; unfold put; simp only [Bool.false_eq_true, if_false])

variable {idxs : Fin 1 → IVec S16 32} {v : Vec F S16 e} {mask : IVec S16 1} {h : ∀ a x, (idxs a x).toNat < S128.size a}

/-- A lane that stores puts its value at its index. -/
theorem put_self {g : Vec F S128 e} {k : Fin 16} (hk : mask (lane k) = 1) {j : S128.Idx} (hj : (j 0).val = (idxs 0 (lane k)).toNat) :
    put idxs v mask h g k j = v (lane k) := by
  unfold put
  rw [if_pos hk]
  exact if_pos fun a => by obtain rfl : a = 0 := Fin.eq_zero a; exact hj

/-- A lane's store leaves every other place as it was. -/
theorem put_other {g : Vec F S128 e} {k : Fin 16} {j : S128.Idx} (hj : mask (lane k) = 1 → (idxs 0 (lane k)).toNat ≠ (j 0).val) :
    put idxs v mask h g k j = g j := by
  unfold put
  split
  · exact if_neg fun hall => hj ‹_› (hall 0).symm
  · rfl

/-- A place that no storing lane names is left as it was. -/
theorem puts_other (l : List (Fin 16)) (g : Vec F S128 e) {j : S128.Idx} (hj : ∀ k ∈ l, mask (lane k) = 1 → (idxs 0 (lane k)).toNat ≠ (j 0).val) :
    l.foldl (put idxs v mask h) g j = g j := by
  induction l generalizing g with
  | nil => rfl
  | cons a l ih =>
    rw [List.foldl_cons, ih _ fun k hk => hj k (List.mem_cons_of_mem _ hk)]
    exact put_other (hj a List.mem_cons_self)

/-- Where storing lanes name different places, each place named holds its lane's value. -/
theorem puts_self (l : List (Fin 16)) (hl : l.Pairwise (· < ·))
    (hr : ∀ k k' : Fin 16, k < k' → mask (lane k) = 1 → mask (lane k') = 1 → (idxs 0 (lane k)).toNat ≠ (idxs 0 (lane k')).toNat)
    (g : Vec F S128 e) {k : Fin 16} (hkl : k ∈ l) (hk : mask (lane k) = 1) {j : S128.Idx} (hj : (j 0).val = (idxs 0 (lane k)).toNat) :
    l.foldl (put idxs v mask h) g j = v (lane k) := by
  induction l generalizing g with
  | nil => exact absurd hkl List.not_mem_nil
  | cons a l ih =>
    rw [List.pairwise_cons] at hl
    rw [List.foldl_cons]
    rcases List.mem_cons.1 hkl with rfl | hkl
    · rw [puts_other l _ fun k' hk' hm' => by rw [hj]; exact (hr _ _ (hl.1 k' hk') hk hm').symm]
      exact put_self hk hj
    · exact ih hl.2 _ hkl

end Store

/-! ## The invariant -/

attribute [local irreducible] scan storeIdx

section Inv

variable {F : FTy → Type} [FloatOps F] (hit : ℕ → Prop) [DecidablePred hit] (val : ℕ → F .f32) (idx : ℕ → BitVec 32)

/-- Entry `n` is the next to be met: the count, the candidates so far and the untouched rest. -/
def Inv (n : ℕ) (s : St F) : Prop :=
  (∀ x, s.1 x = BitVec.ofNat 32 (Nat.count hit n))
    ∧ (∀ p, p < n → hit p → ∀ j : S128.Idx, (j 0).val = Nat.count hit p → s.2.1 j = val p ∧ s.2.2 j = idx p)
    ∧ (∀ j : S128.Idx, Nat.count hit n ≤ (j 0).val → s.2.1 j = Scalar.ofBits .f32 0xC0400000#32)

/-- Before the first entry nothing has been collected. -/
theorem inv_start : Inv hit val idx 0 (start : St F) :=
  ⟨fun _ => by rw [Nat.count_zero]; rfl, fun p hp => absurd hp (Nat.not_lt_zero p), fun _ _ => rfl⟩

/-- Where the marked lanes of a chunk go. -/
def places (cnt : IVec S16 32) (mask : IVec S16 1) : IVec S16 32 :=
  maxsi (minsi (subi (addi cnt (scan (d := S16.size) .sum (extui 32 mask natLt_1_32))) (broadcast S16 1#32)) (broadcast S16 127#32)) (broadcast S16 0#32)

/-- The count after a chunk. -/
def counted (cnt : IVec S16 32) (mask : IVec S16 1) : IVec S16 32 :=
  addi cnt (broadcast S16 (extractAt ![15] (scan (d := S16.size) .sum (extui 32 mask natLt_1_32)) inpos_S16_p15))

/-- A position inside the list is not changed by clamping. -/
theorem clamp_of_le (c : ℕ) (hc : c ≤ 127) : (IntOp.maxsi (IntOp.minsi (BitVec.ofNat 32 c) 127#32) 0#32).toNat = c := by
  revert hc
  have : ∀ c : Fin 128, (IntOp.maxsi (IntOp.minsi (BitVec.ofNat 32 c.val) 127#32) 0#32).toNat = c.val := by decide +kernel
  exact fun hc => this ⟨c, by omega⟩

variable {hit val idx}

/-- One chunk of sixteen entries. -/
theorem inv_chunk {n : ℕ} {s : St F} (hs : Inv hit val idx n s) (hcap : Nat.count hit (n + 16) ≤ 128) {v : Vec F S16 .f32} {w : Vec F S16 .i32}
    {mask : IVec S16 1} (hm : ∀ k : Fin 16, mask (lane k) = if hit (n + k.val) then 1#1 else 0#1)
    (hv : ∀ k : Fin 16, v (lane k) = val (n + k.val)) (hw : ∀ k : Fin 16, w (lane k) = idx (n + k.val))
    (h : ∀ a x, ((![places s.1 mask] : Fin 1 → IVec S16 32) a x).toNat < S128.size a) :
    Inv hit val idx (n + 16) (counted s.1 mask, storeIdx (d := S16.size) s.2.1 ![places s.1 mask] v mask false h,
      storeIdx (F := F) (e := .i32) (d := S16.size) s.2.2 ![places s.1 mask] w mask false h) := by
  obtain ⟨h₁, h₂, h₃⟩ := hs
  have hx : ∀ k : Fin 16, extui 32 mask natLt_1_32 (lane k) = if hit (n + k.val) then 1#32 else 0#32 := by
    intro k
    show (mask (lane k)).setWidth 32 = _
    rw [hm k]
    split <;> rfl
  have hcount : ∀ k : Fin 16, BitVec.ofNat 32 (Nat.count hit n) + scan (d := S16.size) .sum (extui 32 mask natLt_1_32) (lane k)
      = BitVec.ofNat 32 (Nat.count hit (n + k.val + 1)) := fun k => scan_count hit n _ hx k.val k.isLt
  have hon : ∀ k : Fin 16, mask (lane k) = 1 ↔ hit (n + k.val) := by
    intro k
    rw [hm k]
    split <;> simp_all
  have hplace : ∀ k : Fin 16, hit (n + k.val) → ((![places s.1 mask] : Fin 1 → IVec S16 32) 0 (lane k)).toNat = Nat.count hit (n + k.val) := by
    intro k hk
    have e : places s.1 mask (lane k) = IntOp.maxsi (IntOp.minsi (BitVec.ofNat 32 (Nat.count hit (n + k.val + 1)) - 1#32) 127#32) 0#32 := by
      rw [← hcount k, ← h₁ (lane k)]; rfl
    have hle : Nat.count hit (n + k.val + 1) ≤ 128 := (Nat.count_monotone hit (by have := k.isLt; omega)).trans hcap
    rw [Nat.count_succ, if_pos hk] at hle e
    rw [show (Nat.count hit (n + k.val) + 1) = Nat.count hit (n + k.val) + 1 from rfl, BitVec.ofNat_add, BitVec.add_sub_cancel] at e
    show (places s.1 mask (lane k)).toNat = _
    rw [e]
    exact clamp_of_le _ (by omega)
  have hdist : ∀ k k' : Fin 16, k < k' → mask (lane k) = 1 → mask (lane k') = 1 →
      ((![places s.1 mask] : Fin 1 → IVec S16 32) 0 (lane k)).toNat ≠ ((![places s.1 mask] : Fin 1 → IVec S16 32) 0 (lane k')).toNat := by
    intro k k' hkk hk hk'
    rw [hplace k ((hon k).1 hk), hplace k' ((hon k').1 hk')]
    exact (Nat.count_strict_mono ((hon k).1 hk) (by have : k.val < k'.val := hkk; omega)).ne
  refine ⟨fun x => ?_, fun p hp hhit j hj => ?_, fun j hj => ?_⟩
  · have e : counted s.1 mask x = s.1 x + scan (d := S16.size) .sum (extui 32 mask natLt_1_32) (lane 15) := by
      unfold counted
      refine congrArg (fun i => s.1 x + scan (d := S16.size) .sum (extui 32 mask natLt_1_32) i) (funext fun a => ?_)
      obtain rfl : a = 0 := Fin.eq_zero a
      rfl
    exact (e.trans (congrArg (· + _) (h₁ x))).trans (hcount 15)
  · dsimp only
    rw [storeIdx_eq, storeIdx_eq]
    by_cases hpn : p < n
    · have hno : ∀ k ∈ List.finRange 16, mask (lane k) = 1 → ((![places s.1 mask] : Fin 1 → IVec S16 32) 0 (lane k)).toNat ≠ (j 0).val := by
        intro k _ hk
        rw [hplace k ((hon k).1 hk), hj]
        exact (Nat.count_strict_mono hhit (by omega)).ne'
      rw [puts_other _ _ hno, puts_other _ _ hno]
      exact h₂ p hpn hhit j hj
    · obtain ⟨k, rfl⟩ : ∃ k : Fin 16, p = n + k.val := ⟨⟨p - n, by omega⟩, by show p = n + (p - n); omega⟩
      have hj' := hj.trans (hplace k hhit).symm
      rw [puts_self _ (List.pairwise_lt_finRange 16) hdist _ (List.mem_finRange k) ((hon k).2 hhit) hj',
        puts_self _ (List.pairwise_lt_finRange 16) hdist _ (List.mem_finRange k) ((hon k).2 hhit) hj']
      exact ⟨hv k, hw k⟩
  · have hle : Nat.count hit n ≤ Nat.count hit (n + 16) := Nat.count_monotone hit (by omega)
    show storeIdx (d := S16.size) s.2.1 ![places s.1 mask] v mask false h j = _
    rw [storeIdx_eq, puts_other]
    · exact h₃ j (hle.trans hj)
    · intro k _ hk
      rw [hplace k ((hon k).1 hk)]
      have h' : Nat.count hit (n + k.val) < Nat.count hit (n + 16) := Nat.count_strict_mono ((hon k).1 hk) (by have := k.isLt; omega)
      omega

/-- One trip: two chunks. -/
theorem inv_trip {n : ℕ} {s : St F} (hs : Inv hit val idx n s) (hcap : Nat.count hit (n + 32) ≤ 128) (lo : Vec F S16 .f32) (rb : Vec F S16 .i32)
    (x y : Vec F S1x16 .f32) (t : Fin k1_t2_loop.trips)
    (hmx : ∀ k : Fin 16, k1_pay2 lo x (lane k) = if hit (n + k.val) then 1#1 else 0#1)
    (hmy : ∀ k : Fin 16, k1_pay8 lo y (lane k) = if hit (n + 16 + k.val) then 1#1 else 0#1)
    (hvx : ∀ k : Fin 16, k1_pay1 x (lane k) = val (n + k.val)) (hvy : ∀ k : Fin 16, k1_pay7 y (lane k) = val (n + 16 + k.val))
    (hwx : ∀ k : Fin 16, k1_pay5 lanes (chunkOf t) rb (lane k) = idx (n + k.val))
    (hwy : ∀ k : Fin 16, k1_pay10 lanes (chunkOf t) rb (lane k) = idx (n + 16 + k.val)) :
    Inv hit val idx (n + 32) (trip lo rb x y t s) :=
  inv_chunk (inv_chunk hs ((Nat.count_monotone hit (by omega)).trans hcap) hmx hvx hwx (k1_idx1_inb _ (chk_first lo s.1 x)))
    hcap hmy hvy hwy (k1_idx3_inb _ (chk_second lo s.1 (k1_pay2 lo x) y))

end Inv

end Cert.Proof.Tile
-- ==== Proof.Loops.lean ====
/-
  The two loops of a round: clearing the candidates, and collecting them.
-/
module

public import proofs.«01_k».proof.Proof.Trip

@[expose] public section

noncomputable section

namespace Cert.Proof.Tile

open Cert.KernelIdeal Cert.KernelIdeal.Gen Cert.Proof
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## Clearing -/

/-- Where a trip of the clearing loop stores. -/
theorem off2_zero : ∀ t : Fin k1_t1_loop.trips, k1_off2 t 0 = 16 * t.val := by decide +kernel

/-- The sixteen places that a trip of the clearing loop stores to. -/
abbrev rect2 (t : Fin k1_t1_loop.trips) : Rect S128 := Rect.unit (s := S128) (k1_off2 t) S16.size (k1_off2_inb t)

/-- A constant stored over the trip's sixteen places extends the part that holds it. -/
theorem fill_write {κ : Kind} {sp : Space} {e : EltTy} (v : View sig κ sp S128 e) (c : Elt F e) (t : Fin k1_t1_loop.trips)
    (f : v.ty.Contents (Elt F)) (h : ∀ x : S128.Idx, (x 0).val < 16 * t.val → v.read (Elt F) f x = c)
    (x : S128.Idx) (hx : (x 0).val < 16 * (t.val + 1)) :
    v.read (Elt F) ((v.slice (rect2 t)).write (Elt F) f (fun _ => c) Finset.univ) x = c := by
  by_cases hm : x ∈ Finset.univ.map (rect2 t).emb
  · obtain ⟨y, -, rfl⟩ := Finset.mem_map.mp hm
    exact View.read_slice_write_emb (v := v) (rect2 t) f (fun _ => c) (Finset.mem_univ y)
  · rw [View.read_slice_write_of_not_mem (v := v) (rect2 t) f _ _ hm]
    refine h x ?_
    by_contra hlt
    refine hm (Finset.mem_map.mpr ⟨fun a => ⟨(x 0).val - 16 * t.val, ?_⟩, Finset.mem_univ _, funext fun a => Fin.ext ?_⟩)
    · obtain rfl : a = (0 : Fin 1) := Subsingleton.elim (α := Fin 1) _ _
      show (x 0).val - 16 * t.val < 16; omega
    · obtain rfl : a = 0 := Subsingleton.elim _ _
      show k1_off2 t 0 + 1 * ((x 0).val - 16 * t.val) = (x 0).val
      rw [off2_zero]; omega

section Wp

variable (d : Dev nD) (i : grid1.Coords)

/-- The pad of the scores. -/
abbrev padV : F .f32 := Scalar.ofBits .f32 0xC0400000#32

/-- The clearing loop before trip `n`. -/
def fillInv (n : ℕ) (_ : BitVec 32) : P𝕄 F :=
  iprop((∃ v : Vec F S128 .f32, ⌜∀ x : S128.Idx, (x 0).val < 16 * n → v x = padV⌝ ∗ (bV.view.loc (thr d i) ↦{fullShare} v))
    ∗ (∃ c : Vec F S128 .i32, ⌜∀ x : S128.Idx, (x 0).val < 16 * n → c x = 0#32⌝ ∗ (bC.view.loc (thr d i) ↦{fullShare} c)))

/-- One trip of the clearing loop keeps its invariant. -/
theorem fill_trip (t : Fin k1_t1_loop.trips) (acc : BitVec 32) :
    fillInv (F := F) d i t.val acc
      ⊢ wp frame (wpE (defs₀ (F := F)) 𝒱₀ (thr d i) none) Set.univ (fillBody i t acc) (fillInv d i (t.val + 1)) := by
  unfold fillInv fillBody
  iintro ⟨⟨%v, %hv, HV⟩, ⟨%c, %hc, HC⟩⟩
  sl_exec
  sl_step
  isplitl [HV]
  · iexists _
    isplitr; rotate_left; · iexact HV
    ipureintro
    exact fill_write bV.view padV t v hv
  · iexists _
    isplitr; rotate_left; · iexact HC
    ipureintro
    exact fill_write (F := F) (e := .i32) bC.view 0#32 t c hc

/-- The clearing loop: every score the pad, every position zero. -/
theorem wp_fill {α : Type} {Q : α → P𝕄 F} {kk : BitVec 32 → TProg (F := F) i α} (v : Vec F S128 .f32) (c : Vec F S128 .i32) :
    iprop((bV.view.loc (thr d i) ↦{fullShare} v) ∗ (bC.view.loc (thr d i) ↦{fullShare} c))
      ⊢ iprop((∀ acc, ((bV.view.loc (thr d i) ↦{fullShare} (start (F := F)).2.1) ∗ (bC.view.loc (thr d i) ↦{fullShare} (start (F := F)).2.2))
            -∗ wp frame (wpE (defs₀ (F := F)) 𝒱₀ (thr d i) none) Set.univ (kk acc) Q)
          -∗ wp frame (wpE (defs₀ (F := F)) 𝒱₀ (thr d i) none) Set.univ (Scf.Loop.for k1_t1_loop k1_t1_ok 0#32 (fillBody i) >>= kk) Q) := by
  iintro ⟨HV, HC⟩ HK
  iapply (Scf.wp_for_bind frame (wpE (defs₀ (F := F)) 𝒱₀ (thr d i) none) Set.univ _ _ _ k1_t1_ok 0#32 (fillBody i) (fillInv d i) (fill_trip d i)) $$ [HV HC]
  · unfold fillInv
    isplitl [HV]
    · iexists v; isplitr; · ipureintro; intro x hx; exact absurd hx (by omega)
      iexact HV
    · iexists c; isplitr; · ipureintro; intro x hx; exact absurd hx (by omega)
      iexact HC
  · iintro %acc HI
    unfold fillInv
    icases HI with ⟨⟨%v, %hv, HV⟩, ⟨%c, %hc, HC⟩⟩
    have ev : v = (start (F := F)).2.1 := funext fun x => hv x (x 0).isLt
    have ec : c = (start (F := F)).2.2 := funext fun x => hc x (x 0).isLt
    rw [ev, ec]
    iapply HK
    isplitl [HV]; · iexact HV
    iexact HC

/-! ## Collecting -/

variable (k : Fin 10) (R : Memref sig .scVector .vmem S128x128 .f32) (lo : Vec F S16 .f32) (X : Vec F S128x128 .f32) (B : Vec F S1280 .i32)

/-- The row buffer with the contents `X`. -/
abbrev holds (R : Memref sig .scVector .vmem S128x128 .f32) (X : Vec F S128x128 .f32) : P𝕄 F :=
  iprop(∃ f, ⌜R.view.read (Elt F) f = X⌝ ∗ (R.view.loc (thr d i) ↦[R.view.set]{fullShare} f))

/-- The collecting loop before trip `n`. -/
def mainInv (n : ℕ) (acc : IVec S16 32) : P𝕄 F :=
  iprop(⌜acc = (upto k X B lo n).1⌝ ∗ (bB.view.loc (thr d i) ↦{fullShare} B) ∗ holds d i R X
    ∗ (bV.view.loc (thr d i) ↦{fullShare} (upto k X B lo n).2.1) ∗ (bC.view.loc (thr d i) ↦{fullShare} (upto k X B lo n).2.2))

/-- One trip of the collecting loop keeps its invariant. -/
theorem main_trip (t : Fin k1_t2_loop.trips) (acc : IVec S16 32) :
    mainInv d i k R lo X B t.val acc
      ⊢ wp frame (wpE (defs₀ (F := F)) 𝒱₀ (thr d i) none) Set.univ (mainBody i k R lo t acc) (mainInv d i k R lo X B (t.val + 1)) := by
  unfold mainInv
  rw [upto_succ]
  iintro ⟨%hacc, HB, ⟨%fR, %hR, HR⟩, HV, HC⟩
  subst hacc; subst hR
  iapply (wp_wand_r frame (wpE (defs₀ (F := F)) 𝒱₀ (thr d i) none) Set.univ)
  isplitl [HB HR HV HC]
  · iapply (wp_trip d i k R lo fR B t _)
    isplitl [HB]; · iexact HB
    isplitl [HR]; · iexact HR
    isplitl [HV]; · iexact HV
    iexact HC
  iintro %acc ⟨%hacc, HB, HR, HV, HC⟩
  isplitr; · ipureintro; exact hacc
  isplitl [HB]; · iexact HB
  isplitl [HR]
  · iexists fR; isplitr; · ipureintro; rfl
    iexact HR
  isplitl [HV]; · iexact HV
  iexact HC

/-- The collecting loop, from cleared candidates. -/
theorem wp_collect {α : Type} {Q : α → P𝕄 F} {kk : IVec S16 32 → TProg (F := F) i α} :
    iprop((bB.view.loc (thr d i) ↦{fullShare} B) ∗ holds d i R X
        ∗ (bV.view.loc (thr d i) ↦{fullShare} (start (F := F)).2.1) ∗ (bC.view.loc (thr d i) ↦{fullShare} (start (F := F)).2.2))
      ⊢ iprop((∀ acc, ((bB.view.loc (thr d i) ↦{fullShare} B) ∗ holds d i R X
              ∗ (bV.view.loc (thr d i) ↦{fullShare} (final k X B lo).2.1) ∗ (bC.view.loc (thr d i) ↦{fullShare} (final k X B lo).2.2))
            -∗ wp frame (wpE (defs₀ (F := F)) 𝒱₀ (thr d i) none) Set.univ (kk acc) Q)
          -∗ wp frame (wpE (defs₀ (F := F)) 𝒱₀ (thr d i) none) Set.univ (Scf.Loop.for k1_t2_loop k1_t2_ok k1_pay113 (mainBody i k R lo) >>= kk) Q) := by
  iintro ⟨HB, HR, HV, HC⟩ HK
  iapply (Scf.wp_for_bind frame (wpE (defs₀ (F := F)) 𝒱₀ (thr d i) none) Set.univ _ _ _ k1_t2_ok k1_pay113 (mainBody i k R lo)
    (mainInv d i k R lo X B) (main_trip d i k R lo X B)) $$ [HB HR HV HC]
  · unfold mainInv
    isplitr; · ipureintro; rfl
    isplitl [HB]; · iexact HB
    isplitl [HR]; · iexact HR
    isplitl [HV]; · iexact HV
    iexact HC
  · iintro %acc HI
    unfold mainInv
    icases HI with ⟨-, HB, HR, HV, HC⟩
    iapply HK
    isplitl [HB]; · iexact HB
    isplitl [HR]; · iexact HR
    isplitl [HV]; · iexact HV
    iexact HC

end Wp

end Cert.Proof.Tile

end
-- ==== Proof.Rounds.lean ====
/-
  A round of the vector subcore, and all ten: what the images' blocks of the two outputs hold at the end.
-/
module

public import proofs.«01_k».proof.Proof.Loops
public import Idealize.ShloMosaic.Lib.SparseCore.ProtocolKit

@[expose] public section

noncomputable section

namespace Cert.Proof.Tile

open Cert.KernelIdeal Cert.KernelIdeal.Gen Cert.Proof
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## What a gather fetches -/

/-- The rows of the table `T` that image `k`'s part of the list `L` names. -/
def fetched (T : Vec F S327680x128 .f32) (L : Vec F S1280 .i32) (hL : ∀ x, (L x).toNat < 327680) (k : ℕ) (hk : k < 10) : Vec F S128x128 .f32 :=
  SparseCore.gatherPayload (F := F) gathers_S327680x128_S128x128 (tabM.view.read (Elt F) T)
    (SparseCore.rows (F := F) ((listM k hk).view.read (Elt F) L) rfl (fun x => hL _))

/-- The threshold of image `k`, in every lane. -/
def loAt (P : Vec F S160 .f32) (k : ℕ) (hk : k < 10) : Vec F S16 .f32 :=
  fun j => P ((Rect.unit (s := S160) ![16 * k] S16.size (loOff_inb k hk)).toLoadRect.idx j)

/-- A row buffer whose rows' transfers count as much as the whole. -/
abbrev Fits (R : Memref sig .scVector .vmem S128x128 .f32) : Prop :=
  ∀ h : S327680x128.Gathers 0 S128x128, ∑ j, (R.slice (S128x128.rowRect h.axis' j) (S128x128.stride_rowRect h.axis' j)).view.dmaCredit = R.view.dmaCredit

section Wp

variable (d : Dev nD) (i : grid1.Coords) (O : CellTallies nD τ sig (HIx 1)) (W : Waits sig (HIx 1))
variable (T : Vec F S327680x128 .f32) (L : Vec F S1280 .i32) (hL : ∀ x, (L x).toNat < 327680) (B : Vec F S1280 .i32) (P : Vec F S160 .f32)

/-- What the thread owes, its waits so far being those it came with or of no launch. -/
abbrev owesW : P𝕄 F := iprop(∃ W', ⌜∀ p ∈ W', p ∈ W ∨ p.2 = none⌝ ∗ owes (thr d i) O W')

/-- A semaphore of the subcore at zero. -/
abbrev zero (s : DmaSems sig S_) : P𝕄 F := semVal (thr d i, SemLoc.dma s.sem) 0

/-- A share of the table. -/
abbrev tab (q : PosShare TreeShare) : P𝕄 F := tabM.view.loc (thr d i) ↦[tabM.view.set]{q} T
/-- A share of the list. -/
abbrev lst (q : PosShare TreeShare) : P𝕄 F := bL.view.loc (thr d i) ↦{q} L

/-- Some contents of a row buffer. -/
abbrev anyRow (R : Memref sig .scVector .vmem S128x128 .f32) : P𝕄 F := iprop(∃ f, (R.view.loc (thr d i) ↦[R.view.set]{fullShare} f))

/-- The gather of image `k` into `R` under way, counted on `s`, with the shares `q` of the table and `qo` of the list. -/
def flying (R : Memref sig .scVector .vmem S128x128 .f32) (s : DmaSems sig S_) (q qo : PosShare TreeShare) (k : ℕ) (hk : k < 10) : P𝕄 F :=
  iprop(∃ fd, Transfers.Flight countersEmb (thr d i) (.dma s.sem) (default : HIx 1) R.view.dmaCredit
      (iprop((R.view.loc (thr d i) ↦[R.view.set]{fullShare} (R.view.write (Elt F) fd (fetched T L hL k hk) Finset.univ))
        ∗ tab d i T q ∗ ((listM k hk).view.loc (thr d i) ↦[(listM k hk).view.set]{qo} L)) : P𝕄 F)
    ∗ (bL.view.loc (thr d i) ↦[Finset.univ \ (listM k hk).view.set]{qo} L))

/-- Issuing the gather of an image's rows. -/
theorem wp_gath {α : Type} {Q : α → P𝕄 F} {kk : PUnit → TProg (F := F) i α} (k : ℕ) (hk : k < 10) (R : Memref sig .scVector .vmem S128x128 .f32)
    (hN : Fits R) (s : DmaSems sig S_) (q qo : PosShare TreeShare) :
    iprop(tab d i T q ∗ anyRow d i R ∗ lst d i L qo ∗ zero d i s)
      ⊢ iprop((flying d i T L hL R s q qo k hk -∗ wp frame (wpE (defs₀ (F := F)) 𝒱₀ (thr d i) none) Set.univ (kk ⟨⟩) Q)
          -∗ wp frame (wpE (defs₀ (F := F)) 𝒱₀ (thr d i) none) Set.univ (gath i k hk R s >>= kk) Q) := by
  unfold gath flying
  have hin : ∀ x, ((listM k hk).view.read (Elt F) L x).toNat < 327680 := fun x => hL _
  iintro ⟨HT, ⟨%fd, HR⟩, HL, Hs⟩ HK
  ihave HL' := (pointsTo_split_subset (q := qo) (f := L) (S := Finset.univ) (Finset.subset_univ (listM k hk).view.set)).1 $$ HL
  icases HL' with ⟨HL, HLr⟩
  iapply (SparseCore.wp_indirectGatherLocal countersEmb 𝒱₀ (thr d i) none (hg := gathers_S327680x128_S128x128) (default : HIx 1)
      R.view.dmaCredit (hN _) (by decide) hin) $$ [HT HR HL Hs]
  · isplitl [HT]; · iexact HT
    isplitl [HR]; · iexact HR
    isplitl [HL]; · iexact HL
    iexact Hs
  iintro Hfl
  iapply HK
  iexists fd
  isplitl [Hfl]; · iexact Hfl
  iexact HLr

/-- Waiting for an image's rows and reading its threshold. -/
theorem wp_arrive {α : Type} {Q : α → P𝕄 F} {kk : Vec F S16 .f32 → TProg (F := F) i α} (hO : ∀ g, O g none = 0) (k : ℕ) (hk : k < 10)
    (R : Memref sig .scVector .vmem S128x128 .f32) (hR : R.view.WordExact) (s : DmaSems sig S_) (q qo : PosShare TreeShare) :
    iprop(levAts (K (F := F)).L (K (F := F)).lev ∗ flying d i T L hL R s q qo k hk ∗ owesW d i O W ∗ (bP.view.loc (thr d i) ↦{fullShare} P))
      ⊢ iprop((iprop(holds d i R (fetched T L hL k hk) ∗ tab d i T q ∗ lst d i L qo ∗ zero d i s ∗ owesW d i O W ∗ (bP.view.loc (thr d i) ↦{fullShare} P))
            -∗ wp frame (wpE (defs₀ (F := F)) 𝒱₀ (thr d i) none) Set.univ (kk (loAt P k hk)) Q)
          -∗ wp frame (wpE (defs₀ (F := F)) 𝒱₀ (thr d i) none) Set.univ (arrive i k hk R hR s >>= kk) Q) := by
  unfold arrive flying
  iintro ⟨#Hlv, ⟨%fd, Hfl, HLr⟩, ⟨%W', %hW', HO⟩, HP⟩ HK
  ihave Hmw := (show levAts (K (F := F)).L (K (F := F)).lev ⊢ Transfers.MayWaits (thr d i) (default : HIx 1) O from
    (K (F := F)).mayWaits_none (thr := thr d i) hO) $$ Hlv
  iapply (Transfers.wp_waitLocalO countersEmb 𝒱₀ (thr d i) none (default : HIx 1) (rfl : R.view.dmaCredit = _)) $$ [Hfl HO Hmw]
  · isplitl [Hfl]; · iexact Hfl
    isplitl [HO]; · iexact HO
    iapply (Transfers.MayWaits.elim (SemLoc.dma s.sem)) $$ Hmw
  iintro ⟨⟨HR, HT, HL⟩, Hs, HO⟩
  ihave HL' := (show iprop(((listM k hk).view.loc (thr d i) ↦[(listM k hk).view.set]{qo} L) ∗ (bL.view.loc (thr d i) ↦[Finset.univ \ (listM k hk).view.set]{qo} L))
      ⊢ lst d i L qo from (pointsTo_split_subset (Finset.subset_univ _)).2) $$ [HL HLr]
  · isplitl [HL] <;> iassumption
  iapply (wp_load 𝒱₀ (thr d i) none Set.univ (Finset.subset_univ _)) $$ HP
  iintro HP
  iapply HK
  isplitl [HR]
  · iexists _; isplitr; rotate_left; · iexact HR
    ipureintro; exact View.read_write_univ _ _
  isplitl [HT]; · iexact HT
  isplitl [HL']; · iexact HL'
  isplitl [Hs]; · iexact Hs
  isplitl [HO]
  · iexists (insert (SemLoc.dma s.sem, (default : HIx 1)) W'); isplitr
    · ipureintro; intro p hp
      rcases Finset.mem_insert.mp hp with hp | hp
      · exact .inr (hp ▸ rfl)
      · exact hW' p hp
    · iexact HO
  iexact HP

/-- A block of the kept scores, of any contents. -/
abbrev anyV (k : Fin 10) : P𝕄 F := iprop(∃ g, ((outV k i).view.loc (thr d i) ↦[(outV k i).view.set]{fullShare} g))
/-- An image's block of places, with whatever it holds. -/
abbrev anyC (k : Fin 10) : P𝕄 F := iprop(∃ g, ((outC k i).view.loc (thr d i) ↦[(outC k i).view.set]{fullShare} g))
/-- A block of the kept scores holding `v`. -/
abbrev isV (k : Fin 10) (v : Vec F S128 .f32) : P𝕄 F :=
  iprop(∃ g, ⌜(outV k i).view.read (Elt F) g = v⌝ ∗ ((outV k i).view.loc (thr d i) ↦[(outV k i).view.set]{fullShare} g))
/-- An image's block of places, holding a given list. -/
abbrev isC (k : Fin 10) (c : Vec F S128 .i32) : P𝕄 F :=
  iprop(∃ g, ⌜(outC k i).view.read (Elt F) g = c⌝ ∗ ((outC k i).view.loc (thr d i) ↦[(outC k i).view.set]{fullShare} g))

/-- The candidates' buffers. -/
abbrev anyCand : P𝕄 F := iprop((∃ v, (bV.view.loc (thr d i) ↦{fullShare} v)) ∗ (∃ c, (bC.view.loc (thr d i) ↦{fullShare} c)))

/-- One store over a whole view leaves its payload. -/
theorem read_writes_whole {κ : Kind} {sp : Space} {s : Shape} {e : EltTy} (v : View sig κ sp s e) (f : v.ty.Contents (Elt F)) (w : s.Idx → Elt F e) :
    v.read (Elt F) (v.writes (Elt F) f [⟨Rect.whole s, w⟩]) = w :=
  funext fun x => View.read_writes_cons_hit_of_coords v f (Rect.whole s) w [] x x
    (fun a => show (x a).val = 0 + 1 * (x a).val by omega)

/-- The core of a round. -/
theorem wp_core {α : Type} {Q : α → P𝕄 F} {kk : PUnit → TProg (F := F) i α} (hO : ∀ g, O g none = 0) (k : Fin 10)
    (R : Memref sig .scVector .vmem S128x128 .f32) (s s' : DmaSems sig S_) (lo : Vec F S16 .f32) (X : Vec F S128x128 .f32) :
    iprop(levAts (K (F := F)).L (K (F := F)).lev ∗ anyCand d i ∗ (bB.view.loc (thr d i) ↦{fullShare} B) ∗ holds d i R X ∗ owesW d i O W
        ∗ anyV d i k ∗ anyC d i k ∗ zero d i s ∗ zero d i s')
      ⊢ iprop((iprop(anyCand d i ∗ (bB.view.loc (thr d i) ↦{fullShare} B) ∗ holds d i R X ∗ owesW d i O W
              ∗ isV d i k (final k X B lo).2.1 ∗ isC d i k (final k X B lo).2.2 ∗ zero d i s ∗ zero d i s')
            -∗ wp frame (wpE (defs₀ (F := F)) 𝒱₀ (thr d i) none) Set.univ (kk ⟨⟩) Q)
          -∗ wp frame (wpE (defs₀ (F := F)) 𝒱₀ (thr d i) none) Set.univ (core i k R s s' lo >>= kk) Q) := by
  unfold core
  simp only [Prog.bind_assoc]
  iintro ⟨#Hlv, ⟨⟨%v, HV⟩, ⟨%c, HC⟩⟩, HB, HR, ⟨%W', %hW', HO⟩, ⟨%gv, Hgv⟩, ⟨%gc, Hgc⟩, Hs, Hs'⟩ HK
  ihave Hmw := (show levAts (K (F := F)).L (K (F := F)).lev ⊢ Transfers.MayWaits (thr d i) (default : HIx 1) O from
    (K (F := F)).mayWaits_none (thr := thr d i) hO) $$ Hlv
  iapply (wp_fill d i v c) $$ [HV HC]
  · isplitl [HV] <;> iassumption
  iintro %_ ⟨HV, HC⟩
  iapply (wp_collect d i k R lo X B) $$ [HB HR HV HC]
  · isplitl [HB]; · iexact HB
    isplitl [HR]; · iexact HR
    isplitl [HV]; · iexact HV
    iexact HC
  iintro %_ ⟨HB, HR, HV, HC⟩
  generalize (final k X B lo).2.1 = fv
  generalize (final k X B lo).2.2 = fc
  sl_exec (disch := exact View.amount_pos _ _ (show 0 < S128.numel by decide))
  have eV : (outV k i).view.read (Elt F) ((outV k i).view.writes (Elt F) gv [⟨Rect.whole S128, wp_core.sl.dma0 fv⟩]) = fv := read_writes_whole _ _ _
  have eC : (outC k i).view.read (Elt F) ((outC k i).view.writes (Elt F) gc [⟨Rect.whole S128, wp_core.sl.dma0_1 fc⟩]) = fc := read_writes_whole _ _ _
  generalize (outV k i).view.writes (Elt F) gv [⟨Rect.whole S128, wp_core.sl.dma0 fv⟩] = gv' at eV
  generalize (outC k i).view.writes (Elt F) gc [⟨Rect.whole S128, wp_core.sl.dma0_1 fc⟩] = gc' at eC
  iapply HK
  isplitl [HV HC]
  · isplitl [HV]
    · iexists _; iexact HV
    · iexists _; iexact HC
  isplitl [HB]; · iexact HB
  isplitl [HR]; · iexact HR
  isplitl [HO]
  · iexists _; isplitr; rotate_left; · iexact HO
    ipureintro; intro p hp
    rcases Finset.mem_insert.mp hp with hp | hp; · exact .inr (hp ▸ rfl)
    rcases Finset.mem_insert.mp hp with hp | hp; · exact .inr (hp ▸ rfl)
    exact hW' p hp
  isplitl [Hgv]
  · iexists gv'; isplitr; · ipureintro; exact eV
    iexact Hgv
  isplitl [Hgc]
  · iexists gc'; isplitr; · ipureintro; exact eC
    iexact Hgc
  isplitl [Hs]; · iexact Hs
  iexact Hs'

/-! ## All the rounds -/

/-- The candidates of image `k` kept by this subcore: their scores and positions. -/
def kept (k : Fin 10) : St F := final k (fetched T L hL k.val k.isLt) B (loAt P k.val k.isLt)

/-- Image `k`'s blocks and semaphores before its round. -/
def todo (k : Fin 10) : P𝕄 F := iprop(anyV d i k ∗ anyC d i k ∗ zero d i (semV k) ∗ zero d i (semC k))
/-- Image `k`'s blocks and semaphores after its round. -/
def done (k : Fin 10) : P𝕄 F :=
  iprop(isV d i k (kept T L hL B P k).2.1 ∗ isC d i k (kept T L hL B P k).2.2 ∗ zero d i (semV k) ∗ zero d i (semC k))

/-- What every round reads. -/
abbrev common : P𝕄 F :=
  iprop(anyCand d i ∗ (bB.view.loc (thr d i) ↦{fullShare} B) ∗ (bP.view.loc (thr d i) ↦{fullShare} P) ∗ owesW d i O W)

/-- One image's round but for the gathers. -/
theorem wp_image {α : Type} {Q : α → P𝕄 F} {kk : PUnit → TProg (F := F) i α} (hO : ∀ g, O g none = 0) (k : Fin 10)
    (R : Memref sig .scVector .vmem S128x128 .f32) :
    iprop(levAts (K (F := F)).L (K (F := F)).lev ∗ common d i O W B P ∗ holds d i R (fetched T L hL k.val k.isLt) ∗ todo d i k)
      ⊢ iprop((iprop(common d i O W B P ∗ anyRow d i R ∗ done d i T L hL B P k)
            -∗ wp frame (wpE (defs₀ (F := F)) 𝒱₀ (thr d i) none) Set.univ (kk ⟨⟩) Q)
          -∗ wp frame (wpE (defs₀ (F := F)) 𝒱₀ (thr d i) none) Set.univ (core i k R (semV k) (semC k) (loAt P k.val k.isLt) >>= kk) Q) := by
  unfold todo done kept
  iintro ⟨#Hlv, ⟨Hc, HB, HP, HO⟩, HR, ⟨Hv, Hi, Hs, Hs'⟩⟩ HK
  iapply (wp_core d i O W B hO k R (semV k) (semC k) (loAt P k.val k.isLt) (fetched T L hL k.val k.isLt)) $$ [Hc HB HO HR Hv Hi Hs Hs']
  · isplitl []; · iexact Hlv
    isplitl [Hc]; · iexact Hc
    isplitl [HB]; · iexact HB
    isplitl [HR]; · iexact HR
    isplitl [HO]; · iexact HO
    isplitl [Hv]; · iexact Hv
    isplitl [Hi]; · iexact Hi
    isplitl [Hs]; · iexact Hs
    iexact Hs'
  iintro ⟨Hc, HB, ⟨%f, -, HR⟩, HO, Hv, Hi, Hs, Hs'⟩
  iapply HK
  isplitl [Hc HB HP HO]
  · isplitl [Hc]; · iexact Hc
    isplitl [HB]; · iexact HB
    isplitl [HP]; · iexact HP
    iexact HO
  isplitl [HR]; · iexists f; iexact HR
  isplitl [Hv]; · iexact Hv
  isplitl [Hi]; · iexact Hi
  isplitl [Hs]; · iexact Hs
  iexact Hs'

/-- What a gather holds while it is not under way: its row buffer, its shares, its semaphore. -/
abbrev rest (R : Memref sig .scVector .vmem S128x128 .f32) (s : DmaSems sig S_) (q qo : PosShare TreeShare) : P𝕄 F :=
  iprop(anyRow d i R ∗ tab d i T q ∗ lst d i L qo ∗ zero d i s)

/-- The rounds that are left, from a state in which one gather is under way. -/
theorem wp_rounds (hO : ∀ g, O g none = 0) : ∀ (n k : ℕ) (hk : k + n = 8) (R R' : Memref sig .scVector .vmem S128x128 .f32)
    (hR : R.view.WordExact) (hR' : R'.view.WordExact) (_ : Fits R) (_ : Fits R') (s s' : DmaSems sig S_) (q q' qo qo' : PosShare TreeShare),
    iprop(levAts (K (F := F)).L (K (F := F)).lev ∗ common d i O W B P ∗ holds d i R (fetched T L hL k (by omega))
        ∗ (tab d i T q ∗ lst d i L qo ∗ zero d i s) ∗ flying d i T L hL R' s' q' qo' (k + 1) (by omega)
        ∗ bigSep (SparseCore.ProtocolKit.finFrom 10 k) (todo (F := F) d i))
      ⊢ wp frame (wpE (defs₀ (F := F)) 𝒱₀ (thr d i) none) Set.univ (rounds i n k hk R R' hR hR' s s' (loAt P k (by omega)))
          fun _ => (iprop(common d i O W B P ∗ rest d i T L R s q qo ∗ rest d i T L R' s' q' qo'
            ∗ bigSep (SparseCore.ProtocolKit.finFrom 10 k) (done d i T L hL B P)) : P𝕄 F)
  | 0, k, hk, R, R', hR, hR', hN, hN', s, s', q, q', qo, qo' => by
    obtain rfl : k = 8 := by omega
    unfold rounds
    rw [SparseCore.ProtocolKit.bigSep_finFrom_succ (by omega : 8 < 10), SparseCore.ProtocolKit.bigSep_finFrom_succ (by omega : 8 < 10),
      SparseCore.ProtocolKit.bigSep_finFrom_succ (by omega : 8 + 1 < 10), SparseCore.ProtocolKit.bigSep_finFrom_succ (by omega : 8 + 1 < 10),
      SparseCore.ProtocolKit.bigSep_finFrom_self, SparseCore.ProtocolKit.bigSep_finFrom_self]
    iintro ⟨#Hlv, Hc, HR, ⟨HT, HL, Hs⟩, Hfl, H8, H9, Hz⟩
    iapply (wp_image d i O W T L hL B P hO 8 R) $$ [Hc HR H8]
    · isplitl []; · iexact Hlv
      isplitl [Hc]; · iexact Hc
      isplitl [HR]; · iexact HR
      iexact H8
    iintro ⟨⟨Hc, HB, HP, HO⟩, HR, H8⟩
    iapply (wp_arrive d i O W T L hL P hO 9 _ R' hR' s' q' qo') $$ [Hfl HO HP]
    · isplitl []; · iexact Hlv
      isplitl [Hfl]; · iexact Hfl
      isplitl [HO]; · iexact HO
      iexact HP
    iintro ⟨HR', HT', HL', Hs', HO, HP⟩
    rw [← bind_pure (core i 9 R' (semV 9) (semC 9) (loAt P 9 (by omega)))]
    iapply (wp_image d i O W T L hL B P hO 9 R') $$ [Hc HB HP HO HR' H9]
    · isplitl []; · iexact Hlv
      isplitl [Hc HB HP HO]
      · isplitl [Hc]; · iexact Hc
        isplitl [HB]; · iexact HB
        isplitl [HP]; · iexact HP
        iexact HO
      isplitl [HR']; · iexact HR'
      iexact H9
    iintro ⟨Hc, HR', H9⟩
    rw [Prog.pure_eq_ret, wp_ret]
    imodintro
    isplitl [Hc]; · iexact Hc
    isplitl [HR HT HL Hs]
    · isplitl [HR]; · iexact HR
      isplitl [HT]; · iexact HT
      isplitl [HL]; · iexact HL
      iexact Hs
    isplitl [HR' HT' HL' Hs']
    · isplitl [HR']; · iexact HR'
      isplitl [HT']; · iexact HT'
      isplitl [HL']; · iexact HL'
      iexact Hs'
    isplitl [H8]; · iexact H8
    isplitl [H9]; · iexact H9
    iexact Hz
  | n + 1, k, hk, R, R', hR, hR', hN, hN', s, s', q, q', qo, qo' => by
    unfold rounds round
    simp only [Prog.bind_assoc]
    rw [SparseCore.ProtocolKit.bigSep_finFrom_succ (by omega : k < 10), SparseCore.ProtocolKit.bigSep_finFrom_succ (by omega : k < 10)]
    iintro ⟨#Hlv, Hc, HR, ⟨HT, HL, Hs⟩, Hfl, Hk, Hks⟩
    iapply (wp_image d i O W T L hL B P hO ⟨k, _⟩ R) $$ [Hc HR Hk]
    · isplitl []; · iexact Hlv
      isplitl [Hc]; · iexact Hc
      isplitl [HR]; · iexact HR
      iexact Hk
    iintro ⟨⟨Hc, HB, HP, HO⟩, HR, Hk⟩
    iapply (wp_gath d i T L hL (k + 2) _ R hN s q qo) $$ [HT HL HR Hs]
    · isplitl [HT]; · iexact HT
      isplitl [HR]; · iexact HR
      isplitl [HL]; · iexact HL
      iexact Hs
    iintro Hfl'
    iapply (wp_arrive d i O W T L hL P hO (k + 1) _ R' hR' s' q' qo') $$ [Hfl HO HP]
    · isplitl []; · iexact Hlv
      isplitl [Hfl]; · iexact Hfl
      isplitl [HO]; · iexact HO
      iexact HP
    iintro ⟨HR, HT, HL, Hs, HO, HP⟩
    iapply (wp_wand_r frame (wpE (defs₀ (F := F)) 𝒱₀ (thr d i) none) Set.univ)
    isplitl [Hc HB HP HO HR HT HL Hs Hfl' Hks]
    · iapply (wp_rounds hO n (k + 1) _ R' R hR' hR hN' hN s' s q' q qo' qo)
      isplitl []; · iexact Hlv
      isplitl [Hc HB HP HO]
      · isplitl [Hc]; · iexact Hc
        isplitl [HB]; · iexact HB
        isplitl [HP]; · iexact HP
        iexact HO
      isplitl [HR]; · iexact HR
      isplitl [HT HL Hs]
      · isplitl [HT]; · iexact HT
        isplitl [HL]; · iexact HL
        iexact Hs
      isplitl [Hfl']; · iexact Hfl'
      iexact Hks
    iintro %_ ⟨Hc, HR', HR, Hks⟩
    isplitl [Hc]; · iexact Hc
    isplitl [HR]; · iexact HR
    isplitl [HR']; · iexact HR'
    isplitl [Hk]; · iexact Hk
    iexact Hks

end Wp

end Cert.Proof.Tile

end
-- ==== Proof.Task.lean ====
/-
  The whole program of one vector subcore: from its shares of the inputs and its blocks of the outputs, of any contents,
  to the blocks holding the kept candidates of every image.
-/
module

public import proofs.«01_k».proof.Proof.Rounds

@[expose] public section

noncomputable section

namespace Cert.Proof.Tile

open Cert.KernelIdeal Cert.KernelIdeal.Gen Cert.Proof
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The first row buffer takes a gather. -/
theorem fits₀ : Fits bR₀ := by decide
/-- The second row buffer takes a gather. -/
theorem fits₁ : Fits bR₁ := by decide

section Wp

variable (d : Dev nD) (i : grid1.Coords) (O : CellTallies nD τ sig (HIx 1)) (W : Waits sig (HIx 1))
variable (T : Vec F S327680x128 .f32) (I : Vec F S32x1280 .i32) (B : Vec F S32x1280 .i32) (P : Vec F S160 .f32)

/-- The subcore's row of a list array. -/
def rowOf (a : Memref sig .scVector .hbm S32x1280 .i32) (f : a.view.ty.Contents (Elt F)) (i : grid1.Coords) : Vec F S1280 .i32 :=
  (rowI a i).view.read (Elt F) f

/-- A share of the inputs. -/
def inputs (q : PosShare TreeShare) : P𝕄 F :=
  iprop((aT.view.loc (thr d i) ↦{q} T) ∗ (aI.view.loc (thr d i) ↦{q} I) ∗ (aB.view.loc (thr d i) ↦{q} B) ∗ (aP.view.loc (thr d i) ↦{q} P))

/-- The scratch buffers, of any contents. -/
def scratch : P𝕄 F :=
  iprop((∃ f, (bL.view.loc (thr d i) ↦{fullShare} f)) ∗ (∃ f, (bB.view.loc (thr d i) ↦{fullShare} f)) ∗ (∃ f, (bP.view.loc (thr d i) ↦{fullShare} f))
    ∗ (∃ f, (bR₀.view.loc (thr d i) ↦{fullShare} f)) ∗ (∃ f, (bR₁.view.loc (thr d i) ↦{fullShare} f))
    ∗ (∃ f, (bV.view.loc (thr d i) ↦{fullShare} f)) ∗ (∃ f, (bC.view.loc (thr d i) ↦{fullShare} f)))

/-- The five semaphores no image owns, at zero. -/
def sems : P𝕄 F :=
  iprop(zero d i cc1_scoped0 ∗ zero d i cc1_scoped1 ∗ zero d i cc1_scoped2 ∗ zero d i cc1_scratch7 ∗ zero d i cc1_scratch8)

/-- A subcore's row numbers name rows of the table. -/
theorem rowOf_lt (x : S1280.Idx) (hI : ∀ x, (I x).toNat < 327680) : (rowOf (F := F) aI I i x).toNat < 327680 := hI _

/-- The first row buffer is held whole. -/
theorem anyRow_whole₀ : (iprop(∃ f, (bR₀.view.loc (thr d i) ↦{fullShare} f)) : P𝕄 F) = anyRow d i bR₀ := by
  unfold anyRow
  rw [show bR₀.view.set = Finset.univ from View.set_whole _]
/-- The second row buffer is held whole. -/
theorem anyRow_whole₁ : (iprop(∃ f, (bR₁.view.loc (thr d i) ↦{fullShare} f)) : P𝕄 F) = anyRow d i bR₁ := by
  unfold anyRow
  rw [show bR₁.view.set = Finset.univ from View.set_whole _]

/-- The table's view is the table. -/
theorem tabM_emb (x : S327680x128.Idx) : tabM.view.emb x = x := by
  funext a
  refine Fin.ext ?_
  match a with
  | 0 => show 0 + 1 * (x 0).val = (x 0).val; omega
  | 1 => show 0 + 1 * (x 1).val = (x 1).val; omega

/-- The table's view covers the table. -/
theorem tabM_set : tabM.view.set = Finset.univ :=
  Finset.eq_univ_iff_forall.mpr fun x => Finset.mem_map.mpr ⟨x, Finset.mem_univ _, tabM_emb x⟩

/-- The share of the table, as the two gathers hold it. -/
theorem tab_halves (q : PosShare TreeShare) :
    (aT.view.loc (thr d i) ↦{q} T : P𝕄 F) = iprop(tab d i T q.left ∗ tab d i T q.right) := by
  unfold tab
  rw [tabM_set]
  exact BI.Entails.antisymm (pointsTo_share (PosShare.mem_left_op_right q)).1 (pointsTo_share (PosShare.mem_left_op_right q)).2

/-- A share of an array is two halves of it. -/
theorem halves {ℓ : Loc nD τ sig} (I : Finset (Idx ℓ)) (f : Buf (Elt F) ℓ) (q : PosShare TreeShare) :
    (ℓ ↦[I]{q} f : P𝕄 F) = iprop((ℓ ↦[I]{q.left} f) ∗ (ℓ ↦[I]{q.right} f)) :=
  BI.Entails.antisymm (pointsTo_share (PosShare.mem_left_op_right q)).1 (pointsTo_share (PosShare.mem_left_op_right q)).2

/-- A subcore's whole task: from its inputs and any outputs to outputs with the kept values and places. -/
theorem wp_tile (hO : ∀ g, O g none = 0) (q : PosShare TreeShare) (L B' : Vec F S1280 .i32) (hLI : rowOf aI I i = L) (hBB : rowOf aB B i = B')
    (hL : ∀ x, (L x).toNat < 327680) :
    iprop(levAts (K (F := F)).L (K (F := F)).lev ∗ inputs d i T I B P q ∗ scratch d i ∗ sems d i ∗ owes (thr d i) O W
        ∗ bigSep Finset.univ (todo (F := F) d i))
      ⊢ wp frame (wpE (defs₀ (F := F)) 𝒱₀ (thr d i) none) Set.univ (tile i)
          fun _ => (iprop(inputs d i T I B P q ∗ scratch d i ∗ sems d i ∗ owesW d i O W
            ∗ bigSep Finset.univ (done d i T L hL B' P)) : P𝕄 F) := by
  rw [← SparseCore.ProtocolKit.bigSep_finFrom_zero, ← SparseCore.ProtocolKit.bigSep_finFrom_zero]
  unfold tile prologue
  simp only [Prog.bind_assoc]
  unfold inputs scratch sems
  iintro ⟨#Hlv, ⟨HT, HI, HB, HP⟩, ⟨⟨%fL, HbL⟩, ⟨%fB, HbB⟩, ⟨%fP, HbP⟩, HR0, HR1, HV, HC⟩, ⟨Hs0, Hs1, Hs2, Hs7, Hs8⟩, HO, Htd⟩
  ihave Hmw := (show levAts (K (F := F)).L (K (F := F)).lev ⊢ Transfers.MayWaits (thr d i) (default : HIx 1) O from
    (K (F := F)).mayWaits_none (thr := thr d i) hO) $$ Hlv
  sl_exec
  rw [← wp_bind]
  have eL : View.write (Elt F) bL.view fL (wp_tile.sl.dma0 i I) Finset.univ = rowOf aI I i := View.write_whole_univ _ _ _
  have eB : View.write (Elt F) bB.view fB (wp_tile.sl.dma0_1 i B) Finset.univ = rowOf aB B i := View.write_whole_univ _ _ _
  have eP : View.write (Elt F) bP.view fP (wp_tile.sl.dma0_2 P) Finset.univ = P := View.write_whole_univ _ _ _
  rw [eL, eB, eP]
  clear eL eB eP
  rw [hLI, hBB]
  ihave HR0 := (Entails.of_eq (anyRow_whole₀ (F := F) d i)) $$ HR0
  ihave HR1 := (Entails.of_eq (anyRow_whole₁ (F := F) d i)) $$ HR1
  ihave HT' := (Entails.of_eq (tab_halves d i T q)) $$ HT
  icases HT' with ⟨HT, HT'⟩
  ihave HbL' := (Entails.of_eq (halves Finset.univ L fullShare)) $$ HbL
  icases HbL' with ⟨HL, HL'⟩
  iapply (wp_gath d i T L hL 0 _ bR₀ fits₀ cc1_scratch7 q.left fullShare.left) $$ [HT HL HR0 Hs7]
  · isplitl [HT]; · iexact HT
    isplitl [HR0]; · iexact HR0
    isplitl [HL]; · iexact HL
    iexact Hs7
  iintro Hfl
  iapply (wp_gath d i T L hL 1 _ bR₁ fits₁ cc1_scratch8 q.right fullShare.right) $$ [HT' HL' HR1 Hs8]
  · isplitl [HT']; · iexact HT'
    isplitl [HR1]; · iexact HR1
    isplitl [HL']; · iexact HL'
    iexact Hs8
  iintro Hfl'
  iapply (wp_arrive d i O W T L hL P hO 0 _ bR₀ _ cc1_scratch7 q.left fullShare.left) $$ [Hfl HO HbP]
  · isplitl []; · iexact Hlv
    isplitl [Hfl]; · iexact Hfl
    isplitl [HO]
    · iexists _; isplitr; rotate_left; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact .inl hp
    iexact HbP
  iintro ⟨HR0, HT, HL, Hs7, HO, HbP⟩
  iapply (wp_wand_r frame (wpE (defs₀ (F := F)) 𝒱₀ (thr d i) none) Set.univ)
  isplitl [HV HC HbB HbP HO HR0 HT HL Hs7 Hfl' Htd]
  · iapply (wp_rounds d i O W T L hL B' P hO 8 0 rfl bR₀ bR₁ _ _ fits₀ fits₁ cc1_scratch7 cc1_scratch8 q.left q.right fullShare.left fullShare.right)
    isplitl []; · iexact Hlv
    isplitl [HV HC HbB HbP HO]
    · isplitl [HV HC]; · isplitl [HV] <;> iassumption
      isplitl [HbB]; · iexact HbB
      isplitl [HbP]; · iexact HbP
      iexact HO
    isplitl [HR0]; · iexact HR0
    isplitl [HT HL Hs7]
    · isplitl [HT]; · iexact HT
      isplitl [HL]; · iexact HL
      iexact Hs7
    isplitl [Hfl']; · iexact Hfl'
    iexact Htd
  iintro %_ ⟨⟨⟨HV, HC⟩, HbB, HbP, HO⟩, ⟨HR0, HT, HL, Hs7⟩, ⟨HR1, HT', HL', Hs8⟩, Htd⟩
  isplitl [HT HT' HI HB HP]
  · isplitl [HT HT']
    · iapply (Entails.of_eq (tab_halves d i T q).symm); isplitl [HT] <;> iassumption
    isplitl [HI]; · iexact HI
    isplitl [HB]; · iexact HB
    iexact HP
  isplitl [HL HL' HbB HbP HR0 HR1 HV HC]
  · isplitl [HL HL']
    · iexists L; iapply (Entails.of_eq (halves Finset.univ L fullShare).symm); isplitl [HL] <;> iassumption
    isplitl [HbB]; · iexists _; iexact HbB
    isplitl [HbP]; · iexists _; iexact HbP
    isplitl [HR0]; · iapply (Entails.of_eq (anyRow_whole₀ (F := F) d i).symm); iexact HR0
    isplitl [HR1]; · iapply (Entails.of_eq (anyRow_whole₁ (F := F) d i).symm); iexact HR1
    isplitl [HV]; · iexact HV
    iexact HC
  isplitl [Hs0 Hs1 Hs2 Hs7 Hs8]
  · isplitl [Hs0]; · iexact Hs0
    isplitl [Hs1]; · iexact Hs1
    isplitl [Hs2]; · iexact Hs2
    isplitl [Hs7]; · iexact Hs7
    iexact Hs8
  isplitl [HO]; · iexact HO
  iexact Htd

end Wp

end Cert.Proof.Tile

end
-- ==== Proof.Obl.lean ====
/-
  What the launch hands each vector subcore and gets back, and the subcore's proof as the launch theorem asks it.
-/
module

public import proofs.«01_k».proof.Proof.Task

@[expose] public section

noncomputable section

namespace Cert.Proof

open Cert.KernelIdeal Cert.KernelIdeal.Gen Cert.Proof.Tile
open Idealize.ShloMosaic
open Idealize.ShloMosaic.SparseCore (S V T bigSep_sdiff_split')
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The arrays the call is made on: the table, the row lists (in range), the positions, the thresholds. -/
structure Ins (F : FTy → Type) where
  T : Dev nD → Vec F S327680x128 .f32
  I : Dev nD → Vec F S32x1280 .i32
  B : Dev nD → Vec F S32x1280 .i32
  P : Dev nD → Vec F S160 .f32
  lt : ∀ d x, (I d x).toNat < 327680

variable (a : Ins F)

/-- The grid's coordinates. -/
def co (c : Fin 2) (s : Fin 16) : grid1.Coords :=
  fun | 0 => c | 1 => s | ⟨_ + 2, h⟩ => absurd h (Nat.not_lt.2 (Nat.le_add_left _ _))

/-- The candidates subcore `i` keeps of image `k`. -/
def Ins.kept (d : Dev nD) (i : grid1.Coords) (k : Fin 10) : St F :=
  Tile.kept (a.T d) (rowOf aI (a.I d) i) (fun x => rowOf_lt i (a.I d) x (a.lt d)) (rowOf aB (a.B d) i) (a.P d) k

/-- The share of the inputs of subcore `s` of SparseCore `c`. -/
def qt (c : Fin 2) (s : Fin 16) : PosShare TreeShare := pieceOf (pieceOf fullShare 2 (by omega) c) 16 (by omega) s

/-- What a subcore is handed: its share of the inputs and its blocks of the outputs. -/
def goP (d : Dev nD) (c : Fin 2) (s : Fin 16) : P𝕄 F :=
  iprop(inputs d (co c s) (a.T d) (a.I d) (a.B d) (a.P d) (qt c s)
    ∗ bigSep Finset.univ fun k : Fin 10 => iprop(anyV d (co c s) k ∗ anyC d (co c s) k))
/-- What a subcore hands back: its share of the inputs, and its blocks with the kept values and places. -/
def tdP (d : Dev nD) (c : Fin 2) (s : Fin 16) : P𝕄 F :=
  iprop(inputs d (co c s) (a.T d) (a.I d) (a.B d) (a.P d) (qt c s)
    ∗ bigSep Finset.univ fun k : Fin 10 => iprop(isV d (co c s) k (a.kept d (co c s) k).2.1 ∗ isC d (co c s) k (a.kept d (co c s) k).2.2))

/-- A resource that may be handed over. -/
abbrev Handed (Q : P𝕄 F) : Prop := BI.Storable (upEmb : UEmb _ (MT nD τ sig (HIx 1) (Elt F) ℕ UU ℕ)) Q

/-- Two things that can be handed over can be handed over together. -/
theorem handed_sep {Q R : P𝕄 F} (hQ : Handed Q) (hR : Handed R) : Handed iprop(Q ∗ R) := Storable.sep _ _ _
/-- Something unknown can be handed over if each instance can. -/
theorem handed_ex {α : Type} {Q : α → P𝕄 F} (h : ∀ x, Handed (Q x)) : Handed iprop(∃ x, Q x) := Storable.exists _ _
/-- A family can be handed over if each member can. -/
theorem handed_all {α : Type} {s : Finset α} {Q : α → P𝕄 F} (h : ∀ x, Handed (Q x)) : Handed (bigSep s Q) := Storable.bigSep _ _ _
/-- A part of an array can be handed over. -/
theorem handed_pts (ℓ : Loc nD τ sig) (I : Finset (Idx ℓ)) (q : PosShare TreeShare) (f : Buf (Elt F) ℓ) : Handed (F := F) (ℓ ↦[I]{q} f) := inferInstance
/-- A fact can be handed over. -/
theorem handed_pure (φ : Prop) : Handed (F := F) iprop(⌜φ⌝) := Storable.pure _ _

/-- A share of the inputs can be handed over. -/
theorem handed_inputs (d : Dev nD) (i : grid1.Coords) (T I B P) (q : PosShare TreeShare) : Handed (inputs (F := F) d i T I B P q) :=
  handed_sep (handed_pts _ _ _ _) (handed_sep (handed_pts _ _ _ _) (handed_sep (handed_pts _ _ _ _) (handed_pts _ _ _ _)))

/-- What a subcore is handed can be handed over. -/
theorem goP_handed (d : Dev nD) (c : Fin 2) (s : Fin 16) : Handed (goP a d c s) :=
  handed_sep (handed_inputs _ _ _ _ _ _ _) (handed_all fun _ => handed_sep (handed_ex fun _ => handed_pts _ _ _ _) (handed_ex fun _ => handed_pts _ _ _ _))

/-- What a subcore hands back can be handed over. -/
theorem tdP_handed (d : Dev nD) (c : Fin 2) (s : Fin 16) : Handed (tdP a d c s) :=
  handed_sep (handed_inputs _ _ _ _ _ _ _) (handed_all fun _ => handed_sep (handed_ex fun _ => handed_sep (handed_pure _) (handed_pts _ _ _ _))
    (handed_ex fun _ => handed_sep (handed_pure _) (handed_pts _ _ _ _)))

section Split

variable (go td : Dev nD → Fin 2 → Fin 16 → P𝕄 F)

/-- The one call hands every SparseCore what its subcores get, and gets back what they leave. -/
def payOf : (K (F := F)).Pay (nD := nD) (Val := Elt F) (Name := ℕ) (U := UU) where
  st := fun q d c => match q with | 0 => bigSep Finset.univ fun s : Fin 16 => go d (Fin.cast nCore_zero c) s
  dn := fun q d c => match q with | 0 => bigSep Finset.univ fun s : Fin 16 => td d (Fin.cast nCore_zero c) s
  go := fun q d c i => match q with | 0 => go d (Fin.cast nCore_zero c) (Fin.cast nSub_zero i)
  td := fun q d c i => match q with | 0 => td d (Fin.cast nCore_zero c) (Fin.cast nSub_zero i)
  x := fun _ _ => iprop(emp)

/-- Everything that the handshakes carry can be handed over. -/
theorem payOf_storable (hgo : ∀ d c s, Handed (go d c s)) (htd : ∀ d c s, Handed (td d c s)) : (payOf go td).IsStorable where
  st q d c := match q with | 0 => handed_all (s := Finset.univ) fun s : Fin 16 => hgo d (Fin.cast nCore_zero c) s
  dn q d c := match q with | 0 => handed_all (s := Finset.univ) fun s : Fin 16 => htd d (Fin.cast nCore_zero c) s
  go q d c i := match q with | 0 => hgo d (Fin.cast nCore_zero c) (Fin.cast nSub_zero i)
  td q d c i := match q with | 0 => htd d (Fin.cast nCore_zero c) (Fin.cast nSub_zero i)

/-- A family over the call's subcores is a family over sixteen. -/
theorem bigSep_subs (Φ : Fin 16 → P𝕄 F) :
    (bigSep Finset.univ fun i : Fin ((K (F := F)).nSub 0) => Φ (Fin.cast nSub_zero i)) = bigSep Finset.univ Φ :=
  bigSep_congr fun _ _ => congrArg Φ (Fin.ext rfl)

/-- A family over the call's cores is a family over two. -/
theorem bigSep_cores (Φ : Fin 2 → P𝕄 F) :
    (bigSep Finset.univ fun i : Fin ((K (F := F)).nCore 0) => Φ (Fin.cast nCore_zero i)) = bigSep Finset.univ Φ :=
  bigSep_congr fun _ _ => congrArg Φ (Fin.ext rfl)

/-- A core's part is its sixteen subcores' parts. -/
theorem vecSplitOf : (K (F := F)).VecSplit' (payOf go td) 0 := by
  intro d c
  show (bigSep Finset.univ fun s : Fin 16 => go d (Fin.cast nCore_zero c) s) ⊢ |={Set.univ}=> iprop(
      (bigSep Finset.univ fun i : Fin ((K (F := F)).nSub 0) => go d (Fin.cast nCore_zero c) (Fin.cast nSub_zero i))
      ∗ ((bigSep Finset.univ fun i : Fin ((K (F := F)).nSub 0) => td d (Fin.cast nCore_zero c) (Fin.cast nSub_zero i))
          -∗ bigSep Finset.univ fun s : Fin 16 => td d (Fin.cast nCore_zero c) s))
  rw [bigSep_subs (fun s => go d (Fin.cast nCore_zero c) s), bigSep_subs (fun s => td d (Fin.cast nCore_zero c) s)]
  iintro H; imodintro
  isplitl [H]; · iexact H
  iintro H; iexact H

end Split

/-- What the call hands out and gets back. -/
abbrev P : (K (F := F)).Pay (nD := nD) (Val := Elt F) (Name := ℕ) (U := UU) := payOf (goP a) (tdP a)

instance P_storable : (P a).IsStorable := payOf_storable _ _ (goP_handed a) (tdP_handed a)

/-! ## A subcore's own storage -/

section Own

variable (d : Dev nD) (i : grid1.Coords)

/-- The semaphores the program uses. -/
def semAll : Fin 5 ⊕ (Fin 10 ⊕ Fin 10) → DmaSems sig S_ :=
  Sum.elim ![cc1_scoped0, cc1_scoped1, cc1_scoped2, cc1_scratch7, cc1_scratch8] (Sum.elim semV semC)

/-- The semaphores of a task are different. -/
theorem semAll_inj : Function.Injective fun x => (semAll x).sem := by
  unfold Function.Injective
  decide +kernel

/-- The semaphores of a task are its own. -/
theorem semAll_scoped : ∀ x, (SemLoc.dma (semAll x).sem : SemLoc sig).isScoped .scVector = true := by decide +kernel

/-- The semaphores' cells of this subcore. -/
def semCell : (Fin 5 ⊕ (Fin 10 ⊕ Fin 10)) ↪ GSem nD τ sig :=
  ⟨fun x => (thr d i, SemLoc.dma (semAll x).sem), fun x y h => semAll_inj (by simpa using h)⟩

/-- The buffers the program uses. -/
def bufAll : Fin 7 → Ref sig .scVector :=
  ![cc1_scratch0, cc1_scratch1, cc1_scratch2, cc1_scratch3, cc1_scratch4, cc1_scratch5, cc1_scratch6]

/-- The buffers of a task are different. -/
theorem bufAll_inj : Function.Injective bufAll := by
  unfold Function.Injective
  decide +kernel

/-- The buffers of a task are its own. -/
theorem bufAll_own : ∀ x, (Proc.scVector ((i 0).castLE hcore1) ((i 1).castLE hsub1)).devRef (bufAll x)
    ∈ ownRefs (τ := τ) (.scVector ((i 0).castLE hcore1) ((i 1).castLE hsub1)) := by
  intro x
  refine SparseCore.Cfg.mem_ownRefs_of_owner (p := Proc.scVector ((i 0).castLE hcore1) ((i 1).castLE hsub1)) ?_
  match x with
  | 0 | 1 | 2 | 3 | 4 | 5 | 6 => rfl

/-- A subcore's seven buffers. -/
def bufRef : Fin 7 ↪ DevRef τ sig :=
  ⟨fun x => (Proc.scVector ((i 0).castLE hcore1) ((i 1).castLE hsub1)).devRef (bufAll x), fun x y h => bufAll_inj (Proc.devRef_injective _ h)⟩

/-- A subcore's semaphores at zero include those of its task. -/
theorem ownSems0_V : ∃ R : P𝕄 F, (ownSems0 (thr d i) : P𝕄 F)
      = iprop((sems d i ∗ (bigSep Finset.univ fun k : Fin 10 => zero d i (semV k)) ∗ (bigSep Finset.univ fun k : Fin 10 => zero d i (semC k))) ∗ R) := by
  refine ⟨bigSep (ownCells (thr d i) \ Finset.univ.map (semCell d i)) (fun g => semVal g 0), ?_⟩
  unfold SparseCore.Cfg.ownSems0
  rw [bigSep_sdiff_split' (s := ownCells (thr d i)) (t := Finset.univ.map (semCell d i)) (fun g hg => by
    obtain ⟨x, -, rfl⟩ := Finset.mem_map.mp hg
    exact mem_ownCells.mpr ⟨rfl, semAll_scoped x⟩)]
  rw [bigSep_map, bigSep_univ_sum, bigSep_univ_sum, bigSep_univ_eq_bigSepL [0, 1, 2, 3, 4] (by decide) (by decide)]
  rfl

/-- A subcore's own buffers include those of its task. -/
theorem ownBufs_V : ∃ R : P𝕄 F, (ownBufs (thr d i) : P𝕄 F) = iprop(scratch d i ∗ R) := by
  refine ⟨bigSep (ownRefs (τ := τ) (.scVector ((i 0).castLE hcore1) ((i 1).castLE hsub1)) \ Finset.univ.map (bufRef i))
    (fun b => iprop(∃ f, ((d, b) : Loc nD τ sig) ↦{fullShare} f)), ?_⟩
  unfold SparseCore.Cfg.ownBufs
  rw [bigSep_sdiff_split' (t := Finset.univ.map (bufRef i)) (fun g hg => by
    obtain ⟨x, -, rfl⟩ := Finset.mem_map.mp hg
    exact bufAll_own i x)]
  rw [bigSep_map, bigSep_univ_eq_bigSepL [0, 1, 2, 3, 4, 5, 6] (by decide) (by decide)]
  rfl

end Own

/-! ## A subcore's task, as the launch asks for it -/

section Body

variable (d : Dev nD) (c : Fin 2) (s : Fin 16)

/-- A subcore's task takes what it is handed to what it hands back. -/
theorem tile_body (O : CellTallies nD τ sig (HIx 1)) (W : Waits sig (HIx 1)) (hO : ∀ g, O g none = 0) :
    iprop(levAts (K (F := F)).L (K (F := F)).lev ∗ emp ∗ goP a d c s
        ∗ scopedBufs (thr d (co c s)) ∗ scopedSems0 (thr d (co c s)) ∗ owes (thr d (co c s)) O W)
      ⊢ wp frame (wpE (defs₀ (F := F)) 𝒱₀ (thr d (co c s)) none) Set.univ (printed (co c s))
          fun _ => iprop(tdP a d c s ∗ scopedBufs (thr d (co c s)) ∗ scopedSems0 (thr d (co c s))
            ∗ ∃ W', ⌜∀ p ∈ W', p ∈ W ∨ p.2 = none⌝ ∗ owes (thr d (co c s)) O W') := by
  obtain ⟨R, hR⟩ := ownSems0_V (F := F) d (co c s)
  obtain ⟨Q, hQ⟩ := ownBufs_V (F := F) d (co c s)
  have hb : (scopedBufs (thr d (co c s)) : P𝕄 F) = ownBufs (thr d (co c s)) := (K (F := F)).scopedBufs_V launchFacts d _ _
  have hs : (scopedSems0 (thr d (co c s)) : P𝕄 F) = ownSems0 (thr d (co c s)) := SparseCore.Cfg.scopedSems0_V (Val := Elt F) d _ _
  rw [tile_eq, hb, hs, hR, hQ]
  have e₁ : (bigSep Finset.univ (todo (F := F) d (co c s)) : P𝕄 F)
      = iprop((bigSep Finset.univ fun k : Fin 10 => iprop(anyV d (co c s) k ∗ anyC d (co c s) k))
        ∗ (bigSep Finset.univ fun k : Fin 10 => zero d (co c s) (semV k)) ∗ (bigSep Finset.univ fun k : Fin 10 => zero d (co c s) (semC k))) := by
    rw [← bigSep_sep', ← bigSep_sep']
    exact bigSep_congr fun k _ => by unfold todo; exact (equiv_iff.mp ⟨BI.sep_assoc, BI.sep_assoc'⟩).symm
  have e₂ : (bigSep Finset.univ (done (F := F) d (co c s) (a.T d) (rowOf aI (a.I d) (co c s)) (fun x => rowOf_lt (co c s) (a.I d) x (a.lt d))
        (rowOf aB (a.B d) (co c s)) (a.P d)) : P𝕄 F)
      = iprop((bigSep Finset.univ fun k : Fin 10 => iprop(isV d (co c s) k (a.kept d (co c s) k).2.1 ∗ isC d (co c s) k (a.kept d (co c s) k).2.2))
        ∗ (bigSep Finset.univ fun k : Fin 10 => zero d (co c s) (semV k)) ∗ (bigSep Finset.univ fun k : Fin 10 => zero d (co c s) (semC k))) := by
    rw [← bigSep_sep', ← bigSep_sep']
    exact bigSep_congr fun k _ => by unfold done; exact (equiv_iff.mp ⟨BI.sep_assoc, BI.sep_assoc'⟩).symm
  unfold goP tdP
  have h := wp_tile (F := F) d (co c s) O W (a.T d) (a.I d) (a.B d) (a.P d) hO (qt c s) _ _ rfl rfl (fun x => rowOf_lt (co c s) (a.I d) x (a.lt d))
  rw [e₁, e₂] at h
  iintro ⟨Hlv, -, ⟨Hin, Hout⟩, ⟨Hscr, HQ⟩, ⟨⟨Hsm, HzV, HzC⟩, HR⟩, HO⟩
  iapply (wp_wand_r frame (wpE (defs₀ (F := F)) 𝒱₀ (thr d (co c s)) none) Set.univ)
  isplitl [Hlv Hin Hout Hscr Hsm HzV HzC HO]
  · iapply h
    isplitl [Hlv]; · iexact Hlv
    isplitl [Hin]; · iexact Hin
    isplitl [Hscr]; · iexact Hscr
    isplitl [Hsm]; · iexact Hsm
    isplitl [HO]; · iexact HO
    isplitl [Hout]; · iexact Hout
    isplitl [HzV]; · iexact HzV
    iexact HzC
  · iintro %_ ⟨Hin, Hscr, Hsm, HO, Hout, HzV, HzC⟩
    isplitl [Hin Hout]
    · isplitl [Hin]; · iexact Hin
      iexact Hout
    isplitl [Hscr HQ]
    · isplitl [Hscr]; · iexact Hscr
      iexact HQ
    isplitl [Hsm HzV HzC HR]
    · isplitl [Hsm HzV HzC]
      · isplitl [Hsm]; · iexact Hsm
        isplitl [HzV]; · iexact HzV
        iexact HzC
      iexact HR
    iexact HO

end Body

/-- The definition that a subcore runs is the printed kernel. -/
theorem defs₀_vector (c : Fin τ.nSC) (s : Fin τ.nSub) :
    defs₀ (F := F) (.scVector c s) 1 () = SparseCore.onTile hcore1 hsub1 (fun c s => printed (co c s)) ⟨⟩ c s := rfl

omit [FloatOps F] in
/-- A weaker account of the waits that remain. -/
theorem obl_post {t : Thread nD τ} {A B C : P𝕄 F} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch's obligation for the subcores. -/
theorem tileObl : (K (F := F)).TileObl (D (F := F)) 𝒱 (P a) v₀ 0 := by
  intro d c i O W hO _ _
  simp only [show (P a).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body a d ⟨_, hci.1⟩ ⟨_, hci.2⟩ O W hO).trans (wp_mono frame _ _ fun _ => obl_post)

end Cert.Proof

end
-- ==== Proof.Join.lean ====
/-
  The call's arrays handed out to the subcores and gathered from them: the inputs in shares, the outputs in the blocks
  each subcore writes.
-/
module

public import proofs.«01_k».proof.Proof.Obl
public import Idealize.ShloMosaic.Lib.Pipeline.Value
public import Idealize.ShloMosaic.Lib.Pointwise.Index

@[expose] public section

noncomputable section

namespace Cert.Proof

open Cert.KernelIdeal Cert.KernelIdeal.Gen Cert.Proof.Tile
open Idealize.ShloMosaic
open Idealize.ShloMosaic.SparseCore (S V T bigSep_sdiff_split')
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- An array in the subcores' shares. -/
theorem shares (ℓ : Loc nD τ sig) (f : Buf (Elt F) ℓ) :
    (bigSep Finset.univ fun c : Fin 2 => bigSep Finset.univ fun s : Fin 16 => (ℓ ↦{qt c s} f) : P𝕄 F) = ℓ ↦{fullShare} f := by
  rw [pointsTo_piecesOf (o := 2) Finset.univ f (by omega) fullShare]
  refine bigSep_congr fun c _ => ?_
  rw [pointsTo_piecesOf (o := 16) Finset.univ f (by omega) (pieceOf fullShare 2 (by omega) c)]
  rfl

/-- The subcore's number. -/
def wid (c : Fin 2) (s : Fin 16) : Fin 32 := ⟨c.val * 16 + s.val, by omega⟩

/-- Where the entries of a subcore's block lie in the array of candidates. -/
theorem emb_out (k : Fin 10) (c : Fin 2) (s : Fin 16) (x : S128.Idx) :
    ((Rect.unit (s := S10x32x128) (outOff k.val (co c s)) S1x1x128.size (outOff_inb k (co c s))).emb
      (Shape.reshapeEquiv (squeezes_S1x1x128_S128.numel_eq) x)) = ix3 k (wid c s) (x 0) := by
  have e : Shape.reshapeEquiv (squeezes_S1x1x128_S128.numel_eq) x = (ix3 (0 : Fin 1) (0 : Fin 1) (x 0) : S1x1x128.Idx) :=
    Shape.reshapeEquiv_eq_of_rowMajor _ (by
      rw [Shape.rowMajor_val_three, Shape.rowMajor_val_one]
      show (0 * 1 + 0) * 128 + (x 0).val = (x 0).val
      omega)
  rw [e]
  funext b
  refine Fin.ext ?_
  have h : ∀ b, outOff k.val (co c s) b = (![k.val, c.val * 16 + s.val, 0] : Fin 3 → Nat) b := fun b => congrFun (outOff_eq k.val (co c s)) b
  match b with
  | ⟨0, _⟩ => show outOff k.val (co c s) 0 + 1 * 0 = k.val; rw [h]; rfl
  | ⟨1, _⟩ => show outOff k.val (co c s) 1 + 1 * 0 = c.val * 16 + s.val; rw [h]; rfl
  | ⟨2, _⟩ => show outOff k.val (co c s) 2 + 1 * (x 0).val = (x 0).val; rw [h]; show 0 + 1 * (x 0).val = _; omega

/-- Where the entries of a subcore's block of values lie in the whole output. -/
theorem emb_outV (k : Fin 10) (c : Fin 2) (s : Fin 16) (x : S128.Idx) : (outV k (co c s)).view.emb x = ix3 k (wid c s) (x 0) := emb_out k c s x
/-- Where the entries of a subcore's block of places lie in the whole output. -/
theorem emb_outC (k : Fin 10) (c : Fin 2) (s : Fin 16) (x : S128.Idx) : (outC k (co c s)).view.emb x = ix3 k (wid c s) (x 0) := emb_out k c s x

/-- A block's entries. -/
def blockSet (t : Fin 2 × Fin 16 × Fin 10) : Finset S10x32x128.Idx :=
  Finset.univ.filter fun y => (y 0).val = t.2.2.val ∧ (y 1).val = (wid t.1 t.2.1).val

/-- The part of the output that a subcore's block of values covers. -/
theorem set_outV (k : Fin 10) (c : Fin 2) (s : Fin 16) : (outV k (co c s)).view.set = blockSet (c, s, k) := by
  ext y
  unfold View.set blockSet
  rw [Finset.mem_map, Finset.mem_filter]
  constructor
  · rintro ⟨x, -, rfl⟩
    rw [emb_outV]; exact ⟨Finset.mem_univ _, rfl, rfl⟩
  · rintro ⟨-, h0, h1⟩
    refine ⟨ix1 (y 2), Finset.mem_univ _, ?_⟩
    rw [emb_outV]
    exact (congrArg₂ (fun a b => ix3 a b (y 2)) (Fin.ext h0.symm) (Fin.ext h1.symm)).trans (ix3_eta y)

/-- The part of the output that a subcore's block of places covers. -/
theorem set_outC (k : Fin 10) (c : Fin 2) (s : Fin 16) : (outC k (co c s)).view.set = blockSet (c, s, k) := by
  ext y
  unfold View.set blockSet
  rw [Finset.mem_map, Finset.mem_filter]
  constructor
  · rintro ⟨x, -, rfl⟩
    rw [emb_outC]; exact ⟨Finset.mem_univ _, rfl, rfl⟩
  · rintro ⟨-, h0, h1⟩
    refine ⟨ix1 (y 2), Finset.mem_univ _, ?_⟩
    rw [emb_outC]
    exact (congrArg₂ (fun a b => ix3 a b (y 2)) (Fin.ext h0.symm) (Fin.ext h1.symm)).trans (ix3_eta y)

/-- Different subcores' and images' blocks do not meet. -/
theorem blocks_disjoint : ∀ t ∈ (Finset.univ : Finset (Fin 2 × Fin 16 × Fin 10)), ∀ t' ∈ (Finset.univ : Finset (Fin 2 × Fin 16 × Fin 10)),
    t ≠ t' → Disjoint (blockSet t) (blockSet t') := by
  rintro ⟨c, s, k⟩ - ⟨c', s', k'⟩ - hne
  refine Finset.disjoint_left.2 fun y hy hy' => hne ?_
  have h := (Finset.mem_filter.1 hy).2
  have h' := (Finset.mem_filter.1 hy').2
  have hk : k = k' := Fin.ext (h.1.symm.trans h'.1)
  have hw : c.val * 16 + s.val = c'.val * 16 + s'.val := h.2.symm.trans h'.2
  have hc : c = c' := Fin.ext (by omega)
  have hs : s = s' := Fin.ext (by omega)
  rw [hc, hs, hk]

/-- The SparseCore and the subcore of a number. -/
def coreOf (w : Fin 32) : Fin 2 := ⟨w.val / 16, by omega⟩
/-- The subcore, within its core, of a worker's number. -/
def subOf (w : Fin 32) : Fin 16 := ⟨w.val % 16, by omega⟩

/-- A worker's core and subcore have its number. -/
theorem wid_of (w : Fin 32) : wid (coreOf w) (subOf w) = w := Fin.ext (by show w.val / 16 * 16 + w.val % 16 = w.val; omega)
/-- The core of the worker numbered by a core and a subcore. -/
theorem coreOf_wid (c : Fin 2) (s : Fin 16) : coreOf (wid c s) = c := Fin.ext (by show (c.val * 16 + s.val) / 16 = c.val; omega)
/-- The subcore of the worker numbered by a core and a subcore. -/
theorem subOf_wid (c : Fin 2) (s : Fin 16) : subOf (wid c s) = s := Fin.ext (by show (c.val * 16 + s.val) % 16 = s.val; omega)

/-- The blocks cover the output. -/
theorem blocks_cover : (Finset.univ : Finset (Fin 2 × Fin 16 × Fin 10)).biUnion blockSet = Finset.univ := by
  ext y
  refine ⟨fun _ => Finset.mem_univ _, fun _ => Finset.mem_biUnion.2 ⟨(coreOf (y 1), subOf (y 1), y 0), Finset.mem_univ _, ?_⟩⟩
  exact Finset.mem_filter.2 ⟨Finset.mem_univ _, rfl, (congrArg Fin.val (wid_of (y 1))).symm⟩

/-- An array, block by block. -/
theorem blocks (ℓ : Loc nD τ sig) (f : Buf (Elt F) ℓ) (B : Fin 2 × Fin 16 × Fin 10 → Finset (Idx ℓ))
    (hd : ∀ t ∈ (Finset.univ : Finset (Fin 2 × Fin 16 × Fin 10)), ∀ t' ∈ (Finset.univ : Finset (Fin 2 × Fin 16 × Fin 10)),
      t ≠ t' → Disjoint (B t) (B t')) (hc : (Finset.univ : Finset (Fin 2 × Fin 16 × Fin 10)).biUnion B = Finset.univ) :
    (ℓ ↦{fullShare} f : P𝕄 F) = bigSep Finset.univ fun c : Fin 2 => bigSep Finset.univ fun s : Fin 16 =>
      bigSep Finset.univ fun k : Fin 10 => ℓ ↦[B (c, s, k)]{fullShare} f := by
  rw [← hc, pointsTo_biUnion Finset.univ B hd, bigSep_univ_prod]
  exact bigSep_congr fun c _ => bigSep_univ_prod _

/-- The places of the call's arrays. -/
abbrev lT (d : Dev nD) : Loc nD τ sig := (SparseCore.T d).loc main_v37
/-- The array of row numbers. -/
abbrev lI (d : Dev nD) : Loc nD τ sig := (SparseCore.T d).loc main_v29
/-- The array of flat beginnings. -/
abbrev lB (d : Dev nD) : Loc nD τ sig := (SparseCore.T d).loc main_v36
/-- The array of thresholds. -/
abbrev lP (d : Dev nD) : Loc nD τ sig := (SparseCore.T d).loc main_v40
/-- The array of the candidates' values. -/
abbrev lO (d : Dev nD) : Loc nD τ sig := (SparseCore.T d).loc main_v41_0
/-- The array of the candidates' places. -/
abbrev lJ (d : Dev nD) : Loc nD τ sig := (SparseCore.T d).loc main_v41_1

/-- The values' array, cut into the subcores' blocks. -/
theorem blocksV (d : Dev nD) (f : Buf (Elt F) (lO d)) :
    (lO d ↦{fullShare} f : P𝕄 F) = bigSep Finset.univ fun c : Fin 2 => bigSep Finset.univ fun s : Fin 16 =>
      bigSep Finset.univ fun k : Fin 10 => lO d ↦[blockSet (c, s, k)]{fullShare} f := blocks (lO d) f blockSet blocks_disjoint blocks_cover
/-- The places' array, cut into the subcores' blocks. -/
theorem blocksC (d : Dev nD) (f : Buf (Elt F) (lJ d)) :
    (lJ d ↦{fullShare} f : P𝕄 F) = bigSep Finset.univ fun c : Fin 2 => bigSep Finset.univ fun s : Fin 16 =>
      bigSep Finset.univ fun k : Fin 10 => lJ d ↦[blockSet (c, s, k)]{fullShare} f := blocks (lJ d) f blockSet blocks_disjoint blocks_cover

variable (a : Ins F)

/-- The arrays of candidates the call leaves. -/
def Ins.outs (d : Dev nD) : Vec F S10x32x128 .f32 := fun y => (a.kept d (co (coreOf (y 1)) (subOf (y 1))) (y 0)).2.1 (ix1 (y 2))
/-- The whole array of places that the subcores leave. -/
def Ins.outp (d : Dev nD) : Vec F S10x32x128 .i32 := fun y => (a.kept d (co (coreOf (y 1)) (subOf (y 1))) (y 0)).2.2 (ix1 (y 2))

/-- The values' array read in a subcore's block. -/
theorem outs_wid (d : Dev nD) (k : Fin 10) (c : Fin 2) (s : Fin 16) (x : S128.Idx) :
    a.outs d (ix3 k (wid c s) (x 0)) = (a.kept d (co c s) k).2.1 x := by
  show (a.kept d (co (coreOf (wid c s)) (subOf (wid c s))) k).2.1 (ix1 (x 0)) = _
  rw [coreOf_wid, subOf_wid]; exact congrArg _ (ix1_eta x)
/-- The places' array read in a subcore's block. -/
theorem outp_wid (d : Dev nD) (k : Fin 10) (c : Fin 2) (s : Fin 16) (x : S128.Idx) :
    a.outp d (ix3 k (wid c s) (x 0)) = (a.kept d (co c s) k).2.2 x := by
  show (a.kept d (co (coreOf (wid c s)) (subOf (wid c s))) k).2.2 (ix1 (x 0)) = _
  rw [coreOf_wid, subOf_wid]; exact congrArg _ (ix1_eta x)

/-- A block of the values' array, with whatever it holds, is what a subcore asks for. -/
theorem anyV_intro (d : Dev nD) (k : Fin 10) (c : Fin 2) (s : Fin 16) (f : Buf (Elt F) (lO d)) :
    (lO d ↦[blockSet (c, s, k)]{fullShare} f : P𝕄 F) ⊢ anyV d (co c s) k := by
  rw [← set_outV k c s]
  iintro H; iexists f; iexact H
/-- A block of the places' array, with whatever it holds, is what a subcore asks for. -/
theorem anyC_intro (d : Dev nD) (k : Fin 10) (c : Fin 2) (s : Fin 16) (f : Buf (Elt F) (lJ d)) :
    (lJ d ↦[blockSet (c, s, k)]{fullShare} f : P𝕄 F) ⊢ anyC d (co c s) k := by
  rw [← set_outC k c s]
  iintro H; iexists f; iexact H

/-- A subcore's values are its block of the whole array of values. -/
theorem isV_elim (d : Dev nD) (k : Fin 10) (c : Fin 2) (s : Fin 16) :
    isV d (co c s) k (a.kept d (co c s) k).2.1 ⊢ (lO d ↦[blockSet (c, s, k)]{fullShare} a.outs d : P𝕄 F) := by
  rw [← set_outV k c s]
  iintro ⟨%g, %hg, H⟩
  rw [show ((lO d ↦[(outV k (co c s)).view.set]{fullShare} a.outs d : P𝕄 F)) = ((outV k (co c s)).view.loc (thr d (co c s)) ↦[(outV k (co c s)).view.set]{fullShare} g) from
    pointsTo_congr fun i hi => by
      obtain ⟨x, -, rfl⟩ := Finset.mem_map.1 hi
      exact ((congrArg (a.outs d) (emb_outV k c s x)).trans (outs_wid a d k c s x)).trans (congrFun hg x).symm]
  iexact H
/-- A subcore's places are its block of the whole array of places. -/
theorem isC_elim (d : Dev nD) (k : Fin 10) (c : Fin 2) (s : Fin 16) :
    isC d (co c s) k (a.kept d (co c s) k).2.2 ⊢ (lJ d ↦[blockSet (c, s, k)]{fullShare} a.outp d : P𝕄 F) := by
  rw [← set_outC k c s]
  iintro ⟨%g, %hg, H⟩
  rw [show ((lJ d ↦[(outC k (co c s)).view.set]{fullShare} a.outp d : P𝕄 F)) = ((outC k (co c s)).view.loc (thr d (co c s)) ↦[(outC k (co c s)).view.set]{fullShare} g) from
    pointsTo_congr fun i hi => by
      obtain ⟨x, -, rfl⟩ := Finset.mem_map.1 hi
      exact ((congrArg (a.outp d) (emb_outC k c s x)).trans (outp_wid a d k c s x)).trans (congrFun hg x).symm]
  iexact H

/-- The inputs whole, and in shares. -/
abbrev four (d : Dev nD) : P𝕄 F :=
  iprop((lT d ↦{fullShare} a.T d) ∗ (lI d ↦{fullShare} a.I d) ∗ (lB d ↦{fullShare} a.B d) ∗ (lP d ↦{fullShare} a.P d))

/-- The subcores' read shares of the four inputs make up the inputs. -/
theorem inputs_all (d : Dev nD) :
    (bigSep Finset.univ fun c : Fin 2 => bigSep Finset.univ fun s : Fin 16 => inputs d (co c s) (a.T d) (a.I d) (a.B d) (a.P d) (qt c s))
      = four a d := by
  unfold inputs four
  simp only [bigSep_sep']
  exact congrArg₂ _ (shares (lT d) (a.T d)) (congrArg₂ _ (shares (lI d) (a.I d)) (congrArg₂ _ (shares (lB d) (a.B d)) (shares (lP d) (a.P d))))

/-- What the cores are handed at the start is what their subcores are handed. -/
theorem st_eq (go td : Dev nD → Fin 2 → Fin 16 → P𝕄 F) (d : Dev nD) :
    (bigSep Finset.univ fun c : Fin ((K (F := F)).nCore 0) => (payOf go td).st 0 d c)
      = bigSep Finset.univ fun c : Fin 2 => bigSep Finset.univ fun s : Fin 16 => go d c s :=
  bigSep_cores (F := F) fun c => bigSep Finset.univ fun s : Fin 16 => go d c s
/-- What the cores hand back at the end is what their subcores hand back. -/
theorem dn_eq (go td : Dev nD → Fin 2 → Fin 16 → P𝕄 F) (d : Dev nD) :
    (bigSep Finset.univ fun c : Fin ((K (F := F)).nCore 0) => (payOf go td).dn 0 d c)
      = bigSep Finset.univ fun c : Fin 2 => bigSep Finset.univ fun s : Fin 16 => td d c s :=
  bigSep_cores (F := F) fun c => bigSep Finset.univ fun s : Fin 16 => td d c s

/-- What the call needs, handed out. -/
theorem st_intro (d : Dev nD) (f : Buf (Elt F) (lO d)) (g : Buf (Elt F) (lJ d)) :
    iprop(four a d ∗ (lO d ↦{fullShare} f) ∗ (lJ d ↦{fullShare} g))
      ⊢ bigSep Finset.univ fun c : Fin ((K (F := F)).nCore 0) => (P a).st 0 d c := by
  refine BIBase.Entails.trans ?_ (Entails.of_eq (st_eq (goP a) (tdP a) d).symm)
  rw [← inputs_all, blocksV, blocksC]
  unfold goP
  simp only [bigSep_sep']
  refine BI.sep_mono (BI.Entails.refl _) (BI.sep_mono ?_ ?_)
  · exact BI.bigSep_mono fun c _ => BI.bigSep_mono fun s _ => BI.bigSep_mono fun k _ => anyV_intro d k c s f
  · exact BI.bigSep_mono fun c _ => BI.bigSep_mono fun s _ => BI.bigSep_mono fun k _ => anyC_intro d k c s g

/-- What the call leaves, gathered. -/
theorem dn_elim (d : Dev nD) :
    (bigSep Finset.univ fun c : Fin ((K (F := F)).nCore 0) => (P a).dn 0 d c)
      ⊢ iprop(four a d ∗ (lO d ↦{fullShare} a.outs d) ∗ (lJ d ↦{fullShare} a.outp d)) := by
  refine BIBase.Entails.trans (Entails.of_eq (dn_eq (goP a) (tdP a) d)) ?_
  rw [← inputs_all, blocksV, blocksC]
  unfold tdP
  simp only [bigSep_sep']
  refine BI.sep_mono (BI.Entails.refl _) (BI.sep_mono ?_ ?_)
  · exact BI.bigSep_mono fun c _ => BI.bigSep_mono fun s _ => BI.bigSep_mono fun k _ => isV_elim a d k c s
  · exact BI.bigSep_mono fun c _ => BI.bigSep_mono fun s _ => BI.bigSep_mono fun k _ => isC_elim a d k c s

end Cert.Proof

end
-- ==== Proof.Host.lean ====
/-
  The host operations of @main, in the order they run, as lists between the two kernel calls; what each list leaves in
  the buffers read later, as a function of the buffers it reads.
-/
module

public import proofs.«01_k».proof.Proof.Obl

@[expose] public section

noncomputable section

namespace Cert.Proof.Host

open Cert.KernelIdeal Cert.KernelIdeal.Gen
open Idealize.ShloMosaic Idealize.ShloMosaic.TcCoe Idealize.SL.Sem Idealize.ShloMosaic.StableHlo

variable {F : FTy → Type} [FloatOps F]

/-- An array of shape `s` with elements of type `t`. -/
abbrev A (F : FTy → Type) (s : Shape) (t : EltTy) : Type := (⟨s, t⟩ : BufTy).Contents (Elt F)

/-- The two boxes of a pair, side by side. -/
def glue (a b : A F S10x204x4 .f32) : A F S10x204x8 .f32 :=
  concatenate S10x204x8 2 [⟨S10x204x4, a⟩, ⟨S10x204x4, b⟩] concatenates_S10x204x4_S10x204x4_S10x204x8_d2

/-- @main up to the TensorCore call: both feature arrays divided by their rows' norms. -/
abbrev opsPre : List (HloOp τ sig (Elt F)) :=
  [ TRef.binary (TRef.of (T := ⟨S2048x256, .f32⟩) main_arg0) (TRef.of (T := ⟨S2048x256, .f32⟩) main_arg0) (TRef.of (T := ⟨S2048x256, .f32⟩) main_call0_v0) mulf,
    TRef.nullary (TRef.of (T := ⟨S_, .f32⟩) main_call0_cst) (constant S_ .f32 0x00000000#32),
    TRef.binary (TRef.of (T := ⟨S2048x256, .f32⟩) main_call0_v0) (TRef.of (T := ⟨S_, .f32⟩) main_call0_cst) (TRef.of (T := ⟨S2048, .f32⟩) main_call0_v1) (fun x v => Host.reduceAdd x v reducesTo_S2048x256_S2048_d1 h_S_),
    TRef.unary (TRef.of (T := ⟨S2048, .f32⟩) main_call0_v1) (TRef.of (T := ⟨S2048x1, .f32⟩) main_call0_v2) (broadcastInDim S2048x1 ![0] bcast_S2048_S2048x1_0),
    TRef.unary (TRef.of (T := ⟨S2048x1, .f32⟩) main_call0_v2) (TRef.of (T := ⟨S2048x1, .f32⟩) main_v0) Host.sqrt,
    nullary main_cst (constant S_ .f32 0x2B8CBCCC#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S2048x1, .f32⟩) main_call1_v1) (broadcastInDim S2048x1 ![] bcast_S_S2048x1),
    TRef.binary (TRef.of (T := ⟨S2048x1, .f32⟩) main_call1_v1) (TRef.of (T := ⟨S2048x1, .f32⟩) main_v0) (TRef.of (T := ⟨S2048x1, .f32⟩) main_v1) maximumf,
    unary main_v1 main_v2 (broadcastInDim S2048x256 ![0, 1] bcast_S2048x1_S2048x256_0_1 : (⟨S2048x1, .f32⟩ : BufTy).Contents (Elt F) → (⟨S2048x256, .f32⟩ : BufTy).Contents (Elt F)),
    binary main_arg0 main_v2 main_v3 (Host.divf : (⟨S2048x256, .f32⟩ : BufTy).Contents (Elt F) → (⟨S2048x256, .f32⟩ : BufTy).Contents (Elt F) → (⟨S2048x256, .f32⟩ : BufTy).Contents (Elt F)),
    TRef.binary (TRef.of (T := ⟨S10x2048x256, .f32⟩) main_arg1) (TRef.of (T := ⟨S10x2048x256, .f32⟩) main_arg1) (TRef.of (T := ⟨S10x2048x256, .f32⟩) main_call2_v0) mulf,
    TRef.nullary (TRef.of (T := ⟨S_, .f32⟩) main_call2_cst) (constant S_ .f32 0x00000000#32),
    TRef.binary (TRef.of (T := ⟨S10x2048x256, .f32⟩) main_call2_v0) (TRef.of (T := ⟨S_, .f32⟩) main_call2_cst) (TRef.of (T := ⟨S10x2048, .f32⟩) main_call2_v1) (fun x v => Host.reduceAdd x v reducesTo_S10x2048x256_S10x2048_d2 h_S_),
    TRef.unary (TRef.of (T := ⟨S10x2048, .f32⟩) main_call2_v1) (TRef.of (T := ⟨S10x2048x1, .f32⟩) main_call2_v2) (broadcastInDim S10x2048x1 ![0, 1] bcast_S10x2048_S10x2048x1_0_1),
    TRef.unary (TRef.of (T := ⟨S10x2048x1, .f32⟩) main_call2_v2) (TRef.of (T := ⟨S10x2048x1, .f32⟩) main_v4) Host.sqrt,
    nullary main_cst_0 (constant S_ .f32 0x2B8CBCCC#32),
    TRef.unary (TRef.of (T := ⟨S_, .f32⟩) main_cst_0) (TRef.of (T := ⟨S_, .f32⟩) main_call3_v0) id,
    TRef.unary (TRef.of (T := ⟨S_, .f32⟩) main_call3_v0) (TRef.of (T := ⟨S10x2048x1, .f32⟩) main_call3_v1) (broadcastInDim S10x2048x1 ![] bcast_S_S10x2048x1),
    TRef.binary (TRef.of (T := ⟨S10x2048x1, .f32⟩) main_call3_v1) (TRef.of (T := ⟨S10x2048x1, .f32⟩) main_v4) (TRef.of (T := ⟨S10x2048x1, .f32⟩) main_v5) maximumf,
    unary main_v5 main_v6 (broadcastInDim S10x2048x256 ![0, 1, 2] bcast_S10x2048x1_S10x2048x256_0_1_2 : (⟨S10x2048x1, .f32⟩ : BufTy).Contents (Elt F) → (⟨S10x2048x256, .f32⟩ : BufTy).Contents (Elt F)),
    binary main_arg1 main_v6 main_v7 (Host.divf : (⟨S10x2048x256, .f32⟩ : BufTy).Contents (Elt F) → (⟨S10x2048x256, .f32⟩ : BufTy).Contents (Elt F) → (⟨S10x2048x256, .f32⟩ : BufTy).Contents (Elt F)) ]

/-- @main between the calls: the rows to look at, and the lists the SparseCores read. -/
abbrev opsMid : List (HloOp τ sig (Elt F)) :=
  [ reshape main_v8_1 main_v9 (rfl : (.f32 : EltTy) = .f32) shapeCasts_S10x2048x1_S10x2048,
    unary main_v9 main_values ((fun x => (Host.topK S10x256 1 (FloatOps.cmpfTotal .gt) x sliceFits_S10x2048_S10x256).1) : (⟨S10x2048, .f32⟩ : BufTy).Contents (Elt F) → (⟨S10x256, .f32⟩ : BufTy).Contents (Elt F)),
    unary main_v9 main_indices ((fun x => (Host.topK S10x256 1 (FloatOps.cmpfTotal .gt) x sliceFits_S10x2048_S10x256).2) : (⟨S10x2048, .f32⟩ : BufTy).Contents (Elt F) → (⟨S10x256, .i32⟩ : BufTy).Contents (Elt F)),
    unary main_values main_v10 ((extractStridedSlice S10x1 ![0, 255] · slices_S10x256_S10x1_0_255) : (⟨S10x256, .f32⟩ : BufTy).Contents (Elt F) → (⟨S10x1, .f32⟩ : BufTy).Contents (Elt F)),
    reshape main_v10 main_v11 (rfl : (.f32 : EltTy) = .f32) shapeCasts_S10x1_S10,
    TRef.unary (TRef.of (T := ⟨S10x256, .i32⟩) main_indices) (TRef.of (T := ⟨S10x256, .i32⟩) main_v12) (fun x => Host.sort S10x256 1 comparator_i32_d1 x),
    nullary main_v13 (iotaInDim S10 32 0),
    nullary main_c (constantI S_ 32 2048#32),
    unary main_c main_v14 (broadcastInDim S10 ![] bcast_S_S10 : (⟨S_, .i32⟩ : BufTy).Contents (Elt F) → (⟨S10, .i32⟩ : BufTy).Contents (Elt F)),
    binary main_v13 main_v14 main_v15 (muli : (⟨S10, .i32⟩ : BufTy).Contents (Elt F) → (⟨S10, .i32⟩ : BufTy).Contents (Elt F) → (⟨S10, .i32⟩ : BufTy).Contents (Elt F)),
    unary main_v15 main_v16 (broadcastInDim S10x1 ![0] bcast_S10_S10x1_0 : (⟨S10, .i32⟩ : BufTy).Contents (Elt F) → (⟨S10x1, .i32⟩ : BufTy).Contents (Elt F)),
    unary main_v16 main_v17 (broadcastInDim S10x256 ![0, 1] bcast_S10x1_S10x256_0_1 : (⟨S10x1, .i32⟩ : BufTy).Contents (Elt F) → (⟨S10x256, .i32⟩ : BufTy).Contents (Elt F)),
    binary main_v12 main_v17 main_v18 (addi : (⟨S10x256, .i32⟩ : BufTy).Contents (Elt F) → (⟨S10x256, .i32⟩ : BufTy).Contents (Elt F) → (⟨S10x256, .i32⟩ : BufTy).Contents (Elt F)),
    unary main_v18 main_v19 (broadcastInDim S10x256x1 ![0, 1] bcast_S10x256_S10x256x1_0_1 : (⟨S10x256, .i32⟩ : BufTy).Contents (Elt F) → (⟨S10x256x1, .i32⟩ : BufTy).Contents (Elt F)),
    nullary main_c_1 (constantI S_ 32 16#32),
    unary main_c_1 main_v20 (broadcastInDim S10x256x1 ![] bcast_S_S10x256x1 : (⟨S_, .i32⟩ : BufTy).Contents (Elt F) → (⟨S10x256x1, .i32⟩ : BufTy).Contents (Elt F)),
    binary main_v19 main_v20 main_v21 (muli : (⟨S10x256x1, .i32⟩ : BufTy).Contents (Elt F) → (⟨S10x256x1, .i32⟩ : BufTy).Contents (Elt F) → (⟨S10x256x1, .i32⟩ : BufTy).Contents (Elt F)),
    nullary main_v22 (iotaInDim S16 32 0),
    unary main_v22 main_v23 (broadcastInDim S1x1x16 ![2] bcast_S16_S1x1x16_2 : (⟨S16, .i32⟩ : BufTy).Contents (Elt F) → (⟨S1x1x16, .i32⟩ : BufTy).Contents (Elt F)),
    unary main_v21 main_v24 (broadcastInDim S10x256x16 ![0, 1, 2] bcast_S10x256x1_S10x256x16_0_1_2 : (⟨S10x256x1, .i32⟩ : BufTy).Contents (Elt F) → (⟨S10x256x16, .i32⟩ : BufTy).Contents (Elt F)),
    unary main_v23 main_v25 (broadcastInDim S10x256x16 ![0, 1, 2] bcast_S1x1x16_S10x256x16_0_1_2 : (⟨S1x1x16, .i32⟩ : BufTy).Contents (Elt F) → (⟨S10x256x16, .i32⟩ : BufTy).Contents (Elt F)),
    binary main_v24 main_v25 main_v26 (addi : (⟨S10x256x16, .i32⟩ : BufTy).Contents (Elt F) → (⟨S10x256x16, .i32⟩ : BufTy).Contents (Elt F) → (⟨S10x256x16, .i32⟩ : BufTy).Contents (Elt F)),
    reshape main_v26 main_v27 (rfl : (.i32 : EltTy) = .i32) shapeCasts_S10x256x16_S10x32x128,
    unary main_v27 main_v28 ((transpose S32x10x128 [1, 0, 2] · transposes_S10x32x128_S32x10x128_1_0_2) : (⟨S10x32x128, .i32⟩ : BufTy).Contents (Elt F) → (⟨S32x10x128, .i32⟩ : BufTy).Contents (Elt F)),
    reshape main_v28 main_v29 (rfl : (.i32 : EltTy) = .i32) shapeCasts_S32x10x128_S32x1280,
    nullary main_c_2 (constantI S_ 32 2048#32),
    unary main_c_2 main_v30 (broadcastInDim S10x256 ![] bcast_S_S10x256 : (⟨S_, .i32⟩ : BufTy).Contents (Elt F) → (⟨S10x256, .i32⟩ : BufTy).Contents (Elt F)),
    binary main_v12 main_v30 main_v31 (muli : (⟨S10x256, .i32⟩ : BufTy).Contents (Elt F) → (⟨S10x256, .i32⟩ : BufTy).Contents (Elt F) → (⟨S10x256, .i32⟩ : BufTy).Contents (Elt F)),
    reshape main_v31 main_v32 (rfl : (.i32 : EltTy) = .i32) shapeCasts_S10x256_S10x32x8,
    unary main_v32 main_v33 ((transpose S32x10x8 [1, 0, 2] · transposes_S10x32x8_S32x10x8_1_0_2) : (⟨S10x32x8, .i32⟩ : BufTy).Contents (Elt F) → (⟨S32x10x8, .i32⟩ : BufTy).Contents (Elt F)),
    unary main_v33 main_v34 (broadcastInDim S32x10x8x1 ![0, 1, 2] bcast_S32x10x8_S32x10x8x1_0_1_2 : (⟨S32x10x8, .i32⟩ : BufTy).Contents (Elt F) → (⟨S32x10x8x1, .i32⟩ : BufTy).Contents (Elt F)),
    unary main_v34 main_v35 (broadcastInDim S32x10x8x16 ![0, 1, 2, 3] bcast_S32x10x8x1_S32x10x8x16_0_1_2_3 : (⟨S32x10x8x1, .i32⟩ : BufTy).Contents (Elt F) → (⟨S32x10x8x16, .i32⟩ : BufTy).Contents (Elt F)),
    reshape main_v35 main_v36 (rfl : (.i32 : EltTy) = .i32) shapeCasts_S32x10x8x16_S32x1280,
    reshape main_v8_0 main_v37 (rfl : (.f32 : EltTy) = .f32) shapeCasts_S10x2048x2048_S327680x128,
    unary main_v11 main_v38 (broadcastInDim S10x1 ![0] bcast_S10_S10x1_0 : (⟨S10, .f32⟩ : BufTy).Contents (Elt F) → (⟨S10x1, .f32⟩ : BufTy).Contents (Elt F)),
    unary main_v38 main_v39 (broadcastInDim S10x16 ![0, 1] bcast_S10x1_S10x16_0_1 : (⟨S10x1, .f32⟩ : BufTy).Contents (Elt F) → (⟨S10x16, .f32⟩ : BufTy).Contents (Elt F)),
    reshape main_v39 main_v40 (rfl : (.f32 : EltTy) = .f32) shapeCasts_S10x16_S160 ]

/-- After the SparseCore call: the largest candidates and their places. -/
abbrev opsTop : List (HloOp τ sig (Elt F)) :=
  [ reshape main_v41_0 main_v42 (rfl : (.f32 : EltTy) = .f32) shapeCasts_S10x32x128_S10x4096,
    unary main_v42 main_values_3 ((fun x => (Host.topK S10x204 1 (FloatOps.cmpfTotal .gt) x sliceFits_S10x4096_S10x204).1) : (⟨S10x4096, .f32⟩ : BufTy).Contents (Elt F) → (⟨S10x204, .f32⟩ : BufTy).Contents (Elt F)),
    unary main_v42 main_indices_4 ((fun x => (Host.topK S10x204 1 (FloatOps.cmpfTotal .gt) x sliceFits_S10x4096_S10x204).2) : (⟨S10x4096, .f32⟩ : BufTy).Contents (Elt F) → (⟨S10x204, .i32⟩ : BufTy).Contents (Elt F)),
    reshape main_v41_1 main_v43 (rfl : (.i32 : EltTy) = .i32) shapeCasts_S10x32x128_S10x4096 ]

/-- The candidates' flat indices at those places. -/
abbrev opsSel : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S10x204, .i32⟩) main_call5_v0) (broadcastInDim S10x204 ![] bcast_S_S10x204),
    TRef.binary (TRef.of (T := ⟨S10x204, .i32⟩) main_indices_4) (TRef.of (T := ⟨S10x204, .i32⟩) main_call5_v0) (TRef.of (T := ⟨S10x204, .i1⟩) main_call5_v1) (cmpi .slt),
    TRef.nullary (TRef.of (T := ⟨S_, .i32⟩) main_call5_c_0) (constantI S_ 32 4096#32),
    TRef.unary (TRef.of (T := ⟨S_, .i32⟩) main_call5_c_0) (TRef.of (T := ⟨S10x204, .i32⟩) main_call5_v2) (broadcastInDim S10x204 ![] bcast_S_S10x204),
    TRef.binary (TRef.of (T := ⟨S10x204, .i32⟩) main_indices_4) (TRef.of (T := ⟨S10x204, .i32⟩) main_call5_v2) (TRef.of (T := ⟨S10x204, .i32⟩) main_call5_v3) addi,
    TRef.ternary (TRef.of (T := ⟨S10x204, .i1⟩) main_call5_v1) (TRef.of (T := ⟨S10x204, .i32⟩) main_call5_v3) (TRef.of (T := ⟨S10x204, .i32⟩) main_indices_4) (TRef.of (T := ⟨S10x204, .i32⟩) main_call5_v4) select,
    TRef.reshape (TRef.of (T := ⟨S10x204, .i32⟩) main_call5_v4) (TRef.of (T := ⟨S10x204x1, .i32⟩) main_call5_v5) (rfl : (.i32 : EltTy) = .i32) shapeCasts_S10x204_S10x204x1,
    TRef.nullary (TRef.of (T := ⟨S1, .i32⟩) main_call5_c_1) (constantI S1 32 4095#32),
    TRef.nullary (TRef.of (T := ⟨S_, .i32⟩) main_call5_c_2) (constantI S_ 32 0#32),
    TRef.unary (TRef.of (T := ⟨S_, .i32⟩) main_call5_c_2) (TRef.of (T := ⟨S10x204x1, .i32⟩) main_call5_v6) (broadcastInDim S10x204x1 ![] bcast_S_S10x204x1),
    TRef.binary (TRef.of (T := ⟨S10x204x1, .i32⟩) main_call5_v5) (TRef.of (T := ⟨S10x204x1, .i32⟩) main_call5_v6) (TRef.of (T := ⟨S10x204x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S10x204x1, .i32⟩) main_call5_v9) (broadcastInDim S10x204x1 ![0, 1, 2] bcast_S1x1x1_S10x204x1_0_1_2),
    TRef.binary (TRef.of (T := ⟨S10x204x1, .i32⟩) main_call5_v5) (TRef.of (T := ⟨S10x204x1, .i32⟩) main_call5_v9) (TRef.of (T := ⟨S10x204x1, .i1⟩) main_call5_v10) (cmpi .sle),
    TRef.binary (TRef.of (T := ⟨S10x204x1, .i1⟩) main_call5_v7) (TRef.of (T := ⟨S10x204x1, .i1⟩) main_call5_v10) (TRef.of (T := ⟨S10x204x1, .i1⟩) main_call5_v11) andi,
    TRef.nullary (TRef.of (T := ⟨S_, .i1⟩) main_call5_c_3) (constantI S_ 1 1#1),
    TRef.binary (TRef.of (T := ⟨S10x204x1, .i1⟩) main_call5_v11) (TRef.of (T := ⟨S_, .i1⟩) main_call5_c_3) (TRef.of (T := ⟨S10x204, .i1⟩) main_call5_v12) (fun x v => Host.reduce IntOp.andi x v reducesTo_S10x204x1_S10x204_d2 h_S_),
    TRef.binary (TRef.of (T := ⟨S10x4096, .i32⟩) main_v43) (TRef.of (T := ⟨S10x204x1, .i32⟩) main_call5_v5) (TRef.of (T := ⟨S10x204, .i32⟩) main_call5_v13) (fun x i => Host.gather gather_S10x4096_S10x204x1_S10x204_n_1_0_0_1_2_11 x i),
    TRef.nullary (TRef.of (T := ⟨S_, .i32⟩) main_call5_c_4) (constantI S_ 32 2147483648#32),
    TRef.unary (TRef.of (T := ⟨S_, .i32⟩) main_call5_c_4) (TRef.of (T := ⟨S10x204, .i32⟩) main_call5_v14) (broadcastInDim S10x204 ![] bcast_S_S10x204),
    TRef.ternary (TRef.of (T := ⟨S10x204, .i1⟩) main_call5_v12) (TRef.of (T := ⟨S10x204, .i32⟩) main_call5_v13) (TRef.of (T := ⟨S10x204, .i32⟩) main_call5_v14) (TRef.of (T := ⟨S10x204, .i32⟩) main_v44) select ]

/-- The flat indices divided by the number of columns. -/
abbrev opsDiv : List (HloOp τ sig (Elt F)) :=
  [ nullary main_c_5 (constantI S_ 32 2048#32),
    TRef.unary (TRef.of (T := ⟨S_, .i32⟩) main_c_5) (TRef.of (T := ⟨S_, .i32⟩) main_call6_v0) id,
    TRef.unary (TRef.of (T := ⟨S_, .i32⟩) main_call6_v0) (TRef.of (T := ⟨S10x204, .i32⟩) main_call6_v1) (broadcastInDim S10x204 ![] bcast_S_S10x204),
    TRef.binary (TRef.of (T := ⟨S10x204, .i32⟩) main_v44) (TRef.of (T := ⟨S10x204, .i32⟩) main_call6_v1) (TRef.of (T := ⟨S10x204, .i32⟩) main_call6_v2) Host.divsi,
    TRef.unary (TRef.of (T := ⟨S10x204, .i32⟩) main_v44) (TRef.of (T := ⟨S10x204, .i32⟩) main_call6_v3) signi,
    TRef.unary (TRef.of (T := ⟨S_, .i32⟩) main_call6_v0) (TRef.of (T := ⟨S_, .i32⟩) main_call6_v4) signi,
    TRef.unary (TRef.of (T := ⟨S_, .i32⟩) main_call6_v4) (TRef.of (T := ⟨S10x204, .i32⟩) main_call6_v5) (broadcastInDim S10x204 ![] bcast_S_S10x204),
    TRef.binary (TRef.of (T := ⟨S10x204, .i32⟩) main_call6_v3) (TRef.of (T := ⟨S10x204, .i32⟩) main_call6_v5) (TRef.of (T := ⟨S10x204, .i1⟩) main_call6_v6) (cmpi .ne),
    TRef.unary (TRef.of (T := ⟨S_, .i32⟩) main_call6_v0) (TRef.of (T := ⟨S10x204, .i32⟩) main_call6_v7) (broadcastInDim S10x204 ![] bcast_S_S10x204),
    TRef.binary (TRef.of (T := ⟨S10x204, .i32⟩) main_v44) (TRef.of (T := ⟨S10x204, .i32⟩) main_call6_v7) (TRef.of (T := ⟨S10x204, .i32⟩) main_call6_v8) Host.remsi,
    TRef.nullary (TRef.of (T := ⟨S_, .i32⟩) main_call6_c) (constantI S_ 32 0#32),
    TRef.unary (TRef.of (T := ⟨S_, .i32⟩) main_call6_c) (TRef.of (T := ⟨S10x204, .i32⟩) main_call6_v9) (broadcastInDim S10x204 ![] bcast_S_S10x204),
    TRef.binary (TRef.of (T := ⟨S10x204, .i32⟩) main_call6_v8) (TRef.of (T := ⟨S10x204, .i32⟩) main_call6_v9) (TRef.of (T := ⟨S10x204, .i1⟩) main_call6_v10) (cmpi .ne),
    TRef.binary (TRef.of (T := ⟨S10x204, .i1⟩) main_call6_v6) (TRef.of (T := ⟨S10x204, .i1⟩) main_call6_v10) (TRef.of (T := ⟨S10x204, .i1⟩) main_call6_v11) andi,
    TRef.nullary (TRef.of (T := ⟨S_, .i32⟩) main_call6_c_0) (constantI S_ 32 1#32),
    TRef.unary (TRef.of (T := ⟨S_, .i32⟩) main_call6_c_0) (TRef.of (T := ⟨S10x204, .i32⟩) main_call6_v12) (broadcastInDim S10x204 ![] bcast_S_S10x204),
    TRef.binary (TRef.of (T := ⟨S10x204, .i32⟩) main_call6_v2) (TRef.of (T := ⟨S10x204, .i32⟩) main_call6_v12) (TRef.of (T := ⟨S10x204, .i32⟩) main_call6_v13) subi,
    TRef.ternary (TRef.of (T := ⟨S10x204, .i1⟩) main_call6_v11) (TRef.of (T := ⟨S10x204, .i32⟩) main_call6_v13) (TRef.of (T := ⟨S10x204, .i32⟩) main_call6_v2) (TRef.of (T := ⟨S10x204, .i32⟩) main_v45) select ]

/-- Their remainders. -/
abbrev opsRem : List (HloOp τ sig (Elt F)) :=
  [ nullary main_c_6 (constantI S_ 32 2048#32),
    TRef.unary (TRef.of (T := ⟨S_, .i32⟩) main_c_6) (TRef.of (T := ⟨S_, .i32⟩) main_call7_v0) id,
    TRef.nullary (TRef.of (T := ⟨S_, .i32⟩) main_call7_c) (constantI S_ 32 0#32),
    TRef.binary (TRef.of (T := ⟨S_, .i32⟩) main_call7_v0) (TRef.of (T := ⟨S_, .i32⟩) main_call7_c) (TRef.of (T := ⟨S_, .i1⟩) main_call7_v1) (cmpi .eq),
    TRef.nullary (TRef.of (T := ⟨S_, .i32⟩) main_call7_c_0) (constantI S_ 32 1#32),
    TRef.ternary (TRef.of (T := ⟨S_, .i1⟩) main_call7_v1) (TRef.of (T := ⟨S_, .i32⟩) main_call7_c_0) (TRef.of (T := ⟨S_, .i32⟩) main_call7_v0) (TRef.of (T := ⟨S_, .i32⟩) main_call7_v2) select,
    TRef.unary (TRef.of (T := ⟨S_, .i32⟩) main_call7_v2) (TRef.of (T := ⟨S10x204, .i32⟩) main_call7_v3) (broadcastInDim S10x204 ![] bcast_S_S10x204),
    TRef.binary (TRef.of (T := ⟨S10x204, .i32⟩) main_v44) (TRef.of (T := ⟨S10x204, .i32⟩) main_call7_v3) (TRef.of (T := ⟨S10x204, .i32⟩) main_call7_v4) Host.remsi,
    TRef.nullary (TRef.of (T := ⟨S_, .i32⟩) main_call7_c_1) (constantI S_ 32 0#32),
    TRef.unary (TRef.of (T := ⟨S_, .i32⟩) main_call7_c_1) (TRef.of (T := ⟨S10x204, .i32⟩) main_call7_v5) (broadcastInDim S10x204 ![] bcast_S_S10x204),
    TRef.binary (TRef.of (T := ⟨S10x204, .i32⟩) main_call7_v4) (TRef.of (T := ⟨S10x204, .i32⟩) main_call7_v5) (TRef.of (T := ⟨S10x204, .i1⟩) main_call7_v6) (cmpi .ne),
    TRef.nullary (TRef.of (T := ⟨S_, .i32⟩) main_call7_c_2) (constantI S_ 32 0#32),
    TRef.unary (TRef.of (T := ⟨S_, .i32⟩) main_call7_c_2) (TRef.of (T := ⟨S10x204, .i32⟩) main_call7_v7) (broadcastInDim S10x204 ![] bcast_S_S10x204),
    TRef.binary (TRef.of (T := ⟨S10x204, .i32⟩) main_call7_v4) (TRef.of (T := ⟨S10x204, .i32⟩) main_call7_v7) (TRef.of (T := ⟨S10x204, .i1⟩) main_call7_v8) (cmpi .slt),
    TRef.nullary (TRef.of (T := ⟨S_, .i32⟩) main_call7_c_3) (constantI S_ 32 0#32),
    TRef.binary (TRef.of (T := ⟨S_, .i32⟩) main_call7_v2) (TRef.of (T := ⟨S_, .i32⟩) main_call7_c_3) (TRef.of (T := ⟨S_, .i1⟩) main_call7_v9) (cmpi .slt),
    TRef.unary (TRef.of (T := ⟨S_, .i1⟩) main_call7_v9) (TRef.of (T := ⟨S10x204, .i1⟩) main_call7_v10) (broadcastInDim S10x204 ![] bcast_S_S10x204),
    TRef.binary (TRef.of (T := ⟨S10x204, .i1⟩) main_call7_v8) (TRef.of (T := ⟨S10x204, .i1⟩) main_call7_v10) (TRef.of (T := ⟨S10x204, .i1⟩) main_call7_v11) (cmpi .ne),
    TRef.binary (TRef.of (T := ⟨S10x204, .i1⟩) main_call7_v11) (TRef.of (T := ⟨S10x204, .i1⟩) main_call7_v6) (TRef.of (T := ⟨S10x204, .i1⟩) main_call7_v12) andi,
    TRef.unary (TRef.of (T := ⟨S_, .i32⟩) main_call7_v2) (TRef.of (T := ⟨S10x204, .i32⟩) main_call7_v13) (broadcastInDim S10x204 ![] bcast_S_S10x204),
    TRef.binary (TRef.of (T := ⟨S10x204, .i32⟩) main_call7_v4) (TRef.of (T := ⟨S10x204, .i32⟩) main_call7_v13) (TRef.of (T := ⟨S10x204, .i32⟩) main_call7_v14) addi,
    TRef.ternary (TRef.of (T := ⟨S10x204, .i1⟩) main_call7_v12) (TRef.of (T := ⟨S10x204, .i32⟩) main_call7_v14) (TRef.of (T := ⟨S10x204, .i32⟩) main_call7_v4) (TRef.of (T := ⟨S10x204, .i32⟩) main_v46) select ]

/-- The query boxes. -/
abbrev opsTake : List (HloOp τ sig (Elt F)) :=
  [ TRef.nullary (TRef.of (T := ⟨S_, .i32⟩) main_call8_c) (constantI S_ 32 0#32),
    TRef.unary (TRef.of (T := ⟨S_, .i32⟩) main_call8_c) (TRef.of (T := ⟨S10x204, .i32⟩) main_call8_v0) (broadcastInDim S10x204 ![] bcast_S_S10x204),
    TRef.binary (TRef.of (T := ⟨S10x204, .i32⟩) main_v45) (TRef.of (T := ⟨S10x204, .i32⟩) main_call8_v0) (TRef.of (T := ⟨S10x204, .i1⟩) main_call8_v1) (cmpi .slt),
    TRef.nullary (TRef.of (T := ⟨S_, .i32⟩) main_call8_c_0) (constantI S_ 32 2048#32),
    TRef.unary (TRef.of (T := ⟨S_, .i32⟩) main_call8_c_0) (TRef.of (T := ⟨S10x204, .i32⟩) main_call8_v2) (broadcastInDim S10x204 ![] bcast_S_S10x204),
    TRef.binary (TRef.of (T := ⟨S10x204, .i32⟩) main_v45) (TRef.of (T := ⟨S10x204, .i32⟩) main_call8_v2) (TRef.of (T := ⟨S10x204, .i32⟩) main_call8_v3) addi,
    TRef.ternary (TRef.of (T := ⟨S10x204, .i1⟩) main_call8_v1) (TRef.of (T := ⟨S10x204, .i32⟩) main_call8_v3) (TRef.of (T := ⟨S10x204, .i32⟩) main_v45) (TRef.of (T := ⟨S10x204, .i32⟩) main_call8_v4) select,
    TRef.unary (TRef.of (T := ⟨S10x204, .i32⟩) main_call8_v4) (TRef.of (T := ⟨S10x204x1, .i32⟩) main_call8_v5) (broadcastInDim S10x204x1 ![0, 1] bcast_S10x204_S10x204x1_0_1),
    TRef.nullary (TRef.of (T := ⟨S1, .i32⟩) main_call8_c_1) (constantI S1 32 2047#32),
    TRef.nullary (TRef.of (T := ⟨S_, .i32⟩) main_call8_c_2) (constantI S_ 32 0#32),
    TRef.unary (TRef.of (T := ⟨S_, .i32⟩) main_call8_c_2) (TRef.of (T := ⟨S10x204x1, .i32⟩) main_call8_v6) (broadcastInDim S10x204x1 ![] bcast_S_S10x204x1),
    TRef.binary (TRef.of (T := ⟨S10x204x1, .i32⟩) main_call8_v5) (TRef.of (T := ⟨S10x204x1, .i32⟩) main_call8_v6) (TRef.of (T := ⟨S10x204x1, .i1⟩) main_call8_v7) (cmpi .sge),
    TRef.unary (TRef.of (T := ⟨S1, .i32⟩) main_call8_c_1) (TRef.of (T := ⟨S1x1x1, .i32⟩) main_call8_v8) (broadcastInDim S1x1x1 ![2] bcast_S1_S1x1x1_2),
    TRef.unary (TRef.of (T := ⟨S1x1x1, .i32⟩) main_call8_v8) (TRef.of (T := ⟨S10x204x1, .i32⟩) main_call8_v9) (broadcastInDim S10x204x1 ![0, 1, 2] bcast_S1x1x1_S10x204x1_0_1_2),
    TRef.binary (TRef.of (T := ⟨S10x204x1, .i32⟩) main_call8_v5) (TRef.of (T := ⟨S10x204x1, .i32⟩) main_call8_v9) (TRef.of (T := ⟨S10x204x1, .i1⟩) main_call8_v10) (cmpi .sle),
    TRef.binary (TRef.of (T := ⟨S10x204x1, .i1⟩) main_call8_v7) (TRef.of (T := ⟨S10x204x1, .i1⟩) main_call8_v10) (TRef.of (T := ⟨S10x204x1, .i1⟩) main_call8_v11) andi,
    TRef.nullary (TRef.of (T := ⟨S_, .i1⟩) main_call8_c_3) (constantI S_ 1 1#1),
    TRef.binary (TRef.of (T := ⟨S10x204x1, .i1⟩) main_call8_v11) (TRef.of (T := ⟨S_, .i1⟩) main_call8_c_3) (TRef.of (T := ⟨S10x204, .i1⟩) main_call8_v12) (fun x v => Host.reduce IntOp.andi x v reducesTo_S10x204x1_S10x204_d2 h_S_),
    TRef.binary (TRef.of (T := ⟨S2048x4, .f32⟩) main_arg2) (TRef.of (T := ⟨S10x204x1, .i32⟩) main_call8_v5) (TRef.of (T := ⟨S10x204x4, .f32⟩) main_call8_v13) (fun x i => Host.gather gather_S2048x4_S10x204x1_S10x204x4_2_0_n_n_0_2_14 x i),
    TRef.unary (TRef.of (T := ⟨S10x204, .i1⟩) main_call8_v12) (TRef.of (T := ⟨S10x204x4, .i1⟩) main_call8_v14) (broadcastInDim S10x204x4 ![0, 1] bcast_S10x204_S10x204x4_0_1),
    TRef.nullary (TRef.of (T := ⟨S_, .f32⟩) main_call8_cst) (constant S_ .f32 0x7FC00000#32),
    TRef.unary (TRef.of (T := ⟨S_, .f32⟩) main_call8_cst) (TRef.of (T := ⟨S10x204x4, .f32⟩) main_call8_v15) (broadcastInDim S10x204x4 ![] bcast_S_S10x204x4),
    TRef.ternary (TRef.of (T := ⟨S10x204x4, .i1⟩) main_call8_v14) (TRef.of (T := ⟨S10x204x4, .f32⟩) main_call8_v13) (TRef.of (T := ⟨S10x204x4, .f32⟩) main_call8_v15) (TRef.of (T := ⟨S10x204x4, .f32⟩) main_v47) select ]

/-- The boxes of the image searched. -/
abbrev opsTakeK : List (HloOp τ sig (Elt F)) :=
  [ unary main_v46 main_v48 (broadcastInDim S10x204x1 ![0, 1] bcast_S10x204_S10x204x1_0_1 : (⟨S10x204, .i32⟩ : BufTy).Contents (Elt F) → (⟨S10x204x1, .i32⟩ : BufTy).Contents (Elt F)),
    TRef.nullary (TRef.of (T := ⟨S_, .i32⟩) main_call9_c) (constantI S_ 32 0#32),
    TRef.unary (TRef.of (T := ⟨S_, .i32⟩) main_call9_c) (TRef.of (T := ⟨S10x204x1, .i32⟩) main_call9_v0) (broadcastInDim S10x204x1 ![] bcast_S_S10x204x1),
    TRef.binary (TRef.of (T := ⟨S10x204x1, .i32⟩) main_v48) (TRef.of (T := ⟨S10x204x1, .i32⟩) main_call9_v0) (TRef.of (T := ⟨S10x204x1, .i1⟩) main_call9_v1) (cmpi .slt),
    TRef.nullary (TRef.of (T := ⟨S_, .i32⟩) main_call9_c_0) (constantI S_ 32 2048#32),
    TRef.unary (TRef.of (T := ⟨S_, .i32⟩) main_call9_c_0) (TRef.of (T := ⟨S10x204x1, .i32⟩) main_call9_v2) (broadcastInDim S10x204x1 ![] bcast_S_S10x204x1),
    TRef.binary (TRef.of (T := ⟨S10x204x1, .i32⟩) main_v48) (TRef.of (T := ⟨S10x204x1, .i32⟩) main_call9_v2) (TRef.of (T := ⟨S10x204x1, .i32⟩) main_call9_v3) addi,
    TRef.ternary (TRef.of (T := ⟨S10x204x1, .i1⟩) main_call9_v1) (TRef.of (T := ⟨S10x204x1, .i32⟩) main_call9_v3) (TRef.of (T := ⟨S10x204x1, .i32⟩) main_v48) (TRef.of (T := ⟨S10x204x1, .i32⟩) main_call9_v4) select,
    TRef.nullary (TRef.of (T := ⟨S1, .i32⟩) main_call9_c_1) (constantI S1 32 2047#32),
    TRef.nullary (TRef.of (T := ⟨S_, .i32⟩) main_call9_c_2) (constantI S_ 32 0#32),
    TRef.unary (TRef.of (T := ⟨S_, .i32⟩) main_call9_c_2) (TRef.of (T := ⟨S10x204x1, .i32⟩) main_call9_v5) (broadcastInDim S10x204x1 ![] bcast_S_S10x204x1),
    TRef.binary (TRef.of (T := ⟨S10x204x1, .i32⟩) main_call9_v4) (TRef.of (T := ⟨S10x204x1, .i32⟩) main_call9_v5) (TRef.of (T := ⟨S10x204x1, .i1⟩) main_call9_v6) (cmpi .sge),
    TRef.unary (TRef.of (T := ⟨S1, .i32⟩) main_call9_c_1) (TRef.of (T := ⟨S1x1x1, .i32⟩) main_call9_v7) (broadcastInDim S1x1x1 ![2] bcast_S1_S1x1x1_2),
    TRef.unary (TRef.of (T := ⟨S1x1x1, .i32⟩) main_call9_v7) (TRef.of (T := ⟨S10x204x1, .i32⟩) main_call9_v8) (broadcastInDim S10x204x1 ![0, 1, 2] bcast_S1x1x1_S10x204x1_0_1_2),
    TRef.binary (TRef.of (T := ⟨S10x204x1, .i32⟩) main_call9_v4) (TRef.of (T := ⟨S10x204x1, .i32⟩) main_call9_v8) (TRef.of (T := ⟨S10x204x1, .i1⟩) main_call9_v9) (cmpi .sle),
    TRef.binary (TRef.of (T := ⟨S10x204x1, .i1⟩) main_call9_v6) (TRef.of (T := ⟨S10x204x1, .i1⟩) main_call9_v9) (TRef.of (T := ⟨S10x204x1, .i1⟩) main_call9_v10) andi,
    TRef.nullary (TRef.of (T := ⟨S_, .i1⟩) main_call9_c_3) (constantI S_ 1 1#1),
    TRef.binary (TRef.of (T := ⟨S10x204x1, .i1⟩) main_call9_v10) (TRef.of (T := ⟨S_, .i1⟩) main_call9_c_3) (TRef.of (T := ⟨S10x204, .i1⟩) main_call9_v11) (fun x v => Host.reduce IntOp.andi x v reducesTo_S10x204x1_S10x204_d2 h_S_),
    TRef.binary (TRef.of (T := ⟨S10x2048x4, .f32⟩) main_arg3) (TRef.of (T := ⟨S10x204x1, .i32⟩) main_call9_v4) (TRef.of (T := ⟨S10x204x4, .f32⟩) main_call9_v12) (fun x i => Host.gather gather_S10x2048x4_S10x204x1_S10x204x4_2_1_0_0_1_2_114 x i),
    TRef.unary (TRef.of (T := ⟨S10x204, .i1⟩) main_call9_v11) (TRef.of (T := ⟨S10x204x4, .i1⟩) main_call9_v13) (broadcastInDim S10x204x4 ![0, 1] bcast_S10x204_S10x204x4_0_1),
    TRef.nullary (TRef.of (T := ⟨S_, .f32⟩) main_call9_cst) (constant S_ .f32 0x7FC00000#32),
    TRef.unary (TRef.of (T := ⟨S_, .f32⟩) main_call9_cst) (TRef.of (T := ⟨S10x204x4, .f32⟩) main_call9_v14) (broadcastInDim S10x204x4 ![] bcast_S_S10x204x4),
    TRef.ternary (TRef.of (T := ⟨S10x204x4, .i1⟩) main_call9_v13) (TRef.of (T := ⟨S10x204x4, .f32⟩) main_call9_v12) (TRef.of (T := ⟨S10x204x4, .f32⟩) main_call9_v14) (TRef.of (T := ⟨S10x204x4, .f32⟩) main_v49) select ]

/-- The pairs. -/
abbrev opsGlue : List (HloOp τ sig (Elt F)) :=
  [ binary main_v47 main_v49 main_v50 (glue (F := F)) ]

set_option maxRecDepth 8192 in
set_option maxHeartbeats 4000000 in
/-- @main: the lists of operations around the two calls. -/
theorem main_eq (d : Dev nD) : main (F := F) d = (seq opsPre >>= fun _ =>
    Prog.lift (.customCall (SparseCore.inner (Pipeline.entry 0)) ()) >>= fun _ =>
    seq opsMid >>= fun _ => sc.run d 0 >>= fun _ =>
    seq (opsTop ++ opsSel ++ opsDiv ++ opsRem ++ opsTake ++ opsTakeK ++ opsGlue)) := rfl

/-! ## Which arrays the operations use

A theorem `opsX_sub` says that the list of operations `opsX` uses only arrays of the main thread. -/

set_option maxRecDepth 8192 in
theorem opsPre_sub : (opsPre : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub ..⟩

set_option maxRecDepth 8192 in
theorem opsMid_sub : (opsMid : List (HloOp τ sig (Elt F))).Forall fun op => op.bufs ⊆ tcRefs τ sig :=
  ⟨reshape_bufs_sub .., unary_bufs_sub .., unary_bufs_sub .., unary_bufs_sub .., reshape_bufs_sub .., unary_bufs_sub .., nullary_bufs_sub .., nullary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., unary_bufs_sub .., unary_bufs_sub .., binary_bufs_sub .., reshape_bufs_sub .., unary_bufs_sub .., reshape_bufs_sub .., nullary_bufs_sub .., unary_bufs_sub .., binary_bufs_sub .., reshape_bufs_sub .., unary_bufs_sub .., unary_bufs_sub .., unary_bufs_sub .., reshape_bufs_sub .., reshape_bufs_sub .., unary_bufs_sub .., unary_bufs_sub .., reshape_bufs_sub ..⟩

set_option maxRecDepth 8192 in
theorem opsTop_sub : (opsTop : List (HloOp τ sig (Elt F))).Forall fun op => op.bufs ⊆ tcRefs τ sig :=
  ⟨reshape_bufs_sub .., unary_bufs_sub .., unary_bufs_sub .., reshape_bufs_sub ..⟩

set_option maxRecDepth 8192 in
theorem opsSel_sub : (opsSel : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

set_option maxRecDepth 8192 in
theorem opsDiv_sub : (opsDiv : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

set_option maxRecDepth 8192 in
theorem opsRem_sub : (opsRem : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

set_option maxRecDepth 8192 in
theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxRecDepth 8192 in
theorem opsTakeK_sub : (opsTakeK : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem opsGlue_sub : (opsGlue : List (HloOp τ sig (Elt F))).Forall fun op => op.bufs ⊆ tcRefs τ sig := binary_bufs_sub ..

end Cert.Proof.Host

end
-- ==== Proof.Values.lean ====
/-
  What each list of host operations leaves in the buffers read later.
-/
module

public import proofs.«01_k».proof.Proof.Host

@[expose] public section

noncomputable section

namespace Cert.Proof.Host

open Cert.KernelIdeal Cert.KernelIdeal.Gen
open Idealize.ShloMosaic Idealize.ShloMosaic.TcCoe Idealize.SL.Sem Idealize.ShloMosaic.StableHlo

variable {F : FTy → Type} [FloatOps F]

/-- The query features over their rows' norms. -/
def unitQ (arg0 : A F S2048x256 .f32) : A F S2048x256 .f32 :=
  let call0_v0 : A F S2048x256 .f32 := mulf arg0 arg0
  let call0_cst : A F S_ .f32 := constant S_ .f32 0x00000000#32
  let call0_v1 : A F S2048 .f32 := Host.reduceAdd call0_v0 call0_cst reducesTo_S2048x256_S2048_d1 h_S_
  let call0_v2 : A F S2048x1 .f32 := broadcastInDim S2048x1 ![0] bcast_S2048_S2048x1_0 call0_v1
  let v0 : A F S2048x1 .f32 := Host.sqrt call0_v2
  let cst : A F S_ .f32 := constant S_ .f32 0x2B8CBCCC#32
  let call1_v0 : A F S_ .f32 := cst
  let call1_v1 : A F S2048x1 .f32 := broadcastInDim S2048x1 ![] bcast_S_S2048x1 call1_v0
  let v1 : A F S2048x1 .f32 := maximumf call1_v1 v0
  let v2 : A F S2048x256 .f32 := broadcastInDim S2048x256 ![0, 1] bcast_S2048x1_S2048x256_0_1 v1
  Host.divf arg0 v2

/-- The image features over their rows' norms. -/
def unitK (arg1 : A F S10x2048x256 .f32) : A F S10x2048x256 .f32 :=
  let call2_v0 : A F S10x2048x256 .f32 := mulf arg1 arg1
  let call2_cst : A F S_ .f32 := constant S_ .f32 0x00000000#32
  let call2_v1 : A F S10x2048 .f32 := Host.reduceAdd call2_v0 call2_cst reducesTo_S10x2048x256_S10x2048_d2 h_S_
  let call2_v2 : A F S10x2048x1 .f32 := broadcastInDim S10x2048x1 ![0, 1] bcast_S10x2048_S10x2048x1_0_1 call2_v1
  let v4 : A F S10x2048x1 .f32 := Host.sqrt call2_v2
  let cst_0 : A F S_ .f32 := constant S_ .f32 0x2B8CBCCC#32
  let call3_v0 : A F S_ .f32 := cst_0
  let call3_v1 : A F S10x2048x1 .f32 := broadcastInDim S10x2048x1 ![] bcast_S_S10x2048x1 call3_v0
  let v5 : A F S10x2048x1 .f32 := maximumf call3_v1 v4
  let v6 : A F S10x2048x256 .f32 := broadcastInDim S10x2048x256 ![0, 1, 2] bcast_S10x2048x1_S10x2048x256_0_1_2 v5
  Host.divf arg1 v6

/-- The rows with the largest maxima, in order of their numbers. -/
def picked (v8_1 : A F S10x2048x1 .f32) : A F S10x256 .i32 :=
  let v9 : A F S10x2048 .f32 := shapeCast _ v8_1 shapeCasts_S10x2048x1_S10x2048
  let indices : A F S10x256 .i32 := (Host.topK S10x256 1 (FloatOps.cmpfTotal .gt) v9 sliceFits_S10x2048_S10x256).2
  Host.sort S10x256 1 comparator_i32_d1 indices

/-- The table's rows that each subcore reads. -/
def ids (v12 : A F S10x256 .i32) : A F S32x1280 .i32 :=
  let v13 : A F S10 .i32 := iotaInDim S10 32 0
  let c : A F S_ .i32 := constantI S_ 32 2048#32
  let v14 : A F S10 .i32 := broadcastInDim S10 ![] bcast_S_S10 c
  let v15 : A F S10 .i32 := muli v13 v14
  let v16 : A F S10x1 .i32 := broadcastInDim S10x1 ![0] bcast_S10_S10x1_0 v15
  let v17 : A F S10x256 .i32 := broadcastInDim S10x256 ![0, 1] bcast_S10x1_S10x256_0_1 v16
  let v18 : A F S10x256 .i32 := addi v12 v17
  let v19 : A F S10x256x1 .i32 := broadcastInDim S10x256x1 ![0, 1] bcast_S10x256_S10x256x1_0_1 v18
  let c_1 : A F S_ .i32 := constantI S_ 32 16#32
  let v20 : A F S10x256x1 .i32 := broadcastInDim S10x256x1 ![] bcast_S_S10x256x1 c_1
  let v21 : A F S10x256x1 .i32 := muli v19 v20
  let v22 : A F S16 .i32 := iotaInDim S16 32 0
  let v23 : A F S1x1x16 .i32 := broadcastInDim S1x1x16 ![2] bcast_S16_S1x1x16_2 v22
  let v24 : A F S10x256x16 .i32 := broadcastInDim S10x256x16 ![0, 1, 2] bcast_S10x256x1_S10x256x16_0_1_2 v21
  let v25 : A F S10x256x16 .i32 := broadcastInDim S10x256x16 ![0, 1, 2] bcast_S1x1x16_S10x256x16_0_1_2 v23
  let v26 : A F S10x256x16 .i32 := addi v24 v25
  let v27 : A F S10x32x128 .i32 := shapeCast _ v26 shapeCasts_S10x256x16_S10x32x128
  let v28 : A F S32x10x128 .i32 := transpose S32x10x128 [1, 0, 2] v27 transposes_S10x32x128_S32x10x128_1_0_2
  shapeCast _ v28 shapeCasts_S32x10x128_S32x1280

/-- The flat index at which each of them starts. -/
def bases (v12 : A F S10x256 .i32) : A F S32x1280 .i32 :=
  let c_2 : A F S_ .i32 := constantI S_ 32 2048#32
  let v30 : A F S10x256 .i32 := broadcastInDim S10x256 ![] bcast_S_S10x256 c_2
  let v31 : A F S10x256 .i32 := muli v12 v30
  let v32 : A F S10x32x8 .i32 := shapeCast _ v31 shapeCasts_S10x256_S10x32x8
  let v33 : A F S32x10x8 .i32 := transpose S32x10x8 [1, 0, 2] v32 transposes_S10x32x8_S32x10x8_1_0_2
  let v34 : A F S32x10x8x1 .i32 := broadcastInDim S32x10x8x1 ![0, 1, 2] bcast_S32x10x8_S32x10x8x1_0_1_2 v33
  let v35 : A F S32x10x8x16 .i32 := broadcastInDim S32x10x8x16 ![0, 1, 2, 3] bcast_S32x10x8x1_S32x10x8x16_0_1_2_3 v34
  shapeCast _ v35 shapeCasts_S32x10x8x16_S32x1280

/-- The similarities, in rows of 128. -/
def table (v8_0 : A F S10x2048x2048 .f32) : A F S327680x128 .f32 :=
  shapeCast _ v8_0 shapeCasts_S10x2048x2048_S327680x128

/-- The thresholds: the least of the maxima picked, sixteen times. -/
def thrs (v8_1 : A F S10x2048x1 .f32) : A F S160 .f32 :=
  let v9 : A F S10x2048 .f32 := shapeCast _ v8_1 shapeCasts_S10x2048x1_S10x2048
  let values : A F S10x256 .f32 := (Host.topK S10x256 1 (FloatOps.cmpfTotal .gt) v9 sliceFits_S10x2048_S10x256).1
  let v10 : A F S10x1 .f32 := extractStridedSlice S10x1 ![0, 255] values slices_S10x256_S10x1_0_255
  let v11 : A F S10 .f32 := shapeCast _ v10 shapeCasts_S10x1_S10
  let v38 : A F S10x1 .f32 := broadcastInDim S10x1 ![0] bcast_S10_S10x1_0 v11
  let v39 : A F S10x16 .f32 := broadcastInDim S10x16 ![0, 1] bcast_S10x1_S10x16_0_1 v38
  shapeCast _ v39 shapeCasts_S10x16_S160

/-- The largest candidates. -/
def topV (v41_0 : A F S10x32x128 .f32) : A F S10x204 .f32 :=
  let v42 : A F S10x4096 .f32 := shapeCast _ v41_0 shapeCasts_S10x32x128_S10x4096
  (Host.topK S10x204 1 (FloatOps.cmpfTotal .gt) v42 sliceFits_S10x4096_S10x204).1

/-- Their places. -/
def topI (v41_0 : A F S10x32x128 .f32) : A F S10x204 .i32 :=
  let v42 : A F S10x4096 .f32 := shapeCast _ v41_0 shapeCasts_S10x32x128_S10x4096
  (Host.topK S10x204 1 (FloatOps.cmpfTotal .gt) v42 sliceFits_S10x4096_S10x204).2

/-- The candidates' indices in a row. -/
def flat (v41_1 : A F S10x32x128 .i32) : A F S10x4096 .i32 :=
  shapeCast _ v41_1 shapeCasts_S10x32x128_S10x4096

/-- The entries at the given places. -/
def sel (v43 : A F S10x4096 .i32) (indices_4 : A F S10x204 .i32) : A F S10x204 .i32 :=
  let call5_c : A F S_ .i32 := constantI S_ 32 0#32
  let call5_v0 : A F S10x204 .i32 := broadcastInDim S10x204 ![] bcast_S_S10x204 call5_c
  let call5_v1 : A F S10x204 .i1 := cmpi .slt indices_4 call5_v0
  let call5_c_0 : A F S_ .i32 := constantI S_ 32 4096#32
  let call5_v2 : A F S10x204 .i32 := broadcastInDim S10x204 ![] bcast_S_S10x204 call5_c_0
  let call5_v3 : A F S10x204 .i32 := addi indices_4 call5_v2
  let call5_v4 : A F S10x204 .i32 := select call5_v1 call5_v3 indices_4
  let call5_v5 : A F S10x204x1 .i32 := shapeCast _ call5_v4 shapeCasts_S10x204_S10x204x1
  let call5_c_1 : A F S1 .i32 := constantI S1 32 4095#32
  let call5_c_2 : A F S_ .i32 := constantI S_ 32 0#32
  let call5_v6 : A F S10x204x1 .i32 := broadcastInDim S10x204x1 ![] bcast_S_S10x204x1 call5_c_2
  let call5_v7 : A F S10x204x1 .i1 := cmpi .sge call5_v5 call5_v6
  let call5_v8 : A F S1x1x1 .i32 := broadcastInDim S1x1x1 ![2] bcast_S1_S1x1x1_2 call5_c_1
  let call5_v9 : A F S10x204x1 .i32 := broadcastInDim S10x204x1 ![0, 1, 2] bcast_S1x1x1_S10x204x1_0_1_2 call5_v8
  let call5_v10 : A F S10x204x1 .i1 := cmpi .sle call5_v5 call5_v9
  let call5_v11 : A F S10x204x1 .i1 := andi call5_v7 call5_v10
  let call5_c_3 : A F S_ .i1 := constantI S_ 1 1#1
  let call5_v12 : A F S10x204 .i1 := Host.reduce IntOp.andi call5_v11 call5_c_3 reducesTo_S10x204x1_S10x204_d2 h_S_
  let call5_v13 : A F S10x204 .i32 := Host.gather gather_S10x4096_S10x204x1_S10x204_n_1_0_0_1_2_11 v43 call5_v5
  let call5_c_4 : A F S_ .i32 := constantI S_ 32 2147483648#32
  let call5_v14 : A F S10x204 .i32 := broadcastInDim S10x204 ![] bcast_S_S10x204 call5_c_4
  select call5_v12 call5_v13 call5_v14

/-- The quotient, rounded down. -/
def quot (v44 : A F S10x204 .i32) : A F S10x204 .i32 :=
  let c_5 : A F S_ .i32 := constantI S_ 32 2048#32
  let call6_v0 : A F S_ .i32 := c_5
  let call6_v1 : A F S10x204 .i32 := broadcastInDim S10x204 ![] bcast_S_S10x204 call6_v0
  let call6_v2 : A F S10x204 .i32 := Host.divsi v44 call6_v1
  let call6_v3 : A F S10x204 .i32 := signi v44
  let call6_v4 : A F S_ .i32 := signi call6_v0
  let call6_v5 : A F S10x204 .i32 := broadcastInDim S10x204 ![] bcast_S_S10x204 call6_v4
  let call6_v6 : A F S10x204 .i1 := cmpi .ne call6_v3 call6_v5
  let call6_v7 : A F S10x204 .i32 := broadcastInDim S10x204 ![] bcast_S_S10x204 call6_v0
  let call6_v8 : A F S10x204 .i32 := Host.remsi v44 call6_v7
  let call6_c : A F S_ .i32 := constantI S_ 32 0#32
  let call6_v9 : A F S10x204 .i32 := broadcastInDim S10x204 ![] bcast_S_S10x204 call6_c
  let call6_v10 : A F S10x204 .i1 := cmpi .ne call6_v8 call6_v9
  let call6_v11 : A F S10x204 .i1 := andi call6_v6 call6_v10
  let call6_c_0 : A F S_ .i32 := constantI S_ 32 1#32
  let call6_v12 : A F S10x204 .i32 := broadcastInDim S10x204 ![] bcast_S_S10x204 call6_c_0
  let call6_v13 : A F S10x204 .i32 := subi call6_v2 call6_v12
  select call6_v11 call6_v13 call6_v2

/-- The remainder. -/
def rest (v44 : A F S10x204 .i32) : A F S10x204 .i32 :=
  let c_6 : A F S_ .i32 := constantI S_ 32 2048#32
  let call7_v0 : A F S_ .i32 := c_6
  let call7_c : A F S_ .i32 := constantI S_ 32 0#32
  let call7_v1 : A F S_ .i1 := cmpi .eq call7_v0 call7_c
  let call7_c_0 : A F S_ .i32 := constantI S_ 32 1#32
  let call7_v2 : A F S_ .i32 := select call7_v1 call7_c_0 call7_v0
  let call7_v3 : A F S10x204 .i32 := broadcastInDim S10x204 ![] bcast_S_S10x204 call7_v2
  let call7_v4 : A F S10x204 .i32 := Host.remsi v44 call7_v3
  let call7_c_1 : A F S_ .i32 := constantI S_ 32 0#32
  let call7_v5 : A F S10x204 .i32 := broadcastInDim S10x204 ![] bcast_S_S10x204 call7_c_1
  let call7_v6 : A F S10x204 .i1 := cmpi .ne call7_v4 call7_v5
  let call7_c_2 : A F S_ .i32 := constantI S_ 32 0#32
  let call7_v7 : A F S10x204 .i32 := broadcastInDim S10x204 ![] bcast_S_S10x204 call7_c_2
  let call7_v8 : A F S10x204 .i1 := cmpi .slt call7_v4 call7_v7
  let call7_c_3 : A F S_ .i32 := constantI S_ 32 0#32
  let call7_v9 : A F S_ .i1 := cmpi .slt call7_v2 call7_c_3
  let call7_v10 : A F S10x204 .i1 := broadcastInDim S10x204 ![] bcast_S_S10x204 call7_v9
  let call7_v11 : A F S10x204 .i1 := cmpi .ne call7_v8 call7_v10
  let call7_v12 : A F S10x204 .i1 := andi call7_v11 call7_v6
  let call7_v13 : A F S10x204 .i32 := broadcastInDim S10x204 ![] bcast_S_S10x204 call7_v2
  let call7_v14 : A F S10x204 .i32 := addi call7_v4 call7_v13
  select call7_v12 call7_v14 call7_v4

/-- The query boxes of the given numbers. -/
def boxQ (arg2 : A F S2048x4 .f32) (v45 : A F S10x204 .i32) : A F S10x204x4 .f32 :=
  let call8_c : A F S_ .i32 := constantI S_ 32 0#32
  let call8_v0 : A F S10x204 .i32 := broadcastInDim S10x204 ![] bcast_S_S10x204 call8_c
  let call8_v1 : A F S10x204 .i1 := cmpi .slt v45 call8_v0
  let call8_c_0 : A F S_ .i32 := constantI S_ 32 2048#32
  let call8_v2 : A F S10x204 .i32 := broadcastInDim S10x204 ![] bcast_S_S10x204 call8_c_0
  let call8_v3 : A F S10x204 .i32 := addi v45 call8_v2
  let call8_v4 : A F S10x204 .i32 := select call8_v1 call8_v3 v45
  let call8_v5 : A F S10x204x1 .i32 := broadcastInDim S10x204x1 ![0, 1] bcast_S10x204_S10x204x1_0_1 call8_v4
  let call8_c_1 : A F S1 .i32 := constantI S1 32 2047#32
  let call8_c_2 : A F S_ .i32 := constantI S_ 32 0#32
  let call8_v6 : A F S10x204x1 .i32 := broadcastInDim S10x204x1 ![] bcast_S_S10x204x1 call8_c_2
  let call8_v7 : A F S10x204x1 .i1 := cmpi .sge call8_v5 call8_v6
  let call8_v8 : A F S1x1x1 .i32 := broadcastInDim S1x1x1 ![2] bcast_S1_S1x1x1_2 call8_c_1
  let call8_v9 : A F S10x204x1 .i32 := broadcastInDim S10x204x1 ![0, 1, 2] bcast_S1x1x1_S10x204x1_0_1_2 call8_v8
  let call8_v10 : A F S10x204x1 .i1 := cmpi .sle call8_v5 call8_v9
  let call8_v11 : A F S10x204x1 .i1 := andi call8_v7 call8_v10
  let call8_c_3 : A F S_ .i1 := constantI S_ 1 1#1
  let call8_v12 : A F S10x204 .i1 := Host.reduce IntOp.andi call8_v11 call8_c_3 reducesTo_S10x204x1_S10x204_d2 h_S_
  let call8_v13 : A F S10x204x4 .f32 := Host.gather gather_S2048x4_S10x204x1_S10x204x4_2_0_n_n_0_2_14 arg2 call8_v5
  let call8_v14 : A F S10x204x4 .i1 := broadcastInDim S10x204x4 ![0, 1] bcast_S10x204_S10x204x4_0_1 call8_v12
  let call8_cst : A F S_ .f32 := constant S_ .f32 0x7FC00000#32
  let call8_v15 : A F S10x204x4 .f32 := broadcastInDim S10x204x4 ![] bcast_S_S10x204x4 call8_cst
  select call8_v14 call8_v13 call8_v15

/-- The image boxes of the given numbers. -/
def boxK (arg3 : A F S10x2048x4 .f32) (v46 : A F S10x204 .i32) : A F S10x204x4 .f32 :=
  let v48 : A F S10x204x1 .i32 := broadcastInDim S10x204x1 ![0, 1] bcast_S10x204_S10x204x1_0_1 v46
  let call9_c : A F S_ .i32 := constantI S_ 32 0#32
  let call9_v0 : A F S10x204x1 .i32 := broadcastInDim S10x204x1 ![] bcast_S_S10x204x1 call9_c
  let call9_v1 : A F S10x204x1 .i1 := cmpi .slt v48 call9_v0
  let call9_c_0 : A F S_ .i32 := constantI S_ 32 2048#32
  let call9_v2 : A F S10x204x1 .i32 := broadcastInDim S10x204x1 ![] bcast_S_S10x204x1 call9_c_0
  let call9_v3 : A F S10x204x1 .i32 := addi v48 call9_v2
  let call9_v4 : A F S10x204x1 .i32 := select call9_v1 call9_v3 v48
  let call9_c_1 : A F S1 .i32 := constantI S1 32 2047#32
  let call9_c_2 : A F S_ .i32 := constantI S_ 32 0#32
  let call9_v5 : A F S10x204x1 .i32 := broadcastInDim S10x204x1 ![] bcast_S_S10x204x1 call9_c_2
  let call9_v6 : A F S10x204x1 .i1 := cmpi .sge call9_v4 call9_v5
  let call9_v7 : A F S1x1x1 .i32 := broadcastInDim S1x1x1 ![2] bcast_S1_S1x1x1_2 call9_c_1
  let call9_v8 : A F S10x204x1 .i32 := broadcastInDim S10x204x1 ![0, 1, 2] bcast_S1x1x1_S10x204x1_0_1_2 call9_v7
  let call9_v9 : A F S10x204x1 .i1 := cmpi .sle call9_v4 call9_v8
  let call9_v10 : A F S10x204x1 .i1 := andi call9_v6 call9_v9
  let call9_c_3 : A F S_ .i1 := constantI S_ 1 1#1
  let call9_v11 : A F S10x204 .i1 := Host.reduce IntOp.andi call9_v10 call9_c_3 reducesTo_S10x204x1_S10x204_d2 h_S_
  let call9_v12 : A F S10x204x4 .f32 := Host.gather gather_S10x2048x4_S10x204x1_S10x204x4_2_1_0_0_1_2_114 arg3 call9_v4
  let call9_v13 : A F S10x204x4 .i1 := broadcastInDim S10x204x4 ![0, 1] bcast_S10x204_S10x204x4_0_1 call9_v11
  let call9_cst : A F S_ .f32 := constant S_ .f32 0x7FC00000#32
  let call9_v14 : A F S10x204x4 .f32 := broadcastInDim S10x204x4 ![] bcast_S_S10x204x4 call9_cst
  select call9_v13 call9_v12 call9_v14

/-! ## The lists leave them -/

/-- The normalized query features. -/
theorem opsPre_v3 (V : Valuation τ sig (Elt F)) :
    after opsPre V (Proc.devRef .tc main_v3) = unitQ (V (Proc.devRef .tc main_arg0)) := by
  simp only [opsPre, TRef.binary, TRef.nullary, TRef.ternary, TRef.unary, TRef.reshape, TRef.toBuf, TRef.ofBuf, cast_eq]
  after_results_simp <;> rfl

/-- The normalized key features. -/
theorem opsPre_v7 (V : Valuation τ sig (Elt F)) :
    after opsPre V (Proc.devRef .tc main_v7) = unitK (V (Proc.devRef .tc main_arg1)) := by
  simp only [opsPre, TRef.binary, TRef.nullary, TRef.ternary, TRef.unary, TRef.reshape, TRef.toBuf, TRef.ofBuf, cast_eq]
  after_results_simp <;> rfl

/-- The row numbers to gather. -/
theorem opsMid_v29 (V : Valuation τ sig (Elt F)) :
    after opsMid V (Proc.devRef .tc main_v29) = ids (picked (V (Proc.devRef .tc main_v8_1))) := by
  simp only [opsMid, TRef.binary, TRef.nullary, TRef.ternary, TRef.unary, TRef.reshape, TRef.toBuf, TRef.ofBuf, cast_eq]
  after_results_simp <;> rfl

/-- The flat beginnings of the selected rows. -/
theorem opsMid_v36 (V : Valuation τ sig (Elt F)) :
    after opsMid V (Proc.devRef .tc main_v36) = bases (picked (V (Proc.devRef .tc main_v8_1))) := by
  simp only [opsMid, TRef.binary, TRef.nullary, TRef.ternary, TRef.unary, TRef.reshape, TRef.toBuf, TRef.ofBuf, cast_eq]
  after_results_simp <;> rfl

/-- The table that is gathered from. -/
theorem opsMid_v37 (V : Valuation τ sig (Elt F)) :
    after opsMid V (Proc.devRef .tc main_v37) = table (V (Proc.devRef .tc main_v8_0)) := by
  simp only [opsMid, TRef.binary, TRef.nullary, TRef.ternary, TRef.unary, TRef.reshape, TRef.toBuf, TRef.ofBuf, cast_eq]
  after_results_simp <;> rfl

/-- The thresholds. -/
theorem opsMid_v40 (V : Valuation τ sig (Elt F)) :
    after opsMid V (Proc.devRef .tc main_v40) = thrs (V (Proc.devRef .tc main_v8_1)) := by
  simp only [opsMid, TRef.binary, TRef.nullary, TRef.ternary, TRef.unary, TRef.reshape, TRef.toBuf, TRef.ofBuf, cast_eq]
  after_results_simp <;> rfl

/-- The highest values among the candidates. -/
theorem opsTop_values_3 (V : Valuation τ sig (Elt F)) :
    after opsTop V (Proc.devRef .tc main_values_3) = topV (V (Proc.devRef .tc main_v41_0)) := by
  simp only [opsTop, TRef.binary, TRef.nullary, TRef.ternary, TRef.unary, TRef.reshape, TRef.toBuf, TRef.ofBuf, cast_eq]
  after_results_simp <;> rfl

/-- Their positions among the candidates. -/
theorem opsTop_indices_4 (V : Valuation τ sig (Elt F)) :
    after opsTop V (Proc.devRef .tc main_indices_4) = topI (V (Proc.devRef .tc main_v41_0)) := by
  simp only [opsTop, TRef.binary, TRef.nullary, TRef.ternary, TRef.unary, TRef.reshape, TRef.toBuf, TRef.ofBuf, cast_eq]
  after_results_simp <;> rfl

/-- The candidates' flat places, a row for each image. -/
theorem opsTop_v43 (V : Valuation τ sig (Elt F)) :
    after opsTop V (Proc.devRef .tc main_v43) = flat (V (Proc.devRef .tc main_v41_1)) := by
  simp only [opsTop, TRef.binary, TRef.nullary, TRef.ternary, TRef.unary, TRef.reshape, TRef.toBuf, TRef.ofBuf, cast_eq]
  after_results_simp <;> rfl

/-- The flat places of the highest values. -/
theorem opsSel_v44 (V : Valuation τ sig (Elt F)) :
    after opsSel V (Proc.devRef .tc main_v44) = sel (V (Proc.devRef .tc main_v43)) (V (Proc.devRef .tc main_indices_4)) := by
  simp only [opsSel, TRef.binary, TRef.nullary, TRef.ternary, TRef.unary, TRef.reshape, TRef.toBuf, TRef.ofBuf, cast_eq]
  after_results_simp <;> rfl

/-- Their queries. -/
theorem opsDiv_v45 (V : Valuation τ sig (Elt F)) :
    after opsDiv V (Proc.devRef .tc main_v45) = quot (V (Proc.devRef .tc main_v44)) := by
  simp only [opsDiv, TRef.binary, TRef.nullary, TRef.ternary, TRef.unary, TRef.reshape, TRef.toBuf, TRef.ofBuf, cast_eq]
  after_results_simp <;> rfl

/-- Their keys. -/
theorem opsRem_v46 (V : Valuation τ sig (Elt F)) :
    after opsRem V (Proc.devRef .tc main_v46) = rest (V (Proc.devRef .tc main_v44)) := by
  simp only [opsRem, TRef.binary, TRef.nullary, TRef.ternary, TRef.unary, TRef.reshape, TRef.toBuf, TRef.ofBuf, cast_eq]
  after_results_simp <;> rfl

/-- The queries' boxes. -/
theorem opsTake_v47 (V : Valuation τ sig (Elt F)) :
    after opsTake V (Proc.devRef .tc main_v47) = boxQ (V (Proc.devRef .tc main_arg2)) (V (Proc.devRef .tc main_v45)) := by
  simp only [opsTake, TRef.binary, TRef.nullary, TRef.ternary, TRef.unary, TRef.reshape, TRef.toBuf, TRef.ofBuf, cast_eq]
  after_results_simp <;> rfl

/-- The keys' boxes. -/
theorem opsTakeK_v49 (V : Valuation τ sig (Elt F)) :
    after opsTakeK V (Proc.devRef .tc main_v49) = boxK (V (Proc.devRef .tc main_arg3)) (V (Proc.devRef .tc main_v46)) := by
  simp only [opsTakeK, TRef.binary, TRef.nullary, TRef.ternary, TRef.unary, TRef.reshape, TRef.toBuf, TRef.ofBuf, cast_eq]
  after_results_simp <;> rfl

/-! ## and leave the rest

A theorem `opsX_b` says that the list of operations `opsX` does not change the buffer `b`. -/

theorem opsPre_arg0 (V : Valuation τ sig (Elt F)) : after opsPre V (Proc.devRef .tc main_arg0) = V (Proc.devRef .tc main_arg0) := by
  simp only [opsPre, TRef.binary, TRef.nullary, TRef.ternary, TRef.unary, TRef.reshape, TRef.toBuf, TRef.ofBuf, cast_eq]
  after_results_simp
theorem opsPre_arg1 (V : Valuation τ sig (Elt F)) : after opsPre V (Proc.devRef .tc main_arg1) = V (Proc.devRef .tc main_arg1) := by
  simp only [opsPre, TRef.binary, TRef.nullary, TRef.ternary, TRef.unary, TRef.reshape, TRef.toBuf, TRef.ofBuf, cast_eq]
  after_results_simp
theorem opsPre_arg2 (V : Valuation τ sig (Elt F)) : after opsPre V (Proc.devRef .tc main_arg2) = V (Proc.devRef .tc main_arg2) := by
  simp only [opsPre, TRef.binary, TRef.nullary, TRef.ternary, TRef.unary, TRef.reshape, TRef.toBuf, TRef.ofBuf, cast_eq]
  after_results_simp
theorem opsPre_arg3 (V : Valuation τ sig (Elt F)) : after opsPre V (Proc.devRef .tc main_arg3) = V (Proc.devRef .tc main_arg3) := by
  simp only [opsPre, TRef.binary, TRef.nullary, TRef.ternary, TRef.unary, TRef.reshape, TRef.toBuf, TRef.ofBuf, cast_eq]
  after_results_simp
theorem opsMid_arg0 (V : Valuation τ sig (Elt F)) : after opsMid V (Proc.devRef .tc main_arg0) = V (Proc.devRef .tc main_arg0) := by
  simp only [opsMid, TRef.binary, TRef.nullary, TRef.ternary, TRef.unary, TRef.reshape, TRef.toBuf, TRef.ofBuf, cast_eq]
  after_results_simp
theorem opsMid_arg1 (V : Valuation τ sig (Elt F)) : after opsMid V (Proc.devRef .tc main_arg1) = V (Proc.devRef .tc main_arg1) := by
  simp only [opsMid, TRef.binary, TRef.nullary, TRef.ternary, TRef.unary, TRef.reshape, TRef.toBuf, TRef.ofBuf, cast_eq]
  after_results_simp
theorem opsMid_arg2 (V : Valuation τ sig (Elt F)) : after opsMid V (Proc.devRef .tc main_arg2) = V (Proc.devRef .tc main_arg2) := by
  simp only [opsMid, TRef.binary, TRef.nullary, TRef.ternary, TRef.unary, TRef.reshape, TRef.toBuf, TRef.ofBuf, cast_eq]
  after_results_simp
theorem opsMid_arg3 (V : Valuation τ sig (Elt F)) : after opsMid V (Proc.devRef .tc main_arg3) = V (Proc.devRef .tc main_arg3) := by
  simp only [opsMid, TRef.binary, TRef.nullary, TRef.ternary, TRef.unary, TRef.reshape, TRef.toBuf, TRef.ofBuf, cast_eq]
  after_results_simp
theorem opsTop_arg0 (V : Valuation τ sig (Elt F)) : after opsTop V (Proc.devRef .tc main_arg0) = V (Proc.devRef .tc main_arg0) := by
  simp only [opsTop, TRef.binary, TRef.nullary, TRef.ternary, TRef.unary, TRef.reshape, TRef.toBuf, TRef.ofBuf, cast_eq]
  after_results_simp
theorem opsTop_arg1 (V : Valuation τ sig (Elt F)) : after opsTop V (Proc.devRef .tc main_arg1) = V (Proc.devRef .tc main_arg1) := by
  simp only [opsTop, TRef.binary, TRef.nullary, TRef.ternary, TRef.unary, TRef.reshape, TRef.toBuf, TRef.ofBuf, cast_eq]
  after_results_simp
theorem opsTop_arg2 (V : Valuation τ sig (Elt F)) : after opsTop V (Proc.devRef .tc main_arg2) = V (Proc.devRef .tc main_arg2) := by
  simp only [opsTop, TRef.binary, TRef.nullary, TRef.ternary, TRef.unary, TRef.reshape, TRef.toBuf, TRef.ofBuf, cast_eq]
  after_results_simp
theorem opsTop_arg3 (V : Valuation τ sig (Elt F)) : after opsTop V (Proc.devRef .tc main_arg3) = V (Proc.devRef .tc main_arg3) := by
  simp only [opsTop, TRef.binary, TRef.nullary, TRef.ternary, TRef.unary, TRef.reshape, TRef.toBuf, TRef.ofBuf, cast_eq]
  after_results_simp
theorem opsSel_arg0 (V : Valuation τ sig (Elt F)) : after opsSel V (Proc.devRef .tc main_arg0) = V (Proc.devRef .tc main_arg0) := by
  simp only [opsSel, TRef.binary, TRef.nullary, TRef.ternary, TRef.unary, TRef.reshape, TRef.toBuf, TRef.ofBuf, cast_eq]
  after_results_simp
theorem opsSel_arg1 (V : Valuation τ sig (Elt F)) : after opsSel V (Proc.devRef .tc main_arg1) = V (Proc.devRef .tc main_arg1) := by
  simp only [opsSel, TRef.binary, TRef.nullary, TRef.ternary, TRef.unary, TRef.reshape, TRef.toBuf, TRef.ofBuf, cast_eq]
  after_results_simp
theorem opsSel_arg2 (V : Valuation τ sig (Elt F)) : after opsSel V (Proc.devRef .tc main_arg2) = V (Proc.devRef .tc main_arg2) := by
  simp only [opsSel, TRef.binary, TRef.nullary, TRef.ternary, TRef.unary, TRef.reshape, TRef.toBuf, TRef.ofBuf, cast_eq]
  after_results_simp
theorem opsSel_arg3 (V : Valuation τ sig (Elt F)) : after opsSel V (Proc.devRef .tc main_arg3) = V (Proc.devRef .tc main_arg3) := by
  simp only [opsSel, TRef.binary, TRef.nullary, TRef.ternary, TRef.unary, TRef.reshape, TRef.toBuf, TRef.ofBuf, cast_eq]
  after_results_simp
theorem opsSel_values_3 (V : Valuation τ sig (Elt F)) : after opsSel V (Proc.devRef .tc main_values_3) = V (Proc.devRef .tc main_values_3) := by
  simp only [opsSel, TRef.binary, TRef.nullary, TRef.ternary, TRef.unary, TRef.reshape, TRef.toBuf, TRef.ofBuf, cast_eq]
  after_results_simp
theorem opsDiv_arg0 (V : Valuation τ sig (Elt F)) : after opsDiv V (Proc.devRef .tc main_arg0) = V (Proc.devRef .tc main_arg0) := by
  simp only [opsDiv, TRef.binary, TRef.nullary, TRef.ternary, TRef.unary, TRef.reshape, TRef.toBuf, TRef.ofBuf, cast_eq]
  after_results_simp
theorem opsDiv_arg1 (V : Valuation τ sig (Elt F)) : after opsDiv V (Proc.devRef .tc main_arg1) = V (Proc.devRef .tc main_arg1) := by
  simp only [opsDiv, TRef.binary, TRef.nullary, TRef.ternary, TRef.unary, TRef.reshape, TRef.toBuf, TRef.ofBuf, cast_eq]
  after_results_simp
theorem opsDiv_arg2 (V : Valuation τ sig (Elt F)) : after opsDiv V (Proc.devRef .tc main_arg2) = V (Proc.devRef .tc main_arg2) := by
  simp only [opsDiv, TRef.binary, TRef.nullary, TRef.ternary, TRef.unary, TRef.reshape, TRef.toBuf, TRef.ofBuf, cast_eq]
  after_results_simp
theorem opsDiv_arg3 (V : Valuation τ sig (Elt F)) : after opsDiv V (Proc.devRef .tc main_arg3) = V (Proc.devRef .tc main_arg3) := by
  simp only [opsDiv, TRef.binary, TRef.nullary, TRef.ternary, TRef.unary, TRef.reshape, TRef.toBuf, TRef.ofBuf, cast_eq]
  after_results_simp
theorem opsDiv_v44 (V : Valuation τ sig (Elt F)) : after opsDiv V (Proc.devRef .tc main_v44) = V (Proc.devRef .tc main_v44) := by
  simp only [opsDiv, TRef.binary, TRef.nullary, TRef.ternary, TRef.unary, TRef.reshape, TRef.toBuf, TRef.ofBuf, cast_eq]
  after_results_simp
theorem opsDiv_values_3 (V : Valuation τ sig (Elt F)) : after opsDiv V (Proc.devRef .tc main_values_3) = V (Proc.devRef .tc main_values_3) := by
  simp only [opsDiv, TRef.binary, TRef.nullary, TRef.ternary, TRef.unary, TRef.reshape, TRef.toBuf, TRef.ofBuf, cast_eq]
  after_results_simp
theorem opsRem_arg0 (V : Valuation τ sig (Elt F)) : after opsRem V (Proc.devRef .tc main_arg0) = V (Proc.devRef .tc main_arg0) := by
  simp only [opsRem, TRef.binary, TRef.nullary, TRef.ternary, TRef.unary, TRef.reshape, TRef.toBuf, TRef.ofBuf, cast_eq]
  after_results_simp
theorem opsRem_arg1 (V : Valuation τ sig (Elt F)) : after opsRem V (Proc.devRef .tc main_arg1) = V (Proc.devRef .tc main_arg1) := by
  simp only [opsRem, TRef.binary, TRef.nullary, TRef.ternary, TRef.unary, TRef.reshape, TRef.toBuf, TRef.ofBuf, cast_eq]
  after_results_simp
theorem opsRem_arg2 (V : Valuation τ sig (Elt F)) : after opsRem V (Proc.devRef .tc main_arg2) = V (Proc.devRef .tc main_arg2) := by
  simp only [opsRem, TRef.binary, TRef.nullary, TRef.ternary, TRef.unary, TRef.reshape, TRef.toBuf, TRef.ofBuf, cast_eq]
  after_results_simp
theorem opsRem_arg3 (V : Valuation τ sig (Elt F)) : after opsRem V (Proc.devRef .tc main_arg3) = V (Proc.devRef .tc main_arg3) := by
  simp only [opsRem, TRef.binary, TRef.nullary, TRef.ternary, TRef.unary, TRef.reshape, TRef.toBuf, TRef.ofBuf, cast_eq]
  after_results_simp
theorem opsRem_v45 (V : Valuation τ sig (Elt F)) : after opsRem V (Proc.devRef .tc main_v45) = V (Proc.devRef .tc main_v45) := by
  simp only [opsRem, TRef.binary, TRef.nullary, TRef.ternary, TRef.unary, TRef.reshape, TRef.toBuf, TRef.ofBuf, cast_eq]
  after_results_simp
theorem opsRem_values_3 (V : Valuation τ sig (Elt F)) : after opsRem V (Proc.devRef .tc main_values_3) = V (Proc.devRef .tc main_values_3) := by
  simp only [opsRem, TRef.binary, TRef.nullary, TRef.ternary, TRef.unary, TRef.reshape, TRef.toBuf, TRef.ofBuf, cast_eq]
  after_results_simp
theorem opsTake_arg0 (V : Valuation τ sig (Elt F)) : after opsTake V (Proc.devRef .tc main_arg0) = V (Proc.devRef .tc main_arg0) := by
  simp only [opsTake, TRef.binary, TRef.nullary, TRef.ternary, TRef.unary, TRef.reshape, TRef.toBuf, TRef.ofBuf, cast_eq]
  after_results_simp
theorem opsTake_arg1 (V : Valuation τ sig (Elt F)) : after opsTake V (Proc.devRef .tc main_arg1) = V (Proc.devRef .tc main_arg1) := by
  simp only [opsTake, TRef.binary, TRef.nullary, TRef.ternary, TRef.unary, TRef.reshape, TRef.toBuf, TRef.ofBuf, cast_eq]
  after_results_simp
theorem opsTake_arg2 (V : Valuation τ sig (Elt F)) : after opsTake V (Proc.devRef .tc main_arg2) = V (Proc.devRef .tc main_arg2) := by
  simp only [opsTake, TRef.binary, TRef.nullary, TRef.ternary, TRef.unary, TRef.reshape, TRef.toBuf, TRef.ofBuf, cast_eq]
  after_results_simp
theorem opsTake_arg3 (V : Valuation τ sig (Elt F)) : after opsTake V (Proc.devRef .tc main_arg3) = V (Proc.devRef .tc main_arg3) := by
  simp only [opsTake, TRef.binary, TRef.nullary, TRef.ternary, TRef.unary, TRef.reshape, TRef.toBuf, TRef.ofBuf, cast_eq]
  after_results_simp
theorem opsTake_v46 (V : Valuation τ sig (Elt F)) : after opsTake V (Proc.devRef .tc main_v46) = V (Proc.devRef .tc main_v46) := by
  simp only [opsTake, TRef.binary, TRef.nullary, TRef.ternary, TRef.unary, TRef.reshape, TRef.toBuf, TRef.ofBuf, cast_eq]
  after_results_simp
theorem opsTake_values_3 (V : Valuation τ sig (Elt F)) : after opsTake V (Proc.devRef .tc main_values_3) = V (Proc.devRef .tc main_values_3) := by
  simp only [opsTake, TRef.binary, TRef.nullary, TRef.ternary, TRef.unary, TRef.reshape, TRef.toBuf, TRef.ofBuf, cast_eq]
  after_results_simp
theorem opsTakeK_arg0 (V : Valuation τ sig (Elt F)) : after opsTakeK V (Proc.devRef .tc main_arg0) = V (Proc.devRef .tc main_arg0) := by
  simp only [opsTakeK, TRef.binary, TRef.nullary, TRef.ternary, TRef.unary, TRef.reshape, TRef.toBuf, TRef.ofBuf, cast_eq]
  after_results_simp
theorem opsTakeK_arg1 (V : Valuation τ sig (Elt F)) : after opsTakeK V (Proc.devRef .tc main_arg1) = V (Proc.devRef .tc main_arg1) := by
  simp only [opsTakeK, TRef.binary, TRef.nullary, TRef.ternary, TRef.unary, TRef.reshape, TRef.toBuf, TRef.ofBuf, cast_eq]
  after_results_simp
theorem opsTakeK_arg2 (V : Valuation τ sig (Elt F)) : after opsTakeK V (Proc.devRef .tc main_arg2) = V (Proc.devRef .tc main_arg2) := by
  simp only [opsTakeK, TRef.binary, TRef.nullary, TRef.ternary, TRef.unary, TRef.reshape, TRef.toBuf, TRef.ofBuf, cast_eq]
  after_results_simp
theorem opsTakeK_arg3 (V : Valuation τ sig (Elt F)) : after opsTakeK V (Proc.devRef .tc main_arg3) = V (Proc.devRef .tc main_arg3) := by
  simp only [opsTakeK, TRef.binary, TRef.nullary, TRef.ternary, TRef.unary, TRef.reshape, TRef.toBuf, TRef.ofBuf, cast_eq]
  after_results_simp
theorem opsTakeK_v47 (V : Valuation τ sig (Elt F)) : after opsTakeK V (Proc.devRef .tc main_v47) = V (Proc.devRef .tc main_v47) := by
  simp only [opsTakeK, TRef.binary, TRef.nullary, TRef.ternary, TRef.unary, TRef.reshape, TRef.toBuf, TRef.ofBuf, cast_eq]
  after_results_simp
theorem opsTakeK_values_3 (V : Valuation τ sig (Elt F)) : after opsTakeK V (Proc.devRef .tc main_values_3) = V (Proc.devRef .tc main_values_3) := by
  simp only [opsTakeK, TRef.binary, TRef.nullary, TRef.ternary, TRef.unary, TRef.reshape, TRef.toBuf, TRef.ofBuf, cast_eq]
  after_results_simp
theorem opsGlue_arg0 (V : Valuation τ sig (Elt F)) : after opsGlue V (Proc.devRef .tc main_arg0) = V (Proc.devRef .tc main_arg0) := by
  simp only [opsGlue, TRef.binary, TRef.nullary, TRef.ternary, TRef.unary, TRef.reshape, TRef.toBuf, TRef.ofBuf, cast_eq]
  after_results_simp
theorem opsGlue_arg1 (V : Valuation τ sig (Elt F)) : after opsGlue V (Proc.devRef .tc main_arg1) = V (Proc.devRef .tc main_arg1) := by
  simp only [opsGlue, TRef.binary, TRef.nullary, TRef.ternary, TRef.unary, TRef.reshape, TRef.toBuf, TRef.ofBuf, cast_eq]
  after_results_simp
theorem opsGlue_arg2 (V : Valuation τ sig (Elt F)) : after opsGlue V (Proc.devRef .tc main_arg2) = V (Proc.devRef .tc main_arg2) := by
  simp only [opsGlue, TRef.binary, TRef.nullary, TRef.ternary, TRef.unary, TRef.reshape, TRef.toBuf, TRef.ofBuf, cast_eq]
  after_results_simp
theorem opsGlue_arg3 (V : Valuation τ sig (Elt F)) : after opsGlue V (Proc.devRef .tc main_arg3) = V (Proc.devRef .tc main_arg3) := by
  simp only [opsGlue, TRef.binary, TRef.nullary, TRef.ternary, TRef.unary, TRef.reshape, TRef.toBuf, TRef.ofBuf, cast_eq]
  after_results_simp
theorem opsGlue_values_3 (V : Valuation τ sig (Elt F)) : after opsGlue V (Proc.devRef .tc main_values_3) = V (Proc.devRef .tc main_values_3) := by
  simp only [opsGlue, TRef.binary, TRef.nullary, TRef.ternary, TRef.unary, TRef.reshape, TRef.toBuf, TRef.ofBuf, cast_eq]
  after_results_simp

end Cert.Proof.Host

end
-- ==== Proof.Lists.lean ====
/-
  The host's lists read at one index: the rows picked, the table rows each subcore reads, the flat index where each
  starts, and the thresholds.
-/
module

public import proofs.«01_k».proof.Proof.Values
public import Idealize.ShloMosaic.Lib.Pipeline.Value
public import Idealize.ShloMosaic.Lib.Pointwise.Index

@[expose] public section

noncomputable section

namespace Cert.Proof.Host

open Cert.KernelIdeal Cert.KernelIdeal.Gen
open Idealize.ShloMosaic Idealize.ShloMosaic.TcCoe Idealize.SL.Sem Idealize.ShloMosaic.StableHlo
open Idealize.ShloMosaic.Pipeline

variable {F : FTy → Type} [FloatOps F]

/-- A row of a table of two axes, at a position along it. -/
theorem along_ix2 {p n : Nat} (k : Fin p) (r c : Fin n) : (ix2 k r).along (1 : Fin 2) c = ix2 k c := by
  funext a
  match a with
  | ⟨0, _⟩ => rfl
  | ⟨1, _⟩ => rfl

/-- The positions of row `k` in the order of a stable sort by `gt`. -/
def order {α : Type} {p n : Nat} (gt : α → α → BitVec 1) (x : (⟨2, ![p, n]⟩ : Shape).Idx → α) (k : Fin p) : Fin n → Fin n :=
  sortedFrom fun a b => gt (x (ix2 k a)) (x (ix2 k b)) == 1#1

/-- A stable sort along the second axis takes row `k`'s place `r` from its position `order … r`. -/
theorem along_order {α : Type} {p n : Nat} (gt : α → α → BitVec 1) (x : (⟨2, ![p, n]⟩ : Shape).Idx → α) (k : Fin p) (r : Fin n) :
    (ix2 k r).along (1 : Fin 2) (sortedFrom (n := n)
      (fun a b => gt (x ((ix2 k r).along (1 : Fin 2) a)) (x ((ix2 k r).along (1 : Fin 2) b)) == 1#1) r) = ix2 k (order gt x k r) := by
  refine (along_ix2 k r _).trans (congrArg (ix2 k) ?_)
  unfold order
  refine congrFun (congrArg sortedFrom ?_) _
  funext a b
  exact congrArg₂ (fun u v => gt (x u) (x v) == 1#1) (along_ix2 k _ a) (along_ix2 k _ b)

/-- The values of a `top_k` at an index. -/
theorem topK_fst {α : Type} {p n m : Nat} (gt : α → α → BitVec 1) (x : (⟨2, ![p, n]⟩ : Shape).Idx → α)
    (h : (⟨2, ![p, n]⟩ : Shape).Slices (fun _ => 0) ⟨2, ![p, m]⟩) (hm : m ≤ n) (k : Fin p) (r : Fin m) :
    (Host.topK ⟨2, ![p, m]⟩ 1 gt x h).1 (ix2 k r) = x (ix2 k (order gt x k (r.castLE hm))) := by
  unfold Host.topK
  dsimp only
  rw [extractStridedSlice_apply _ _ h (ix2 k r) (ix2 k (r.castLE hm)) (fun a => by
    match a with
    | ⟨0, _⟩ => simp
    | ⟨1, _⟩ => simp)]
  exact congrArg x (along_order gt x k (r.castLE hm))

/-- The positions of a `top_k` at an index. -/
theorem topK_snd {α : Type} {p n m : Nat} (gt : α → α → BitVec 1) (x : (⟨2, ![p, n]⟩ : Shape).Idx → α)
    (h : (⟨2, ![p, n]⟩ : Shape).Slices (fun _ => 0) ⟨2, ![p, m]⟩) (hm : m ≤ n) (k : Fin p) (r : Fin m) :
    (Host.topK ⟨2, ![p, m]⟩ 1 gt x h).2 (ix2 k r) = BitVec.ofNat 32 (order gt x k (r.castLE hm)).val := by
  unfold Host.topK
  dsimp only
  rw [extractStridedSlice_apply _ _ h (ix2 k r) (ix2 k (r.castLE hm)) (fun a => by
    match a with
    | ⟨0, _⟩ => simp
    | ⟨1, _⟩ => simp)]
  exact congrArg (fun i : (⟨2, ![p, n]⟩ : Shape).Idx => BitVec.ofNat 32 (i 1).val) (along_order gt x k (r.castLE hm))

/-- A sort of one operand along the second axis, at an index. -/
theorem sort_at {α : Type} {p n : Nat} (lt : α → α → BitVec 1) (x : (⟨2, ![p, n]⟩ : Shape).Idx → α) (k : Fin p) (r : Fin n) :
    Host.sort ⟨2, ![p, n]⟩ 1 lt x (ix2 k r) = x (ix2 k (order lt x k r)) :=
  congrArg x (along_order lt x k r)

/-- The row maxima as a table of two axes. -/
def maxima (v8_1 : A F S10x2048x1 .f32) : A F S10x2048 .f32 := shapeCast _ v8_1 shapeCasts_S10x2048x1_S10x2048

/-- The rows before they are sorted by number. -/
theorem picked_at (m : A F S10x2048x1 .f32) (k : Fin 10) (r : Fin 256) :
    picked m (ix2 k r) = BitVec.ofNat 32 (order (FloatOps.cmpfTotal .gt) (maxima m) k
      ((order comparator_i32_d1 (Host.topK S10x256 1 (FloatOps.cmpfTotal .gt) (maxima m) sliceFits_S10x2048_S10x256).2 k r).castLE
        (by omega))).val := by
  unfold picked
  dsimp only
  rw [sort_at]
  exact topK_snd _ _ _ _ _ _

/-- A row picked is a row. -/
theorem picked_lt (m : A F S10x2048x1 .f32) (k : Fin 10) (r : Fin 256) : (picked m (ix2 k r)).toNat < 2048 := by
  rw [picked_at, BitVec.toNat_ofNat]
  have := (order (FloatOps.cmpfTotal .gt) (maxima m) k
      ((order comparator_i32_d1 (Host.topK S10x256 1 (FloatOps.cmpfTotal .gt) (maxima m) sliceFits_S10x2048_S10x256).2 k r).castLE
        (by omega))).isLt
  omega

/-- The table row a subcore reads at a place: sixteen to a picked row. -/
theorem ids_at (v : A F S10x256 .i32) (w : Fin 32) (k : Fin 10) (r : Fin 8) (j : Fin 16) :
    ids v (ix2 w ⟨k.val * 128 + r.val * 16 + j.val, by omega⟩)
      = (v (ix2 k ⟨w.val * 8 + r.val, by omega⟩) + BitVec.ofNat 32 k.val * 2048#32) * 16#32 + BitVec.ofNat 32 j.val := by
  unfold ids
  dsimp only
  rw [shapeCast_apply _ _ _ (ix3 w k ⟨r.val * 16 + j.val, by omega⟩) (by
      rw [Shape.rowMajor_val_three, Shape.rowMajor_val_two]
      show (w.val * 10 + k.val) * 128 + (r.val * 16 + j.val) = w.val * 1280 + (k.val * 128 + r.val * 16 + j.val)
      omega),
    transpose_apply _ _ _ _ (ix3 k w ⟨r.val * 16 + j.val, by omega⟩) (fun b => by
      match b with
      | ⟨0, _⟩ => rfl
      | ⟨1, _⟩ => rfl
      | ⟨2, _⟩ => rfl),
    shapeCast_apply _ _ _ (ix3 k ⟨w.val * 8 + r.val, by omega⟩ j) (by
      rw [Shape.rowMajor_val_three, Shape.rowMajor_val_three]
      show (k.val * 256 + (w.val * 8 + r.val)) * 16 + j.val = (k.val * 32 + w.val) * 128 + (r.val * 16 + j.val)
      omega)]
  refine congrArg (· + BitVec.ofNat 32 j.val) ((broadcastInDim_apply _ bcast_S10x256x1_S10x256x16_0_1_2 _ _
    (ix3 k ⟨w.val * 8 + r.val, by omega⟩ (0 : Fin 1)) (fun b => by
      match b with
      | ⟨0, _⟩ => rfl
      | ⟨1, _⟩ => rfl
      | ⟨2, _⟩ => rfl)).trans ?_)
  refine congrArg (· * 16#32) ((broadcastInDim_apply _ bcast_S10x256_S10x256x1_0_1 _ _
    (ix2 k ⟨w.val * 8 + r.val, by omega⟩) (fun b => by
      match b with
      | ⟨0, _⟩ => rfl
      | ⟨1, _⟩ => rfl)).trans ?_)
  rfl

/-- The flat index a subcore's place starts from. -/
theorem bases_at (v : A F S10x256 .i32) (w : Fin 32) (k : Fin 10) (r : Fin 8) (j : Fin 16) :
    bases v (ix2 w ⟨k.val * 128 + r.val * 16 + j.val, by omega⟩) = v (ix2 k ⟨w.val * 8 + r.val, by omega⟩) * 2048#32 := by
  unfold bases
  dsimp only
  rw [shapeCast_apply _ _ _ (ix4 w k r j) (by
      rw [Shape.rowMajor_val_four, Shape.rowMajor_val_two]
      show ((w.val * 10 + k.val) * 8 + r.val) * 16 + j.val = w.val * 1280 + (k.val * 128 + r.val * 16 + j.val)
      omega),
    broadcastInDim_apply _ _ _ _ (ix4 w k r (0 : Fin 1)) (fun b => by
      match b with
      | ⟨0, _⟩ => rfl
      | ⟨1, _⟩ => rfl
      | ⟨2, _⟩ => rfl
      | ⟨3, _⟩ => rfl),
    broadcastInDim_apply _ _ _ _ (ix3 w k r) (fun b => by
      match b with
      | ⟨0, _⟩ => rfl
      | ⟨1, _⟩ => rfl
      | ⟨2, _⟩ => rfl),
    transpose_apply _ _ _ _ (ix3 k w r) (fun b => by
      match b with
      | ⟨0, _⟩ => rfl
      | ⟨1, _⟩ => rfl
      | ⟨2, _⟩ => rfl),
    shapeCast_apply _ _ _ (ix2 k ⟨w.val * 8 + r.val, by omega⟩) (by
      rw [Shape.rowMajor_val_three, Shape.rowMajor_val_two]
      show k.val * 256 + (w.val * 8 + r.val) = (k.val * 32 + w.val) * 8 + r.val
      omega)]
  rfl

/-- A threshold: the 256th largest row maximum of its image. -/
theorem thrs_at (m : A F S10x2048x1 .f32) (k : Fin 10) (j : Fin 16) :
    thrs m (ix1 ⟨k.val * 16 + j.val, by omega⟩)
      = maxima m (ix2 k (order (FloatOps.cmpfTotal .gt) (maxima m) k (255 : Fin 2048))) := by
  unfold thrs
  dsimp only
  rw [shapeCast_apply _ _ _ (ix2 k j) (by
      rw [Shape.rowMajor_val_two, Shape.rowMajor_val_one]; rfl),
    broadcastInDim_apply _ _ _ _ (ix2 k (0 : Fin 1)) (fun b => by
      match b with
      | ⟨0, _⟩ => rfl
      | ⟨1, _⟩ => rfl),
    broadcastInDim_apply _ _ _ _ (ix1 k) (fun b => by
      match b with
      | ⟨0, _⟩ => rfl),
    shapeCast_apply _ _ _ (ix2 k (0 : Fin 1)) (by
      rw [Shape.rowMajor_val_two, Shape.rowMajor_val_one]
      show k.val * 1 + 0 = k.val
      omega),
    extractStridedSlice_apply _ _ _ _ (ix2 k (255 : Fin 256)) (fun b => by
      match b with
      | ⟨0, _⟩ => exact (Nat.zero_add _).symm
      | ⟨1, _⟩ => rfl)]
  exact topK_fst _ _ _ (by omega) _ _

/-- The table holds the similarities, sixteen of its rows to a row of an image. -/
theorem table_at (s : A F S10x2048x2048 .f32) (k : Fin 10) (q : Fin 2048) (j : Fin 16) (c : Fin 128) :
    table s (ix2 ⟨(q.val + k.val * 2048) * 16 + j.val, by omega⟩ c) = s (ix3 k q ⟨j.val * 128 + c.val, by omega⟩) := by
  unfold table
  rw [shapeCast_apply _ _ _ (ix3 k q ⟨j.val * 128 + c.val, by omega⟩) (by
      rw [Shape.rowMajor_val_three, Shape.rowMajor_val_two]
      show (k.val * 2048 + q.val) * 2048 + (j.val * 128 + c.val) = ((q.val + k.val * 2048) * 16 + j.val) * 128 + c.val
      omega)]

/-- A table row's number, where the picked rows are rows. -/
theorem ids_toNat (v : A F S10x256 .i32) (hv : ∀ k r, (v (ix2 k r)).toNat < 2048) (w : Fin 32) (k : Fin 10) (r : Fin 8) (j : Fin 16) :
    (ids v (ix2 w ⟨k.val * 128 + r.val * 16 + j.val, by omega⟩)).toNat
      = ((v (ix2 k ⟨w.val * 8 + r.val, by omega⟩)).toNat + k.val * 2048) * 16 + j.val := by
  rw [ids_at]
  have := hv k ⟨w.val * 8 + r.val, by omega⟩
  have hk := k.isLt
  have hj := j.isLt
  simp only [BitVec.toNat_add, BitVec.toNat_mul, BitVec.toNat_ofNat]
  omega

/-- Every table row read is a row of the table. -/
theorem ids_lt (m : A F S10x2048x1 .f32) (x : S32x1280.Idx) : (ids (picked m) x).toNat < 327680 := by
  obtain ⟨w, y, rfl⟩ : ∃ (w : Fin 32) (y : Fin 1280), x = ix2 w y := ⟨x 0, x 1, eq_ix2 x⟩
  have hy := y.isLt
  have e : y = ⟨(⟨y.val / 128, by omega⟩ : Fin 10).val * 128 + (⟨y.val % 128 / 16, by omega⟩ : Fin 8).val * 16
      + (⟨y.val % 16, by omega⟩ : Fin 16).val, by dsimp only; omega⟩ := Fin.ext (by dsimp only; omega)
  rw [e, ids_toNat _ (picked_lt m)]
  have := picked_lt m ⟨y.val / 128, by omega⟩ ⟨w.val * 8 + y.val % 128 / 16, by omega⟩
  dsimp only
  omega

end Cert.Proof.Host
-- ==== Proof.Kept.lean ====
/-
  What a subcore keeps of an image, in terms of the similarities: the entries of its eight selected rows, numbered row
  by row, are met in order, and those at least the threshold are kept with their flat positions.
-/
module

public import proofs.«01_k».proof.Proof.Compact
public import proofs.«01_k».proof.Proof.Join
public import proofs.«01_k».proof.Proof.Lists

@[expose] public section

noncomputable section

namespace Cert.Proof.Tile

open Cert.KernelIdeal Cert.KernelIdeal.Gen Cert.Proof Cert.Proof.Host
open Idealize.ShloMosaic Idealize.SL.Sem
open Idealize.ShloMosaic.Pipeline

variable {F : FTy → Type} [FloatOps F]

/-! ## Offsets and chunk numbers of a trip -/

/-- Where a trip's first sixteen entries lie in the row buffer. -/
theorem off4_vals : ∀ t : Fin 512, k1_off4 t 0 = t.val / 4 ∧ k1_off4 t 1 = t.val % 4 * 32 := by decide +kernel
/-- Where a trip's second sixteen entries lie in the row buffer. -/
theorem off5_vals : ∀ t : Fin 512, k1_off5 t 0 = t.val / 4 ∧ k1_off5 t 1 = t.val % 4 * 32 + 16 := by decide +kernel
/-- The number of a trip's first chunk within its row. -/
theorem chunk_nat : ∀ t : Fin 512, (chunkOf t).toNat = 2 * (t.val % 64) := by decide +kernel
/-- The number of a trip's first chunk within its row, as a word. -/
theorem chunk_vals (t : Fin 512) : chunkOf t = BitVec.ofNat 32 (2 * (t.val % 64)) :=
  BitVec.eq_of_toNat_eq (by rw [chunk_nat, BitVec.toNat_ofNat]; omega)

/-- A lane is its index. -/
theorem lane_eq (k : Fin 16) : lane k = (ix1 k : S16.Idx) := by
  funext a
  obtain rfl : a = 0 := Fin.eq_zero a
  rfl

/-- A row of sixteen as a vector of sixteen. -/
theorem flat16 {α : Type} (x : S1x16.Idx → α) (k : Fin 16) : shapeCast S16 x shapeCasts_S1x16_S16 (lane k) = x (ix2 (0 : Fin 1) k) := by
  rw [lane_eq]
  exact shapeCast_apply _ _ _ _ (by rw [Shape.rowMajor_val_two, Shape.rowMajor_val_one]; show 0 * 16 + k.val = k.val; omega)

/-- A trip's first sixteen entries, lane by lane. -/
theorem xAt_at (X : Vec F S128x128 .f32) (t : Fin 512) (k : Fin 16) :
    k1_pay1 (xAt X t) (lane k) = X (ix2 ⟨t.val / 4, by omega⟩ ⟨t.val % 4 * 32 + k.val, by omega⟩) := by
  refine (flat16 (xAt X t) k).trans (congrArg X (funext fun a => Fin.ext ?_))
  have h := off4_vals t
  match a with
  | ⟨0, _⟩ => show k1_off4 t 0 + 1 * 0 = t.val / 4; rw [h.1]; omega
  | ⟨1, _⟩ => show k1_off4 t 1 + 1 * k.val = t.val % 4 * 32 + k.val; rw [h.2]; omega

/-- A trip's second sixteen entries, lane by lane. -/
theorem yAt_at (X : Vec F S128x128 .f32) (t : Fin 512) (k : Fin 16) :
    k1_pay7 (yAt X t) (lane k) = X (ix2 ⟨t.val / 4, by omega⟩ ⟨t.val % 4 * 32 + 16 + k.val, by omega⟩) := by
  refine (flat16 (yAt X t) k).trans (congrArg X (funext fun a => Fin.ext ?_))
  have h := off5_vals t
  match a with
  | ⟨0, _⟩ => show k1_off5 t 0 + 1 * 0 = t.val / 4; rw [h.1]; omega
  | ⟨1, _⟩ => show k1_off5 t 1 + 1 * k.val = t.val % 4 * 32 + 16 + k.val; rw [h.2]; omega

/-- The flat beginning of a trip's row, in every lane. -/
theorem rbAt_at (k : Fin 10) (B : Vec F S1280 .i32) (t : Fin 512) (j : Fin 16) :
    rbAt k B t (lane j) = B (ix1 ⟨k.val * 128 + t.val / 64 * 16 + j.val, by omega⟩) := by
  refine congrArg B (funext fun a => Fin.ext ?_)
  obtain rfl : a = 0 := Fin.eq_zero a
  show rbOff (BitVec.ofNat 32 (8 * k.val)) t 0 + 1 * j.val = k.val * 128 + t.val / 64 * 16 + j.val
  rw [rbOff_zero k t]
  omega

/-- An image's threshold, in every lane. -/
theorem loAt_at (P : Vec F S160 .f32) (k : Fin 10) (j : Fin 16) :
    loAt P k.val k.isLt (lane j) = P (ix1 ⟨k.val * 16 + j.val, by omega⟩) := by
  refine congrArg P (funext fun a => Fin.ext ?_)
  obtain rfl : a = 0 := Fin.eq_zero a
  show 16 * k.val + 1 * j.val = k.val * 16 + j.val
  omega

/-- A fetched row is the table's row its list names. -/
theorem fetched_at (T : Vec F S327680x128 .f32) (L : Vec F S1280 .i32) (hL : ∀ x, (L x).toNat < 327680) (k : Fin 10) (r c : Fin 128) :
    fetched T L hL k.val k.isLt (ix2 r c) = T (ix2 ⟨(L (ix1 ⟨k.val * 128 + r.val, by omega⟩)).toNat, hL _⟩ c) := by
  unfold fetched SparseCore.gatherPayload
  refine congrArg T (funext fun a => Fin.ext ?_)
  match a with
  | ⟨0, _⟩ =>
    show 0 + 1 * (gathers_S327680x128_S128x128.idx _ (ix2 r c) gathers_S327680x128_S128x128.axis).val = _
    rw [Shape.Gathers.idx_axis, Nat.zero_add, Nat.one_mul]
    refine congrArg (fun i => (L i).toNat) (funext fun b => Fin.ext ?_)
    obtain rfl : b = 0 := Fin.eq_zero b
    show 128 * k.val + 1 * (S128.rowMajor.symm ((ix2 r c : S128x128.Idx) gathers_S327680x128_S128x128.axis') 0).val = k.val * 128 + r.val
    have e : S128.rowMajor.symm (Fin.cast rfl r) = (ix1 r : S128.Idx) := by
      rw [Equiv.symm_apply_eq]
      exact Fin.ext (by rw [Shape.rowMajor_val_one]; rfl)
    have e' : (S128.rowMajor.symm ((ix2 r c : S128x128.Idx) gathers_S327680x128_S128x128.axis') 0).val = r.val :=
      congrArg (fun i : S128.Idx => (i 0).val) e
    rw [e']
    omega
  | ⟨1, _⟩ =>
    show 0 + 1 * (gathers_S327680x128_S128x128.idx _ (ix2 r c) 1).val = c.val
    rw [Nat.zero_add, Nat.one_mul]
    exact Shape.Gathers.idx_of_ne gathers_S327680x128_S128x128 _ (ix2 r c) (b := (1 : Fin 2)) (by decide)

/-- Dropping the axis of length one from a row's index. -/
theorem squeeze_row (y : Fin 1280) : Shape.reshapeEquiv squeezes_S1x1280_S1280.numel_eq (ix1 y : S1280.Idx) = (ix2 (0 : Fin 1) y : S1x1280.Idx) :=
  Shape.reshapeEquiv_eq_of_rowMajor _ (by
    rw [Shape.rowMajor_val_two, Shape.rowMajor_val_one]
    show 0 * 1280 + y.val = y.val
    omega)

/-- Where a worker's row lies in an array of a row for each worker. -/
theorem emb_row (w : Fin 32) (y : Fin 1280) :
    ((Rect.unit (s := S32x1280) (k1_off1 (co (coreOf w) (subOf w))) S1x1280.size (k1_off1_inb _)).emb
      (Shape.reshapeEquiv squeezes_S1x1280_S1280.numel_eq (ix1 y : S1280.Idx))) = ix2 w y := by
  rw [squeeze_row]
  funext b
  refine Fin.ext ?_
  match b with
  | ⟨0, _⟩ =>
    show (Scalar.addi (Scalar.muli (BitVec.ofNat 32 (co (coreOf w) (subOf w) 0).val) 16#32) (BitVec.ofNat 32 (co (coreOf w) (subOf w) 1).val)).toNat + 1 * 0 = w.val
    rw [wid_eq]
    exact congrArg Fin.val (wid_of w)
  | ⟨1, _⟩ => show 0 + 1 * y.val = y.val; omega

/-- A worker's row numbers, read at one index. -/
theorem rowI_at (f : Vec F S32x1280 .i32) (w : Fin 32) (y : Fin 1280) : rowOf aI f (co (coreOf w) (subOf w)) (ix1 y) = f (ix2 w y) :=
  congrArg f (emb_row w y)
/-- A worker's flat beginnings, read at one index. -/
theorem rowB_at (f : Vec F S32x1280 .i32) (w : Fin 32) (y : Fin 1280) : rowOf aB f (co (coreOf w) (subOf w)) (ix1 y) = f (ix2 w y) :=
  congrArg f (emb_row w y)

/-! ## The entries of a subcore's rows -/

section Entries

variable (s : A F S10x2048x2048 .f32) (v : A F S10x256 .i32) (hv : ∀ k r, (v (ix2 k r)).toNat < 2048) (lo : F .f32) (k : Fin 10) (w : Fin 32)

/-- The row of the similarities that entry `p` lies in. -/
def rowNo (p : ℕ) : Fin 2048 := ⟨(v (ix2 k ⟨w.val * 8 + p / 2048 % 8, by omega⟩)).toNat, hv _ _⟩
/-- The score of entry `p`. -/
def score (p : ℕ) : F .f32 := s (ix3 k (rowNo v hv k w p) ⟨p % 2048, by omega⟩)
/-- Its flat position. -/
def place (p : ℕ) : BitVec 32 := v (ix2 k ⟨w.val * 8 + p / 2048 % 8, by omega⟩) * 2048#32 + BitVec.ofNat 32 (p % 2048)
/-- Entry `p` is kept. -/
def Hit (p : ℕ) : Prop := FloatOps.cmpf .oge (score s v hv k w p) lo = 1#1

instance : DecidablePred (Hit s v hv lo k w) := fun p => inferInstanceAs (Decidable (_ = 1#1))

variable (T : Vec F S327680x128 .f32) (L B : Vec F S1280 .i32) (hL : ∀ x, (L x).toNat < 327680)
  (hT : T = table s) (hLv : ∀ y, L (ix1 y) = ids v (ix2 w y)) (hBv : ∀ y, B (ix1 y) = bases v (ix2 w y))

include hT hLv in
/-- The fetched rows hold the entries in order. -/
theorem fetched_entry (p : ℕ) (hp : p < 16384) :
    fetched T L hL k.val k.isLt (ix2 ⟨p / 128, by omega⟩ ⟨p % 128, by omega⟩) = score s v hv k w p := by
  rw [fetched_at]
  have h : (L (ix1 ⟨k.val * 128 + p / 128, by omega⟩)).toNat = ((rowNo v hv k w p).val + k.val * 2048) * 16 + p % 2048 / 128 := by
    rw [hLv]
    have e : (⟨k.val * 128 + p / 128, by omega⟩ : Fin 1280) = ⟨k.val * 128 + (⟨p / 2048 % 8, by omega⟩ : Fin 8).val * 16
      + (⟨p % 2048 / 128, by omega⟩ : Fin 16).val, by dsimp only; omega⟩ := Fin.ext (by dsimp only; omega)
    rw [e, ids_toNat v hv]
    rfl
  have hlt : k.val * 128 + p / 128 < 1280 := by omega
  have e₂ : ∀ h', (⟨(L (ix1 ⟨k.val * 128 + p / 128, hlt⟩)).toNat, h'⟩ : Fin 327680)
      = ⟨((rowNo v hv k w p).val + k.val * 2048) * 16 + (⟨p % 2048 / 128, by omega⟩ : Fin 16).val, by
        have := (rowNo v hv k w p).isLt; dsimp only; omega⟩ := fun h' => Fin.ext h
  rw [e₂, hT, table_at]
  exact congrArg (fun c => s (ix3 k (rowNo v hv k w p) c)) (Fin.ext (by dsimp only; omega))

include hBv in
/-- The position word of a trip. -/
theorem base_entry (t : Fin 512) (j : Fin 16) : rbAt k B t (lane j) = v (ix2 k ⟨w.val * 8 + t.val / 64, by omega⟩) * 2048#32 := by
  rw [rbAt_at, hBv]
  exact bases_at v w k ⟨t.val / 64, by omega⟩ j

include hBv in
/-- The flat places of a trip's first sixteen entries. -/
theorem place_first (t : Fin 512) (j : Fin 16) : k1_pay5 lanes (chunkOf t) (rbAt k B t) (lane j) = place v k w (32 * t.val + j.val) := by
  have e : k1_pay5 lanes (chunkOf t) (rbAt k B t) (lane j) = rbAt k B t (lane j) + (chunkOf t + 0#32) * 16#32 + BitVec.ofNat 32 (0 * 16 + j.val) := rfl
  rw [e, base_entry v k w B hBv, chunk_vals]
  unfold place
  have e₂ : (32 * t.val + j.val) / 2048 % 8 = t.val / 64 := by omega
  have e₃ : (BitVec.ofNat 32 (2 * (t.val % 64)) + 0#32) * 16#32 + BitVec.ofNat 32 (0 * 16 + j.val) = BitVec.ofNat 32 ((32 * t.val + j.val) % 2048) := by
    apply BitVec.eq_of_toNat_eq
    simp only [BitVec.toNat_add, BitVec.toNat_mul, BitVec.toNat_ofNat]
    omega
  rw [BitVec.add_assoc, e₃]
  refine congrArg (fun i => v (ix2 k i) * 2048#32 + _) (Fin.ext ?_)
  dsimp only
  omega

include hBv in
/-- The flat places of a trip's second sixteen entries. -/
theorem place_second (t : Fin 512) (j : Fin 16) : k1_pay10 lanes (chunkOf t) (rbAt k B t) (lane j) = place v k w (32 * t.val + 16 + j.val) := by
  have e : k1_pay10 lanes (chunkOf t) (rbAt k B t) (lane j) = rbAt k B t (lane j) + (chunkOf t + 1#32) * 16#32 + BitVec.ofNat 32 (0 * 16 + j.val) := rfl
  rw [e, base_entry v k w B hBv, chunk_vals]
  unfold place
  have e₂ : (32 * t.val + 16 + j.val) / 2048 % 8 = t.val / 64 := by omega
  have e₃ : (BitVec.ofNat 32 (2 * (t.val % 64)) + 1#32) * 16#32 + BitVec.ofNat 32 (0 * 16 + j.val) = BitVec.ofNat 32 ((32 * t.val + 16 + j.val) % 2048) := by
    apply BitVec.eq_of_toNat_eq
    simp only [BitVec.toNat_add, BitVec.toNat_mul, BitVec.toNat_ofNat]
    omega
  rw [BitVec.add_assoc, e₃]
  refine congrArg (fun i => v (ix2 k i) * 2048#32 + _) (Fin.ext ?_)
  dsimp only
  omega

variable (P : Vec F S160 .f32) (hP : ∀ j : Fin 16, P (ix1 ⟨k.val * 16 + j.val, by omega⟩) = lo)

/-- A bit is one or zero. -/
theorem one_or (x : BitVec 1) : x = if x = 1#1 then 1#1 else 0#1 := by revert x; decide

include hT hLv hBv hP in
/-- The state before trip `n`: the first `32 n` entries have been met. -/
theorem upto_inv (hcap : Nat.count (Hit s v hv lo k w) 16384 ≤ 128) (n : ℕ) (hn : n ≤ 512) :
    Inv (Hit s v hv lo k w) (score s v hv k w) (place v k w) (32 * n)
      (upto k (fetched T L hL k.val k.isLt) B (loAt P k.val k.isLt) n) := by
  induction n with
  | zero => exact inv_start _ _ _
  | succ n ih =>
    have h := ih (by omega)
    have hx : ∀ j : Fin 16, k1_pay1 (xAt (fetched T L hL k.val k.isLt) (⟨n, hn⟩ : Fin 512)) (lane j) = score s v hv k w (32 * n + j.val) := by
      intro j
      rw [xAt_at, ← fetched_entry s v hv k w T L hL hT hLv (32 * n + j.val) (by omega)]
      exact congrArg₂ (fun a b => fetched T L hL k.val k.isLt (ix2 a b)) (Fin.ext (by dsimp only; omega)) (Fin.ext (by dsimp only; omega))
    have hy : ∀ j : Fin 16, k1_pay7 (yAt (fetched T L hL k.val k.isLt) (⟨n, hn⟩ : Fin 512)) (lane j) = score s v hv k w (32 * n + 16 + j.val) := by
      intro j
      rw [yAt_at, ← fetched_entry s v hv k w T L hL hT hLv (32 * n + 16 + j.val) (by omega)]
      exact congrArg₂ (fun a b => fetched T L hL k.val k.isLt (ix2 a b)) (Fin.ext (by dsimp only; omega)) (Fin.ext (by dsimp only; omega))
    have hlo : ∀ j : Fin 16, loAt P k.val k.isLt (lane j) = lo := fun j => (loAt_at P k j).trans (hP j)
    rw [upto_succ k _ B _ (⟨n, hn⟩ : Fin 512)]
    refine inv_trip h ((Nat.count_monotone _ (by omega)).trans hcap) _ _ _ _ _ (fun j => ?_) (fun j => ?_) hx hy
      (fun j => place_first v k w B hBv ⟨n, hn⟩ j) (fun j => place_second v k w B hBv ⟨n, hn⟩ j)
    · refine (congrArg₂ (FloatOps.cmpf .oge) (hx j) (hlo j)).trans ?_
      exact one_or _
    · refine (congrArg₂ (FloatOps.cmpf .oge) (hy j) (hlo j)).trans ?_
      exact one_or _

end Entries

/-- What a subcore keeps of an image: the entries at least the threshold, in order, with their flat positions; the rest
    of the scores is the padding. -/
theorem kept_inv (a : Ins F) (d : Dev nD) (s : A F S10x2048x2048 .f32) (m : A F S10x2048x1 .f32) (hT : a.T d = table s) (hI : a.I d = ids (picked m))
    (hB : a.B d = bases (picked m)) (hP : a.P d = thrs m) (k : Fin 10) (w : Fin 32)
    (hcap : Nat.count (Hit s (picked m) (picked_lt m) (maxima m (ix2 k (order (FloatOps.cmpfTotal .gt) (maxima m) k (255 : Fin 2048)))) k w) 16384 ≤ 128) :
    Inv (Hit s (picked m) (picked_lt m) (maxima m (ix2 k (order (FloatOps.cmpfTotal .gt) (maxima m) k (255 : Fin 2048)))) k w)
      (score s (picked m) (picked_lt m) k w) (place (picked m) k w) 16384 (a.kept d (co (coreOf w) (subOf w)) k) :=
  upto_inv s (picked m) (picked_lt m) _ k w (a.T d) _ _ _ hT (fun y => (rowI_at _ w y).trans (by rw [hI])) (fun y => (rowB_at _ w y).trans (by rw [hB]))
    (a.P d) (fun j => by rw [hP]; exact thrs_at m k j) hcap 512 le_rfl

end Cert.Proof.Tile
-- ==== Proof.Region.lean ====
/-
  The TensorCore call that computes the similarities and their row maxima: its proof data at any contents of the
  arrays it finds, its body's obligation, and the step of @main that runs it.
-/
module

public import proofs.«01_k».proof.Proof.Obl
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.FrameBody

@[expose] public section

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose RegionSeg pin arrRef arrRefs afterRegion)

variable {F : FTy → Type} [FloatOps F]

/-- The pipeline's rounds within the ghost state. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance : (EP (F := F)).LandsIn (upEmb : UEmb _ _) := by unfold EP; infer_instance

/-- The tables' contents: the pipeline has no table. -/
abbrev adm : (p : Fin 1) → (pcfgs (F := F) p).Adm := fun p => (cfgs p).toPCfg_adm

/-! ## Whole buffers -/

/-- A load of a whole buffer reads what it holds. -/
theorem whole_readAt {κ : Kind} {sp : Space} {s : Shape} {e : EltTy} (m : Memref sig κ sp s e) (hm : m.IsWhole) {off : Fin s.rank → ℕ}
    (h : off = fun _ => 0) (inb : ∀ a, off a + s.size a ≤ s.size a) (f : m.view.ty.Contents (Elt F)) :
    m.view.readAt (Elt F) (Rect.unit off s.size inb).toLoadRect f = m.view.read (Elt F) f := by
  obtain ⟨b, rfl, rfl, rfl, hm⟩ := hm
  obtain rfl := eq_of_heq hm
  exact Memref.readAt_unit_zero (Elt F) b h inb f

/-- A whole buffer holds what a store of all of it wrote. -/
theorem whole_write {κ : Kind} {sp : Space} {s : Shape} {e : EltTy} (m : Memref sig κ sp s e) (hm : m.IsWhole) {off : Fin s.rank → ℕ}
    (h : off = fun _ => 0) (inb : ∀ a, off a + s.size a ≤ s.size a) (f : m.view.ty.Contents (Elt F)) (w : s.Idx → Elt F e) :
    m.view.read (Elt F) ((m.access (Rect.unit off s.size inb)).write (Elt F) f w Finset.univ) = w := by
  obtain ⟨b, rfl, rfl, rfl, hm⟩ := hm
  obtain rfl := eq_of_heq hm
  exact Memref.write_access_unit_zero_univ (Elt F) b h inb f w

/-! ## The body -/

/-- The beginning of an array of two axes. -/
theorem z2 : (![0, 0] : Fin 2 → ℕ) = fun _ => 0 := by decide
/-- The beginning of an array of three axes. -/
theorem z3 : (![0, 0, 0] : Fin 3 → ℕ) = fun _ => 0 := by decide

/-- The body on four whole buffers: the last two end holding the products and their row maxima. -/
theorem sound_body (d : Dev nD) (i : grid0.Coords) (m0 : Memref sig .tc .vmem S256x256 .f32) (h0 : m0.IsWhole)
    (m1 : Memref sig .tc .vmem S1x2048x256 .f32) (h1 : m1.IsWhole) (m2 : Memref sig .tc .vmem S1x256x2048 .f32) (h2 : m2.IsWhole)
    (m3 : Memref sig .tc .vmem S1x256x1 .f32) (h3 : m3.IsWhole) (X0 X1 X2 X3) (Q : PUnit → P𝕄 F) :
    iprop((owns (T d) m0 fullShare X0 ∗ owns (T d) m1 fullShare X1 ∗ owns (T d) m2 fullShare X2 ∗ owns (T d) m3 fullShare X3)
        ∗ (iprop(owns (T d) m0 fullShare X0 ∗ owns (T d) m1 fullShare X1 ∗ owns (T d) m2 fullShare (k0_pay2 X0 X1)
            ∗ owns (T d) m3 fullShare (k0_pay3 X0 X1)) -∗ Q ⟨⟩))
      ⊢ wp frame (wpE (defs₀ (F := F)) 𝒱₀ (T d) none) Set.univ (cc0__smap_body i m0 h0 m1 h1 m2 h2 m3 h3) Q := by
  simp only [cc0__smap_body_eq_skeleton, owns]
  unfold cc0__smap_body_skel
  simp only [Prog.lift, Prog.bind_op, Prog.bind_ret, h0.set_eq_univ, h1.set_eq_univ, h2.set_eq_univ, h3.set_eq_univ]
  iintro ⟨⟨⟨%f0, %e0, H0⟩, ⟨%f1, %e1, H1⟩, ⟨%f2, %e2, H2⟩, ⟨%f3, %e3, H3⟩⟩, Hk⟩
  iapply (wp_load 𝒱₀ (T d) none Set.univ (Finset.subset_univ _)) $$ H0
  iintro H0
  iapply (wp_load 𝒱₀ (T d) none Set.univ (Finset.subset_univ _)) $$ H1
  iintro H1
  iapply (wp_load 𝒱₀ (T d) none Set.univ (Finset.subset_univ _)) $$ H2
  iintro H2
  iapply (wp_store 𝒱₀ (T d) none Set.univ (m := m2) (r := Rect.unit (s := S1x256x2048) ![0, 0, 0] S1x256x2048.size inb_S1x256x2048_S1x256x2048_0_0_0) (f := f2) (Finset.subset_univ _)) $$ H2
  iintro H2
  iapply (wp_load 𝒱₀ (T d) none Set.univ (Finset.subset_univ _)) $$ H3
  iintro H3
  iapply (wp_store 𝒱₀ (T d) none Set.univ (m := m3) (r := Rect.unit (s := S1x256x1) ![0, 0, 0] S1x256x1.size inb_S1x256x1_S1x256x1_0_0_0) (f := f3) (Finset.subset_univ _)) $$ H3
  iintro H3
  rw [whole_readAt m0 h0 z2, whole_readAt m1 h1 z3, e0, e1, wp_pure]
  imodintro
  iapply Hk
  isplitl [H0]
  · iexists f0; isplitr; · ipureintro; exact e0
    iexact H0
  isplitl [H1]
  · iexists f1; isplitr; · ipureintro; exact e1
    iexact H1
  isplitl [H2]
  · iexists _; isplitr
    swap; · iexact H2
    ipureintro; exact whole_write m2 h2 z3 _ _ _
  · iexists _; isplitr
    swap; · iexact H3
    ipureintro; exact whole_write m3 h3 z3 _ _ _

/-! ## The proof data -/

/-- The first operand's block at a point. -/
def blk0 (W : Dev nD → Valuation τ sig (Elt F)) (d : Dev nD) (t : Fin cfg0.N) : Vec F S256x256 .f32 :=
  (win0_0.blk t).view.read (Elt F) (W d (Proc.devRef .tc (arrRef spec0 0)))
/-- The second operand's. -/
def blk1 (W : Dev nD → Valuation τ sig (Elt F)) (d : Dev nD) (t : Fin cfg0.N) : Vec F S1x2048x256 .f32 :=
  (win0_1.blk t).view.read (Elt F) (W d (Proc.devRef .tc (arrRef spec0 1)))
/-- The products of the point's two blocks. -/
def res2 (W : Dev nD → Valuation τ sig (Elt F)) (d : Dev nD) (t : Fin cfg0.N) : Vec F S1x256x2048 .f32 := k0_pay2 (blk0 W d t) (blk1 W d t)
/-- Their row maxima. -/
def res3 (W : Dev nD → Valuation τ sig (Elt F)) (d : Dev nD) (t : Fin cfg0.N) : Vec F S1x256x1 .f32 := k0_pay3 (blk0 W d t) (blk1 W d t)

/-- The call's proof data where the arrays hold `W`: after the body the two results' buffers hold the products of
    the point's blocks and their row maxima. -/
def dats (W : Dev nD → Valuation τ sig (Elt F)) (_ : Fin 1) (d : Dev nD) : Dat τ (Elt F) (HIx 1) ℕ UU ℕ cfg0 d where
  A w := W d (Proc.devRef .tc (arrRef spec0 w))
  after w t := match w with
    | 0 => blk0 W d t
    | 1 => blk1 W d t
    | 2 => res2 W d t
    | 3 => res3 W d t
  Φ _ := iprop(emp)
  q _ := fullShare
  owed _ := (K (F := F)).Otc d 0
  recorded _ := {p | p.2 = none}

variable (W : Dev nD → Valuation τ sig (Elt F))

/-- The first window holds its block of query features when the body starts. -/
theorem before_0 (d : Dev nD) (t : Fin cfg0.N) (x) : (dats W 0 d).before (0 : Fin 4) t x = blk0 W d t :=
  (dats W 0 d).before_in_eq_fetched 0 rfl (fun _ => rfl) (fun _ _ _ => rfl) (fun _ => rfl) t x
/-- The second window holds its block of key features when the body starts. -/
theorem before_1 (d : Dev nD) (t : Fin cfg0.N) (x) : (dats W 0 d).before (1 : Fin 4) t x = blk1 W d t :=
  (dats W 0 d).before_in_eq_fetched 1 rfl (fun _ => rfl) (fun _ _ _ => rfl) (fun _ => rfl) t x
/-- The body leaves the block of query features as it was. -/
theorem after_0 (d : Dev nD) (t : Fin cfg0.N) : (dats W 0 d).after (0 : Fin 4) t = blk0 W d t := rfl
/-- The body leaves the block of key features as it was. -/
theorem after_1 (d : Dev nD) (t : Fin cfg0.N) : (dats W 0 d).after (1 : Fin 4) t = blk1 W d t := rfl
/-- The body leaves the block of similarities. -/
theorem after_2 (d : Dev nD) (t : Fin cfg0.N) : (dats W 0 d).after (2 : Fin 4) t = res2 W d t := rfl
/-- The body leaves the block of maxima. -/
theorem after_3 (d : Dev nD) (t : Fin cfg0.N) : (dats W 0 d).after (3 : Fin 4) t = res3 W d t := by
  generalize h : res3 W d t = y
  dsimp only [dats]
  exact h

/-- The body table's row at a point. -/
theorem row (t : Fin cfg0.N) : defs₀ (F := F) .tc cfg0.body (cfg0.bodyArgs t (cfg0.slots t)) = bodyAt0 t := by
  unfold defs₀; rfl

/-- The body at a point, from the blocks the pipeline hands it. -/
theorem sound_at (d : Dev nD) (t : Fin cfg0.N) :
    iprop((dats W 0 d).Φ t.castSucc ∗ (dats W 0 d).owesAt none t.castSucc
        ∗ (∃ x, owns (T d) (win0_0.stage (cfg0.slots t 0)) fullShare ((dats W 0 d).before (0 : Fin 4) t x))
        ∗ (∃ x, owns (T d) (win0_1.stage (cfg0.slots t 1)) fullShare ((dats W 0 d).before (1 : Fin 4) t x))
        ∗ (∃ x, owns (T d) (win0_2.stage (cfg0.slots t 2)) fullShare ((dats W 0 d).before (2 : Fin 4) t x))
        ∗ (∃ x, owns (T d) (win0_3.stage (cfg0.slots t 3)) fullShare ((dats W 0 d).before (3 : Fin 4) t x)))
      ⊢ wp frame (wpE (defs₀ (F := F)) 𝒱₀ (T d) none) Set.univ (bodyAt0 t) fun _ =>
        iprop((dats W 0 d).Φ t.succ ∗ (dats W 0 d).owesAt none t.succ
          ∗ owns (T d) (win0_0.stage (cfg0.slots t 0)) fullShare ((dats W 0 d).after (0 : Fin 4) t)
          ∗ owns (T d) (win0_1.stage (cfg0.slots t 1)) fullShare ((dats W 0 d).after (1 : Fin 4) t)
          ∗ owns (T d) (win0_2.stage (cfg0.slots t 2)) fullShare ((dats W 0 d).after (2 : Fin 4) t)
          ∗ owns (T d) (win0_3.stage (cfg0.slots t 3)) fullShare ((dats W 0 d).after (3 : Fin 4) t)) := by
  rw [show (dats W 0 d).Φ t.succ = (dats W 0 d).Φ t.castSucc from rfl,
    show (dats W 0 d).owesAt none t.succ = (dats W 0 d).owesAt none t.castSucc from rfl]
  simp only [before_0, before_1, after_0, after_1, after_2, after_3, res2, res3]
  iintro ⟨HΦ, Ho, ⟨%x0, H0⟩, ⟨%x1, H1⟩, ⟨%x2, H2⟩, ⟨%x3, H3⟩⟩
  iapply (sound_body (F := F) d (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) _ _ _ _ _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every point. -/
theorem body_obligation (d : Dev nD) : BodyObligationLoose (dats W 0 d) (defs₀ (F := F)) 𝒱₀ none Set.univ := fun t => by
  rw [bigSep_W0, bigSep_W0, row]
  exact triple_restated (sound_at W d t) rfl .rfl fun _ => .rfl

/-! ## The call -/

/-- The main thread owes nothing at cells of no handshake. -/
theorem Otc_none (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this
  omega

/-- What the TensorCore owes before the SparseCore call, its waits so far all its own. -/
def owesTc (d : Dev nD) : P𝕄 F :=
  iprop(∃ Wt, ⌜(K (F := F)).WBelow (T d) Wt (8 * SparseCore.Cfg.Blocks.fst (Q := 1) (N := 1) 0)⌝ ∗ owes (T d) ((K (F := F)).Otc d 0) Wt)

/-- The call holds all of each of its arrays. -/
theorem share_full (d : Dev nD) (w : Fin 4) : (dats W 0 d).share w = fullShare := by
  unfold Dat.share; split <;> rfl

/-- The call as a step of @main, entered with the buffers `B` at `W`. -/
def seg (B : Finset (DevRef τ sig)) (hB : arrRefs spec0 ⊆ B) :
    RegionSeg (pcfgs (F := F)) adm (dats W) none defs₀ 𝒱₀ (K (F := F)).L (K (F := F)).lev 0 where
  win := launch0.win.to₀
  block_pos := block_pos0
  stage_whole := stage_whole0
  K := PEmpty
  osem k := k.elim
  ho := Pipeline.OwnSemFacts.none _
  hbody := body_obligation W
  hwaits d := Pipeline.cellsWaits_intro (pin (pcfgs (F := F)) adm) (dats W) none 0 d fun w s t =>
    (K (F := F)).mayWait_none _ (Otc_none d)
  pre d := iprop(StableHlo.held (T d) B (W d) ∗ owesTc d)
  post d := iprop(StableHlo.held (T d) B (afterRegion (dats W 0 d) (W d)) ∗ owesTc d)
  X _ := iprop(emp)
  Y _ := iprop(emp)
  Z d := StableHlo.held (T d) (B \ arrRefs spec0) (W d)
  hentry d := by
    rw [Pipeline.ownSems0_none, Pipeline.prefHeld_of_none _ rfl, StableHlo.held_sub_split (T d) hB (W d),
      Pipeline.arrays_held (pcfgs (F := F)) adm (dats W) 0 launch0.toP d (share_full W d) (fun w => (dats W 0 d).arrAt w 0) (W d) (fun _ => rfl)]
    unfold owesTc
    iintro ⟨⟨⟨Ha, Hz⟩, ⟨%Wt, %hW, HO⟩⟩, -, -⟩
    imodintro
    isplitl [Ha]; · iexact Ha
    isplitr; · iempintro
    isplitl [HO]
    · unfold Dat.owesAt Pipeline.owesWithin Dat.bound
      iexists Wt; isplitr
      · ipureintro
        intro p hp
        left
        have := hW p hp
        rcases p with ⟨sm, _ | q⟩
        · rfl
        · have hq := (K (F := F)).lev_some_pos (T d, sm) q
          have h0 : 8 * SparseCore.Cfg.Blocks.fst (Q := 1) (N := 1) 0 = 0 := rfl
          simp only [h0] at this
          omega
      iexact HO
    isplitr; · iempintro
    iexact Hz
  hin d := by
    rw [show Pipeline.scopedRest (pin (pcfgs (F := F)) adm 0).spec d = _ from scopedRest0_eq d]
    iintro -; iempintro
  hout d := by
    rw [show Pipeline.scopedRest (pin (pcfgs (F := F)) adm 0).spec d = _ from scopedRest0_eq d, Pipeline.ownSems0_none]
    iintro -
    isplitr; · iempintro
    isplitr; · iempintro
    iempintro
  hexit d := by
    rw [StableHlo.held_sub_split (T d) hB (afterRegion (dats W 0 d) (W d)),
      StableHlo.held_congr (T d) (S := B \ arrRefs spec0) (V := afterRegion (dats W 0 d) (W d)) (V' := W d) (Pipeline.afterRegion_off (dats W 0 d) (W d) B),
      Pipeline.arrays_held (pcfgs (F := F)) adm (dats W) 0 launch0.toP d (share_full W d) (fun w => (dats W 0 d).arrAt w cfg0.N) (afterRegion (dats W 0 d) (W d))
        (fun w => (Pipeline.afterRegion_arr (dats W 0 d) (W d) launch0.win.arr_inj w).symm)]
    iintro ⟨Ha, HO, -, Hz⟩
    imodintro
    isplitl [Ha Hz]
    · isplitl [Ha]; · iexact Ha
      iexact Hz
    unfold Dat.owesAt Pipeline.owesWithin Dat.bound owesTc
    icases HO with ⟨%Wt, %hW, HO⟩
    iexists Wt; isplitr
    · ipureintro
      intro p hp
      rcases hW hp with h | ⟨w, s, rfl⟩
      · have h : p.2 = none := h
        rw [h, SparseCore.Cfg.lev_none]; exact Nat.zero_le _
      · exact Nat.zero_le _
    iexact HO

/-- The pipeline's ghost state on device `d`. -/
abbrev pipeGhost (d : Dev nD) : P𝕄 F :=
  iprop(Pipeline.cellsGhost (pin (pcfgs (F := F)) adm) EP 0 d ∗ Pipeline.toksInit (pin (pcfgs (F := F)) adm) EP 0 d)

/-- The call over the pipelines' table. -/
theorem wp_call' (B : Finset (DevRef τ sig)) (hB : arrRefs spec0 ⊆ B) (d : Dev nD)
    (Q : PUnit → P𝕄 F) :
    iprop(boundary (T d) ∗ StableHlo.held (T d) B (W d) ∗ owesTc d ∗ levAts (K (F := F)).L (K (F := F)).lev ∗ pipeGhost d
        ∗ (iprop(boundary (T d) ∗ StableHlo.held (T d) B (afterRegion (dats W 0 d) (W d)) ∗ owesTc d) -∗ Q ⟨⟩))
      ⊢ wp frame (wpE (D (F := F)) 𝒱 (T d) none) Set.univ
          (Prog.op (.customCall (Pipeline.entry 0) ()) .ret) Q := by
  refine BIBase.Entails.trans ?_ (RegionSeg.wp (pcfgs (F := F)) adm (dats W) none cellOf_inj EP defs₀ 𝒱₀ (K (F := F)).L (K (F := F)).lev
    (seg W B hB) d none (fun u h => nomatch h) .ret Q)
  rw [show (seg W B hB).pre d = iprop(StableHlo.held (T d) B (W d) ∗ owesTc d) from rfl,
    show (seg W B hB).post d = iprop(StableHlo.held (T d) B (afterRegion (dats W 0 d) (W d)) ∗ owesTc d) from rfl]
  iintro ⟨Hb, Hh, HO, Hl, ⟨Hg, Ht⟩, Hk⟩
  isplitl [Hk]
  · iintro ⟨Hb, ⟨Hh, HO⟩⟩
    rw [wp_ret]
    imodintro
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

/-- Running the call: the buffers `B`, held at `W`, end at `afterRegion`. -/
theorem wp_call (B : Finset (DevRef τ sig)) (hB : arrRefs spec0 ⊆ B) (d : Dev nD)
    (Q : PUnit → P𝕄 F) :
    iprop(boundary (T d) ∗ StableHlo.held (T d) B (W d) ∗ owesTc d ∗ levAts (K (F := F)).L (K (F := F)).lev ∗ pipeGhost d
        ∗ (iprop(boundary (T d) ∗ StableHlo.held (T d) B (afterRegion (dats W 0 d) (W d)) ∗ owesTc d) -∗ Q ⟨⟩))
      ⊢ wp frame (wpE ((K (F := F)).defs (D (F := F))) 𝒱 (T d) none) Set.univ
          (Prog.lift (.customCall (SparseCore.inner (Pipeline.entry 0)) ())) Q := by
  exact (wp_call' W B hB d Q).trans ((K (F := F)).wp_liftProg (D (F := F)) 𝒱 (T d) Set.univ none _ Q)

end Cert.Proof

end
-- ==== Proof.Main.lean ====
/-
  The whole program's run: @main on the TensorCore — the host's operations, the TensorCore call, the SparseCore call —
  and the final contents of every array.
-/
module

public import proofs.«01_k».proof.Proof.Join
public import proofs.«01_k».proof.Proof.Region
public import proofs.«01_k».proof.Proof.Lists
public import Idealize.ShloMosaic.Lib.Pipeline.Frame
public import Idealize.ShloMosaic.Lib.Pipeline.RegionArrays

@[expose] public section

noncomputable section

namespace Cert.Proof

open Cert.KernelIdeal Cert.KernelIdeal.Gen Cert.Proof.Host
open Idealize.ShloMosaic
open Idealize.ShloMosaic.TcCoe
open Idealize.ShloMosaic.SparseCore (S V)
open Idealize.ShloMosaic.SparseCore.Cfg (HIx Pay)
open Idealize.ShloMosaic.StableHlo (held after seq tcRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (arrRef arrRefs afterRegion pin ucRefs)

variable {F : FTy → Type} [FloatOps F]

variable (m : (ℓ : Loc nD τ sig) → Buf (Elt F) ℓ) (ρ : Dev nD → PrngReg)

/-! ## The arrays' contents along @main -/

/-- At the launch. -/
def V0 (d : Dev nD) : Valuation τ sig (Elt F) := fun b => m (d, b)
/-- Before the TensorCore call. -/
def V1 (d : Dev nD) : Valuation τ sig (Elt F) := after opsPre (V0 m d)
/-- After it. -/
def V2 (d : Dev nD) : Valuation τ sig (Elt F) := afterRegion (dats (V1 m) 0 d) (V1 m d)
/-- Before the SparseCore call. -/
def V3 (d : Dev nD) : Valuation τ sig (Elt F) := after opsMid (V2 m d)

/-- What the SparseCore call is made on. -/
def ins : Ins F where
  T d := V3 m d (Proc.devRef .tc main_v37)
  I d := V3 m d (Proc.devRef .tc main_v29)
  B d := V3 m d (Proc.devRef .tc main_v36)
  P d := V3 m d (Proc.devRef .tc main_v40)
  lt d x := by
    have e : V3 m d (Proc.devRef .tc main_v29) = ids (picked (V2 m d (Proc.devRef .tc main_v8_1))) := opsMid_v29 _
    rw [e]
    exact ids_lt _ x

/-- After the SparseCore call. -/
def V4 (d : Dev nD) : Valuation τ sig (Elt F) :=
  Function.update (Function.update (V3 m d) (Proc.devRef .tc main_v41_0) ((ins m).outs d)) (Proc.devRef .tc main_v41_1) ((ins m).outp d)

/-- The operations after the SparseCore call. -/
def opsEnd : List (HloOp τ sig (Elt F)) := opsTop ++ opsSel ++ opsDiv ++ opsRem ++ opsTake ++ opsTakeK ++ opsGlue

/-- At the end. -/
def V5 (d : Dev nD) : Valuation τ sig (Elt F) := after opsEnd (V4 m d)

/-! ## The arrays a step names -/

/-- The arrays the SparseCore call is made on. -/
def callRefs : Finset (DevRef τ sig) :=
  {Proc.devRef .tc main_v37, Proc.devRef .tc main_v29, Proc.devRef .tc main_v36, Proc.devRef .tc main_v40,
    Proc.devRef .tc main_v41_0, Proc.devRef .tc main_v41_1}

/-- The SparseCore call's arrays are among those that the program holds. -/
theorem callRefs_sub : callRefs ⊆ ucRefs τ sig := by
  intro b hb
  simp only [callRefs, Finset.mem_insert, Finset.mem_singleton] at hb
  rcases hb with rfl | rfl | rfl | rfl | rfl | rfl <;> exact Pipeline.devRef_mem_ucRefs rfl

/-- Holding the SparseCore call's arrays is holding its four inputs and two outputs. -/
theorem held_call (d : Dev nD) (W : Valuation τ sig (Elt F)) :
    (held (SparseCore.T d) callRefs W : P𝕄 F)
      = iprop((lT d ↦{fullShare} W (Proc.devRef .tc main_v37)) ∗ (lI d ↦{fullShare} W (Proc.devRef .tc main_v29))
        ∗ (lB d ↦{fullShare} W (Proc.devRef .tc main_v36)) ∗ (lP d ↦{fullShare} W (Proc.devRef .tc main_v40))
        ∗ (lO d ↦{fullShare} W (Proc.devRef .tc main_v41_0)) ∗ lJ d ↦{fullShare} W (Proc.devRef .tc main_v41_1)) := by
  unfold held callRefs
  rw [SparseCore.bigSep_insert' (by decide), SparseCore.bigSep_insert' (by decide), SparseCore.bigSep_insert' (by decide),
    SparseCore.bigSep_insert' (by decide), SparseCore.bigSep_insert' (by decide), bigSep_singleton]

/-- The SparseCore call changes no array but its own. -/
theorem V4_off (d : Dev nD) : ∀ b ∈ ucRefs τ sig \ callRefs, V3 m d b = V4 m d b := by
  intro b hb
  have h : b ∉ callRefs := (Finset.mem_sdiff.1 hb).2
  unfold V4
  rw [Function.update_of_ne (fun e => h (by rw [e]; unfold callRefs; decide)), Function.update_of_ne (fun e => h (by rw [e]; unfold callRefs; decide))]

/-- After the call the table is as it was. -/
theorem V4_v37 (d : Dev nD) : V4 m d (Proc.devRef .tc main_v37) = (ins m).T d :=
  (Function.update_of_ne (by decide) _ _).trans (Function.update_of_ne (by decide) _ _)
/-- After the call the row numbers are as they were. -/
theorem V4_v29 (d : Dev nD) : V4 m d (Proc.devRef .tc main_v29) = (ins m).I d :=
  (Function.update_of_ne (by decide) _ _).trans (Function.update_of_ne (by decide) _ _)
/-- After the call the flat beginnings are as they were. -/
theorem V4_v36 (d : Dev nD) : V4 m d (Proc.devRef .tc main_v36) = (ins m).B d :=
  (Function.update_of_ne (by decide) _ _).trans (Function.update_of_ne (by decide) _ _)
/-- After the call the thresholds are as they were. -/
theorem V4_v40 (d : Dev nD) : V4 m d (Proc.devRef .tc main_v40) = (ins m).P d :=
  (Function.update_of_ne (by decide) _ _).trans (Function.update_of_ne (by decide) _ _)
/-- After the call its first output holds the subcores' values. -/
theorem V4_v41_0 (d : Dev nD) : V4 m d (Proc.devRef .tc main_v41_0) = (ins m).outs d :=
  (Function.update_of_ne (by decide) _ _).trans (Function.update_self _ _ _)
/-- After the call its second output holds the subcores' places. -/
theorem V4_v41_1 (d : Dev nD) : V4 m d (Proc.devRef .tc main_v41_1) = (ins m).outp d := Function.update_self _ _ _

/-- Every array before the SparseCore call: what the call takes, and the rest. -/
theorem before_call (d : Dev nD) :
    (held (SparseCore.T d) (ucRefs τ sig) (V3 m d) : P𝕄 F)
      ⊢ iprop((four (ins m) d ∗ (lO d ↦{fullShare} V3 m d (Proc.devRef .tc main_v41_0)) ∗ (lJ d ↦{fullShare} V3 m d (Proc.devRef .tc main_v41_1)))
        ∗ held (SparseCore.T d) (ucRefs τ sig \ callRefs) (V4 m d)) := by
  rw [StableHlo.held_sub_split (SparseCore.T d) callRefs_sub, held_call, StableHlo.held_congr (SparseCore.T d) (V4_off m d)]
  iintro ⟨⟨H1, H2, H3, H4, H5, H6⟩, HR⟩
  isplitr [HR]
  · isplitl [H1 H2 H3 H4]
    · isplitl [H1]; · iexact H1
      isplitl [H2]; · iexact H2
      isplitl [H3]; · iexact H3
      iexact H4
    isplitl [H5]; · iexact H5
    iexact H6
  iexact HR

/-- Every array after it. -/
theorem after_call (d : Dev nD) :
    iprop((four (ins m) d ∗ (lO d ↦{fullShare} (ins m).outs d) ∗ (lJ d ↦{fullShare} (ins m).outp d))
        ∗ held (SparseCore.T d) (ucRefs τ sig \ callRefs) (V4 m d))
      ⊢ (held (SparseCore.T d) (ucRefs τ sig) (V4 m d) : P𝕄 F) := by
  rw [StableHlo.held_sub_split (SparseCore.T d) callRefs_sub (V4 m d), held_call, V4_v37, V4_v29, V4_v36, V4_v40, V4_v41_0, V4_v41_1]
  iintro ⟨⟨⟨H1, H2, H3, H4⟩, H5, H6⟩, HR⟩
  isplitr [HR]
  · isplitl [H1]; · iexact H1
    isplitl [H2]; · iexact H2
    isplitl [H3]; · iexact H3
    isplitl [H4]; · iexact H4
    isplitl [H5]; · iexact H5
    iexact H6
  iexact HR

/-! ## The launch's ghost state -/

/-- The handshakes' rounds, the pipeline's rounds. -/
def u₀ : UU := (initOf (K (F := F)).hsCells (K (F := F)).hsToks,
  (initOf (Pipeline.cells (pin (pcfgs (F := F)) adm) cellOf_inj) (Pipeline.launchToks (pin (pcfgs (F := F)) adm) cellOf_inj), 1))

/-- The initial ghost state gives every thread what it starts with. -/
theorem hu₀ (a : Ins F) : (ownU (u₀ (F := F)) : P𝕄 F)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P a).x q thr) := by
  have hx : (bigSep Finset.univ fun thr : Thread nD τ => bigSep Finset.univ fun q : Fin 1 => (P a).x q thr)
      = bigSep Finset.univ fun _ : Thread nD τ => (iprop(emp) : P𝕄 F) :=
    bigSep_congr fun _ _ => bigSep_univ_of_subsingleton (0 : Fin 1)
  have hg : (bigSep Finset.univ fun d : Dev nD => pipeGhost (F := F) d)
      = iprop((bigSep Finset.univ fun c : Dev nD => bigSep Finset.univ fun p : Fin 1 => Pipeline.cellsGhost (pin (pcfgs (F := F)) adm) EP p c)
        ∗ (bigSep Finset.univ fun c : Dev nD => bigSep Finset.univ fun p : Fin 1 => (Pipeline.toksInit (pin (pcfgs (F := F)) adm) EP p c : P𝕄 F))) := by
    rw [← bigSep_sep']
    exact bigSep_congr fun d _ => congrArg₂ _ (bigSep_univ_of_subsingleton (Φ := fun p => Pipeline.cellsGhost (pin (pcfgs (F := F)) adm) EP p d) (0 : Fin 1)).symm
      (bigSep_univ_of_subsingleton (Φ := fun p => Pipeline.toksInit (pin (pcfgs (F := F)) adm) EP p d) (0 : Fin 1)).symm
  rw [hx, show (bigSep Finset.univ fun _ : Thread nD τ => (iprop(emp) : P𝕄 F)) = iprop(emp) from bigSep_emp_const _, hg]
  have hE : (BI.own (((Emb.inl : Emb UP (UP × Counters)).trans embR)
        (initOf (Pipeline.cells (pin (pcfgs (F := F)) adm) cellOf_inj) (Pipeline.launchToks (pin (pcfgs (F := F)) adm) cellOf_inj))) : P𝕄 F)
      ⊢ BI.own (EP (initOf (Pipeline.cells (pin (pcfgs (F := F)) adm) cellOf_inj) (Pipeline.launchToks (pin (pcfgs (F := F)) adm) cellOf_inj))) :=
    BI.Entails.refl _
  unfold u₀
  iintro Hu
  ihave H := (ownU_pair (initOf (K (F := F)).hsCells (K (F := F)).hsToks) (_ : UP × Counters)) $$ Hu
  icases H with ⟨HH, HR⟩
  ihave H := (own_pair_emb embR (initOf (Pipeline.cells (pin (pcfgs (F := F)) adm) cellOf_inj) (Pipeline.launchToks (pin (pcfgs (F := F)) adm) cellOf_inj)) (1 : Counters)) $$ HR
  icases H with ⟨HP0, -⟩
  ihave HP := hE $$ HP0
  imod (Pipeline.fund_ghost (pin (pcfgs (F := F)) adm) EP cellOf_inj) $$ HP with HP
  imodintro
  isplitl [HH]; · iexact HH
  isplitl [HP]; · iexact HP
  iempintro

/-! ## @main -/

/-- What the run leaves to the claims: every array of the TensorCore's at its final contents. -/
abbrev FIN (d : Dev nD) : P𝕄 F := held (SparseCore.T d) (ucRefs τ sig) (V5 m d)

/-- Host operations use only arrays that the program holds. -/
theorem sub_uc {l : List (HloOp τ sig (Elt F))} (h : l.Forall fun op => op.bufs ⊆ tcRefs τ sig) : ∀ op ∈ l, op.bufs ⊆ ucRefs τ sig :=
  fun op ho => Pipeline.sub_ucRefs op (List.forall_iff_forall_mem.1 h op ho)

/-- The host operations after the call use only arrays of the main thread. -/
theorem opsEnd_sub : (opsEnd : List (HloOp τ sig (Elt F))).Forall fun op => op.bufs ⊆ tcRefs τ sig := by
  unfold opsEnd
  simp only [List.forall_append]
  exact ⟨⟨⟨⟨⟨⟨opsTop_sub, opsSel_sub⟩, opsDiv_sub⟩, opsRem_sub⟩, opsTake_sub⟩, opsTakeK_sub⟩, opsGlue_sub⟩

set_option maxRecDepth 8192 in
/-- The host operations before the TensorCore call make no new array. -/
theorem opsPre_fresh : ∀ op ∈ (opsPre : List (HloOp τ sig (Elt F))), op.fresh = ∅ := by
  intro _ h; (repeat (cases h with | head => rfl | tail _ h => ?_)); exact nomatch h
set_option maxRecDepth 8192 in
/-- The host operations between the two calls make no new array. -/
theorem opsMid_fresh : ∀ op ∈ (opsMid : List (HloOp τ sig (Elt F))), op.fresh = ∅ := by
  intro _ h; (repeat (cases h with | head => rfl | tail _ h => ?_)); exact nomatch h
set_option maxRecDepth 8192 in
/-- The host operations after the SparseCore call make no new array. -/
theorem opsEnd_fresh : ∀ op ∈ (opsEnd : List (HloOp τ sig (Elt F))), op.fresh = ∅ := by
  intro _ h; (repeat (cases h with | head => rfl | tail _ h => ?_)); exact nomatch h

/-- The TensorCore call's arrays are among those that the program holds. -/
theorem arr_uc : arrRefs spec0 ⊆ ucRefs τ sig := Pipeline.arrRefs_sub_ucRefs spec0 (by decide)

/-- The main thread in its five parts: host, TensorCore call, host, SparseCore call, host. -/
theorem main_eq' (d : Dev nD) : main (F := F) d = (seq opsPre >>= fun _ =>
    Prog.lift (.customCall (SparseCore.inner (Pipeline.entry 0)) ()) >>= fun _ =>
    seq opsMid >>= fun _ => sc.run d 0 >>= fun _ => seq opsEnd) := main_eq d

/-- @main on device `d`. -/
theorem hmain (κ : GSem nD τ sig → ℕ) (d : Dev nD) :
    iprop((K (F := F)).ctx EH (P (ins m)) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  have hu := Pipeline.unscopedBufs_held (Ix := HIx 1) (Name := ℕ) (U := UU) (Lvl := ℕ) d (V0 m d)
  rw [show (unscopedBufs d (fun b => m ((SparseCore.T d).loc b)) : P𝕄 F) = held (SparseCore.T d) (ucRefs τ sig) (V0 m d) from hu, main_eq']
  have hend : (seq (opsEnd (F := F)) : Prog (TpuEff nD τ sig (Elt F) (SparseCore.Sig (ΛP (F := F)) 1) .tc) PUnit)
      = (seq (opsEnd (F := F)) >>= fun _ => pure ⟨⟩) := (bind_pure (m := Prog (TpuEff nD τ sig (Elt F) (SparseCore.Sig (ΛP (F := F)) 1) .tc)) (seq (opsEnd (F := F)))).symm
  have hcall := wp_call (V1 m) (ucRefs τ sig) arr_uc d
  unfold owesTc at hcall
  rw [show afterRegion (dats (V1 m) 0 d) (V1 m d) = V2 m d from rfl] at hcall
  have hmid := fun {β : Type} (k : PUnit → Prog (TpuEff nD τ sig (Elt F) _ .tc) β) (Q : β → P𝕄 F) =>
    StableHlo.wp_seq (defs := (K (F := F)).defs (D (F := F))) (K := Q) 𝒱 none Set.univ d (ucRefs τ sig) k opsMid (sub_uc opsMid_sub) opsMid_fresh (V2 m d)
  rw [show after opsMid (V2 m d) = V3 m d from rfl] at hmid
  iintro ⟨#Hctx, Hst, ⟨Hb, Hheld, Hts, -⟩, Hg⟩
  -- the operations before the TensorCore call
  iapply (StableHlo.wp_seq 𝒱 none Set.univ d (ucRefs τ sig) _ opsPre (sub_uc opsPre_sub) opsPre_fresh (V0 m d)) $$ [Hb Hheld]
  · isplitl [Hb] <;> iassumption
  iintro ⟨Hb, Hheld⟩
  -- the TensorCore call
  rw [wp_bind]
  unfold SparseCore.Cfg.tcSt
  icases Hst with ⟨HO, Hst⟩
  iapply (hcall _) $$ [Hb Hheld HO Hg Hst Hts]
  isplitl [Hb]; · iexact Hb
  isplitl [Hheld]; · iexact Hheld
  isplitl [HO]; · iexact HO
  isplitr
  · iapply (SparseCore.Cfg.ctx_levAts κ); iexact Hctx
  isplitl [Hg]; · iexact Hg
  iintro ⟨Hb, Hheld, HO⟩
  -- the operations between the calls
  iapply (hmid _ _) $$ [Hb Hheld]
  · isplitl [Hb] <;> iassumption
  iintro ⟨Hb, Hheld⟩
  ihave Hh := (before_call m d) $$ Hheld
  icases Hh with ⟨Hc, HR⟩
  -- the SparseCore call
  rw [wp_bind]
  iapply ((K (F := F)).wp_run (D (F := F)) 𝒱 (EH := EH) (P := P (ins m)) κ d 0) $$ [Hst HO Hc HR Hb Hts]
  isplitr; · iexact Hctx
  isplitl [Hst HO]
  · unfold SparseCore.Cfg.tcSt
    isplitl [HO]; · iexact HO
    iexact Hst
  isplitl [Hc]
  · iapply (st_intro (ins m) d _ _); iexact Hc
  iintro ⟨Hst, Hdn⟩
  ihave Hc := (dn_elim (ins m) d) $$ Hdn
  ihave Hheld := (after_call m d) $$ [Hc HR]
  · isplitl [Hc]; · iexact Hc
    iexact HR
  -- the operations after it
  rw [hend]
  iapply (StableHlo.wp_seq 𝒱 none Set.univ d (ucRefs τ sig) _ opsEnd (sub_uc opsEnd_sub) opsEnd_fresh (V4 m d)) $$ [Hb Hheld]
  · isplitl [Hb] <;> iassumption
  iintro ⟨Hb, Hheld⟩
  rw [wp_pure]
  imodintro
  isplitl [Hst]
  · unfold SparseCore.Cfg.tcSt; iexact Hst
  isplitr [Hb Hts]
  · iexact Hheld
  isplitl [Hb] <;> iassumption

/-! ## The end -/

/-- What the claims read of device `d`'s final state: every array of the TensorCore's. -/
def fq (d : Dev nD) (s' : Phys nD τ sig (Elt F)) : Prop :=
  ∀ b ∈ ucRefs τ sig, s'.mem.mem (d, b) = V5 m d b

/-- What the main thread holds at its end says what the memory holds. -/
theorem hfin (d : Dev nD) (s' : Phys nD τ sig (Elt F)) : iprop(FIN m d ∗ SI s') ⊢ (⌜fq m d s'⌝ : P𝕄 F) := by
  unfold fq
  refine (forall_intro fun b => ?_).trans pure_forall.2
  refine (forall_intro fun hb => ?_).trans pure_forall.2
  unfold FIN
  rw [StableHlo.held_sub_split (SparseCore.T d) (Finset.singleton_subset_iff.2 hb) (V5 m d)]
  unfold held
  rw [bigSep_singleton]
  iintro ⟨⟨Hx, -⟩, HSI⟩
  ihave H := (SI_pointsTo_agree (st := s') (ℓ := (d, b)) (I := Finset.univ) (q := fullShare) (f := V5 m d b)) $$ [HSI Hx]
  · isplitl [HSI]; · iexact HSI
    iexact Hx
  icases H with %hr
  ipureintro; exact funext fun i => hr i (Finset.mem_univ i)

/-- The program's final states. -/
def QC : PUnit × MemSt nD τ sig (Elt F) → Prop :=
  fun r => (∀ c : Dev nD, ∀ b ∈ ucRefs τ sig, r.2.mem (c, b) = V5 m c b) ∧ r.2.sem = fun _ => 0

/-- The kernel's program runs to the end from every launch, every array at its final contents and every semaphore at 0. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ins m)) (A := ∅) launchFacts v₀
    (fun q hq => match q with | 0 => nomatch hq)
    (fun q _ => match q with | 0 => tileObl (ins m))
    (fun q _ => match q with | 0 => SparseCore.Cfg.VecSplit.of_plain (vecSplitOf (goP (ins m)) (tdP (ins m))))
    m ρ main (fun d => pipeGhost d) (FIN m) (u₀ (F := F)) (sep_elim_left.trans (hu₀ (ins m))) (hmain m ρ) (fq m) (hfin m) (QC m) (fun _ h hz => ⟨h, hz⟩)

end Cert.Proof

end
-- ==== Proof.Frames.lean ====
/-
  What @main leaves unchanged, and the claims that every execution ends so: the kernel's two programs, the reference.
-/
module

public import proofs.«01_k».proof.Defs
public import proofs.«01_k».proof.Proof.Gen.Kernel
public import proofs.«01_k».proof.Proof.Gen.ReferenceIdeal.Run
public import proofs.«01_k».proof.Proof.Main
public import proofs.«01_k».proof.Proof.Values

@[expose] public section

noncomputable section

namespace Cert.Proof

open Cert.KernelIdeal Cert.KernelIdeal.Gen Cert.Proof.Host
open Idealize.ShloMosaic
open Idealize.ShloMosaic.StableHlo (after)
open Idealize.ShloMosaic.Pipeline (ucRefs)
open Idealize.SL.Sem

variable {F : FTy → Type} [FloatOps F] (m : (ℓ : Loc nD τ sig) → Buf (Elt F) ℓ)

/-- The operations after the SparseCore call, a list at a time. -/
theorem V5_eq (d : Dev nD) : V5 m d = after opsGlue (after opsTakeK (after opsTake (after opsRem (after opsDiv (after opsSel (after opsTop (V4 m d))))))) := by
  unfold V5 opsEnd
  simp only [StableHlo.after_append]

/-- A buffer the TensorCore call does not write. -/
theorem V2_off (d : Dev nD) {b : Idealize.ShloMosaic.Ref sig .tc} (hb : ∀ w, b ≠ Pipeline.arrRef spec0 w) :
    V2 m d (Proc.devRef .tc b) = V1 m d (Proc.devRef .tc b) :=
  Pipeline.afterRegion_of_not_arr _ _ hb

/-- A buffer the SparseCore call does not write. -/
theorem V4_other (d : Dev nD) (b : DevRef τ sig) (h₀ : b ≠ Proc.devRef .tc main_v41_0) (h₁ : b ≠ Proc.devRef .tc main_v41_1) : V4 m d b = V3 m d b :=
  (Function.update_of_ne h₁ _ _).trans (Function.update_of_ne h₀ _ _)

/-! An argument holds what it held at the start, after the SparseCore call (`V4`) and at the end (`V5`). -/

theorem V4_arg0 (d : Dev nD) : V4 m d (Proc.devRef .tc main_arg0) = m (d, Proc.devRef .tc main_arg0) := by
  rw [V4_other m d _ (by decide) (by decide), V3, opsMid_arg0, V2_off m d (by decide), V1, opsPre_arg0]; rfl

theorem V5_arg0 (d : Dev nD) : V5 m d (Proc.devRef .tc main_arg0) = m (d, Proc.devRef .tc main_arg0) := by
  rw [V5_eq, opsGlue_arg0, opsTakeK_arg0, opsTake_arg0, opsRem_arg0, opsDiv_arg0, opsSel_arg0, opsTop_arg0, V4_arg0]

theorem V4_arg1 (d : Dev nD) : V4 m d (Proc.devRef .tc main_arg1) = m (d, Proc.devRef .tc main_arg1) := by
  rw [V4_other m d _ (by decide) (by decide), V3, opsMid_arg1, V2_off m d (by decide), V1, opsPre_arg1]; rfl

theorem V5_arg1 (d : Dev nD) : V5 m d (Proc.devRef .tc main_arg1) = m (d, Proc.devRef .tc main_arg1) := by
  rw [V5_eq, opsGlue_arg1, opsTakeK_arg1, opsTake_arg1, opsRem_arg1, opsDiv_arg1, opsSel_arg1, opsTop_arg1, V4_arg1]

theorem V4_arg2 (d : Dev nD) : V4 m d (Proc.devRef .tc main_arg2) = m (d, Proc.devRef .tc main_arg2) := by
  rw [V4_other m d _ (by decide) (by decide), V3, opsMid_arg2, V2_off m d (by decide), V1, opsPre_arg2]; rfl

theorem V5_arg2 (d : Dev nD) : V5 m d (Proc.devRef .tc main_arg2) = m (d, Proc.devRef .tc main_arg2) := by
  rw [V5_eq, opsGlue_arg2, opsTakeK_arg2, opsTake_arg2, opsRem_arg2, opsDiv_arg2, opsSel_arg2, opsTop_arg2, V4_arg2]

theorem V4_arg3 (d : Dev nD) : V4 m d (Proc.devRef .tc main_arg3) = m (d, Proc.devRef .tc main_arg3) := by
  rw [V4_other m d _ (by decide) (by decide), V3, opsMid_arg3, V2_off m d (by decide), V1, opsPre_arg3]; rfl

theorem V5_arg3 (d : Dev nD) : V5 m d (Proc.devRef .tc main_arg3) = m (d, Proc.devRef .tc main_arg3) := by
  rw [V5_eq, opsGlue_arg3, opsTakeK_arg3, opsTake_arg3, opsRem_arg3, opsDiv_arg3, opsSel_arg3, opsTop_arg3, V4_arg3]

/-- Every execution of the kernel's program ends with the argument arrays as they were and every semaphore at 0. -/
theorem run_frame [∀ e, Nonempty (Elt F e)] (ρ : Dev nD → PrngReg) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun _ h => ⟨fun c =>
    ⟨(h.1 c _ (Pipeline.devRef_mem_ucRefs (b := main_arg0) rfl)).trans (V5_arg0 m c), (h.1 c _ (Pipeline.devRef_mem_ucRefs (b := main_arg1) rfl)).trans (V5_arg1 m c),
      (h.1 c _ (Pipeline.devRef_mem_ucRefs (b := main_arg2) rfl)).trans (V5_arg2 m c), (h.1 c _ (Pipeline.devRef_mem_ucRefs (b := main_arg3) rfl)).trans (V5_arg3 m c)⟩,
    h.2⟩) (run_main m ρ)

/-- The two printings of the kernel's body table are one table. -/
theorem defs₀_eq : Cert.Kernel.defs₀ (F := F) = Cert.KernelIdeal.defs₀ (F := F) := by
  funext p ℓ a
  match p, ℓ, a with
  | .tc, 0, (t, s) => rfl
  | .tc, 1, _ => rfl
  | .scVector c s, 1, _ => rfl
  | .scVector c s, 0, _ => rfl
  | .scScalar c, 0, _ => rfl
  | .scScalar c, 1, _ => rfl

/-- The printed kernel and the idealized one have the same definitions. -/
theorem defs_eq : Cert.Kernel.defs (F := F) = Cert.KernelIdeal.defs (F := F) :=
  congrArg (fun d => (Cert.KernelIdeal.sc (F := F)).defs (Pipeline.defs Cert.KernelIdeal.pcfgs d)) defs₀_eq

set_option maxHeartbeats 4000000 in
set_option maxRecDepth 10000 in
/-- The two printings of @main are one program. -/
theorem main_two (d : Dev nD) : Cert.Kernel.main (F := F) d = Cert.KernelIdeal.main (F := F) d := rfl

/-- The printed kernel and the idealized one run the same threads. -/
theorem threads_eq : Cert.Kernel.threads (F := F) = Cert.KernelIdeal.threads (F := F) :=
  congrArg (fun f => (Cert.KernelIdeal.sc (F := F)).threads f) (funext main_two)

/-- The printed kernel and the idealized one have the same runs. -/
theorem runs_eq (s : MemSt nD τ sig (Elt F)) (Q : PUnit × MemSt nD τ sig (Elt F) → Prop) :
    θ_run (Cert.Kernel.defs (F := F)) (Cert.Kernel.threads (F := F)) s Q = θ_run (Cert.KernelIdeal.defs (F := F)) (Cert.KernelIdeal.threads (F := F)) s Q :=
  congrArg₂ (fun (d : Defs nD τ sig (Elt F) _) t => θ_run d t s Q) defs_eq threads_eq

/-- The frame of the printed kernel. -/
theorem frame_kernel : Cert.quiescent_Kernel := fun m ρ _ => (runs_eq (F := Bits) _ _).mpr (run_frame (F := Bits) m ρ)

/-- The frame of the idealized kernel. -/
theorem frame_kernelIdeal : Cert.quiescent_KernelIdeal := fun m ρ _ => run_frame (F := Ideal) m ρ

/-- Every execution of the reference's program ends with the argument arrays as they were and every semaphore at 0. -/
theorem frame_referenceIdeal : Cert.quiescent_ReferenceIdeal := fun m ρ _ =>
  (θ_run Cert.ReferenceIdeal.defs _ _).mono
    (fun r h => ⟨fun c => ⟨(h c).2.2.2.1, (h c).2.2.2.2.1, (h c).2.2.2.2.2.1, (h c).2.2.2.2.2.2⟩, sem_eq_zero_of_no_sems (by decide) r.2⟩)
    (Cert.ReferenceIdeal.Value.run (F := Ideal) m ρ)

end Cert.Proof

end
-- ==== Proof.Maps.lean ====
/-
  What the TensorCore call leaves, over the extended reals: every similarity is the sum of its products, and beside each row
  of similarities stands its maximum.
-/
module

public import proofs.«01_k».proof.Proof.Frames
public import Idealize.ShloMosaic.Lib.Pipeline.ValueKit
public import Idealize.ShloMosaic.Lib.MatmulPlain
public import Idealize.ShloMosaic.PureOps.Ideal.Laws

@[expose] public section

set_option maxRecDepth 16384

noncomputable section

namespace Cert.Proof

open Cert.KernelIdeal Cert.KernelIdeal.Gen
open Idealize.ShloMosaic Idealize.ShloMosaic.TcCoe Idealize.ShloMosaic.StableHlo
open Idealize.ShloMosaic.Pipeline
open Cert.Proof.Host

/-- The similarities of two tables of features. -/
def smap (A₀ : FVec Ideal S2048x256 .f32) (A₁ : FVec Ideal S10x2048x256 .f32) : FVec Ideal S10x2048x2048 .f32 :=
  fun y => ∑ d : Fin 256, (A₀ (ix2 (y 1) d) : EReal) * A₁ (ix3 (y 0) (y 2) d)

/-- The greatest entry of row `q` of image `k`. -/
def top (s : FVec Ideal S10x2048x2048 .f32) (k : Fin 10) (q : Fin 2048) : EReal := Finset.univ.sup fun n => (s (ix3 k q n) : EReal)

/-- No entry of a row exceeds its maximum. -/
theorem le_top (s : FVec Ideal S10x2048x2048 .f32) (k : Fin 10) (q n : Fin 2048) : (s (ix3 k q n) : EReal) ≤ top s k q :=
  Finset.le_sup (f := fun n => (s (ix3 k q n) : EReal)) (Finset.mem_univ n)

/-- A row's maximum is one of its entries. -/
theorem exists_top (s : FVec Ideal S10x2048x2048 .f32) (k : Fin 10) (q : Fin 2048) : ∃ n, (s (ix3 k q n) : EReal) = top s k q := by
  obtain ⟨n, -, h⟩ := Finset.exists_mem_eq_sup Finset.univ Finset.univ_nonempty fun n => (s (ix3 k q n) : EReal)
  exact ⟨n, h.symm⟩

/-! ## The body's two results -/

/-- The TensorCore's product of a block is one with its second operand transposed. -/
theorem dot_block : dot_S256x256_S2048x256_S256x2048_1_1_0_0_n_n = DotDims.transposedRhs 256 256 2048 := rfl

/-- An entry of the product of two blocks: a sum of products. -/
theorem pay1_at (X₀ : FVec Ideal S256x256 .f32) (X₁ : FVec Ideal S1x2048x256 .f32) (r : Fin 256) (c : Fin 2048) :
    (k0_pay1 (F := Ideal) X₀ X₁ (ix2 r c) : EReal) = ∑ d : Fin 256, (X₀ (ix2 r d) : EReal) * X₁ (ix3 (0 : Fin 1) c d) := by
  unfold k0_pay1
  simp only [matmul]
  rw [dot_block]
  refine (Ideal.matmul_transposedRhs_apply none _ _ _ r c).trans ?_
  have h0 : (constant (F := Ideal) S256x2048 .f32 0x00000000#32 (ix2 r c) : EReal) = 0 := Ideal.ofBits_zero_f32
  refine (congrArg (· + _) h0).trans ((zero_add _).trans (Finset.sum_congr rfl fun d _ => ?_))
  refine congrArg₂ (fun a b : EReal => a * b) ?_ ?_
  · exact shapeCast_apply X₀ _ _ _ rfl
  · exact shapeCast_apply X₁ _ _ _ (by
      rw [Shape.rowMajor_val_three, Shape.rowMajor_val_two]
      show (0 * 2048 + c.val) * 256 + d.val = c.val * 256 + d.val
      omega)

/-- An entry of the block of similarities stored. -/
theorem pay2_at (X₀ : FVec Ideal S256x256 .f32) (X₁ : FVec Ideal S1x2048x256 .f32) (r : Fin 256) (c : Fin 2048) :
    (k0_pay2 (F := Ideal) X₀ X₁ (ix3 (0 : Fin 1) r c) : EReal) = ∑ d : Fin 256, (X₀ (ix2 r d) : EReal) * X₁ (ix3 (0 : Fin 1) c d) := by
  refine Eq.trans ?_ (pay1_at X₀ X₁ r c)
  exact shapeCast_apply (k0_pay1 (F := Ideal) X₀ X₁) _ _ _ (by
    rw [Shape.rowMajor_val_three, Shape.rowMajor_val_two]
    show r.val * 2048 + c.val = (0 * 256 + r.val) * 2048 + c.val
    omega)

/-- The word that a maximum starts from is the least extended real. -/
theorem bottom_bits : (FloatOps.ofBits (F := Ideal) .f32 0xFF800000#32 : EReal) = ⊥ := by
  show Ideal.ofBits .f32 0xFF800000#32 = ⊥
  simp [Ideal.ofBits, Ideal.ieee]

/-- The maximum of a set of extended reals, from the least. -/
theorem fold_max {ι : Type} (S : Finset ι) (f : ι → EReal) :
    S.fold (FloatOps.maximumf (F := Ideal) (φ := .f32)) (⊥ : EReal) f = S.sup f := rfl

/-- An entry of the block of maxima stored: the maximum of the row of products. -/
theorem pay3_at (X₀ : FVec Ideal S256x256 .f32) (X₁ : FVec Ideal S1x2048x256 .f32) (r : Fin 256) :
    (k0_pay3 (F := Ideal) X₀ X₁ (ix3 (0 : Fin 1) r (0 : Fin 1)) : EReal)
      = Finset.univ.sup fun c : Fin 2048 => ∑ d : Fin 256, (X₀ (ix2 r d) : EReal) * X₁ (ix3 (0 : Fin 1) c d) := by
  unfold k0_pay3
  dsimp only
  rw [shapeCast_apply _ _ _ (ix2 r (0 : Fin 1)) (by
      rw [Shape.rowMajor_val_three, Shape.rowMajor_val_two]
      show r.val * 1 + 0 = (0 * 256 + r.val) * 1 + 0
      omega),
    shapeCast_apply _ _ _ (ix1 r) (by
      rw [Shape.rowMajor_val_two, Shape.rowMajor_val_one]
      show r.val = r.val * 1 + 0
      omega)]
  refine (multiReduction_maximumf_eq_fold (F := Ideal) (φ := .f32) _ _ reduces_S256x2048_S256 _ _ _).trans ?_
  rw [bottom_bits, fold_max]
  refine le_antisymm (Finset.sup_le fun i hi => ?_) (Finset.sup_le fun c _ => ?_)
  · rw [Finset.mem_filter] at hi
    have hi' : i 0 = r := Fin.ext (by
      rw [← Shape.Reduces.drop_apply_val_of_eq reduces_S256x2048_S256 i 0 0, hi.2]; rfl)
    rw [eq_ix2 i, hi']
    refine (pay1_at X₀ X₁ r (i 1)).le.trans ?_
    exact Finset.le_sup (f := fun c : Fin 2048 => ∑ d : Fin 256, (X₀ (ix2 r d) : EReal) * X₁ (ix3 (0 : Fin 1) c d)) (Finset.mem_univ (i 1))
  · refine (pay1_at X₀ X₁ r c).ge.trans ?_
    refine Finset.le_sup (f := fun i => (k0_pay1 (F := Ideal) X₀ X₁ i : EReal)) (Finset.mem_filter.2 ⟨Finset.mem_univ _, ?_⟩)
    funext b
    match b with
    | ⟨0, _⟩ => exact Fin.ext (Shape.Reduces.drop_apply_val_of_eq reduces_S256x2048_S256 (ix2 r c) 0 0)

/-! ## The blocks -/

/-- The block of query features that a grid point reads. -/
theorem idx0 : ∀ t : Fin cfg0.N, win0_0.index t = ![t.val % 8, 0] := by decide +kernel
/-- The block of key features that a grid point reads. -/
theorem idx1 : ∀ t : Fin cfg0.N, win0_1.index t = ![t.val / 8, 0, 0] := by decide +kernel
/-- The block of similarities that a grid point writes. -/
theorem idx2 : ∀ t : Fin cfg0.N, win0_2.index t = ![t.val / 8, t.val % 8, 0] := by decide +kernel
/-- The block of maxima that a grid point writes. -/
theorem idx3 : ∀ t : Fin cfg0.N, win0_3.index t = ![t.val / 8, t.val % 8, 0] := by decide +kernel

variable (W : Dev nD → Valuation τ sig (Elt Ideal)) (d : Dev nD)

/-- The grid has 80 points. -/
theorem points (t : Fin cfg0.N) : t.val < 80 := lt_of_lt_of_eq t.isLt (by decide +kernel)

/-- A grid point's block of query features, read at one index. -/
theorem blk0_at (t : Fin cfg0.N) (r c : Fin 256) :
    blk0 W d t (ix2 r c) = W d (Proc.devRef .tc main_v3) (ix2 (⟨t.val % 8 * 256 + r.val, by omega⟩ : Fin 2048) c) := by
  unfold blk0
  rw [View.read_apply]
  refine congrArg (W d (Proc.devRef .tc main_v3)) (funext fun a => Fin.ext ?_)
  match a with
  | ⟨0, _⟩ => blk_simp [idx0 t]
  | ⟨1, _⟩ => blk_simp [idx0 t]

/-- A grid point's block of key features, read at one index. -/
theorem blk1_at (t : Fin cfg0.N) (n : Fin 2048) (c : Fin 256) :
    blk1 W d t (ix3 (0 : Fin 1) n c) = W d (Proc.devRef .tc main_v7) (ix3 (⟨t.val / 8, by have := points t; omega⟩ : Fin 10) n c) := by
  unfold blk1
  rw [View.read_apply]
  refine congrArg (W d (Proc.devRef .tc main_v7)) (funext fun a => Fin.ext ?_)
  match a with
  | ⟨0, _⟩ => blk_simp [idx1 t]; rfl
  | ⟨1, _⟩ => blk_simp [idx1 t]
  | ⟨2, _⟩ => blk_simp [idx1 t]

/-- A grid point's block of similarities, read at one index. -/
theorem res2_at (t : Fin cfg0.N) (r : Fin 256) (n : Fin 2048) :
    res2 W d t (ix3 (0 : Fin 1) r n) = smap (W d (Proc.devRef .tc main_v3)) (W d (Proc.devRef .tc main_v7))
      (ix3 (⟨t.val / 8, by have := points t; omega⟩ : Fin 10) (⟨t.val % 8 * 256 + r.val, by omega⟩ : Fin 2048) n) := by
  refine (pay2_at _ _ r n).trans (Finset.sum_congr rfl fun c _ => ?_)
  rw [blk0_at, blk1_at]
  rfl

/-- A grid point's block of maxima, read at one index. -/
theorem res3_at (t : Fin cfg0.N) (r : Fin 256) :
    res3 W d t (ix3 (0 : Fin 1) r (0 : Fin 1)) = top (smap (W d (Proc.devRef .tc main_v3)) (W d (Proc.devRef .tc main_v7)))
      (⟨t.val / 8, by have := points t; omega⟩ : Fin 10) (⟨t.val % 8 * 256 + r.val, by omega⟩ : Fin 2048) := by
  refine (pay3_at _ _ r).trans (Finset.sup_congr rfl fun n _ => Finset.sum_congr rfl fun c _ => ?_)
  rw [blk0_at, blk1_at]
  rfl

/-! ## The arrays -/

/-- The whole array of similarities after the call. -/
theorem arr2 : (dats W 0 d).arrAt (2 : Fin 4) cfg0.N = smap (W d (Proc.devRef .tc main_v3)) (W d (Proc.devRef .tc main_v7)) := by
  refine (dats W 0 d).arrAt_eq_of_covers (2 : Fin 4) _ (by decide +kernel) fun t hf y => ?_
  blk_simp
  obtain ⟨r, n, rfl⟩ : ∃ (r : Fin 256) (n : Fin 2048), y = (ix3 (0 : Fin 1) r n : S1x256x2048.Idx) := ⟨y 1, y 2, by
    refine (eq_ix3 (n0 := 1) (n1 := 256) (n2 := 2048) y).trans (congrArg (fun u => ix3 u _ _) (Subsingleton.elim _ _))⟩
  refine (res2_at W d t r n).trans (congrArg (smap _ _) (funext fun a => Fin.ext ?_))
  match a with
  | ⟨0, _⟩ => blk_simp [idx2 t]; rfl
  | ⟨1, _⟩ => blk_simp [idx2 t]
  | ⟨2, _⟩ => blk_simp [idx2 t]

/-- The whole array of maxima after the call. -/
theorem arr3 : (dats W 0 d).arrAt (3 : Fin 4) cfg0.N
    = fun y => top (smap (W d (Proc.devRef .tc main_v3)) (W d (Proc.devRef .tc main_v7))) (y 0) (y 1) := by
  refine (dats W 0 d).arrAt_eq_of_covers (3 : Fin 4) _ (by decide +kernel) fun t hf y => ?_
  blk_simp
  obtain ⟨r, rfl⟩ : ∃ r : Fin 256, y = (ix3 (0 : Fin 1) r (0 : Fin 1) : S1x256x1.Idx) := ⟨y 1, by
    refine (eq_ix3 (n0 := 1) (n1 := 256) (n2 := 1) y).trans (congrArg₂ (fun u v => ix3 u _ v) (Subsingleton.elim _ _) (Subsingleton.elim _ _))⟩
  rw [after_3]
  refine (res3_at W d t r).trans (congrArg₂ (top _) (Fin.ext ?_) (Fin.ext ?_))
  · blk_simp [idx3 t]; rfl
  · blk_simp [idx3 t]

variable (m : (ℓ : Loc nD τ sig) → Buf (Elt Ideal) ℓ)

/-- The similarities after the call, from the program's arguments. -/
theorem V2_v8_0 : V2 m d (Proc.devRef .tc main_v8_0) = smap (unitQ (m (d, Proc.devRef .tc main_arg0))) (unitK (m (d, Proc.devRef .tc main_arg1))) := by
  have h := (afterRegion_arr (dats (V1 m) 0 d) (V1 m d) (launch0.win.arr_inj) (2 : Fin 4)).trans (arr2 (V1 m) d)
  rw [show V1 m d (Proc.devRef .tc main_v3) = unitQ (m (d, Proc.devRef .tc main_arg0)) from opsPre_v3 _,
    show V1 m d (Proc.devRef .tc main_v7) = unitK (m (d, Proc.devRef .tc main_arg1)) from opsPre_v7 _] at h
  exact h

/-- The row maxima after the call, from the program's arguments. -/
theorem V2_v8_1 : V2 m d (Proc.devRef .tc main_v8_1)
    = fun y => top (smap (unitQ (m (d, Proc.devRef .tc main_arg0))) (unitK (m (d, Proc.devRef .tc main_arg1)))) (y 0) (y 1) := by
  have h := (afterRegion_arr (dats (V1 m) 0 d) (V1 m d) launch0.win.arr_inj (3 : Fin 4)).trans (arr3 (V1 m) d)
  rw [show V1 m d (Proc.devRef .tc main_v3) = unitQ (m (d, Proc.devRef .tc main_arg0)) from opsPre_v3 _,
    show V1 m d (Proc.devRef .tc main_v7) = unitK (m (d, Proc.devRef .tc main_arg1)) from opsPre_v7 _] at h
  exact h

end Cert.Proof
-- ==== Proof.Reads.lean ====
/-
  A gather along the second axis read at one index, where every position names a column.
-/
module

public import Idealize.ShloMosaic.Lib.StableHlo
public import Idealize.ShloMosaic.PureOps
public import Idealize.ShloMosaic.Lib.Pipeline.Value
public import Idealize.ShloMosaic.Lib.Pointwise.Index

@[expose] public section

noncomputable section

namespace Cert.Proof.Host

open Idealize.ShloMosaic Idealize.ShloMosaic.Pipeline

section Gather

variable {n m : ℕ}

/-- The dimension numbers of a gather along the second axis, row by row. -/
def alongDims (wf : GatherDims.WF ⟨2, ![10, n]⟩ ⟨3, ![10, m, 1]⟩ ⟨2, ![10, m]⟩ [] [1] [0] [1] [0] 2 ![1, 1]) :
    GatherDims ⟨2, ![10, n]⟩ ⟨3, ![10, m, 1]⟩ ⟨2, ![10, m]⟩ where
  offsetDims := []
  collapsedSliceDims := [1]
  operandBatchingDims := [0]
  startIndicesBatchingDims := [0]
  startIndexMap := [1]
  indexVectorDim := 2
  sliceSizes := ![1, 1]
  wf := wf

/-- It reads, of the same row, the column named. -/
theorem gather_along {α : Type} (wf : GatherDims.WF ⟨2, ![10, n]⟩ ⟨3, ![10, m, 1]⟩ ⟨2, ![10, m]⟩ [] [1] [0] [1] [0] 2 ![1, 1])
    (x : (⟨2, ![10, n]⟩ : Shape).Idx → α) (idx : IVec ⟨3, ![10, m, 1]⟩ 32) (k : Fin 10) (r : Fin m) (c : Fin n)
    (hc : (idx (ix3 k r (0 : Fin 1))).toNat = c.val) (hn : n ≤ 2 ^ 31) : Host.gather (alongDims wf) x idx (ix2 k r) = x (ix2 k c) := by
  unfold Host.gather
  refine congrArg x (funext fun a => Fin.ext ?_)
  match a with
  | ⟨0, _⟩ =>
    show (alongDims wf).start (ix2 k r) idx 0 + (alongDims wf).batchCoord (ix2 k r) 0 + (alongDims wf).offCoord (ix2 k r) 0 = k.val
    rw [(alongDims wf).start_batching _ _ _ (List.mem_singleton.2 rfl), (alongDims wf).offCoord_eq_zero _ _ (fun h =>
      (((alongDims wf).mem_sKept 0).1 h).2 (List.mem_singleton.2 rfl)), Nat.zero_add, Nat.add_zero]
    rfl
  | ⟨1, _⟩ =>
    show (alongDims wf).start (ix2 k r) idx 1 + (alongDims wf).batchCoord (ix2 k r) 1 + (alongDims wf).offCoord (ix2 k r) 1 = c.val
    have hnb : (1 : Fin 2) ∉ (alongDims wf).operandBatchingDims := by
      show (1 : Fin 2) ∉ [(0 : Fin 2)]
      decide
    rw [(alongDims wf).batchCoord_eq_zero _ _ hnb, (alongDims wf).offCoord_eq_zero _ _ (fun h =>
      (((alongDims wf).mem_sKept 1).1 h).1 (List.mem_singleton.2 rfl))]
    show (alongDims wf).start (ix2 k r) idx 1 = c.val
    unfold GatherDims.start
    have hm : (1 : Fin 2) ∈ (alongDims wf).startIndexMap := List.mem_singleton.2 rfl
    rw [dif_pos hm]
    have hsi : ∀ q, (alongDims wf).siIdx (ix2 k r) q = ix3 k r (0 : Fin 1) := by
      intro q
      funext b
      match b with
      | ⟨0, _⟩ => rfl
      | ⟨1, _⟩ => rfl
      | ⟨2, _⟩ => exact Fin.ext (by have := q.isLt; show q.val = 0; simpa [alongDims] using this)
    rw [hsi]
    have h := c.isLt
    have e : (idx (ix3 k r (0 : Fin 1))).toInt = (c.val : Int) := by
      rw [BitVec.toInt_eq_toNat_cond, hc, if_pos (by omega)]
    rw [e]
    show min (c.val : Int).toNat (n - 1) = c.val
    omega

end Gather

/-- The conjunction along an axis of truths is true. -/
theorem all_true {s t u : Shape} {axes : List (Fin s.rank)} (x : IVec s 1) (hx : ∀ i, x i = 1#1) (init : IVec u 1) (hi : ∀ i, init i = 1#1)
    (h : s.ReducesTo axes t) (hu : 0 < u.numel) (j : t.Idx) : Host.reduce IntOp.andi x init h hu j = 1#1 := by
  unfold Host.reduce
  rw [hi]
  generalize (List.finRange s.numel).filter _ = l
  induction l with
  | nil => rfl
  | cons a l ih =>
    rw [List.foldl_cons, hx]
    exact ih

/-- A position below half the word's range is not negative. -/
theorem not_slt_zero {a : BitVec 32} (h : a.toNat < 2 ^ 31) : IntOp.cmpi .slt a 0#32 = 0#1 := by
  simp only [IntOp.cmpi]
  have : a.slt 0#32 = false := by
    rw [BitVec.slt_eq_decide, BitVec.toInt_eq_toNat_cond, if_pos (by omega)]
    simp
  simp [this]

/-- A word below 2^31 is not negative. -/
theorem sge_zero {a : BitVec 32} (h : a.toNat < 2 ^ 31) : IntOp.cmpi .sge a 0#32 = 1#1 := by
  simp only [IntOp.cmpi]
  have : (0#32).sle a = true := by
    rw [BitVec.sle_eq_decide, BitVec.toInt_eq_toNat_cond (x := a), if_pos (by omega)]
    simp
  simp [this]

/-- The order of words below 2^31 from that of their numbers. -/
theorem sle_of_le {a b : BitVec 32} (hb : b.toNat < 2 ^ 31) (h : a.toNat ≤ b.toNat) : IntOp.cmpi .sle a b = 1#1 := by
  simp only [IntOp.cmpi]
  have : a.sle b = true := by
    rw [BitVec.sle_eq_decide, BitVec.toInt_eq_toNat_cond, BitVec.toInt_eq_toNat_cond, if_pos (by omega), if_pos (by omega)]
    simpa using h
  simp [this]

/-- The order of the numbers from that of words below 2^31. -/
theorem le_of_sle {a b : BitVec 32} (ha : a.toNat < 2 ^ 31) (hb : b.toNat < 2 ^ 31) (h : IntOp.cmpi .sle a b = 1#1) : a.toNat ≤ b.toNat := by
  by_contra hlt
  have : a.sle b = false := by
    rw [BitVec.sle_eq_decide, BitVec.toInt_eq_toNat_cond, BitVec.toInt_eq_toNat_cond, if_pos (by omega), if_pos (by omega)]
    simpa using hlt
  simp [IntOp.cmpi, this] at h

section TakeAlong

variable {n m : ℕ} (hn : n < 2 ^ 31) (tab : IVec ⟨2, ![10, n]⟩ 32) (pos : IVec ⟨2, ![10, m]⟩ 32) (last : BitVec 32) (hlast : last.toNat + 1 = n)
  (b₀ : (⟨0, ![]⟩ : Shape).BroadcastsInDim ⟨2, ![10, m]⟩ (![] : Fin 0 → Fin (⟨2, ![10, m]⟩ : Shape).rank))
  (b₁ : (⟨0, ![]⟩ : Shape).BroadcastsInDim ⟨3, ![10, m, 1]⟩ (![] : Fin 0 → Fin (⟨3, ![10, m, 1]⟩ : Shape).rank))
  (b₂ : (⟨1, ![1]⟩ : Shape).BroadcastsInDim ⟨3, ![1, 1, 1]⟩ (![2] : Fin 1 → Fin (⟨3, ![1, 1, 1]⟩ : Shape).rank))
  (b₃ : (⟨3, ![1, 1, 1]⟩ : Shape).BroadcastsInDim ⟨3, ![10, m, 1]⟩ (![0, 1, 2] : Fin 3 → Fin (⟨3, ![10, m, 1]⟩ : Shape).rank))
  (c₀ : (⟨2, ![10, m]⟩ : Shape).ShapeCasts ⟨3, ![10, m, 1]⟩)
  (hr : (⟨3, ![10, m, 1]⟩ : Shape).ReducesTo [2] ⟨2, ![10, m]⟩) (hu : 0 < (⟨0, ![]⟩ : Shape).numel)
  (wf : GatherDims.WF ⟨2, ![10, n]⟩ ⟨3, ![10, m, 1]⟩ ⟨2, ![10, m]⟩ [] [1] [0] [1] [0] 2 ![1, 1])

/-- Positions counted from the end are moved to count from the start. -/
def wrapped (len : BitVec 32) : IVec ⟨2, ![10, m]⟩ 32 :=
  select (cmpi .slt pos (broadcastInDim ⟨2, ![10, m]⟩ ![] b₀ (constantI ⟨0, ![]⟩ 32 0#32)))
    (addi pos (broadcastInDim ⟨2, ![10, m]⟩ ![] b₀ (constantI ⟨0, ![]⟩ 32 len))) pos

/-- A gather along the second axis that gives a set value where the position is no column. -/
def along (len : BitVec 32) : IVec ⟨2, ![10, m]⟩ 32 :=
  let i : IVec ⟨3, ![10, m, 1]⟩ 32 := shapeCast _ (wrapped pos b₀ len) c₀
  select (Host.reduce IntOp.andi
      (andi (cmpi .sge i (broadcastInDim ⟨3, ![10, m, 1]⟩ ![] b₁ (constantI ⟨0, ![]⟩ 32 0#32)))
        (cmpi .sle i (broadcastInDim ⟨3, ![10, m, 1]⟩ ![0, 1, 2] b₃ (broadcastInDim ⟨3, ![1, 1, 1]⟩ ![2] b₂ (constantI ⟨1, ![1]⟩ 32 last)))))
      (constantI ⟨0, ![]⟩ 1 1#1) hr hu)
    (Host.gather (alongDims wf) tab i)
    (broadcastInDim ⟨2, ![10, m]⟩ ![] b₀ (constantI ⟨0, ![]⟩ 32 2147483648#32))

include hn in
/-- Where no position is negative, wrapping the negative ones changes nothing. -/
theorem wrapped_eq (len : BitVec 32) (hpos : ∀ i, (pos i).toNat < n) : wrapped pos b₀ len = pos := by
  funext i
  show (if IntOp.cmpi .slt (pos i) 0#32 = 1 then _ else pos i) = pos i
  rw [not_slt_zero (by have := hpos i; omega)]
  rfl

include hn hlast in
/-- Where every position is a column, it reads that column. -/
theorem along_at (len : BitVec 32) (hpos : ∀ i, (pos i).toNat < n) (k : Fin 10) (r : Fin m) :
    along tab pos last b₀ b₁ b₂ b₃ c₀ hr hu wf len (ix2 k r) = tab (ix2 k ⟨(pos (ix2 k r)).toNat, hpos _⟩) := by
  have hi : ∀ y, (shapeCast (⟨3, ![10, m, 1]⟩ : Shape) (wrapped pos b₀ len) c₀ y).toNat < n := by
    intro y
    rw [wrapped_eq hn pos b₀ len hpos]
    exact hpos _
  unfold along
  dsimp only
  show (if _ = 1 then _ else _) = _
  have hm : ∀ y, andi (cmpi .sge (shapeCast (⟨3, ![10, m, 1]⟩ : Shape) (wrapped pos b₀ len) c₀)
        (broadcastInDim ⟨3, ![10, m, 1]⟩ ![] b₁ (constantI ⟨0, ![]⟩ 32 0#32)))
      (cmpi .sle (shapeCast (⟨3, ![10, m, 1]⟩ : Shape) (wrapped pos b₀ len) c₀)
        (broadcastInDim ⟨3, ![10, m, 1]⟩ ![0, 1, 2] b₃ (broadcastInDim ⟨3, ![1, 1, 1]⟩ ![2] b₂ (constantI ⟨1, ![1]⟩ 32 last)))) y = 1#1 := by
    intro y
    show IntOp.andi (IntOp.cmpi .sge _ 0#32) (IntOp.cmpi .sle _ last) = 1#1
    have h := hi y
    rw [sge_zero (by omega), sle_of_le (by omega) (by omega)]
    rfl
  refine (if_pos (all_true _ hm _ (fun _ => rfl) hr hu (ix2 k r))).trans ?_
  refine gather_along wf tab _ k r _ ?_ (by omega)
  rw [wrapped_eq hn pos b₀ len hpos]
  rw [shapeCast_apply _ _ _ (ix2 k r) (by
    rw [Shape.rowMajor_val_three, Shape.rowMajor_val_two]
    show k.val * m + r.val = (k.val * m + r.val) * 1 + 0
    omega)]

end TakeAlong

end Cert.Proof.Host
-- ==== Proof.Pre.lean ====
/-
  What the precondition says: of every eight rows taken, at most 128 entries are at least the threshold.
-/
module

public import proofs.«01_k».proof.Pre_tiles_hold
public import proofs.«01_k».proof.Proof.Kept
public import proofs.«01_k».proof.Proof.Maps
public import proofs.«01_k».proof.Proof.Reads
public import Idealize.ShloMosaic.Lib.IndicatorCount
public import Idealize.ShloMosaic.Lib.Pointwise

@[expose] public section

set_option maxRecDepth 16384

noncomputable section

namespace Cert.Proof.Pre

open Cert.Pre_tiles_hold
open Cert.Proof Cert.Proof.Host Cert.Proof.Tile
open Idealize.ShloMosaic Idealize.SL.Sem
open Idealize.ShloMosaic.Pipeline

/-- The shape relations of the precondition's operations. -/
instance facts : Facts where
  reducesTo_S2048x256_S2048_d1 := by decide
  h_S_ := by decide
  bcast_S2048_S2048x1_0 := by decide
  bcast_S_S2048x1 := by decide
  bcast_S2048x1_S2048x256_0_1 := by decide
  reducesTo_S10x2048x256_S10x2048_d2 := by decide
  bcast_S10x2048_S10x2048x1_0_1 := by decide
  bcast_S_S10x2048x1 := by decide
  bcast_S10x2048x1_S10x2048x256_0_1_2 := by decide
  transposes_S10x2048x2048_S10x2048x2048_0_2_1 := by decide
  reducesTo_S10x2048x2048_S10x2048_d2 := by decide
  sliceFits_S10x2048_S10x256 := by decide
  slices_S10x256_S10x1_0_255 := by decide
  shapeCasts_S10x1_S10 := by decide
  bcast_S10_S10x1x1_0 := by decide
  bcast_S10x1x1_S10x2048x2048_0_1_2 := by decide
  natLt_1_32 := by decide
  bcast_S_S10x256 := by decide
  shapeCasts_S10x256_S10x256x1 := by decide
  bcast_S_S10x256x1 := by decide
  bcast_S1_S1x1x1_2 := by decide
  bcast_S1x1x1_S10x256x1_0_1_2 := by decide
  reducesTo_S10x256x1_S10x256_d2 := by decide
  shapeCasts_S10x256_S10x32x8 := by decide
  reducesTo_S10x32x8_S10x32_d2 := by decide
  bcast_S_S10x32 := by decide
  dot_S10x2048x256_S2048x256_S10x2048x2048_2_1_01_0_n_n_wf := by decide
  gather_S10x2048_S10x256x1_S10x256_n_1_0_0_1_2_11_wf := by decide

/-! ## The similarities, their maxima, and the numbers of entries -/

/-- A product of the features with the features, at an index. -/
theorem dot_at (U : FVec Ideal S2048x256 .f32) (K : FVec Ideal S10x2048x256 .f32) (k : Fin 10) (n q : Fin 2048) :
    (Host.dotGeneral dot_S10x2048x256_S2048x256_S10x2048x2048_2_1_01_0_n_n none K U (ix3 k n q) : EReal)
      = ∑ d : Fin 256, (U (ix2 q d) : EReal) * K (ix3 k n d) := by
  pointwise!

/-- The precondition's product of features is the table of similarities. -/
theorem products (U : FVec Ideal S2048x256 .f32) (K : FVec Ideal S10x2048x256 .f32) :
    transpose S10x2048x2048 [0, 2, 1] (Host.dotGeneral dot_S10x2048x256_S2048x256_S10x2048x2048_2_1_01_0_n_n none K U)
      Facts.transposes_S10x2048x2048_S10x2048x2048_0_2_1 = smap U K := by
  funext y
  exact (transpose_apply _ _ _ _ (ix3 (y 0) (y 2) (y 1)) (fun b => by
    match b with
    | ⟨0, _⟩ => rfl
    | ⟨1, _⟩ => rfl
    | ⟨2, _⟩ => rfl)).trans (dot_at U K (y 0) (y 2) (y 1))

section Sums

variable {a b : ℕ} (h : (⟨3, ![10, a, b]⟩ : Shape).Reduces [2] ⟨2, ![10, a]⟩)

/-- The index over a reduced third axis. -/
theorem lift_third (k : Fin 10) (q : Fin a) (n : Fin b) : h.lift (ix2 k q) n = ix3 k q n := by
  funext c
  match c with
  | ⟨0, _⟩ => rfl
  | ⟨1, _⟩ => rfl
  | ⟨2, _⟩ => rfl

/-- A sum of whole numbers, as words. -/
theorem fold_words {ι : Type} (S : Finset ι) (g : ι → ℕ) :
    S.fold IntOp.addi (0#32) (fun r => BitVec.ofNat 32 (g r)) = BitVec.ofNat 32 (∑ r ∈ S, g r) := by
  classical
  induction S using Finset.induction_on with
  | empty => rfl
  | insert x S hx ih =>
    rw [Finset.fold_insert hx, ih, Finset.sum_insert hx, BitVec.ofNat_add]
    rfl

end Sums

/-- The row maxima. -/
theorem maxs_at (s : FVec Ideal S10x2048x2048 .f32) (k : Fin 10) (q : Fin 2048) :
    (Host.reduce (FloatOps.maximumf (F := Ideal) (φ := .f32)) s (constant (F := Ideal) S_ .f32 0xFF800000#32) Facts.reducesTo_S10x2048x2048_S10x2048_d2 Facts.h_S_ (ix2 k q) : EReal)
      = top s k q := by
  refine (Host.reduce_eq_fold_single (FloatOps.maximumf (F := Ideal) (φ := .f32)) s
    (constant (F := Ideal) S_ .f32 0xFF800000#32) Facts.reducesTo_S10x2048x2048_S10x2048_d2
    (by decide : S10x2048x2048.Reduces [2] S10x2048) Facts.h_S_ (ix2 k q)).trans ?_
  refine (congrArg (fun b => Finset.univ.fold (FloatOps.maximumf (F := Ideal) (φ := .f32)) b _) bottom_bits).trans ?_
  rw [fold_max]
  refine Finset.sup_congr rfl fun n _ => ?_
  exact congrArg s (lift_third _ k q n)

/-- The number of a row's entries at least a bound. -/
theorem count_at (p : IVec S10x2048x2048 1) (k : Fin 10) (q : Fin 2048) :
    Host.reduce IntOp.addi (extui 32 p Facts.natLt_1_32) (constantI S_ 32 0#32) Facts.reducesTo_S10x2048x2048_S10x2048_d2 Facts.h_S_ (ix2 k q)
      = BitVec.ofNat 32 (Finset.univ.filter fun n : Fin 2048 => p (ix3 k q n) = 1#1).card := by
  refine (Host.reduce_eq_fold_single IntOp.addi (extui 32 p Facts.natLt_1_32) (constantI S_ 32 0#32) Facts.reducesTo_S10x2048x2048_S10x2048_d2
    (by decide : S10x2048x2048.Reduces [2] S10x2048) Facts.h_S_ (ix2 k q)).trans ?_
  refine Eq.trans ?_ (Idealize.ShloMosaic.IndicatorCount.fold_addi_setWidth_eq_card (w := 32) (fun n : Fin 2048 => p (ix3 k q n)) Finset.univ)
  refine Finset.fold_congr fun n _ => ?_
  exact congrArg (fun y => (p y).setWidth 32) (lift_third _ k q n)

/-- The eight counts of a subcore, added. -/
theorem eight_at (c : IVec S10x256 32) (g : Fin 10 → Fin 256 → ℕ) (hc : ∀ k r, c (ix2 k r) = BitVec.ofNat 32 (g k r)) (k : Fin 10) (w : Fin 32) :
    Host.reduce IntOp.addi (shapeCast S10x32x8 c Facts.shapeCasts_S10x256_S10x32x8) (constantI S_ 32 0#32) Facts.reducesTo_S10x32x8_S10x32_d2 Facts.h_S_ (ix2 k w)
      = BitVec.ofNat 32 (∑ r : Fin 8, g k ⟨w.val * 8 + r.val, by omega⟩) := by
  refine (Host.reduce_eq_fold_single IntOp.addi (shapeCast S10x32x8 c Facts.shapeCasts_S10x256_S10x32x8) (constantI S_ 32 0#32) Facts.reducesTo_S10x32x8_S10x32_d2
    (by decide : S10x32x8.Reduces [2] S10x32) Facts.h_S_ (ix2 k w)).trans ?_
  refine Eq.trans ?_ (fold_words Finset.univ fun r : Fin 8 => g k ⟨w.val * 8 + r.val, by omega⟩)
  refine Finset.fold_congr fun (r : Fin 8) _ => ?_
  refine (congrArg (shapeCast S10x32x8 c Facts.shapeCasts_S10x256_S10x32x8) (lift_third _ k w r)).trans ?_
  refine (shapeCast_apply _ _ _ (ix2 k ⟨w.val * 8 + r.val, by omega⟩) ?_).trans (hc _ _)
  rw [Shape.rowMajor_val_three, Shape.rowMajor_val_two]
  show k.val * 256 + (w.val * 8 + r.val) = (k.val * 32 + w.val) * 8 + r.val
  omega

/-! ## Counting block by block -/

/-- How many of the first `a · n` numbers have a property, `n` at a time. -/
theorem count_blocks (p : ℕ → Prop) [DecidablePred p] (n a : ℕ) :
    Nat.count p (a * n) = ∑ r ∈ Finset.range a, Nat.count (fun i => p (r * n + i)) n := by
  induction a with
  | zero => simp
  | succ a ih => rw [Nat.succ_mul, Nat.count_add, ih, Finset.sum_range_succ]

/-- How many of the first `n` numbers have a property, as the size of a set. -/
theorem count_eq_card (p : ℕ → Prop) [DecidablePred p] (n : ℕ) :
    Nat.count p n = (Finset.univ.filter fun i : Fin n => p i.val).card := by
  rw [Nat.count_eq_card_filter_range, Finset.card_filter, Finset.card_filter, Finset.sum_range]

/-- Counting along `a` rows of `n` is adding up the rows' counts. -/
theorem count_card (p : ℕ → Prop) [DecidablePred p] (N a n : ℕ) (hN : N = a * n) :
    Nat.count p N = ∑ r : Fin a, (Finset.univ.filter fun i : Fin n => p (r.val * n + i.val)).card := by
  rw [hN, count_blocks, Finset.sum_range]
  exact Finset.sum_congr rfl fun r _ => count_eq_card _ _

/-! ## The precondition in plain words -/

/-- The threshold of every image, spread over its entries. -/
def lows (s : FVec Ideal S10x2048x2048 .f32) : FVec Ideal S10x2048x2048 .f32 :=
  broadcastInDim S10x2048x2048 ![0, 1, 2] Facts.bcast_S10x1x1_S10x2048x2048_0_1_2
    (broadcastInDim S10x1x1 ![0] Facts.bcast_S10_S10x1x1_0
      (shapeCast S10 (extractStridedSlice S10x1 ![0, 255]
        (Host.topK S10x256 1 (FloatOps.cmpfTotal .gt)
          (Host.reduce (FloatOps.maximumf (F := Ideal) (φ := .f32)) s (constant (F := Ideal) S_ .f32 0xFF800000#32) Facts.reducesTo_S10x2048x2048_S10x2048_d2 Facts.h_S_)
          Facts.sliceFits_S10x2048_S10x256).1 Facts.slices_S10x256_S10x1_0_255) Facts.shapeCasts_S10x1_S10))

/-- The precondition of given similarities. -/
def core (s : FVec Ideal S10x2048x2048 .f32) : IVec S10x32 1 :=
  fn_part1 (F := Ideal)
    (Host.topK S10x256 1 (FloatOps.cmpfTotal .gt)
      (Host.reduce (FloatOps.maximumf (F := Ideal) (φ := .f32)) s (constant (F := Ideal) S_ .f32 0xFF800000#32) Facts.reducesTo_S10x2048x2048_S10x2048_d2 Facts.h_S_)
      Facts.sliceFits_S10x2048_S10x256).2
    (Host.reduce IntOp.addi (extui 32 (cmpf .oge s (lows s)) Facts.natLt_1_32) (constantI S_ 32 0#32) Facts.reducesTo_S10x2048x2048_S10x2048_d2 Facts.h_S_)

/-- The precondition's function is its part after the similarities, applied to them. -/
theorem fn_eq (A₀ : FVec Ideal S2048x256 .f32) (A₁ : FVec Ideal S10x2048x256 .f32) (A₂ : FVec Ideal S2048x4 .f32) (A₃ : FVec Ideal S10x2048x4 .f32) :
    fn A₀ A₁ A₂ A₃ = core (smap (unitQ (F := Ideal) A₀) (unitK (F := Ideal) A₁)) := by
  rw [← products]
  rfl

/-- The row maxima of given similarities. -/
abbrev tops (s : FVec Ideal S10x2048x2048 .f32) : A Ideal Cert.KernelIdeal.S10x2048x1 .f32 := fun y => top s (y 0) (y 1)

/-- The precondition's row maxima are the table's. -/
theorem maxs_eq (s : FVec Ideal S10x2048x2048 .f32) :
    Host.reduce (FloatOps.maximumf (F := Ideal) (φ := .f32)) s (constant (F := Ideal) S_ .f32 0xFF800000#32) Facts.reducesTo_S10x2048x2048_S10x2048_d2 Facts.h_S_
      = maxima (tops s) := by
  funext y
  rw [eq_ix2 y]
  refine (maxs_at s (y 0) (y 1)).trans ?_
  refine Eq.symm ((shapeCast_apply _ _ _ (ix3 (y 0) (y 1) (0 : Fin 1)) ?_).trans rfl)
  rw [Shape.rowMajor_val_three, Shape.rowMajor_val_two]
  show ((y 0).val * 2048 + (y 1).val) * 1 + 0 = (y 0).val * 2048 + (y 1).val
  omega

/-- The threshold: the 256th largest row maximum. -/
abbrev low (s : FVec Ideal S10x2048x2048 .f32) (k : Fin 10) : Ideal .f32 :=
  maxima (tops s) (ix2 k (order (FloatOps.cmpfTotal .gt) (maxima (tops s)) k (255 : Fin 2048)))

/-- The threshold laid along the table, read at one index. -/
theorem lows_at (s : FVec Ideal S10x2048x2048 .f32) (k : Fin 10) (q n : Fin 2048) : (lows s (ix3 k q n) : EReal) = low s k := by
  unfold lows
  rw [maxs_eq]
  refine (broadcastInDim_apply _ _ _ _ (ix3 k (0 : Fin 1) (0 : Fin 1)) (fun a => by
    match a with
    | ⟨0, _⟩ => rfl
    | ⟨1, _⟩ => rfl
    | ⟨2, _⟩ => rfl)).trans ?_
  refine (broadcastInDim_apply _ _ _ _ (ix1 k) (fun a => by
    match a with
    | ⟨0, _⟩ => rfl)).trans ?_
  refine (shapeCast_apply _ _ _ (ix2 k (0 : Fin 1)) (by
    rw [Shape.rowMajor_val_two, Shape.rowMajor_val_one]
    show k.val * 1 + 0 = k.val
    omega)).trans ?_
  refine (extractStridedSlice_apply _ _ _ _ (ix2 k (255 : Fin 256)) (fun a => by
    match a with
    | ⟨0, _⟩ => simp
    | ⟨1, _⟩ => simp)).trans ?_
  exact topK_fst _ _ _ (by omega) k (255 : Fin 256)

/-- The precondition's lookup of the counts. -/
theorem take_at (c : IVec S10x2048 32) (v : IVec S10x256 32) (hv : ∀ i, (v i).toNat < 2048) (k : Fin 10) (r : Fin 256) :
    fn_take_along_axis (F := Ideal) c v (ix2 k r) = c (ix2 k ⟨(v (ix2 k r)).toNat, hv _⟩) :=
  along_at (n := 2048) (m := 256) (by norm_num) c v 2047#32 (by rfl) Facts.bcast_S_S10x256 Facts.bcast_S_S10x256x1 Facts.bcast_S1_S1x1x1_2
    Facts.bcast_S1x1x1_S10x256x1_0_1_2 Facts.shapeCasts_S10x256_S10x256x1 Facts.reducesTo_S10x256x1_S10x256_d2 Facts.h_S_
    Facts.gather_S10x2048_S10x256x1_S10x256_n_1_0_0_1_2_11_wf 2048#32 hv k r

/-- The numbers of entries at least the threshold, row by row. -/
def counts (s : FVec Ideal S10x2048x2048 .f32) : IVec S10x2048 32 :=
  Host.reduce IntOp.addi (extui 32 (cmpf .oge s (lows s)) Facts.natLt_1_32) (constantI S_ 32 0#32) Facts.reducesTo_S10x2048x2048_S10x2048_d2 Facts.h_S_

/-- The same numbers as numbers. -/
def many (s : FVec Ideal S10x2048x2048 .f32) (k : Fin 10) (q : Fin 2048) : ℕ :=
  (Finset.univ.filter fun n : Fin 2048 => cmpf .oge s (lows s) (ix3 k q n) = 1#1).card

/-- The counts of a row, as words. -/
theorem counts_at (s : FVec Ideal S10x2048x2048 .f32) (k : Fin 10) (q : Fin 2048) : counts s (ix2 k q) = BitVec.ofNat 32 (many s k q) :=
  count_at _ k q

/-- A row has at most 2048 entries at or above the threshold. -/
theorem many_le (s : FVec Ideal S10x2048x2048 .f32) (k : Fin 10) (q : Fin 2048) : many s k q ≤ 2048 :=
  (Finset.card_le_univ _).trans (Fintype.card_fin 2048).le

/-- The precondition once the rows are looked up. -/
theorem core_eq (s : FVec Ideal S10x2048x2048 .f32) : core s
    = cmpi .sle (Host.reduce IntOp.addi (shapeCast S10x32x8 (fn_take_along_axis (F := Ideal) (counts s) (picked (tops s))) Facts.shapeCasts_S10x256_S10x32x8)
        (constantI S_ 32 0#32) Facts.reducesTo_S10x32x8_S10x32_d2 Facts.h_S_)
      (broadcastInDim S10x32 ![] Facts.bcast_S_S10x32 (constantI S_ 32 128#32)) := by
  unfold core
  rw [maxs_eq]
  rfl

/-- An entry of a subcore's run, by its row and its column. -/
theorem hit_block (s : Vec Ideal Cert.KernelIdeal.S10x2048x2048 .f32) (v : Vec Ideal Cert.KernelIdeal.S10x256 .i32)
    (hv : ∀ (k : Fin 10) (r : Fin 256), (v (ix2 k r)).toNat < 2048) (lo : Ideal .f32) (k : Fin 10) (w : Fin 32) (r : Fin 8) (n : Fin 2048) :
    Hit (F := Ideal) s v hv lo k w (r.val * 2048 + n.val)
      ↔ FloatOps.cmpf (F := Ideal) (φ := .f32) .oge (s (ix3 k (⟨(v (ix2 k (⟨w.val * 8 + r.val, by omega⟩ : Fin 256))).toNat, hv _ _⟩ : Fin 2048) n)) lo = 1#1 := by
  have e1 : (r.val * 2048 + n.val) / 2048 % 8 = r.val := by omega
  have e2 : (r.val * 2048 + n.val) % 2048 = n.val := by omega
  unfold Hit score rowNo
  simp only [e1, e2]

/-- A comparison of two tables read at one index, where the second entry is known. -/
theorem oge_at (x y : FVec Ideal S10x2048x2048 .f32) (i : S10x2048x2048.Idx) (lo : Ideal .f32) (h : y i = lo) :
    cmpf .oge x y i = FloatOps.cmpf (F := Ideal) (φ := .f32) .oge (x i) lo := by
  rw [← h]
  rfl

/-- An entry of a subcore's run is kept where it is counted. -/
theorem hit_iff (s : Vec Ideal Cert.KernelIdeal.S10x2048x2048 .f32) (k : Fin 10) (w : Fin 32) (r : Fin 8) (n : Fin 2048) :
    Hit (F := Ideal) s (picked (tops s)) (picked_lt (tops s)) (low s k) k w (r.val * 2048 + n.val)
      ↔ cmpf .oge s (lows s) (ix3 k (⟨(picked (tops s) (ix2 k (⟨w.val * 8 + r.val, by omega⟩ : Fin 256))).toNat, picked_lt _ _ _⟩ : Fin 2048) n) = 1#1 :=
  (hit_block s (picked (tops s)) (picked_lt (tops s)) (low s k) k w r n).trans
    (Iff.of_eq (congrArg (fun b => b = 1#1) (oge_at s (lows s) _ (low s k) (lows_at s k _ n)).symm))

/-- A comparison of counts with 128 read at one index, where the count is known. -/
theorem sle_at (a : IVec S10x32 32) (b : ℕ) (k : Fin 10) (w : Fin 32) (ha : a (ix2 k w) = BitVec.ofNat 32 b)
    (h : cmpi .sle a (broadcastInDim S10x32 ![] Facts.bcast_S_S10x32 (constantI S_ 32 128#32)) (ix2 k w) = 1#1) :
    IntOp.cmpi .sle (BitVec.ofNat 32 b) 128#32 = 1#1 := by
  rw [← ha]
  exact h

/-- The counts of eight rows are at most 128 together. -/
theorem many_sum (s : FVec Ideal S10x2048x2048 .f32) (h : core s = fun _ => 1#1) (k : Fin 10) (w : Fin 32) :
    (∑ r : Fin 8, many s k ⟨(picked (tops s) (ix2 k (⟨w.val * 8 + r.val, by omega⟩ : Fin 256))).toNat, picked_lt _ _ _⟩) ≤ 128 := by
  have hc : ∀ (k : Fin 10) (r : Fin 256), fn_take_along_axis (F := Ideal) (counts s) (picked (tops s)) (ix2 k r)
      = BitVec.ofNat 32 (many s k ⟨(picked (tops s) (ix2 k r)).toNat, picked_lt _ _ _⟩) := fun k r =>
    (take_at (counts s) (picked (tops s)) (fun i => by rw [eq_ix2 i]; exact picked_lt (tops s) (i 0) (i 1)) k r).trans (counts_at s k _)
  have hk := sle_at _ _ k w (eight_at _ _ hc k w) (congrFun ((core_eq s).symm.trans h) (ix2 k w))
  have hsum : (∑ r : Fin 8, many s k ⟨(picked (tops s) (ix2 k (⟨w.val * 8 + r.val, by omega⟩ : Fin 256))).toNat, picked_lt _ _ _⟩) ≤ 8 * 2048 := by
    refine (Finset.sum_le_sum fun r _ => many_le s k _).trans ?_
    simp
  generalize (∑ r : Fin 8, many s k ⟨(picked (tops s) (ix2 k (⟨w.val * 8 + r.val, by omega⟩ : Fin 256))).toNat, picked_lt _ _ _⟩) = N at hk hsum ⊢
  have hN := le_of_sle (by rw [BitVec.toNat_ofNat]; omega) (by decide) hk
  rw [BitVec.toNat_ofNat, Nat.mod_eq_of_lt (by omega)] at hN
  exact hN

/-- Under the precondition no subcore keeps more than 128 entries of an image. -/
theorem kept_le (s : Vec Ideal Cert.KernelIdeal.S10x2048x2048 .f32) (h : core s = fun _ => 1#1) (k : Fin 10) (w : Fin 32) :
    Nat.count (Hit (F := Ideal) s (picked (tops s)) (picked_lt (tops s)) (low s k) k w) 16384 ≤ 128 := by
  refine ((count_card _ 16384 8 2048 (by norm_num)).trans (Finset.sum_congr rfl fun r _ => ?_)).trans_le (many_sum s h k w)
  exact congrArg Finset.card (Finset.filter_congr fun n _ => hit_iff s k w r n)

end Cert.Proof.Pre
-- ==== Proof.Bound.lean ====
/-
  Every similarity is above the number that fills the unused places.
-/
module

public import proofs.«01_k».proof.Proof.Maps
public import Idealize.ShloMosaic.Lib.IdealHost

@[expose] public section

set_option maxRecDepth 16384

noncomputable section

namespace Cert.Proof.Bound

open Cert.KernelIdeal Cert.KernelIdeal.Gen
open Idealize.ShloMosaic
open Idealize.ShloMosaic.Pipeline
open Cert.Proof.Host

/-! ## Rows over their norms -/

/-- A finite sum of reals, as an extended real. -/
theorem coe_total {n : ℕ} (f : Fin n → ℝ) : ((∑ d, f d : ℝ) : EReal) = ∑ d, (f d : EReal) := by
  induction n with
  | zero => simp
  | succ n ih => rw [Fin.sum_univ_succ, Fin.sum_univ_succ, EReal.coe_add, ih]

/-- A square is not negative. -/
theorem square_nonneg (x : EReal) : 0 ≤ x * x := by
  induction x with
  | bot => simp
  | top => simp
  | coe r => rw [← EReal.coe_mul]; exact_mod_cast mul_self_nonneg r

/-- A row divided by the larger of its norm and a positive number has real entries whose squares add up to at most one. -/
theorem unit_row {n : ℕ} (x : Fin n → EReal) (c : ℝ) (hc : 0 < c) :
    ∃ r : Fin n → ℝ, (∀ d, Ideal.div (x d) (max (c : EReal) (Ideal.sqrt (0 + ∑ d, x d * x d))) = (r d : EReal)) ∧ ∑ d, r d * r d ≤ 1 := by
  rw [zero_add]
  by_cases hx : ∀ d, x d ≠ ⊤ ∧ x d ≠ ⊥
  · choose f hf using fun d => (⟨(x d).toReal, (EReal.coe_toReal (hx d).1 (hx d).2).symm⟩ : ∃ f : ℝ, x d = (f : EReal))
    have hS : ∑ d, x d * x d = ((∑ d, f d * f d : ℝ) : EReal) := by
      rw [coe_total]
      exact Finset.sum_congr rfl fun d _ => by rw [hf d, EReal.coe_mul]
    have h0 : 0 ≤ ∑ d, f d * f d := Finset.sum_nonneg fun d _ => mul_self_nonneg _
    have hq : Ideal.sqrt ((∑ d, f d * f d : ℝ) : EReal) = ((Real.sqrt (∑ d, f d * f d) : ℝ) : EReal) := if_neg (not_lt.2 h0)
    have hm : max (c : EReal) ((Real.sqrt (∑ d, f d * f d) : ℝ) : EReal) = ((max c (Real.sqrt (∑ d, f d * f d)) : ℝ) : EReal) :=
      (EReal.coe_strictMono.monotone.map_max).symm
    have hpos : 0 < max c (Real.sqrt (∑ d, f d * f d)) := lt_max_of_lt_left hc
    set M := max c (Real.sqrt (∑ d, f d * f d)) with hM
    refine ⟨fun d => f d * M⁻¹, fun d => ?_, ?_⟩
    · rw [hS, hq, hm, hf d, Ideal.div, if_neg (by exact_mod_cast hpos.ne'), EReal.coe_mul, EReal.coe_inv]
    · have : ∑ d, f d * M⁻¹ * (f d * M⁻¹) = (∑ d, f d * f d) / (M * M) := by
        rw [Finset.sum_div]
        exact Finset.sum_congr rfl fun d _ => by field_simp
      rw [this, div_le_one (mul_pos hpos hpos)]
      calc ∑ d, f d * f d = Real.sqrt (∑ d, f d * f d) * Real.sqrt (∑ d, f d * f d) := (Real.mul_self_sqrt h0).symm
        _ ≤ M * M := mul_self_le_mul_self (Real.sqrt_nonneg _) (le_max_right _ _)
  · push Not at hx
    obtain ⟨e, he⟩ := hx
    have he' : x e * x e = ⊤ := by
      by_cases h : x e = ⊤
      · rw [h]; rfl
      · rw [he h]; rfl
    have hS : ∑ d, x d * x d = ⊤ :=
      top_le_iff.1 (he' ▸ Finset.single_le_sum (f := fun d => x d * x d) (fun d _ => square_nonneg (x d)) (Finset.mem_univ e))
    refine ⟨fun _ => 0, fun d => ?_, by simp⟩
    rw [hS, show Ideal.sqrt ⊤ = ⊤ from rfl, max_eq_right _root_.le_top, Ideal.div, if_neg (by simp), EReal.inv_top, mul_zero]
    rfl

/-- Two such rows have a product of at least minus one. -/
theorem product_ge {n : ℕ} (a b : Fin n → ℝ) (ha : ∑ d, a d * a d ≤ 1) (hb : ∑ d, b d * b d ≤ 1) : -1 ≤ ∑ d, a d * b d := by
  have h : 0 ≤ ∑ d, (a d + b d) * (a d + b d) := Finset.sum_nonneg fun d _ => mul_self_nonneg _
  have e : ∑ d, (a d + b d) * (a d + b d) = ∑ d, a d * a d + 2 * ∑ d, a d * b d + ∑ d, b d * b d := by
    rw [Finset.mul_sum, ← Finset.sum_add_distrib, ← Finset.sum_add_distrib]
    exact Finset.sum_congr rfl fun d _ => by ring
  linarith

/-- The number below which no norm is taken is a positive real. -/
theorem least_norm : ∃ c : ℝ, 0 < c ∧ Ideal.ofBits .f32 0x2B8CBCCC#32 = (c : EReal) := by
  refine ⟨9223372 * (2 : ℝ) ^ (-63 : ℤ), by positivity, ?_⟩
  simp [Ideal.ofBits, Ideal.ieee, -EReal.coe_mul]

/-- The number in the unused places is minus three. -/
theorem pad_bits : Ideal.ofBits .f32 0xC0400000#32 = ((-3 : ℝ) : EReal) := by
  simp [Ideal.ofBits, Ideal.ieee, -EReal.coe_mul]
  norm_num

/-! ## The two tables -/

/-- A normalized query feature at one index: the feature over its row's clipped norm. -/
theorem unitQ_at (A₀ : FVec Ideal S2048x256 .f32) (q : Fin 2048) (d : Fin 256) :
    (unitQ (F := Ideal) A₀ (ix2 q d) : EReal)
      = Ideal.div (A₀ (ix2 q d)) (max (Ideal.ofBits .f32 0x2B8CBCCC#32)
          (Ideal.sqrt (0 + ∑ d : Fin 256, (A₀ (ix2 q d) : EReal) * A₀ (ix2 q d)))) := by
  unfold unitQ
  dsimp only
  refine congrArg (Ideal.div (A₀ (ix2 q d))) ?_
  refine (broadcastInDim_apply _ _ _ _ (ix2 q (0 : Fin 1)) (fun a => by
    match a with
    | ⟨0, _⟩ => rfl
    | ⟨1, _⟩ => rfl)).trans ?_
  refine congrArg (fun z => max (Ideal.ofBits .f32 0x2B8CBCCC#32) (Ideal.sqrt z)) ?_
  refine (broadcastInDim_apply _ _ _ _ (ix1 q) (fun a => by
    match a with
    | ⟨0, _⟩ => rfl)).trans ?_
  refine (Ideal.hostReduceAdd_single reducesTo_S2048x256_S2048_d1 (by decide : S2048x256.Reduces [1] S2048) _ _ (ix1 q)).trans ?_
  refine congrArg₂ (fun z w => (z + w : EReal)) Ideal.ofBits_zero_f32 (Finset.sum_congr rfl fun (d : Fin 256) _ => ?_)
  exact congrArg (fun y => (A₀ y : EReal) * A₀ y) (show _ = ix2 q d from funext fun a => by
    match a with
    | ⟨0, _⟩ => rfl
    | ⟨1, _⟩ => rfl)

/-- A normalized key feature at one index: the feature over its row's clipped norm. -/
theorem unitK_at (A₁ : FVec Ideal S10x2048x256 .f32) (k : Fin 10) (n : Fin 2048) (d : Fin 256) :
    (unitK (F := Ideal) A₁ (ix3 k n d) : EReal)
      = Ideal.div (A₁ (ix3 k n d)) (max (Ideal.ofBits .f32 0x2B8CBCCC#32)
          (Ideal.sqrt (0 + ∑ d : Fin 256, (A₁ (ix3 k n d) : EReal) * A₁ (ix3 k n d)))) := by
  unfold unitK
  dsimp only
  refine congrArg (Ideal.div (A₁ (ix3 k n d))) ?_
  refine (broadcastInDim_apply _ _ _ _ (ix3 k n (0 : Fin 1)) (fun a => by
    match a with
    | ⟨0, _⟩ => rfl
    | ⟨1, _⟩ => rfl
    | ⟨2, _⟩ => rfl)).trans ?_
  refine congrArg (fun z => max (Ideal.ofBits .f32 0x2B8CBCCC#32) (Ideal.sqrt z)) ?_
  refine (broadcastInDim_apply _ _ _ _ (ix2 k n) (fun a => by
    match a with
    | ⟨0, _⟩ => rfl
    | ⟨1, _⟩ => rfl)).trans ?_
  refine (Ideal.hostReduceAdd_single reducesTo_S10x2048x256_S10x2048_d2 (by decide : S10x2048x256.Reduces [2] S10x2048) _ _ (ix2 k n)).trans ?_
  refine congrArg₂ (fun z w => (z + w : EReal)) Ideal.ofBits_zero_f32 (Finset.sum_congr rfl fun (d : Fin 256) _ => ?_)
  exact congrArg (fun y => (A₁ y : EReal) * A₁ y) (show _ = ix3 k n d from funext fun a => by
    match a with
    | ⟨0, _⟩ => rfl
    | ⟨1, _⟩ => rfl
    | ⟨2, _⟩ => rfl)

/-- Every similarity is above the number in the unused places. -/
theorem above (A₀ : FVec Ideal S2048x256 .f32) (A₁ : FVec Ideal S10x2048x256 .f32) (k : Fin 10) (q n : Fin 2048) :
    Ideal.ofBits .f32 0xC0400000#32 < (smap (unitQ (F := Ideal) A₀) (unitK (F := Ideal) A₁) (ix3 k q n) : EReal) := by
  obtain ⟨c, hc, hb⟩ := least_norm
  obtain ⟨a, ha, ha1⟩ := unit_row (fun d : Fin 256 => (A₀ (ix2 q d) : EReal)) c hc
  obtain ⟨b, hbb, hb1⟩ := unit_row (fun d : Fin 256 => (A₁ (ix3 k n d) : EReal)) c hc
  have e : (smap (unitQ (F := Ideal) A₀) (unitK (F := Ideal) A₁) (ix3 k q n) : EReal) = ((∑ d, a d * b d : ℝ) : EReal) := by
    rw [coe_total]
    show (∑ d : Fin 256, (unitQ (F := Ideal) A₀ (ix2 q d) : EReal) * unitK (F := Ideal) A₁ (ix3 k n d)) = _
    refine Finset.sum_congr rfl fun d _ => ?_
    rw [unitQ_at, unitK_at, hb, ha d, hbb d, EReal.coe_mul]
  rw [e, pad_bits, EReal.coe_lt_coe_iff]
  have := product_ge a b ha1 hb1
  linarith

end Cert.Proof.Bound
-- ==== Proof.Pick.lean ====
/-
  The largest entries of a long list, taken from a short list of candidates: what a stable sort by value puts first among
  the candidates is what it puts first in the whole list.
-/
module

public import Idealize.ShloMosaic.Lib.SortPrefix
public import Mathlib.Order.Interval.Finset.Fin

@[expose] public section

namespace Cert.Proof.Pick

open Idealize.ShloMosaic

variable {α : Type} [LinearOrder α]

/-- Position `a` comes before position `b`: of larger value, or of the same value and earlier. -/
def first {n : ℕ} (x : Fin n → α) (a b : Fin n) : Bool := decide (x b < x a) || (decide (x a = x b) && decide (a < b))

/-- Coming before, spelt out. -/
theorem first_iff {n : ℕ} (x : Fin n → α) (a b : Fin n) : first x a b = true ↔ x b < x a ∨ x a = x b ∧ a < b := by
  simp [first]

/-- Coming before is a strict total order. -/
theorem first_strict {n : ℕ} (x : Fin n → α) : StrictTotalBefore (first x) :=
  StrictTotalBefore.of_key_then_position (fun a b => decide (b < a)) x (by simp) (by simpa using fun a b c h h' => h'.trans h)
    (by simpa using fun a b => by rcases lt_trichotomy a b with h | h | h <;> simp [h])

/-- A stable sort by value alone is the sort by value and then position. -/
theorem sortedFrom_value {n : ℕ} (x : Fin n → α) : sortedFrom (fun a b => decide (x b < x a)) = sortedFrom (first x) := by
  have h : ∀ l : List (Fin n), l.Pairwise (· < ·) → stableSort (fun a b => decide (x b < x a)) l = stableSort (first x) l := by
    intro l hl
    induction l with
    | nil => rfl
    | cons a l ih =>
      rw [List.pairwise_cons] at hl
      unfold stableSort
      rw [ih hl.2]
      refine insertBefore_congr _ _ a _ fun b hb => ?_
      have hab := hl.1 b ((perm_stableSort _ l).mem_iff.mp hb)
      simp [first, not_lt.2 hab.le]
  funext k
  unfold sortedFrom
  rw [List.get_of_eq (show sortPositions n (fun a b => decide (x b < x a)) = sortPositions n (first x) from h _ (List.pairwise_lt_finRange n))]
  rfl

variable {n : ℕ} {B : Fin n → Fin n → Bool} (hB : StrictTotalBefore B)
include hB

/-- A sorted list's earlier place comes before a later one. -/
theorem before_of_lt {i j : Fin n} (h : i < j) : B (sortedFrom B i) (sortedFrom B j) = true := by
  rcases hB.total _ _ (fun e => h.ne (sortedFrom_injective B e)) with h' | h'
  · exact h'
  · rw [sortedFrom_noInversion B B (fun a b h => hB.asymm a b h) (fun _ _ h => h) hB.negTrans i j h] at h'
    exact absurd h' (by decide)

/-- Positions all before the one sorted to place `i` are at most `i`. -/
theorem card_le_rank (S : Finset (Fin n)) (i : Fin n) (h : ∀ s ∈ S, B s (sortedFrom B i) = true) : S.card ≤ i.val := by
  have hsub : S ⊆ (Finset.Iio i).image (sortedFrom B) := by
    intro s hs
    obtain ⟨j, rfl⟩ := sortedFrom_surjective B s
    refine Finset.mem_image.2 ⟨j, Finset.mem_Iio.2 ?_, rfl⟩
    rcases lt_trichotomy j i with hj | hj | hj
    · exact hj
    · have := h _ hs; rw [hj, hB.irrefl] at this; exact absurd this (by decide)
    · have := h _ hs; rw [hB.asymm _ _ (before_of_lt hB hj)] at this; exact absurd this (by decide)
  calc S.card ≤ ((Finset.Iio i).image (sortedFrom B)).card := Finset.card_le_card hsub
    _ ≤ (Finset.Iio i).card := Finset.card_image_le
    _ = i.val := by simp

/-- A position that is not among the first `m` comes after each of them. -/
theorem before_of_notMem {m : ℕ} (hm : m ≤ n) (p : Fin n) (hp : ∀ a : Fin m, sortedFrom B (a.castLE hm) ≠ p) (a : Fin m) :
    B (sortedFrom B (a.castLE hm)) p = true := by
  obtain ⟨j, rfl⟩ := sortedFrom_surjective B p
  refine before_of_lt hB ?_
  by_contra hj
  have hj' : j.val < m := lt_of_le_of_lt (not_lt.1 hj) a.isLt
  exact hp ⟨j.val, hj'⟩ rfl

omit hB

section Candidates

variable {n m Q T M : ℕ} (hTQ : T ≤ Q) (hMT : M ≤ T) (hMn : M ≤ n) (hMm : M ≤ m)
variable (X : Fin n → α) (C : Fin m → α) (row : Fin n → Fin Q) (R : Fin Q → α)

/-- An entry is kept: its row is one of the `T` of highest maximum, its value at least `lo`. -/
def Kept (lo : α) (i : Fin n) : Prop := (∃ a : Fin T, sortedFrom (first R) (a.castLE hTQ) = row i) ∧ lo ≤ X i

variable (hR : ∀ i, X i ≤ R (row i)) (hA : ∀ q, ∃ i, row i = q ∧ X i = R q) (hrow : ∀ i i', row i < row i' → i < i')
variable (lo : α) (hlo : ∀ a : Fin T, lo ≤ R (sortedFrom (first R) (a.castLE hTQ)))

include hR hA hrow hlo in
/-- The first `T` entries are kept. -/
theorem kept_first (r : Fin T) (hTn : T ≤ n) : Kept hTQ X row R lo (sortedFrom (first X) (r.castLE hTn)) := by
  by_contra hk
  choose e he₁ he₂ using hA
  have hinj : Function.Injective fun a : Fin T => e (sortedFrom (first R) (a.castLE hTQ)) := by
    intro a b hab
    have h := congrArg row hab
    rw [he₁, he₁] at h
    exact Fin.castLE_injective hTQ (sortedFrom_injective _ h)
  have hcard := card_le_rank (first_strict X) (Finset.univ.image fun a : Fin T => e (sortedFrom (first R) (a.castLE hTQ))) (r.castLE hTn) (by
    intro s hs
    obtain ⟨a, -, rfl⟩ := Finset.mem_image.1 hs
    rw [first_iff]
    generalize sortedFrom (first X) (r.castLE hTn) = i at hk
    by_cases hsel : ∃ a : Fin T, sortedFrom (first R) (a.castLE hTQ) = row i
    · have hlt : X i < lo := not_le.1 fun h => hk ⟨hsel, h⟩
      left
      rw [he₂]
      exact hlt.trans_le (hlo a)
    · have hb := before_of_notMem (first_strict R) hTQ (row i) (fun a h => hsel ⟨a, h⟩) a
      rw [first_iff] at hb
      rcases hb with hb | ⟨hb, hb'⟩
      · left; rw [he₂]; exact (hR i).trans_lt hb
      · rcases (hR i).lt_or_eq with h | h
        · left; rw [he₂, hb]; exact h
        · right
          refine ⟨by rw [he₂, hb, h], hrow _ _ ?_⟩
          rw [he₁]; exact hb')
  rw [Finset.card_image_of_injective _ hinj, Finset.card_univ, Fintype.card_fin] at hcard
  exact absurd hcard (not_le.2 r.isLt)

variable (c : Fin n → Fin m) (hc₁ : ∀ i, Kept hTQ X row R lo i → C (c i) = X i)
variable (hc₂ : ∀ i i', Kept hTQ X row R lo i → Kept hTQ X row R lo i' → i < i' → c i < c i')
variable (hc₃ : ∀ j, (∀ i, Kept hTQ X row R lo i → c i ≠ j) → ∀ i, C j < X i)

include hR hA hrow hlo hc₁ hc₂ hc₃ hMT in
/-- Sorting the candidates puts in the first places the candidates of what sorting everything puts there. -/
theorem candidates (hTn : T ≤ n) (r : Fin M) :
    sortedFrom (first C) (r.castLE hMm) = c (sortedFrom (first X) (r.castLE hMn)) := by
  have hk : ∀ r : Fin M, Kept hTQ X row R lo (sortedFrom (first X) (r.castLE hMn)) := fun r =>
    kept_first hTQ X row R hR hA hrow lo hlo (r.castLE hMT) hTn
  have hmono : ∀ i i', Kept hTQ X row R lo i → Kept hTQ X row R lo i' → first X i i' = true → first C (c i) (c i') = true := by
    intro i i' h h' hb
    rw [first_iff] at hb ⊢
    rw [hc₁ i h, hc₁ i' h']
    exact hb.imp id fun hb => ⟨hb.1, hc₂ i i' h h' hb.2⟩
  refine StrictTotalBefore.sortedFrom_eq_of_prefix (first_strict C) hMm (fun r => c (sortedFrom (first X) (r.castLE hMn))) ?_ ?_ ?_ r
  · intro a b hab
    have hne : ∀ i i', Kept hTQ X row R lo i → Kept hTQ X row R lo i' → c i = c i' → i = i' := by
      intro i i' h h' e
      rcases lt_trichotomy i i' with hl | hl | hl
      · exact absurd e (hc₂ i i' h h' hl).ne
      · exact hl
      · exact absurd e (hc₂ i' i h' h hl).ne'
    exact Fin.castLE_injective hMn (sortedFrom_injective _ (hne _ _ (hk a) (hk b) hab))
  · intro i j hij
    exact (first_strict C).asymm _ _ (hmono _ _ (hk i) (hk j) (before_of_lt (first_strict X) hij))
  · intro i p hp
    by_cases hpi : ∃ i', Kept hTQ X row R lo i' ∧ c i' = p
    · obtain ⟨i', h', rfl⟩ := hpi
      refine (first_strict C).asymm _ _ (hmono _ _ (hk i) h' ?_)
      exact before_of_notMem (first_strict X) hMn i' (fun a e => hp a (by rw [e])) i
    · refine (first_strict C).asymm _ _ ?_
      rw [first_iff, hc₁ _ (hk i)]
      exact Or.inl (hc₃ p (fun i' h' e => hpi ⟨i', h', e⟩) _)

end Candidates

end Cert.Proof.Pick
-- ==== Proof.Choice.lean ====
/-
  The largest entries of a square table, found among the candidates: the rows of largest maximum are taken in order,
  eight at a time, and of each eight the entries at least the threshold are listed in order, 128 places to a list.
-/
module

public import proofs.«01_k».proof.Proof.Pick
public import Mathlib.Data.Nat.Count
public import Mathlib.Data.EReal.Basic

@[expose] public section

noncomputable section

namespace Cert.Proof.Pick

open Idealize.ShloMosaic

/-- The row of a tile that holds its `p`-th entry is one of the 256 selected. -/
theorem slot_lt (w : Fin 32) (p : ℕ) : w.val * 8 + p / 2048 % 8 < 256 := by omega

/-- There are 256 rows to select. -/
theorem le_rows : 256 ≤ 2048 := by omega

/-- There are 204 candidates to take. -/
theorem le_listed : 204 ≤ 4096 := by omega

/-- There are 204 entries of the table to take. -/
theorem le_flat : 204 ≤ 4194304 := by omega

/-- A flat place lies in one of the 2048 rows. -/
theorem row_lt (i : Fin 4194304) : i.val / 2048 < 2048 := by omega

/-- A place within a row is one of 2048. -/
theorem column_lt (p : ℕ) : p % 2048 < 2048 := by omega

/-- The row, among those taken, of entry `p` of subcore `w`. -/
def slot (w : Fin 32) (p : ℕ) : Fin 256 := ⟨w.val * 8 + p / 2048 % 8, slot_lt w p⟩

/-- The column of entry `p` of a subcore. -/
def column (p : ℕ) : Fin 2048 := ⟨p % 2048, column_lt p⟩

/-- A number below the count is the count at some place counted. -/
theorem exists_count {p : ℕ → Prop} [DecidablePred p] {n t : ℕ} (h : t < Nat.count p n) : ∃ q, q < n ∧ p q ∧ Nat.count p q = t := by
  induction n with
  | zero => rw [Nat.count_zero] at h; omega
  | succ n ih =>
    by_cases ht : t < Nat.count p n
    · obtain ⟨q, hq, h'⟩ := ih ht
      exact ⟨q, by omega, h'⟩
    · rw [Nat.count_succ] at h
      by_cases hp : p n
      · rw [if_pos hp] at h
        exact ⟨n, by omega, hp, by omega⟩
      · rw [if_neg hp] at h
        omega

section Choice

variable (S : Fin 2048 → Fin 2048 → EReal) (R : Fin 2048 → EReal) (L : Fin 256 → Fin 2048) (lo pad : EReal) (C : Fin 4096 → EReal)
  (hit : Fin 32 → ℕ → Prop) [∀ w, DecidablePred (hit w)]

/-- The table in a row. -/
def Flat (i : Fin 4194304) : EReal := S ⟨i.val / 2048, row_lt i⟩ ⟨i.val % 2048, column_lt i.val⟩

/-- The row of an entry of the table in a row. -/
def rowOf (i : Fin 4194304) : Fin 2048 := ⟨i.val / 2048, row_lt i⟩

/-- Where an entry is listed. -/
def listed (i : Fin 4194304) : Fin 4096 :=
  ⟨(Function.invFun L (rowOf i)).val / 8 * 128
    + min (Nat.count (hit ⟨(Function.invFun L (rowOf i)).val / 8, by omega⟩) ((Function.invFun L (rowOf i)).val % 8 * 2048 + i.val % 2048)) 127, by omega⟩

/-- The candidate's place of an entry in the `a`-th selected row: its tile's list, at the number of kept entries before
it. -/
theorem listed_at (hL : StrictMono L) (i : Fin 4194304) (a : Fin 256) (h : L a = rowOf i) :
    (listed L hit i).val = a.val / 8 * 128 + min (Nat.count (hit ⟨a.val / 8, by omega⟩) (a.val % 8 * 2048 + i.val % 2048)) 127 := by
  have e : Function.invFun L (rowOf i) = a := by rw [← h]; exact Function.leftInverse_invFun hL.injective a
  unfold listed
  simp only [e]

variable (hR : ∀ q n, S q n ≤ R q) (hA : ∀ q, ∃ n, S q n = R q) (hL : StrictMono L)
  (hLr : ∀ q, (∃ a : Fin 256, sortedFrom (first R) (a.castLE (by omega)) = q) ↔ ∃ a, L a = q)
  (hlo : lo = R (sortedFrom (first R) 255))
  (hhit : ∀ w p, p < 16384 → (hit w p ↔ lo ≤ S (L ⟨w.val * 8 + p / 2048 % 8, by omega⟩) ⟨p % 2048, by omega⟩))
  (hcap : ∀ w, Nat.count (hit w) 16384 ≤ 128)
  (hC : ∀ (w : Fin 32) p, p < 16384 → hit w p → ∀ j : Fin 4096, j.val = w.val * 128 + Nat.count (hit w) p →
    C j = S (L ⟨w.val * 8 + p / 2048 % 8, by omega⟩) ⟨p % 2048, by omega⟩)
  (hpadC : ∀ (w : Fin 32) (j : Fin 4096), j.val / 128 = w.val → Nat.count (hit w) 16384 ≤ j.val % 128 → C j = pad)
  (hpad : ∀ q n, pad < S q n)

include hL hLr hhit hcap in
/-- An entry kept is met, and listed under its number. -/
theorem met (i : Fin 4194304) (h : Kept (T := 256) (Q := 2048) (by omega) (Flat S) rowOf R lo i) :
    ∃ a : Fin 256, L a = rowOf i ∧ hit ⟨a.val / 8, by omega⟩ (a.val % 8 * 2048 + i.val % 2048)
      ∧ Nat.count (hit ⟨a.val / 8, by omega⟩) (a.val % 8 * 2048 + i.val % 2048) < 128
      ∧ (listed L hit i).val = a.val / 8 * 128 + Nat.count (hit ⟨a.val / 8, by omega⟩) (a.val % 8 * 2048 + i.val % 2048) := by
  obtain ⟨h₁, h₂⟩ := h
  obtain ⟨a, ha⟩ := (hLr _).1 h₁
  have hh : hit ⟨a.val / 8, by omega⟩ (a.val % 8 * 2048 + i.val % 2048) := by
    rw [hhit _ _ (by omega)]
    refine h₂.trans (le_of_eq ?_)
    unfold Flat
    refine congrArg₂ S (Eq.trans ha.symm (congrArg L (Fin.ext ?_))) (Fin.ext ?_)
    · dsimp only; omega
    · dsimp only; omega
  have hc : Nat.count (hit ⟨a.val / 8, by omega⟩) (a.val % 8 * 2048 + i.val % 2048) < 128 :=
    lt_of_lt_of_le (Nat.count_strict_mono hh (by omega)) (hcap _)
  refine ⟨a, ha, hh, hc, ?_⟩
  rw [listed_at L hit hL i a ha]
  omega

include hR hA hL hLr hlo hhit hcap hC hpadC hpad in
/-- The candidate sorted to place `r` is the entry sorted to place `r` of the whole table: its list, its number there,
    its row and its column. -/
theorem chosen (r : Fin 204) :
    ∃ (w : Fin 32) (p : ℕ), p < 16384 ∧ hit w p
      ∧ (sortedFrom (first C) (r.castLE (by omega))).val = w.val * 128 + Nat.count (hit w) p
      ∧ (L (slot w p)).val = (sortedFrom (first (Flat S)) (r.castLE (by omega))).val / 2048
      ∧ p % 2048 = (sortedFrom (first (Flat S)) (r.castLE (by omega))).val % 2048 := by
  have h1 : ∀ i, Flat S i ≤ R (rowOf i) := fun i => hR _ _
  have h2 : ∀ q, ∃ i, rowOf i = q ∧ Flat S i = R q := by
    intro q
    obtain ⟨n, hn⟩ := hA q
    refine ⟨⟨q.val * 2048 + n.val, by omega⟩, Fin.ext (by show (q.val * 2048 + n.val) / 2048 = q.val; omega), ?_⟩
    rw [← hn]
    exact congrArg₂ S (Fin.ext (by dsimp only; omega)) (Fin.ext (by dsimp only; omega))
  have h3 : ∀ i i', rowOf i < rowOf i' → i < i' := by
    intro i i' h
    have h' : i.val / 2048 < i'.val / 2048 := h
    show i.val < i'.val
    omega
  have h4 : ∀ a : Fin 256, lo ≤ R (sortedFrom (first R) (a.castLE (by omega))) := by
    intro a
    rw [hlo]
    rcases Nat.lt_or_ge a.val 255 with ha | ha
    · have := before_of_lt (first_strict R) (i := (a.castLE (by omega) : Fin 2048)) (j := 255) ha
      rw [first_iff] at this
      rcases this with h | h
      · exact h.le
      · exact h.1.ge
    · have : (a.castLE (by omega) : Fin 2048) = 255 := Fin.ext (by show a.val = 255; omega)
      rw [this]
  have hm := met S R L lo hit hL hLr hhit hcap
  have c1 : ∀ i, Kept (T := 256) (Q := 2048) (by omega) (Flat S) rowOf R lo i → C (listed L hit i) = Flat S i := by
    intro i hi
    obtain ⟨a, ha, hh, hc, he⟩ := hm i hi
    rw [hC _ _ (by omega) hh _ he]
    refine congrArg₂ S (Eq.trans (congrArg L (Fin.ext ?_)) ha) (Fin.ext ?_)
    · dsimp only; omega
    · dsimp only; omega
  have c2 : ∀ i i', Kept (T := 256) (Q := 2048) (by omega) (Flat S) rowOf R lo i → Kept (T := 256) (Q := 2048) (by omega) (Flat S) rowOf R lo i' →
      i < i' → listed L hit i < listed L hit i' := by
    intro i i' hi hi' hlt
    obtain ⟨a, ha, hh, hc, he⟩ := hm i hi
    obtain ⟨a', ha', hh', hc', he'⟩ := hm i' hi'
    show (listed L hit i).val < (listed L hit i').val
    have hlt' : i.val < i'.val := hlt
    have hp : a.val / 8 < a'.val / 8 ∨ a.val / 8 = a'.val / 8 ∧ a.val % 8 * 2048 + i.val % 2048 < a'.val % 8 * 2048 + i'.val % 2048 := by
      rcases lt_trichotomy (rowOf i) (rowOf i') with h | h | h
      · rw [← ha, ← ha', hL.lt_iff_lt] at h
        have : a.val < a'.val := h
        omega
      · have e : a = a' := hL.injective (ha.trans (h.trans ha'.symm))
        have e' : i.val / 2048 = i'.val / 2048 := congrArg Fin.val h
        subst e
        omega
      · have := h3 _ _ h
        exact absurd hlt (not_lt.2 this.le)
    rcases hp with h | ⟨h, h'⟩
    · omega
    · have e : (⟨a.val / 8, by omega⟩ : Fin 32) = ⟨a'.val / 8, by omega⟩ := Fin.ext h
      rw [← e] at he'
      have := Nat.count_strict_mono hh h'
      omega
  have c3 : ∀ j, (∀ i, Kept (T := 256) (Q := 2048) (by omega) (Flat S) rowOf R lo i → listed L hit i ≠ j) → ∀ i, C j < Flat S i := by
    intro j hj i
    rcases Nat.lt_or_ge (j.val % 128) (Nat.count (hit ⟨j.val / 128, by omega⟩) 16384) with h | h
    · exfalso
      obtain ⟨p, hp, hh, hc⟩ := exists_count h
      have hr := (L ⟨j.val / 128 * 8 + p / 2048 % 8, by omega⟩).isLt
      have hrow : L ⟨j.val / 128 * 8 + p / 2048 % 8, by omega⟩
          = rowOf ⟨(L ⟨j.val / 128 * 8 + p / 2048 % 8, by omega⟩).val * 2048 + p % 2048, by omega⟩ := Fin.ext (by
        show _ = ((L ⟨j.val / 128 * 8 + p / 2048 % 8, by omega⟩).val * 2048 + p % 2048) / 2048
        omega)
      refine hj ⟨(L ⟨j.val / 128 * 8 + p / 2048 % 8, by omega⟩).val * 2048 + p % 2048, by omega⟩ ⟨(hLr _).2 ⟨_, hrow⟩, ?_⟩ (Fin.ext ?_)
      · have := (hhit _ _ hp).1 hh
        refine this.trans (le_of_eq ?_)
        exact congrArg₂ S hrow (Fin.ext (by dsimp only; omega))
      · rw [listed_at L hit hL _ _ hrow]
        dsimp only
        have e : (⟨(j.val / 128 * 8 + p / 2048 % 8) / 8, by omega⟩ : Fin 32) = ⟨j.val / 128, by omega⟩ := Fin.ext (by dsimp only; omega)
        have e' : (j.val / 128 * 8 + p / 2048 % 8) % 8 * 2048 + ((L ⟨j.val / 128 * 8 + p / 2048 % 8, by omega⟩).val * 2048 + p % 2048) % 2048 = p := by omega
        rw [e, e', hc]
        omega
    · rw [hpadC ⟨j.val / 128, by omega⟩ j rfl h]
      exact hpad _ _
  have hk : Kept (T := 256) (Q := 2048) (by omega) (Flat S) rowOf R lo (sortedFrom (first (Flat S)) (r.castLE (by omega))) := kept_first (T := 256) (Q := 2048) (by omega) (Flat S) rowOf R h1 h2 h3 lo h4 (r.castLE (by omega)) (by omega)
  have hs := candidates (T := 256) (Q := 2048) (M := 204) (by omega) (by omega) (by omega) (by omega) (Flat S) C rowOf R h1 h2 h3 lo h4
    (listed L hit) c1 c2 c3 (by omega) r
  obtain ⟨a, ha, hh, hc, he⟩ := hm _ hk
  refine ⟨⟨a.val / 8, by omega⟩, _, by omega, hh, (congrArg Fin.val hs).trans he, ?_, ?_⟩
  · refine Eq.trans (congrArg Fin.val (Eq.trans (congrArg L (Fin.ext ?_)) ha)) rfl
    dsimp only [slot]
    omega
  · omega

end Choice

/-- The `r`-th of the listed candidates is the `r`-th of the table's entries, at the same row and column. -/
theorem chosen_entry (S : Fin 2048 → Fin 2048 → EReal) (R : Fin 2048 → EReal) (L : Fin 256 → Fin 2048) (lo pad : EReal) (C : Fin 4096 → EReal)
    (hit : Fin 32 → ℕ → Prop) [∀ w, DecidablePred (hit w)] (hR : ∀ q n, S q n ≤ R q) (hA : ∀ q, ∃ n, S q n = R q) (hL : StrictMono L)
    (hLr : ∀ q, (∃ a : Fin 256, sortedFrom (first R) (a.castLE le_rows) = q) ↔ ∃ a, L a = q)
    (hlo : lo = R (sortedFrom (first R) 255)) (hhit : ∀ w p, p < 16384 → (hit w p ↔ lo ≤ S (L (slot w p)) (column p)))
    (hcap : ∀ w, Nat.count (hit w) 16384 ≤ 128)
    (hC : ∀ (w : Fin 32) p, p < 16384 → hit w p → ∀ j : Fin 4096, j.val = w.val * 128 + Nat.count (hit w) p → C j = S (L (slot w p)) (column p))
    (hpadC : ∀ (w : Fin 32) (j : Fin 4096), j.val / 128 = w.val → Nat.count (hit w) 16384 ≤ j.val % 128 → C j = pad)
    (hpad : ∀ q n, pad < S q n) (r : Fin 204) :
    ∃ (w : Fin 32) (p : ℕ), p < 16384 ∧ hit w p
      ∧ (sortedFrom (first C) (r.castLE le_listed)).val = w.val * 128 + Nat.count (hit w) p
      ∧ (L (slot w p)).val = (sortedFrom (first (Flat S)) (r.castLE le_flat)).val / 2048
      ∧ p % 2048 = (sortedFrom (first (Flat S)) (r.castLE le_flat)).val % 2048 :=
  chosen S R L lo pad C hit hR hA hL hLr hlo hhit hcap hC hpadC hpad r

end Cert.Proof.Pick
-- ==== Proof.Same.lean ====
/-
  The candidates' greatest entries are the whole table's greatest entries, in the same order and with their positions.
-/
module

public import proofs.«01_k».proof.Proof.Pre
public import proofs.«01_k».proof.Proof.Bound
public import proofs.«01_k».proof.Proof.Choice

@[expose] public section

set_option maxRecDepth 16384

noncomputable section

namespace Cert.Proof.Same

open Cert.KernelIdeal Cert.KernelIdeal.Gen
open Cert.Proof Cert.Proof.Host Cert.Proof.Tile Cert.Proof.Pick Cert.Proof.Pre
open Idealize.ShloMosaic Idealize.SL.Sem
open Idealize.ShloMosaic.Pipeline

/-! ## The orders of the two sorts -/

/-- A truth value as a bit, compared with one. -/
theorem ofBool_one (b : Bool) : (BitVec.ofBool b == 1#1) = b := by cases b <;> rfl

/-- The order of a `top_k`: by value, and equal values by position. -/
theorem order_gt {p n : ℕ} (x : (⟨2, ![p, n]⟩ : Shape).Idx → EReal) (k : Fin p) :
    order (FloatOps.cmpfTotal (F := Ideal) (φ := .f32) .gt) x k = sortedFrom (first fun a => x (ix2 k a)) := by
  rw [← sortedFrom_value]
  unfold order
  exact congrArg sortedFrom (funext fun a => funext fun b => ofBool_one _)

/-- A sort of different words by value puts each below the next. -/
theorem order_slt {p n : ℕ} (v : (⟨2, ![p, n]⟩ : Shape).Idx → BitVec 32) (k : Fin p) (hv : ∀ a, (v (ix2 k a)).toNat < 2 ^ 31)
    (hd : ∀ a b, (v (ix2 k a)).toNat = (v (ix2 k b)).toNat → a = b) {r r' : Fin n} (h : r < r') :
    (v (ix2 k (order comparator_i32_d1 v k r))).toNat < (v (ix2 k (order comparator_i32_d1 v k r'))).toNat := by
  have ho : order comparator_i32_d1 v k = sortedFrom (first fun a => OrderDual.toDual (v (ix2 k a)).toNat) := by
    rw [← sortedFrom_value]
    unfold order
    refine congrArg sortedFrom (funext fun a => funext fun b => ?_)
    refine (ofBool_one _).trans ?_
    have hi : ∀ a, (v (ix2 k a)).toInt = ((v (ix2 k a)).toNat : ℤ) := fun a => BitVec.toInt_eq_toNat_of_lt (by have := hv a; omega)
    show decide ((v (ix2 k a)).toInt < (v (ix2 k b)).toInt) = decide ((v (ix2 k a)).toNat < (v (ix2 k b)).toNat)
    rw [hi, hi]
    exact decide_eq_decide.2 Int.ofNat_lt
  rw [ho]
  rcases (first_iff _ _ _).1 (before_of_lt (first_strict fun a => OrderDual.toDual (v (ix2 k a)).toNat) h) with h' | h'
  · exact h'
  · exact absurd (sortedFrom_injective _ (hd _ _ h'.1)) h.ne

/-! ## The rows taken -/

section Table

variable (s : Vec Ideal S10x2048x2048 .f32) (k : Fin 10)

/-- The entries of an image. -/
def S (q n : Fin 2048) : EReal := s (ix3 k q n)
/-- Its row maxima. -/
def R (q : Fin 2048) : EReal := top s k q
/-- Its rows taken. -/
def L (r : Fin 256) : Fin 2048 := ⟨(picked (tops s) (ix2 k r)).toNat, picked_lt _ _ _⟩

/-- The row maxima that the host sorts, read at one index. -/
theorem maxima_tops (q : Fin 2048) : (maxima (tops s) (ix2 k q) : EReal) = R s k q := by
  refine (shapeCast_apply _ _ _ (ix3 k q (0 : Fin 1)) ?_).trans rfl
  rw [Shape.rowMajor_val_three, Shape.rowMajor_val_two]
  show (k.val * 2048 + q.val) * 1 + 0 = k.val * 2048 + q.val
  omega

/-- The host's `top_k` of row maxima orders them by value and place. -/
theorem order_tops : order (FloatOps.cmpfTotal (F := Ideal) (φ := .f32) .gt) (maxima (tops s)) k = sortedFrom (first (R s k)) :=
  (order_gt (maxima (tops s)) k).trans (congrArg (fun f => sortedFrom (first f)) (funext fun q => maxima_tops s k q))

/-- The threshold is the 256th of the row maxima in order. -/
theorem low_eq : low s k = R s k (sortedFrom (first (R s k)) 255) := by
  unfold low
  rw [order_tops]
  exact maxima_tops s k _

/-- The rows before they are sorted by number. -/
def taken : Vec Ideal S10x256 .i32 := (Host.topK S10x256 1 (FloatOps.cmpfTotal (F := Ideal) (φ := .f32) .gt) (maxima (tops s)) sliceFits_S10x2048_S10x256).2

/-- The rows that `top_k` selects. -/
theorem taken_at (r : Fin 256) : (taken s (ix2 k r)).toNat = (sortedFrom (first (R s k)) (r.castLE (by omega))).val := by
  unfold taken
  rw [topK_snd _ _ _ (by omega) k r, order_tops, BitVec.toNat_ofNat]
  have := (sortedFrom (first (R s k)) (r.castLE (by omega))).isLt
  omega

/-- The selected rows, sorted. -/
theorem L_at (r : Fin 256) : (L s k r).val = (taken s (ix2 k (order comparator_i32_d1 (taken s) k r))).toNat := by
  show (picked (tops s) (ix2 k r)).toNat = _
  exact congrArg BitVec.toNat (sort_at comparator_i32_d1 (taken s) k r)

/-- The sorted rows increase. -/
theorem L_mono : StrictMono (L s k) := by
  intro r r' h
  rw [Fin.lt_def, L_at, L_at]
  refine order_slt (taken s) k (fun a => ?_) (fun a b e => ?_) h
  · rw [taken_at]
    have := (sortedFrom (first (R s k)) (a.castLE (by omega))).isLt
    omega
  · rw [taken_at, taken_at] at e
    have := congrArg Fin.val (sortedFrom_injective _ (Fin.ext e))
    exact Fin.ext this

/-- The sorted rows are the selected ones. -/
theorem L_range (q : Fin 2048) : (∃ a : Fin 256, sortedFrom (first (R s k)) (a.castLE (by omega)) = q) ↔ ∃ a, L s k a = q := by
  constructor
  · rintro ⟨a, rfl⟩
    obtain ⟨r, hr⟩ := sortedFrom_surjective (fun a b => comparator_i32_d1 (taken s (ix2 k a)) (taken s (ix2 k b)) == 1#1) a
    refine ⟨r, Fin.ext ?_⟩
    rw [L_at, show order comparator_i32_d1 (taken s) k r = a from hr, taken_at]
  · rintro ⟨r, rfl⟩
    refine ⟨order comparator_i32_d1 (taken s) k r, Fin.ext ?_⟩
    rw [L_at, taken_at]

/-- The entries a subcore keeps. -/
abbrev hit (w : Fin 32) : ℕ → Prop := Hit (F := Ideal) s (picked (tops s)) (picked_lt (tops s)) (low s k) k w

/-- A subcore keeps an entry just when it is at least the threshold. -/
theorem hit_at (w : Fin 32) (p : ℕ) : hit s k w p ↔ (low s k : EReal) ≤ S s k (L s k (slot w p)) (column p) := by
  have h : ∀ x y : EReal, FloatOps.cmpf (F := Ideal) (φ := .f32) .oge x y = 1#1 ↔ y ≤ x := fun x y => by
    show BitVec.ofBool (decide (y ≤ x)) = 1#1 ↔ _
    by_cases hh : y ≤ x <;> simp [hh]
  exact h _ _

end Table

/-! ## The candidates -/

section Found

variable (s : Vec Ideal S10x2048x2048 .f32) (a : Ins Ideal) (d : Dev nD)
  (hT : a.T d = table s) (hI : a.I d = ids (picked (tops s))) (hB : a.B d = bases (picked (tops s))) (hP : a.P d = thrs (tops s))
  (hcore : core s = fun _ => 1#1) (hpad : ∀ k q n, Ideal.ofBits .f32 0xC0400000#32 < S s k q n)

/-- The candidates of an image in a row. -/
def cands : Vec Ideal S10x4096 .f32 := shapeCast S10x4096 (a.outs d) shapeCasts_S10x32x128_S10x4096

/-- The candidates' numbers in a row come subcore by subcore. -/
theorem row_at {α : Type} (x : S10x32x128.Idx → α) (k : Fin 10) (w : Fin 32) (j : Fin 4096) (hj : j.val / 128 = w.val) :
    shapeCast S10x4096 x shapeCasts_S10x32x128_S10x4096 (ix2 k j) = x (ix3 k w (⟨j.val % 128, by omega⟩ : Fin 128)) := by
  refine shapeCast_apply _ _ _ _ ?_
  rw [Shape.rowMajor_val_three, Shape.rowMajor_val_two]
  show (k.val * 32 + w.val) * 128 + j.val % 128 = k.val * 4096 + j.val
  omega

/-- The candidates' values read at one place: a subcore's list of values. -/
theorem cands_at (k : Fin 10) (w : Fin 32) (j : Fin 4096) (hj : j.val / 128 = w.val) :
    cands a d (ix2 k j) = (a.kept d (co (coreOf w) (subOf w)) k).2.1 (ix1 (⟨j.val % 128, by omega⟩ : Fin 128)) :=
  row_at (a.outs d) k w j hj

/-- The candidates' places read at one place: a subcore's list of places. -/
theorem flat_at (k : Fin 10) (w : Fin 32) (j : Fin 4096) (hj : j.val / 128 = w.val) :
    flat (F := Ideal) (a.outp d) (ix2 k j) = (a.kept d (co (coreOf w) (subOf w)) k).2.2 (ix1 (⟨j.val % 128, by omega⟩ : Fin 128)) :=
  row_at (a.outp d) k w j hj

include hT hI hB hP hcore in
/-- What a subcore leaves of an image. -/
theorem left (k : Fin 10) (w : Fin 32) :
    Inv (hit s k w) (score (F := Ideal) s (picked (tops s)) (picked_lt (tops s)) k w) (place (F := Ideal) (picked (tops s)) k w) 16384
      (a.kept d (co (coreOf w) (subOf w)) k) :=
  kept_inv a d s (tops s) hT hI hB hP k w (kept_le s hcore k w)

include hcore in
/-- Under the precondition fewer than 128 entries are kept before any kept one. -/
theorem count_lt (k : Fin 10) (w : Fin 32) (p : ℕ) (hp : p < 16384) (h : hit s k w p) : Nat.count (hit s k w) p < 128 :=
  (Nat.count_strict_mono h hp).trans_le (kept_le s hcore k w)

include hT hI hB hP hcore in
/-- A kept entry's candidate holds its value and its flat place. -/
theorem value_at (k : Fin 10) (w : Fin 32) (p : ℕ) (hp : p < 16384) (h : hit s k w p) (j : Fin 4096)
    (hj : j.val = w.val * 128 + Nat.count (hit s k w) p) :
    (cands a d (ix2 k j) : EReal) = S s k (L s k (slot w p)) (column p)
      ∧ flat (F := Ideal) (a.outp d) (ix2 k j) = BitVec.ofNat 32 ((L s k (slot w p)).val * 2048 + p % 2048) := by
  have hc := count_lt s hcore k w p hp h
  have hl := (left s a d hT hI hB hP hcore k w).2.1 p hp h (ix1 (⟨j.val % 128, by omega⟩ : Fin 128)) (by
    show j.val % 128 = _
    omega)
  refine ⟨(cands_at a d k w j (by omega)).trans hl.1, (flat_at a d k w j (by omega)).trans (hl.2.trans ?_)⟩
  unfold place
  refine BitVec.eq_of_toNat_eq ?_
  have hb := (L s k (slot w p)).isLt
  have he : (picked (tops s) (ix2 k (slot w p))).toNat = (L s k (slot w p)).val := rfl
  rw [BitVec.toNat_add, BitVec.toNat_mul, BitVec.toNat_ofNat, BitVec.toNat_ofNat, BitVec.toNat_ofNat]
  refine (congrArg (fun z => (z * (2048 % 2 ^ 32) % 2 ^ 32 + p % 2048 % 2 ^ 32) % 2 ^ 32) he).trans ?_
  omega

include hT hI hB hP hcore hpad in
/-- The greatest candidates are the greatest entries. -/
theorem found (k : Fin 10) (r : Fin 204) :
    (cands a d (ix2 k (sortedFrom (first fun j => (cands a d (ix2 k j) : EReal)) (r.castLE (by omega)))) : EReal)
        = Flat (S s k) (sortedFrom (first (Flat (S s k))) (r.castLE (by omega)))
      ∧ flat (F := Ideal) (a.outp d) (ix2 k (sortedFrom (first fun j => (cands a d (ix2 k j) : EReal)) (r.castLE (by omega))))
        = BitVec.ofNat 32 (sortedFrom (first (Flat (S s k))) (r.castLE (by omega))).val := by
  have hch := chosen_entry (S s k) (R s k) (L s k) (low s k) (Ideal.ofBits .f32 0xC0400000#32)
    (fun j => (cands a d (ix2 k j) : EReal)) (hit s k) (fun q n => Cert.Proof.le_top s k q n) (fun q => exists_top s k q) (L_mono s k) (L_range s k)
    (low_eq s k) (fun w p _ => hit_at s k w p) (kept_le s hcore k)
    (fun w p hp hh j hj => (value_at s a d hT hI hB hP hcore k w p hp hh j hj).1)
    (fun w j hj hc => (cands_at a d k w j hj).trans ((left s a d hT hI hB hP hcore k w).2.2 _ hc)) (hpad k) r
  obtain ⟨w, p, hp, hh, hj, hrow, hcol⟩ := hch
  have h := value_at s a d hT hI hB hP hcore k w p hp hh _ hj
  refine ⟨h.1.trans ?_, h.2.trans (congrArg (BitVec.ofNat 32) ?_)⟩
  · exact congrArg₂ (S s k) (Fin.ext hrow) (Fin.ext hcol)
  · rw [hrow, hcol]
    exact Nat.div_add_mod' _ 2048

/-! ## The kernel's last operations -/

/-- The `r`-th of the kernel's highest values. -/
theorem topV_at (k : Fin 10) (r : Fin 204) : (topV (F := Ideal) (a.outs d) (ix2 k r) : EReal)
    = cands a d (ix2 k (sortedFrom (first fun j => (cands a d (ix2 k j) : EReal)) (r.castLE (by omega)))) := by
  refine (topK_fst (FloatOps.cmpfTotal (F := Ideal) (φ := .f32) .gt) (cands a d) sliceFits_S10x4096_S10x204 (by omega) k r).trans ?_
  rw [order_gt]

/-- The `r`-th of the candidates' positions. -/
theorem topI_at (k : Fin 10) (r : Fin 204) : topI (F := Ideal) (a.outs d) (ix2 k r)
    = BitVec.ofNat 32 (sortedFrom (first fun j => (cands a d (ix2 k j) : EReal)) (r.castLE (by omega))).val := by
  refine (topK_snd (FloatOps.cmpfTotal (F := Ideal) (φ := .f32) .gt) (cands a d) sliceFits_S10x4096_S10x204 (by omega) k r).trans ?_
  rw [order_gt]

/-- A candidate's position is one of 4096. -/
theorem topI_lt (i : S10x204.Idx) : (topI (F := Ideal) (a.outs d) i).toNat < 4096 := by
  rw [eq_ix2 i]
  refine (congrArg BitVec.toNat (topI_at a d (i 0) (i 1))).trans_lt ?_
  rw [BitVec.toNat_ofNat]
  have := (sortedFrom (first fun j => (cands a d (ix2 (i 0) j) : EReal)) ((i 1).castLE (by decide))).isLt
  exact (Nat.mod_le _ _).trans_lt this

/-- Reading the places' table along its second axis, where every position names an entry. -/
theorem sel_at (tab : Vec Ideal S10x4096 .i32) (pos : Vec Ideal S10x204 .i32) (hpos : ∀ i, (pos i).toNat < 4096) (k : Fin 10) (r : Fin 204) :
    sel (F := Ideal) tab pos (ix2 k r) = tab (ix2 k (⟨(pos (ix2 k r)).toNat, hpos _⟩ : Fin 4096)) :=
  along_at (n := 4096) (m := 204) (by norm_num) tab pos 4095#32 (by rfl) bcast_S_S10x204 bcast_S_S10x204x1 bcast_S1_S1x1x1_2
    bcast_S1x1x1_S10x204x1_0_1_2 shapeCasts_S10x204_S10x204x1 reducesTo_S10x204x1_S10x204_d2 h_S_
    gather_S10x4096_S10x204x1_S10x204_n_1_0_0_1_2_11_wf 4096#32 hpos k r

end Found

end Cert.Proof.Same
-- ==== Proof.Algebraic.lean ====
/-
  Over the extended reals the kernel's results are the reference's, where the precondition holds.
-/
module

public import proofs.«01_k».proof.Proof.Same
public import proofs.«01_k».proof.Proof.Frames

@[expose] public section

set_option maxRecDepth 16384

noncomputable section

namespace Cert.Proof

open Cert.KernelIdeal Cert.KernelIdeal.Gen
open Cert.Proof.Host Cert.Proof.Tile Cert.Proof.Pick Cert.Proof.Pre Cert.Proof.Same
open Idealize.ShloMosaic Idealize.SL.Sem Idealize.ShloMosaic.TcCoe
open Idealize.ShloMosaic.StableHlo
open Idealize.ShloMosaic.Pipeline

/-- The frame of the idealized kernel, asked where `tiles_hold` is true: the frame without the condition gives it. -/
theorem frame_kernelIdeal_pre : Cert.quiescent_KernelIdeal_pre_tiles_hold := fun m ρ _ => run_frame (F := Ideal) m ρ

/-- The frame of the idealized reference, asked where `tiles_hold` is true. -/
theorem frame_referenceIdeal_pre : Cert.quiescent_ReferenceIdeal_pre_tiles_hold := fun m ρ _ => frame_referenceIdeal m ρ trivial

/-- The boxes of the pairs of given flat positions. -/
def pairs (A₂ : A Ideal S2048x4 .f32) (A₃ : A Ideal S10x2048x4 .f32) (i : A Ideal S10x204 .i32) : A Ideal S10x204x8 .f32 :=
  glue (boxQ A₂ (quot i)) (boxK A₃ (rest i))

/-! ## What the kernel leaves -/

section Kernel

variable (m : (ℓ : Loc nD τ sig) → Buf (Elt Ideal) ℓ) (d : Dev nD)

/-- The similarities of the launch's features. -/
def sims : A Ideal S10x2048x2048 .f32 := smap (unitQ (m (d, Proc.devRef .tc main_arg0))) (unitK (m (d, Proc.devRef .tc main_arg1)))

/-- The flat positions the kernel finds. -/
def places : A Ideal S10x204 .i32 := sel (flat ((ins m).outp d)) (topI ((ins m).outs d))

/-- The table that the subcores gather from is the similarity maps, in rows of 128. -/
theorem ins_T : (ins m).T d = table (sims m d) := by
  show V3 m d (Proc.devRef .tc main_v37) = _
  rw [V3, opsMid_v37, V2_v8_0]
  rfl
/-- The row numbers that the subcores gather are those of the rows of highest maximum. -/
theorem ins_I : (ins m).I d = ids (picked (tops (sims m d))) := by
  show V3 m d (Proc.devRef .tc main_v29) = _
  rw [V3, opsMid_v29, V2_v8_1]
  rfl
/-- The flat places where the subcores' rows begin are those of the rows of highest maximum. -/
theorem ins_B : (ins m).B d = bases (picked (tops (sims m d))) := by
  show V3 m d (Proc.devRef .tc main_v36) = _
  rw [V3, opsMid_v36, V2_v8_1]
  rfl
/-- The thresholds handed to the subcores are the 256th highest row maxima. -/
theorem ins_P : (ins m).P d = thrs (tops (sims m d)) := by
  show V3 m d (Proc.devRef .tc main_v40) = _
  rw [V3, opsMid_v40, V2_v8_1]
  rfl

/-- The last host operation sets the two gathered boxes side by side. -/
theorem opsGlue_v50 (V : Valuation τ sig (Elt Ideal)) :
    after opsGlue V (Proc.devRef .tc main_v50) = glue (V (Proc.devRef .tc main_v47)) (V (Proc.devRef .tc main_v49)) := by
  simp only [opsGlue, TRef.binary, TRef.nullary, TRef.ternary, TRef.unary, TRef.reshape, TRef.toBuf, TRef.ofBuf, cast_eq]
  after_results_simp <;> rfl

/-- The kernel's third result: the highest values among the candidates. -/
theorem V5_values_3 : V5 m d (Proc.devRef .tc main_values_3) = topV ((ins m).outs d) := by
  rw [V5_eq, opsGlue_values_3, opsTakeK_values_3, opsTake_values_3, opsRem_values_3, opsDiv_values_3, opsSel_values_3, opsTop_values_3, V4_v41_0]

/-- The kernel's second result: the boxes at the places found. -/
theorem V5_v50 : V5 m d (Proc.devRef .tc main_v50) = pairs (m (d, Proc.devRef .tc main_arg2)) (m (d, Proc.devRef .tc main_arg3)) (places m d) := by
  rw [V5_eq, opsGlue_v50, opsTakeK_v49, opsTakeK_v47, opsTake_v47, opsTake_arg3, opsTake_v46, opsRem_v46, opsRem_arg2, opsRem_arg3, opsRem_v45,
    opsDiv_v45, opsDiv_v44, opsDiv_arg2, opsDiv_arg3, opsSel_v44, opsSel_arg2, opsSel_arg3, opsTop_v43, opsTop_indices_4, opsTop_arg2, opsTop_arg3,
    V4_v41_0, V4_v41_1, V4_arg2, V4_arg3]
  rfl

end Kernel

/-! ## What the reference leaves -/

section Reference

variable (V : Valuation Cert.ReferenceIdeal.τ Cert.ReferenceIdeal.sig (Elt Ideal))

/-- The reference's similarities. -/
def refSims : A Ideal S10x2048x2048 .f32 :=
  smap (unitQ (F := Ideal) (V (Proc.devRef .tc Cert.ReferenceIdeal.main_arg0))) (unitK (F := Ideal) (V (Proc.devRef .tc Cert.ReferenceIdeal.main_arg1)))

/-- The reference's flat table is its similarity maps, reshaped. -/
theorem ref_v10 : Cert.ReferenceIdeal.Value.res_main_v10 V
    = shapeCast Cert.ReferenceIdeal.S10x4194304 (refSims V) Cert.ReferenceIdeal.Gen.shapeCasts_S10x2048x2048_S10x4194304 := by
  unfold refSims
  rw [← Pre.products]
  rfl

/-- The reference's flat table at one place: the entry of the map there. -/
theorem ref_at (k : Fin 10) (i : Fin 4194304) : (Cert.ReferenceIdeal.Value.res_main_v10 V (ix2 k i) : EReal) = Flat (S (refSims V) k) i := by
  rw [ref_v10]
  refine shapeCast_apply _ _ _ (ix3 k (⟨i.val / 2048, row_lt i⟩ : Fin 2048) (⟨i.val % 2048, column_lt i.val⟩ : Fin 2048)) ?_
  rw [Shape.rowMajor_val_three, Shape.rowMajor_val_two]
  show (k.val * 2048 + i.val / 2048) * 2048 + i.val % 2048 = k.val * 4194304 + i.val
  omega

/-- The reference's `top_k` orders an image's flat table by value, and equal values by place. -/
theorem ref_order (k : Fin 10) : order (FloatOps.cmpfTotal (F := Ideal) (φ := .f32) .gt) (Cert.ReferenceIdeal.Value.res_main_v10 V) k
    = sortedFrom (first (Flat (S (refSims V) k))) :=
  (order_gt _ k).trans (congrArg (fun f => sortedFrom (first f)) (funext fun i => ref_at V k i))

/-- The reference's greatest similarities. -/
theorem ref_values (k : Fin 10) (r : Fin 204) :
    ((Host.topK Cert.ReferenceIdeal.S10x204 1 (FloatOps.cmpfTotal .gt) (Cert.ReferenceIdeal.Value.res_main_v10 V)
        Cert.ReferenceIdeal.Gen.sliceFits_S10x4194304_S10x204).1 (ix2 k r) : EReal)
      = Flat (S (refSims V) k) (sortedFrom (first (Flat (S (refSims V) k))) (r.castLE le_flat)) := by
  refine (topK_fst (FloatOps.cmpfTotal (F := Ideal) (φ := .f32) .gt) (Cert.ReferenceIdeal.Value.res_main_v10 V) _ le_flat k r).trans ?_
  rw [ref_order]
  exact ref_at V k _

/-- Their positions. -/
theorem ref_places (k : Fin 10) (r : Fin 204) : Cert.ReferenceIdeal.Value.res_main_indices V (ix2 k r)
    = BitVec.ofNat 32 (sortedFrom (first (Flat (S (refSims V) k))) (r.castLE le_flat)).val := by
  refine (topK_snd (FloatOps.cmpfTotal (F := Ideal) (φ := .f32) .gt) (Cert.ReferenceIdeal.Value.res_main_v10 V) _ le_flat k r).trans ?_
  rw [ref_order]

/-- The reference's run, its boxes as the boxes at its positions. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v16)
        = pairs (launchContents m c (Proc.devRef .tc Cert.ReferenceIdeal.main_arg2)) (launchContents m c (Proc.devRef .tc Cert.ReferenceIdeal.main_arg3))
            (Cert.ReferenceIdeal.Value.res_main_indices (launchContents m c))
      ∧ r.2.mem ((c.tc : Thread Cert.ReferenceIdeal.nD Cert.ReferenceIdeal.τ).loc Cert.ReferenceIdeal.main_values)
        = (Host.topK Cert.ReferenceIdeal.S10x204 1 (FloatOps.cmpfTotal .gt) (Cert.ReferenceIdeal.Value.res_main_v10 (launchContents m c))
            Cert.ReferenceIdeal.Gen.sliceFits_S10x4194304_S10x204).1
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  (θ_run Cert.ReferenceIdeal.defs _ _).mono (fun r h c => ⟨(h c).2.1.trans rfl, (h c).2.2.1, (h c).2.2.2⟩) (Cert.ReferenceIdeal.Value.run (F := Ideal) m ρ)

end Reference

/-! ## They are the same -/

section Both

variable (m : (ℓ : Loc nD τ sig) → Buf (Elt Ideal) ℓ) (V : Valuation Cert.ReferenceIdeal.τ Cert.ReferenceIdeal.sig (Elt Ideal)) (d : Dev nD)
  (hs : refSims V = sims m d) (hcore : core (sims m d) = fun _ => 1#1)

include hcore in
/-- The `r`-th candidate in the kernel's order has the value, and names the flat place, of the `r`-th entry of the whole
map. -/
theorem found_sims (k : Fin 10) (r : Fin 204) :
    (cands (ins m) d (ix2 k (sortedFrom (first fun j => (cands (ins m) d (ix2 k j) : EReal)) (r.castLE le_listed))) : EReal)
        = Flat (S (sims m d) k) (sortedFrom (first (Flat (S (sims m d) k))) (r.castLE le_flat))
      ∧ flat (F := Ideal) ((ins m).outp d) (ix2 k (sortedFrom (first fun j => (cands (ins m) d (ix2 k j) : EReal)) (r.castLE le_listed)))
        = BitVec.ofNat 32 (sortedFrom (first (Flat (S (sims m d) k))) (r.castLE le_flat)).val :=
  found (sims m d) (ins m) d (ins_T m d) (ins_I m d) (ins_B m d) (ins_P m d) hcore
  (fun k q n => Bound.above _ _ k q n) k r

include hs hcore in
/-- The greatest similarities. -/
theorem same_values : topV (F := Ideal) ((ins m).outs d)
    = (Host.topK Cert.ReferenceIdeal.S10x204 1 (FloatOps.cmpfTotal .gt) (Cert.ReferenceIdeal.Value.res_main_v10 V)
        Cert.ReferenceIdeal.Gen.sliceFits_S10x4194304_S10x204).1 := by
  funext y
  rw [eq_ix2 y]
  refine (topV_at (ins m) d (y 0) (y 1)).trans (((found_sims m d hcore (y 0) (y 1)).1).trans ?_)
  rw [← hs]
  exact (ref_values V (y 0) (y 1)).symm

include hs hcore in
/-- Their positions. -/
theorem same_places : places m d = Cert.ReferenceIdeal.Value.res_main_indices V := by
  funext y
  rw [eq_ix2 y]
  refine (sel_at _ _ (topI_lt (ins m) d) (y 0) (y 1)).trans ?_
  have hj : (⟨(topI (F := Ideal) ((ins m).outs d) (ix2 (y 0) (y 1))).toNat, topI_lt (ins m) d _⟩ : Fin 4096)
      = sortedFrom (first fun j => (cands (ins m) d (ix2 (y 0) j) : EReal)) ((y 1 : Fin 204).castLE le_listed) := by
    refine Fin.ext ((congrArg BitVec.toNat (topI_at (ins m) d (y 0) (y 1))).trans ?_)
    rw [BitVec.toNat_ofNat]
    refine Nat.mod_eq_of_lt (lt_trans (Fin.isLt _) (by norm_num))
  refine (congrArg (fun j => flat (F := Ideal) ((ins m).outp d) (ix2 (y 0) j)) hj).trans (((found_sims m d hcore (y 0) (y 1)).2).trans ?_)
  rw [← hs]
  exact (ref_places V (y 0) (y 1)).symm

end Both

/-- Where no subcore meets more than 128 entries of an image, the kernel leaves the reference's results. -/
theorem algebraic : Cert.algebraic_KernelIdeal_ReferenceIdeal_pre_tiles_hold := by
  intro m g m' g' hpre hargs
  have hs : ∀ c, refSims (launchContents m' c) = sims m c := fun c =>
    congrArg₂ (fun a b => smap (unitQ (F := Ideal) a) (unitK (F := Ideal) b)) (hargs c).1 (hargs c).2.1
  have hcore : ∀ c, core (sims m c) = fun _ => 1#1 := fun c => (fn_eq _ _ _ _).symm.trans (hpre c)
  refine ⟨fun c => m (c, Proc.devRef .tc main_arg2), fun c => V5 m c (Proc.devRef .tc main_v50), fun c => V5 m c (Proc.devRef .tc main_values_3), ?_, ?_⟩
  · refine (θ_run _ _ _).mono (fun r h c => ?_) (run_main (F := Ideal) m g)
    exact ⟨(h.1 c _ (devRef_mem_ucRefs (b := main_arg2) rfl)).trans (V5_arg2 m c), h.1 c _ (devRef_mem_ucRefs (b := main_v50) rfl),
      h.1 c _ (devRef_mem_ucRefs (b := main_values_3) rfl),
      (h.1 c _ (devRef_mem_ucRefs (b := main_arg0) rfl)).trans (V5_arg0 m c), (h.1 c _ (devRef_mem_ucRefs (b := main_arg1) rfl)).trans (V5_arg1 m c),
      (h.1 c _ (devRef_mem_ucRefs (b := main_arg2) rfl)).trans (V5_arg2 m c), (h.1 c _ (devRef_mem_ucRefs (b := main_arg3) rfl)).trans (V5_arg3 m c)⟩
  · refine (θ_run _ _ _).mono (fun r h c => ?_) (ref_run m' g')
    obtain ⟨hv, ht, h0, h1, h2, h3⟩ := h c
    refine ⟨h2.trans (hargs c).2.2.1, hv.trans ?_, ht.trans ?_, h0, h1, h2, h3⟩
    · rw [← same_places m (launchContents m' c) c (hs c) (hcore c)]
      refine Eq.trans ?_ (V5_v50 m c).symm
      exact congrArg₂ (fun a b => pairs a b (places m c)) (hargs c).2.2.1 (hargs c).2.2.2
    · exact ((V5_values_3 m c).trans (same_values m (launchContents m' c) c (hs c) (hcore c))).symm

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Algebraic

@[expose] public section

/-- Every claim of the certificate: the frames of the kernel as printed, of the idealized kernel and of the idealized
reference, that the idealized kernel is the printed one, and that where `tiles_hold` is true the idealized kernel and the
idealized reference return the same three results. -/
theorem Cert.Proof.claim : Cert.Claim :=
  ⟨Cert.Kernel.Gen.facts, Cert.KernelIdeal.Gen.facts, Cert.ReferenceIdeal.Gen.facts, Cert.Proof.Pre.facts,
    Cert.Proof.frame_kernel, Cert.Proof.frame_kernelIdeal, Cert.Proof.frame_kernelIdeal_pre,
    Cert.Proof.frame_referenceIdeal, Cert.Proof.frame_referenceIdeal_pre, trivial, Cert.Proof.algebraic⟩
